-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelForget (m : (ℓ : Loc Cert.KernelForget.nD Cert.KernelForget.τ Cert.KernelForget.sig) → Buf (Elt Bits) ℓ) : Prop :=
  True

def Pre_KernelForgetIdeal (m : (ℓ : Loc Cert.KernelForgetIdeal.nD Cert.KernelForgetIdeal.τ Cert.KernelForgetIdeal.sig) → Buf (Elt Ideal) ℓ) : Prop :=
  True

def Pre_ReferenceForgetIdeal (m : (ℓ : Loc Cert.ReferenceForgetIdeal.nD Cert.ReferenceForgetIdeal.τ Cert.ReferenceForgetIdeal.sig) → Buf (Elt Ideal) ℓ) : Prop :=
  True

def Pre_KernelInEven (m : (ℓ : Loc Cert.KernelInEven.nD Cert.KernelInEven.τ Cert.KernelInEven.sig) → Buf (Elt Bits) ℓ) : Prop :=
  True

def Pre_KernelInEvenIdeal (m : (ℓ : Loc Cert.KernelInEvenIdeal.nD Cert.KernelInEvenIdeal.τ Cert.KernelInEvenIdeal.sig) → Buf (Elt Ideal) ℓ) : Prop :=
  True

def Pre_ReferenceInEvenIdeal (m : (ℓ : Loc Cert.ReferenceInEvenIdeal.nD Cert.ReferenceInEvenIdeal.τ Cert.ReferenceInEvenIdeal.sig) → Buf (Elt Ideal) ℓ) : Prop :=
  True

def Pre_KernelInOdd (m : (ℓ : Loc Cert.KernelInOdd.nD Cert.KernelInOdd.τ Cert.KernelInOdd.sig) → Buf (Elt Bits) ℓ) : Prop :=
  True

def Pre_KernelInOddIdeal (m : (ℓ : Loc Cert.KernelInOddIdeal.nD Cert.KernelInOddIdeal.τ Cert.KernelInOddIdeal.sig) → Buf (Elt Ideal) ℓ) : Prop :=
  True

def Pre_ReferenceInOddIdeal (m : (ℓ : Loc Cert.ReferenceInOddIdeal.nD Cert.ReferenceInOddIdeal.τ Cert.ReferenceInOddIdeal.sig) → Buf (Elt Ideal) ℓ) : Prop :=
  True

def Pre_KernelOutEven (m : (ℓ : Loc Cert.KernelOutEven.nD Cert.KernelOutEven.τ Cert.KernelOutEven.sig) → Buf (Elt Bits) ℓ) : Prop :=
  True

def Pre_KernelOutEvenIdeal (m : (ℓ : Loc Cert.KernelOutEvenIdeal.nD Cert.KernelOutEvenIdeal.τ Cert.KernelOutEvenIdeal.sig) → Buf (Elt Ideal) ℓ) : Prop :=
  True

def Pre_ReferenceOutEvenIdeal (m : (ℓ : Loc Cert.ReferenceOutEvenIdeal.nD Cert.ReferenceOutEvenIdeal.τ Cert.ReferenceOutEvenIdeal.sig) → Buf (Elt Ideal) ℓ) : Prop :=
  True

def Pre_KernelOutOdd (m : (ℓ : Loc Cert.KernelOutOdd.nD Cert.KernelOutOdd.τ Cert.KernelOutOdd.sig) → Buf (Elt Bits) ℓ) : Prop :=
  True

def Pre_KernelOutOddIdeal (m : (ℓ : Loc Cert.KernelOutOddIdeal.nD Cert.KernelOutOddIdeal.τ Cert.KernelOutOddIdeal.sig) → Buf (Elt Ideal) ℓ) : Prop :=
  True

def Pre_ReferenceOutOddIdeal (m : (ℓ : Loc Cert.ReferenceOutOddIdeal.nD Cert.ReferenceOutOddIdeal.τ Cert.ReferenceOutOddIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelForget [hKernelForget : Cert.KernelForget.Facts] : Prop :=
  ∀ (m : (ℓ : Loc Cert.KernelForget.nD Cert.KernelForget.τ Cert.KernelForget.sig) → Buf (Elt Bits) ℓ) (g : Dev Cert.KernelForget.nD → PrngReg), Pre_KernelForget m →
    θ_run (Cert.KernelForget.defs (F := Bits)) (onTc (τ := Cert.KernelForget.τ) (Cert.KernelForget.main (F := Bits))) ⟨m, fun _ => 0, g⟩ (fun r => (∀ c : Dev Cert.KernelForget.nD,
      r.2.mem ((c.tc : Thread Cert.KernelForget.nD Cert.KernelForget.τ).loc Cert.KernelForget.main_arg0) = m ((c.tc : Thread Cert.KernelForget.nD Cert.KernelForget.τ).loc Cert.KernelForget.main_arg0)
      ∧ r.2.mem ((c.tc : Thread Cert.KernelForget.nD Cert.KernelForget.τ).loc Cert.KernelForget.main_arg1) = m ((c.tc : Thread Cert.KernelForget.nD Cert.KernelForget.τ).loc Cert.KernelForget.main_arg1))
      ∧ r.2.sem = fun _ => 0)

def quiescent_KernelForgetIdeal [hKernelForgetIdeal : Cert.KernelForgetIdeal.Facts] : Prop :=
  ∀ (m : (ℓ : Loc Cert.KernelForgetIdeal.nD Cert.KernelForgetIdeal.τ Cert.KernelForgetIdeal.sig) → Buf (Elt Ideal) ℓ) (g : Dev Cert.KernelForgetIdeal.nD → PrngReg), Pre_KernelForgetIdeal m →
    θ_run (Cert.KernelForgetIdeal.defs (F := Ideal)) (onTc (τ := Cert.KernelForgetIdeal.τ) (Cert.KernelForgetIdeal.main (F := Ideal))) ⟨m, fun _ => 0, g⟩ (fun r => (∀ c : Dev Cert.KernelForgetIdeal.nD,
      r.2.mem ((c.tc : Thread Cert.KernelForgetIdeal.nD Cert.KernelForgetIdeal.τ).loc Cert.KernelForgetIdeal.main_arg0) = m ((c.tc : Thread Cert.KernelForgetIdeal.nD Cert.KernelForgetIdeal.τ).loc Cert.KernelForgetIdeal.main_arg0)
      ∧ r.2.mem ((c.tc : Thread Cert.KernelForgetIdeal.nD Cert.KernelForgetIdeal.τ).loc Cert.KernelForgetIdeal.main_arg1) = m ((c.tc : Thread Cert.KernelForgetIdeal.nD Cert.KernelForgetIdeal.τ).loc Cert.KernelForgetIdeal.main_arg1))
      ∧ r.2.sem = fun _ => 0)

def quiescent_ReferenceForgetIdeal [hReferenceForgetIdeal : Cert.ReferenceForgetIdeal.Facts] : Prop :=
  ∀ (m : (ℓ : Loc Cert.ReferenceForgetIdeal.nD Cert.ReferenceForgetIdeal.τ Cert.ReferenceForgetIdeal.sig) → Buf (Elt Ideal) ℓ) (g : Dev Cert.ReferenceForgetIdeal.nD → PrngReg), Pre_ReferenceForgetIdeal m →
    θ_run (Cert.ReferenceForgetIdeal.defs (F := Ideal)) (onTc (τ := Cert.ReferenceForgetIdeal.τ) (Cert.ReferenceForgetIdeal.main (F := Ideal))) ⟨m, fun _ => 0, g⟩ (fun r => (∀ c : Dev Cert.ReferenceForgetIdeal.nD,
      r.2.mem ((c.tc : Thread Cert.ReferenceForgetIdeal.nD Cert.ReferenceForgetIdeal.τ).loc Cert.ReferenceForgetIdeal.main_arg0) = m ((c.tc : Thread Cert.ReferenceForgetIdeal.nD Cert.ReferenceForgetIdeal.τ).loc Cert.ReferenceForgetIdeal.main_arg0)
      ∧ r.2.mem ((c.tc : Thread Cert.ReferenceForgetIdeal.nD Cert.ReferenceForgetIdeal.τ).loc Cert.ReferenceForgetIdeal.main_arg1) = m ((c.tc : Thread Cert.ReferenceForgetIdeal.nD Cert.ReferenceForgetIdeal.τ).loc Cert.ReferenceForgetIdeal.main_arg1))
      ∧ r.2.sem = fun _ => 0)

def quiescent_KernelInEven [hKernelInEven : Cert.KernelInEven.Facts] : Prop :=
  ∀ (m : (ℓ : Loc Cert.KernelInEven.nD Cert.KernelInEven.τ Cert.KernelInEven.sig) → Buf (Elt Bits) ℓ) (g : Dev Cert.KernelInEven.nD → PrngReg), Pre_KernelInEven m →
    θ_run (Cert.KernelInEven.defs (F := Bits)) (onTc (τ := Cert.KernelInEven.τ) (Cert.KernelInEven.main (F := Bits))) ⟨m, fun _ => 0, g⟩ (fun r => (∀ c : Dev Cert.KernelInEven.nD,
      r.2.mem ((c.tc : Thread Cert.KernelInEven.nD Cert.KernelInEven.τ).loc Cert.KernelInEven.main_arg0) = m ((c.tc : Thread Cert.KernelInEven.nD Cert.KernelInEven.τ).loc Cert.KernelInEven.main_arg0)
      ∧ r.2.mem ((c.tc : Thread Cert.KernelInEven.nD Cert.KernelInEven.τ).loc Cert.KernelInEven.main_arg1) = m ((c.tc : Thread Cert.KernelInEven.nD Cert.KernelInEven.τ).loc Cert.KernelInEven.main_arg1)
      ∧ r.2.mem ((c.tc : Thread Cert.KernelInEven.nD Cert.KernelInEven.τ).loc Cert.KernelInEven.main_arg2) = m ((c.tc : Thread Cert.KernelInEven.nD Cert.KernelInEven.τ).loc Cert.KernelInEven.main_arg2))
      ∧ r.2.sem = fun _ => 0)

def quiescent_KernelInEvenIdeal [hKernelInEvenIdeal : Cert.KernelInEvenIdeal.Facts] : Prop :=
  ∀ (m : (ℓ : Loc Cert.KernelInEvenIdeal.nD Cert.KernelInEvenIdeal.τ Cert.KernelInEvenIdeal.sig) → Buf (Elt Ideal) ℓ) (g : Dev Cert.KernelInEvenIdeal.nD → PrngReg), Pre_KernelInEvenIdeal m →
    θ_run (Cert.KernelInEvenIdeal.defs (F := Ideal)) (onTc (τ := Cert.KernelInEvenIdeal.τ) (Cert.KernelInEvenIdeal.main (F := Ideal))) ⟨m, fun _ => 0, g⟩ (fun r => (∀ c : Dev Cert.KernelInEvenIdeal.nD,
      r.2.mem ((c.tc : Thread Cert.KernelInEvenIdeal.nD Cert.KernelInEvenIdeal.τ).loc Cert.KernelInEvenIdeal.main_arg0) = m ((c.tc : Thread Cert.KernelInEvenIdeal.nD Cert.KernelInEvenIdeal.τ).loc Cert.KernelInEvenIdeal.main_arg0)
      ∧ r.2.mem ((c.tc : Thread Cert.KernelInEvenIdeal.nD Cert.KernelInEvenIdeal.τ).loc Cert.KernelInEvenIdeal.main_arg1) = m ((c.tc : Thread Cert.KernelInEvenIdeal.nD Cert.KernelInEvenIdeal.τ).loc Cert.KernelInEvenIdeal.main_arg1)
      ∧ r.2.mem ((c.tc : Thread Cert.KernelInEvenIdeal.nD Cert.KernelInEvenIdeal.τ).loc Cert.KernelInEvenIdeal.main_arg2) = m ((c.tc : Thread Cert.KernelInEvenIdeal.nD Cert.KernelInEvenIdeal.τ).loc Cert.KernelInEvenIdeal.main_arg2))
      ∧ r.2.sem = fun _ => 0)

def quiescent_ReferenceInEvenIdeal [hReferenceInEvenIdeal : Cert.ReferenceInEvenIdeal.Facts] : Prop :=
  ∀ (m : (ℓ : Loc Cert.ReferenceInEvenIdeal.nD Cert.ReferenceInEvenIdeal.τ Cert.ReferenceInEvenIdeal.sig) → Buf (Elt Ideal) ℓ) (g : Dev Cert.ReferenceInEvenIdeal.nD → PrngReg), Pre_ReferenceInEvenIdeal m →
    θ_run (Cert.ReferenceInEvenIdeal.defs (F := Ideal)) (onTc (τ := Cert.ReferenceInEvenIdeal.τ) (Cert.ReferenceInEvenIdeal.main (F := Ideal))) ⟨m, fun _ => 0, g⟩ (fun r => (∀ c : Dev Cert.ReferenceInEvenIdeal.nD,
      r.2.mem ((c.tc : Thread Cert.ReferenceInEvenIdeal.nD Cert.ReferenceInEvenIdeal.τ).loc Cert.ReferenceInEvenIdeal.main_arg0) = m ((c.tc : Thread Cert.ReferenceInEvenIdeal.nD Cert.ReferenceInEvenIdeal.τ).loc Cert.ReferenceInEvenIdeal.main_arg0)
      ∧ r.2.mem ((c.tc : Thread Cert.ReferenceInEvenIdeal.nD Cert.ReferenceInEvenIdeal.τ).loc Cert.ReferenceInEvenIdeal.main_arg1) = m ((c.tc : Thread Cert.ReferenceInEvenIdeal.nD Cert.ReferenceInEvenIdeal.τ).loc Cert.ReferenceInEvenIdeal.main_arg1)
      ∧ r.2.mem ((c.tc : Thread Cert.ReferenceInEvenIdeal.nD Cert.ReferenceInEvenIdeal.τ).loc Cert.ReferenceInEvenIdeal.main_arg2) = m ((c.tc : Thread Cert.ReferenceInEvenIdeal.nD Cert.ReferenceInEvenIdeal.τ).loc Cert.ReferenceInEvenIdeal.main_arg2))
      ∧ r.2.sem = fun _ => 0)

def quiescent_KernelInOdd [hKernelInOdd : Cert.KernelInOdd.Facts] : Prop :=
  ∀ (m : (ℓ : Loc Cert.KernelInOdd.nD Cert.KernelInOdd.τ Cert.KernelInOdd.sig) → Buf (Elt Bits) ℓ) (g : Dev Cert.KernelInOdd.nD → PrngReg), Pre_KernelInOdd m →
    θ_run (Cert.KernelInOdd.defs (F := Bits)) (onTc (τ := Cert.KernelInOdd.τ) (Cert.KernelInOdd.main (F := Bits))) ⟨m, fun _ => 0, g⟩ (fun r => (∀ c : Dev Cert.KernelInOdd.nD,
      r.2.mem ((c.tc : Thread Cert.KernelInOdd.nD Cert.KernelInOdd.τ).loc Cert.KernelInOdd.main_arg0) = m ((c.tc : Thread Cert.KernelInOdd.nD Cert.KernelInOdd.τ).loc Cert.KernelInOdd.main_arg0)
      ∧ r.2.mem ((c.tc : Thread Cert.KernelInOdd.nD Cert.KernelInOdd.τ).loc Cert.KernelInOdd.main_arg1) = m ((c.tc : Thread Cert.KernelInOdd.nD Cert.KernelInOdd.τ).loc Cert.KernelInOdd.main_arg1)
      ∧ r.2.mem ((c.tc : Thread Cert.KernelInOdd.nD Cert.KernelInOdd.τ).loc Cert.KernelInOdd.main_arg2) = m ((c.tc : Thread Cert.KernelInOdd.nD Cert.KernelInOdd.τ).loc Cert.KernelInOdd.main_arg2))
      ∧ r.2.sem = fun _ => 0)

def quiescent_KernelInOddIdeal [hKernelInOddIdeal : Cert.KernelInOddIdeal.Facts] : Prop :=
  ∀ (m : (ℓ : Loc Cert.KernelInOddIdeal.nD Cert.KernelInOddIdeal.τ Cert.KernelInOddIdeal.sig) → Buf (Elt Ideal) ℓ) (g : Dev Cert.KernelInOddIdeal.nD → PrngReg), Pre_KernelInOddIdeal m →
    θ_run (Cert.KernelInOddIdeal.defs (F := Ideal)) (onTc (τ := Cert.KernelInOddIdeal.τ) (Cert.KernelInOddIdeal.main (F := Ideal))) ⟨m, fun _ => 0, g⟩ (fun r => (∀ c : Dev Cert.KernelInOddIdeal.nD,
      r.2.mem ((c.tc : Thread Cert.KernelInOddIdeal.nD Cert.KernelInOddIdeal.τ).loc Cert.KernelInOddIdeal.main_arg0) = m ((c.tc : Thread Cert.KernelInOddIdeal.nD Cert.KernelInOddIdeal.τ).loc Cert.KernelInOddIdeal.main_arg0)
      ∧ r.2.mem ((c.tc : Thread Cert.KernelInOddIdeal.nD Cert.KernelInOddIdeal.τ).loc Cert.KernelInOddIdeal.main_arg1) = m ((c.tc : Thread Cert.KernelInOddIdeal.nD Cert.KernelInOddIdeal.τ).loc Cert.KernelInOddIdeal.main_arg1)
      ∧ r.2.mem ((c.tc : Thread Cert.KernelInOddIdeal.nD Cert.KernelInOddIdeal.τ).loc Cert.KernelInOddIdeal.main_arg2) = m ((c.tc : Thread Cert.KernelInOddIdeal.nD Cert.KernelInOddIdeal.τ).loc Cert.KernelInOddIdeal.main_arg2))
      ∧ r.2.sem = fun _ => 0)

def quiescent_ReferenceInOddIdeal [hReferenceInOddIdeal : Cert.ReferenceInOddIdeal.Facts] : Prop :=
  ∀ (m : (ℓ : Loc Cert.ReferenceInOddIdeal.nD Cert.ReferenceInOddIdeal.τ Cert.ReferenceInOddIdeal.sig) → Buf (Elt Ideal) ℓ) (g : Dev Cert.ReferenceInOddIdeal.nD → PrngReg), Pre_ReferenceInOddIdeal m →
    θ_run (Cert.ReferenceInOddIdeal.defs (F := Ideal)) (onTc (τ := Cert.ReferenceInOddIdeal.τ) (Cert.ReferenceInOddIdeal.main (F := Ideal))) ⟨m, fun _ => 0, g⟩ (fun r => (∀ c : Dev Cert.ReferenceInOddIdeal.nD,
      r.2.mem ((c.tc : Thread Cert.ReferenceInOddIdeal.nD Cert.ReferenceInOddIdeal.τ).loc Cert.ReferenceInOddIdeal.main_arg0) = m ((c.tc : Thread Cert.ReferenceInOddIdeal.nD Cert.ReferenceInOddIdeal.τ).loc Cert.ReferenceInOddIdeal.main_arg0)
      ∧ r.2.mem ((c.tc : Thread Cert.ReferenceInOddIdeal.nD Cert.ReferenceInOddIdeal.τ).loc Cert.ReferenceInOddIdeal.main_arg1) = m ((c.tc : Thread Cert.ReferenceInOddIdeal.nD Cert.ReferenceInOddIdeal.τ).loc Cert.ReferenceInOddIdeal.main_arg1)
      ∧ r.2.mem ((c.tc : Thread Cert.ReferenceInOddIdeal.nD Cert.ReferenceInOddIdeal.τ).loc Cert.ReferenceInOddIdeal.main_arg2) = m ((c.tc : Thread Cert.ReferenceInOddIdeal.nD Cert.ReferenceInOddIdeal.τ).loc Cert.ReferenceInOddIdeal.main_arg2))
      ∧ r.2.sem = fun _ => 0)

def quiescent_KernelOutEven [hKernelOutEven : Cert.KernelOutEven.Facts] : Prop :=
  ∀ (m : (ℓ : Loc Cert.KernelOutEven.nD Cert.KernelOutEven.τ Cert.KernelOutEven.sig) → Buf (Elt Bits) ℓ) (g : Dev Cert.KernelOutEven.nD → PrngReg), Pre_KernelOutEven m →
    θ_run (Cert.KernelOutEven.defs (F := Bits)) (onTc (τ := Cert.KernelOutEven.τ) (Cert.KernelOutEven.main (F := Bits))) ⟨m, fun _ => 0, g⟩ (fun r => (∀ c : Dev Cert.KernelOutEven.nD,
      r.2.mem ((c.tc : Thread Cert.KernelOutEven.nD Cert.KernelOutEven.τ).loc Cert.KernelOutEven.main_arg0) = m ((c.tc : Thread Cert.KernelOutEven.nD Cert.KernelOutEven.τ).loc Cert.KernelOutEven.main_arg0)
      ∧ r.2.mem ((c.tc : Thread Cert.KernelOutEven.nD Cert.KernelOutEven.τ).loc Cert.KernelOutEven.main_arg1) = m ((c.tc : Thread Cert.KernelOutEven.nD Cert.KernelOutEven.τ).loc Cert.KernelOutEven.main_arg1)
      ∧ r.2.mem ((c.tc : Thread Cert.KernelOutEven.nD Cert.KernelOutEven.τ).loc Cert.KernelOutEven.main_arg2) = m ((c.tc : Thread Cert.KernelOutEven.nD Cert.KernelOutEven.τ).loc Cert.KernelOutEven.main_arg2)
      ∧ r.2.mem ((c.tc : Thread Cert.KernelOutEven.nD Cert.KernelOutEven.τ).loc Cert.KernelOutEven.main_arg3) = m ((c.tc : Thread Cert.KernelOutEven.nD Cert.KernelOutEven.τ).loc Cert.KernelOutEven.main_arg3)
      ∧ r.2.mem ((c.tc : Thread Cert.KernelOutEven.nD Cert.KernelOutEven.τ).loc Cert.KernelOutEven.main_arg4) = m ((c.tc : Thread Cert.KernelOutEven.nD Cert.KernelOutEven.τ).loc Cert.KernelOutEven.main_arg4)
      ∧ r.2.mem ((c.tc : Thread Cert.KernelOutEven.nD Cert.KernelOutEven.τ).loc Cert.KernelOutEven.main_arg5) = m ((c.tc : Thread Cert.KernelOutEven.nD Cert.KernelOutEven.τ).loc Cert.KernelOutEven.main_arg5))
      ∧ r.2.sem = fun _ => 0)

def quiescent_KernelOutEvenIdeal [hKernelOutEvenIdeal : Cert.KernelOutEvenIdeal.Facts] : Prop :=
  ∀ (m : (ℓ : Loc Cert.KernelOutEvenIdeal.nD Cert.KernelOutEvenIdeal.τ Cert.KernelOutEvenIdeal.sig) → Buf (Elt Ideal) ℓ) (g : Dev Cert.KernelOutEvenIdeal.nD → PrngReg), Pre_KernelOutEvenIdeal m →
    θ_run (Cert.KernelOutEvenIdeal.defs (F := Ideal)) (onTc (τ := Cert.KernelOutEvenIdeal.τ) (Cert.KernelOutEvenIdeal.main (F := Ideal))) ⟨m, fun _ => 0, g⟩ (fun r => (∀ c : Dev Cert.KernelOutEvenIdeal.nD,
      r.2.mem ((c.tc : Thread Cert.KernelOutEvenIdeal.nD Cert.KernelOutEvenIdeal.τ).loc Cert.KernelOutEvenIdeal.main_arg0) = m ((c.tc : Thread Cert.KernelOutEvenIdeal.nD Cert.KernelOutEvenIdeal.τ).loc Cert.KernelOutEvenIdeal.main_arg0)
      ∧ r.2.mem ((c.tc : Thread Cert.KernelOutEvenIdeal.nD Cert.KernelOutEvenIdeal.τ).loc Cert.KernelOutEvenIdeal.main_arg1) = m ((c.tc : Thread Cert.KernelOutEvenIdeal.nD Cert.KernelOutEvenIdeal.τ).loc Cert.KernelOutEvenIdeal.main_arg1)
      ∧ r.2.mem ((c.tc : Thread Cert.KernelOutEvenIdeal.nD Cert.KernelOutEvenIdeal.τ).loc Cert.KernelOutEvenIdeal.main_arg2) = m ((c.tc : Thread Cert.KernelOutEvenIdeal.nD Cert.KernelOutEvenIdeal.τ).loc Cert.KernelOutEvenIdeal.main_arg2)
      ∧ r.2.mem ((c.tc : Thread Cert.KernelOutEvenIdeal.nD Cert.KernelOutEvenIdeal.τ).loc Cert.KernelOutEvenIdeal.main_arg3) = m ((c.tc : Thread Cert.KernelOutEvenIdeal.nD Cert.KernelOutEvenIdeal.τ).loc Cert.KernelOutEvenIdeal.main_arg3)
      ∧ r.2.mem ((c.tc : Thread Cert.KernelOutEvenIdeal.nD Cert.KernelOutEvenIdeal.τ).loc Cert.KernelOutEvenIdeal.main_arg4) = m ((c.tc : Thread Cert.KernelOutEvenIdeal.nD Cert.KernelOutEvenIdeal.τ).loc Cert.KernelOutEvenIdeal.main_arg4)
      ∧ r.2.mem ((c.tc : Thread Cert.KernelOutEvenIdeal.nD Cert.KernelOutEvenIdeal.τ).loc Cert.KernelOutEvenIdeal.main_arg5) = m ((c.tc : Thread Cert.KernelOutEvenIdeal.nD Cert.KernelOutEvenIdeal.τ).loc Cert.KernelOutEvenIdeal.main_arg5))
      ∧ r.2.sem = fun _ => 0)

def quiescent_ReferenceOutEvenIdeal [hReferenceOutEvenIdeal : Cert.ReferenceOutEvenIdeal.Facts] : Prop :=
  ∀ (m : (ℓ : Loc Cert.ReferenceOutEvenIdeal.nD Cert.ReferenceOutEvenIdeal.τ Cert.ReferenceOutEvenIdeal.sig) → Buf (Elt Ideal) ℓ) (g : Dev Cert.ReferenceOutEvenIdeal.nD → PrngReg), Pre_ReferenceOutEvenIdeal m →
    θ_run (Cert.ReferenceOutEvenIdeal.defs (F := Ideal)) (onTc (τ := Cert.ReferenceOutEvenIdeal.τ) (Cert.ReferenceOutEvenIdeal.main (F := Ideal))) ⟨m, fun _ => 0, g⟩ (fun r => (∀ c : Dev Cert.ReferenceOutEvenIdeal.nD,
      r.2.mem ((c.tc : Thread Cert.ReferenceOutEvenIdeal.nD Cert.ReferenceOutEvenIdeal.τ).loc Cert.ReferenceOutEvenIdeal.main_arg0) = m ((c.tc : Thread Cert.ReferenceOutEvenIdeal.nD Cert.ReferenceOutEvenIdeal.τ).loc Cert.ReferenceOutEvenIdeal.main_arg0)
      ∧ r.2.mem ((c.tc : Thread Cert.ReferenceOutEvenIdeal.nD Cert.ReferenceOutEvenIdeal.τ).loc Cert.ReferenceOutEvenIdeal.main_arg1) = m ((c.tc : Thread Cert.ReferenceOutEvenIdeal.nD Cert.ReferenceOutEvenIdeal.τ).loc Cert.ReferenceOutEvenIdeal.main_arg1)
      ∧ r.2.mem ((c.tc : Thread Cert.ReferenceOutEvenIdeal.nD Cert.ReferenceOutEvenIdeal.τ).loc Cert.ReferenceOutEvenIdeal.main_arg2) = m ((c.tc : Thread Cert.ReferenceOutEvenIdeal.nD Cert.ReferenceOutEvenIdeal.τ).loc Cert.ReferenceOutEvenIdeal.main_arg2)
      ∧ r.2.mem ((c.tc : Thread Cert.ReferenceOutEvenIdeal.nD Cert.ReferenceOutEvenIdeal.τ).loc Cert.ReferenceOutEvenIdeal.main_arg3) = m ((c.tc : Thread Cert.ReferenceOutEvenIdeal.nD Cert.ReferenceOutEvenIdeal.τ).loc Cert.ReferenceOutEvenIdeal.main_arg3)
      ∧ r.2.mem ((c.tc : Thread Cert.ReferenceOutEvenIdeal.nD Cert.ReferenceOutEvenIdeal.τ).loc Cert.ReferenceOutEvenIdeal.main_arg4) = m ((c.tc : Thread Cert.ReferenceOutEvenIdeal.nD Cert.ReferenceOutEvenIdeal.τ).loc Cert.ReferenceOutEvenIdeal.main_arg4)
      ∧ r.2.mem ((c.tc : Thread Cert.ReferenceOutEvenIdeal.nD Cert.ReferenceOutEvenIdeal.τ).loc Cert.ReferenceOutEvenIdeal.main_arg5) = m ((c.tc : Thread Cert.ReferenceOutEvenIdeal.nD Cert.ReferenceOutEvenIdeal.τ).loc Cert.ReferenceOutEvenIdeal.main_arg5))
      ∧ r.2.sem = fun _ => 0)

def quiescent_KernelOutOdd [hKernelOutOdd : Cert.KernelOutOdd.Facts] : Prop :=
  ∀ (m : (ℓ : Loc Cert.KernelOutOdd.nD Cert.KernelOutOdd.τ Cert.KernelOutOdd.sig) → Buf (Elt Bits) ℓ) (g : Dev Cert.KernelOutOdd.nD → PrngReg), Pre_KernelOutOdd m →
    θ_run (Cert.KernelOutOdd.defs (F := Bits)) (onTc (τ := Cert.KernelOutOdd.τ) (Cert.KernelOutOdd.main (F := Bits))) ⟨m, fun _ => 0, g⟩ (fun r => (∀ c : Dev Cert.KernelOutOdd.nD,
      r.2.mem ((c.tc : Thread Cert.KernelOutOdd.nD Cert.KernelOutOdd.τ).loc Cert.KernelOutOdd.main_arg0) = m ((c.tc : Thread Cert.KernelOutOdd.nD Cert.KernelOutOdd.τ).loc Cert.KernelOutOdd.main_arg0)
      ∧ r.2.mem ((c.tc : Thread Cert.KernelOutOdd.nD Cert.KernelOutOdd.τ).loc Cert.KernelOutOdd.main_arg1) = m ((c.tc : Thread Cert.KernelOutOdd.nD Cert.KernelOutOdd.τ).loc Cert.KernelOutOdd.main_arg1)
      ∧ r.2.mem ((c.tc : Thread Cert.KernelOutOdd.nD Cert.KernelOutOdd.τ).loc Cert.KernelOutOdd.main_arg2) = m ((c.tc : Thread Cert.KernelOutOdd.nD Cert.KernelOutOdd.τ).loc Cert.KernelOutOdd.main_arg2)
      ∧ r.2.mem ((c.tc : Thread Cert.KernelOutOdd.nD Cert.KernelOutOdd.τ).loc Cert.KernelOutOdd.main_arg3) = m ((c.tc : Thread Cert.KernelOutOdd.nD Cert.KernelOutOdd.τ).loc Cert.KernelOutOdd.main_arg3))
      ∧ r.2.sem = fun _ => 0)

def quiescent_KernelOutOddIdeal [hKernelOutOddIdeal : Cert.KernelOutOddIdeal.Facts] : Prop :=
  ∀ (m : (ℓ : Loc Cert.KernelOutOddIdeal.nD Cert.KernelOutOddIdeal.τ Cert.KernelOutOddIdeal.sig) → Buf (Elt Ideal) ℓ) (g : Dev Cert.KernelOutOddIdeal.nD → PrngReg), Pre_KernelOutOddIdeal m →
    θ_run (Cert.KernelOutOddIdeal.defs (F := Ideal)) (onTc (τ := Cert.KernelOutOddIdeal.τ) (Cert.KernelOutOddIdeal.main (F := Ideal))) ⟨m, fun _ => 0, g⟩ (fun r => (∀ c : Dev Cert.KernelOutOddIdeal.nD,
      r.2.mem ((c.tc : Thread Cert.KernelOutOddIdeal.nD Cert.KernelOutOddIdeal.τ).loc Cert.KernelOutOddIdeal.main_arg0) = m ((c.tc : Thread Cert.KernelOutOddIdeal.nD Cert.KernelOutOddIdeal.τ).loc Cert.KernelOutOddIdeal.main_arg0)
      ∧ r.2.mem ((c.tc : Thread Cert.KernelOutOddIdeal.nD Cert.KernelOutOddIdeal.τ).loc Cert.KernelOutOddIdeal.main_arg1) = m ((c.tc : Thread Cert.KernelOutOddIdeal.nD Cert.KernelOutOddIdeal.τ).loc Cert.KernelOutOddIdeal.main_arg1)
      ∧ r.2.mem ((c.tc : Thread Cert.KernelOutOddIdeal.nD Cert.KernelOutOddIdeal.τ).loc Cert.KernelOutOddIdeal.main_arg2) = m ((c.tc : Thread Cert.KernelOutOddIdeal.nD Cert.KernelOutOddIdeal.τ).loc Cert.KernelOutOddIdeal.main_arg2)
      ∧ r.2.mem ((c.tc : Thread Cert.KernelOutOddIdeal.nD Cert.KernelOutOddIdeal.τ).loc Cert.KernelOutOddIdeal.main_arg3) = m ((c.tc : Thread Cert.KernelOutOddIdeal.nD Cert.KernelOutOddIdeal.τ).loc Cert.KernelOutOddIdeal.main_arg3))
      ∧ r.2.sem = fun _ => 0)

def quiescent_ReferenceOutOddIdeal [hReferenceOutOddIdeal : Cert.ReferenceOutOddIdeal.Facts] : Prop :=
  ∀ (m : (ℓ : Loc Cert.ReferenceOutOddIdeal.nD Cert.ReferenceOutOddIdeal.τ Cert.ReferenceOutOddIdeal.sig) → Buf (Elt Ideal) ℓ) (g : Dev Cert.ReferenceOutOddIdeal.nD → PrngReg), Pre_ReferenceOutOddIdeal m →
    θ_run (Cert.ReferenceOutOddIdeal.defs (F := Ideal)) (onTc (τ := Cert.ReferenceOutOddIdeal.τ) (Cert.ReferenceOutOddIdeal.main (F := Ideal))) ⟨m, fun _ => 0, g⟩ (fun r => (∀ c : Dev Cert.ReferenceOutOddIdeal.nD,
      r.2.mem ((c.tc : Thread Cert.ReferenceOutOddIdeal.nD Cert.ReferenceOutOddIdeal.τ).loc Cert.ReferenceOutOddIdeal.main_arg0) = m ((c.tc : Thread Cert.ReferenceOutOddIdeal.nD Cert.ReferenceOutOddIdeal.τ).loc Cert.ReferenceOutOddIdeal.main_arg0)
      ∧ r.2.mem ((c.tc : Thread Cert.ReferenceOutOddIdeal.nD Cert.ReferenceOutOddIdeal.τ).loc Cert.ReferenceOutOddIdeal.main_arg1) = m ((c.tc : Thread Cert.ReferenceOutOddIdeal.nD Cert.ReferenceOutOddIdeal.τ).loc Cert.ReferenceOutOddIdeal.main_arg1)
      ∧ r.2.mem ((c.tc : Thread Cert.ReferenceOutOddIdeal.nD Cert.ReferenceOutOddIdeal.τ).loc Cert.ReferenceOutOddIdeal.main_arg2) = m ((c.tc : Thread Cert.ReferenceOutOddIdeal.nD Cert.ReferenceOutOddIdeal.τ).loc Cert.ReferenceOutOddIdeal.main_arg2)
      ∧ r.2.mem ((c.tc : Thread Cert.ReferenceOutOddIdeal.nD Cert.ReferenceOutOddIdeal.τ).loc Cert.ReferenceOutOddIdeal.main_arg3) = m ((c.tc : Thread Cert.ReferenceOutOddIdeal.nD Cert.ReferenceOutOddIdeal.τ).loc Cert.ReferenceOutOddIdeal.main_arg3))
      ∧ r.2.sem = fun _ => 0)

def preserves_Kernel_KernelIdeal : Prop :=
  IdealRules.named_const.Statement Cert.KernelIdeal.κ "neg_inf" .f32 0xF149F2CA#32 ⊥
  ∧ IdealRules.named_const.Statement Cert.KernelIdeal.κ "scale2" .f32 0x3E0293EE#32 (((Real.log 2)⁻¹ * (Real.sqrt 128)⁻¹ : ℝ) : EReal)

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v13) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelForget_KernelForgetIdeal : Prop :=
  True

def algebraic_KernelForgetIdeal_ReferenceForgetIdeal [hKernelForgetIdeal : Cert.KernelForgetIdeal.Facts] [hReferenceForgetIdeal : Cert.ReferenceForgetIdeal.Facts] : Prop :=
  ∀ (m : (ℓ : Loc Cert.KernelForgetIdeal.nD Cert.KernelForgetIdeal.τ Cert.KernelForgetIdeal.sig) → Buf (Elt Ideal) ℓ) (g : Dev Cert.KernelForgetIdeal.nD → PrngReg)
    (m' : (ℓ : Loc Cert.ReferenceForgetIdeal.nD Cert.ReferenceForgetIdeal.τ Cert.ReferenceForgetIdeal.sig) → Buf (Elt Ideal) ℓ) (g' : Dev Cert.ReferenceForgetIdeal.nD → PrngReg), Pre_KernelForgetIdeal m →
    (∀ c : Dev Cert.KernelForgetIdeal.nD,
      m' ((c.tc : Thread Cert.ReferenceForgetIdeal.nD Cert.ReferenceForgetIdeal.τ).loc Cert.ReferenceForgetIdeal.main_arg0) = m ((c.tc : Thread Cert.KernelForgetIdeal.nD Cert.KernelForgetIdeal.τ).loc Cert.KernelForgetIdeal.main_arg0)
      ∧ m' ((c.tc : Thread Cert.ReferenceForgetIdeal.nD Cert.ReferenceForgetIdeal.τ).loc Cert.ReferenceForgetIdeal.main_arg1) = m ((c.tc : Thread Cert.KernelForgetIdeal.nD Cert.KernelForgetIdeal.τ).loc Cert.KernelForgetIdeal.main_arg1)) →
    ∃ (v0 : (c : Dev Cert.KernelForgetIdeal.nD) → Buf (Elt Ideal) ((c.tc : Thread Cert.KernelForgetIdeal.nD Cert.KernelForgetIdeal.τ).loc Cert.KernelForgetIdeal.main_v1)),
      θ_run (Cert.KernelForgetIdeal.defs (F := Ideal)) (onTc (τ := Cert.KernelForgetIdeal.τ) (Cert.KernelForgetIdeal.main (F := Ideal))) ⟨m, fun _ => 0, g⟩ (fun r => ∀ c : Dev Cert.KernelForgetIdeal.nD,
          r.2.mem ((c.tc : Thread Cert.KernelForgetIdeal.nD Cert.KernelForgetIdeal.τ).loc Cert.KernelForgetIdeal.main_v1) = v0 c
          ∧ r.2.mem ((c.tc : Thread Cert.KernelForgetIdeal.nD Cert.KernelForgetIdeal.τ).loc Cert.KernelForgetIdeal.main_arg0) = m ((c.tc : Thread Cert.KernelForgetIdeal.nD Cert.KernelForgetIdeal.τ).loc Cert.KernelForgetIdeal.main_arg0)
          ∧ r.2.mem ((c.tc : Thread Cert.KernelForgetIdeal.nD Cert.KernelForgetIdeal.τ).loc Cert.KernelForgetIdeal.main_arg1) = m ((c.tc : Thread Cert.KernelForgetIdeal.nD Cert.KernelForgetIdeal.τ).loc Cert.KernelForgetIdeal.main_arg1))
      ∧ θ_run (Cert.ReferenceForgetIdeal.defs (F := Ideal)) (onTc (τ := Cert.ReferenceForgetIdeal.τ) (Cert.ReferenceForgetIdeal.main (F := Ideal))) ⟨m', fun _ => 0, g'⟩ (fun r => ∀ c : Dev Cert.ReferenceForgetIdeal.nD,
          r.2.mem ((c.tc : Thread Cert.ReferenceForgetIdeal.nD Cert.ReferenceForgetIdeal.τ).loc Cert.ReferenceForgetIdeal.main_v2) = v0 c
          ∧ r.2.mem ((c.tc : Thread Cert.ReferenceForgetIdeal.nD Cert.ReferenceForgetIdeal.τ).loc Cert.ReferenceForgetIdeal.main_arg0) = m' ((c.tc : Thread Cert.ReferenceForgetIdeal.nD Cert.ReferenceForgetIdeal.τ).loc Cert.ReferenceForgetIdeal.main_arg0)
          ∧ r.2.mem ((c.tc : Thread Cert.ReferenceForgetIdeal.nD Cert.ReferenceForgetIdeal.τ).loc Cert.ReferenceForgetIdeal.main_arg1) = m' ((c.tc : Thread Cert.ReferenceForgetIdeal.nD Cert.ReferenceForgetIdeal.τ).loc Cert.ReferenceForgetIdeal.main_arg1))

def preserves_KernelInEven_KernelInEvenIdeal : Prop :=
  True

def algebraic_KernelInEvenIdeal_ReferenceInEvenIdeal [hKernelInEvenIdeal : Cert.KernelInEvenIdeal.Facts] [hReferenceInEvenIdeal : Cert.ReferenceInEvenIdeal.Facts] : Prop :=
  ∀ (m : (ℓ : Loc Cert.KernelInEvenIdeal.nD Cert.KernelInEvenIdeal.τ Cert.KernelInEvenIdeal.sig) → Buf (Elt Ideal) ℓ) (g : Dev Cert.KernelInEvenIdeal.nD → PrngReg)
    (m' : (ℓ : Loc Cert.ReferenceInEvenIdeal.nD Cert.ReferenceInEvenIdeal.τ Cert.ReferenceInEvenIdeal.sig) → Buf (Elt Ideal) ℓ) (g' : Dev Cert.ReferenceInEvenIdeal.nD → PrngReg), Pre_KernelInEvenIdeal m →
    (∀ c : Dev Cert.KernelInEvenIdeal.nD,
      m' ((c.tc : Thread Cert.ReferenceInEvenIdeal.nD Cert.ReferenceInEvenIdeal.τ).loc Cert.ReferenceInEvenIdeal.main_arg0) = m ((c.tc : Thread Cert.KernelInEvenIdeal.nD Cert.KernelInEvenIdeal.τ).loc Cert.KernelInEvenIdeal.main_arg0)
      ∧ m' ((c.tc : Thread Cert.ReferenceInEvenIdeal.nD Cert.ReferenceInEvenIdeal.τ).loc Cert.ReferenceInEvenIdeal.main_arg1) = m ((c.tc : Thread Cert.KernelInEvenIdeal.nD Cert.KernelInEvenIdeal.τ).loc Cert.KernelInEvenIdeal.main_arg1)
      ∧ m' ((c.tc : Thread Cert.ReferenceInEvenIdeal.nD Cert.ReferenceInEvenIdeal.τ).loc Cert.ReferenceInEvenIdeal.main_arg2) = m ((c.tc : Thread Cert.KernelInEvenIdeal.nD Cert.KernelInEvenIdeal.τ).loc Cert.KernelInEvenIdeal.main_arg2)) →
    ∃ (v0 : (c : Dev Cert.KernelInEvenIdeal.nD) → Buf (Elt Ideal) ((c.tc : Thread Cert.KernelInEvenIdeal.nD Cert.KernelInEvenIdeal.τ).loc Cert.KernelInEvenIdeal.main_v1_0)) (v1 : (c : Dev Cert.KernelInEvenIdeal.nD) → Buf (Elt Ideal) ((c.tc : Thread Cert.KernelInEvenIdeal.nD Cert.KernelInEvenIdeal.τ).loc Cert.KernelInEvenIdeal.main_v1_1)),
      θ_run (Cert.KernelInEvenIdeal.defs (F := Ideal)) (onTc (τ := Cert.KernelInEvenIdeal.τ) (Cert.KernelInEvenIdeal.main (F := Ideal))) ⟨m, fun _ => 0, g⟩ (fun r => ∀ c : Dev Cert.KernelInEvenIdeal.nD,
          r.2.mem ((c.tc : Thread Cert.KernelInEvenIdeal.nD Cert.KernelInEvenIdeal.τ).loc Cert.KernelInEvenIdeal.main_v1_0) = v0 c
          ∧ r.2.mem ((c.tc : Thread Cert.KernelInEvenIdeal.nD Cert.KernelInEvenIdeal.τ).loc Cert.KernelInEvenIdeal.main_v1_1) = v1 c
          ∧ r.2.mem ((c.tc : Thread Cert.KernelInEvenIdeal.nD Cert.KernelInEvenIdeal.τ).loc Cert.KernelInEvenIdeal.main_arg0) = m ((c.tc : Thread Cert.KernelInEvenIdeal.nD Cert.KernelInEvenIdeal.τ).loc Cert.KernelInEvenIdeal.main_arg0)
          ∧ r.2.mem ((c.tc : Thread Cert.KernelInEvenIdeal.nD Cert.KernelInEvenIdeal.τ).loc Cert.KernelInEvenIdeal.main_arg1) = m ((c.tc : Thread Cert.KernelInEvenIdeal.nD Cert.KernelInEvenIdeal.τ).loc Cert.KernelInEvenIdeal.main_arg1)
          ∧ r.2.mem ((c.tc : Thread Cert.KernelInEvenIdeal.nD Cert.KernelInEvenIdeal.τ).loc Cert.KernelInEvenIdeal.main_arg2) = m ((c.tc : Thread Cert.KernelInEvenIdeal.nD Cert.KernelInEvenIdeal.τ).loc Cert.KernelInEvenIdeal.main_arg2))
      ∧ θ_run (Cert.ReferenceInEvenIdeal.defs (F := Ideal)) (onTc (τ := Cert.ReferenceInEvenIdeal.τ) (Cert.ReferenceInEvenIdeal.main (F := Ideal))) ⟨m', fun _ => 0, g'⟩ (fun r => ∀ c : Dev Cert.ReferenceInEvenIdeal.nD,
          r.2.mem ((c.tc : Thread Cert.ReferenceInEvenIdeal.nD Cert.ReferenceInEvenIdeal.τ).loc Cert.ReferenceInEvenIdeal.main_v3) = v0 c
          ∧ r.2.mem ((c.tc : Thread Cert.ReferenceInEvenIdeal.nD Cert.ReferenceInEvenIdeal.τ).loc Cert.ReferenceInEvenIdeal.main_v4) = v1 c
          ∧ r.2.mem ((c.tc : Thread Cert.ReferenceInEvenIdeal.nD Cert.ReferenceInEvenIdeal.τ).loc Cert.ReferenceInEvenIdeal.main_arg0) = m' ((c.tc : Thread Cert.ReferenceInEvenIdeal.nD Cert.ReferenceInEvenIdeal.τ).loc Cert.ReferenceInEvenIdeal.main_arg0)
          ∧ r.2.mem ((c.tc : Thread Cert.ReferenceInEvenIdeal.nD Cert.ReferenceInEvenIdeal.τ).loc Cert.ReferenceInEvenIdeal.main_arg1) = m' ((c.tc : Thread Cert.ReferenceInEvenIdeal.nD Cert.ReferenceInEvenIdeal.τ).loc Cert.ReferenceInEvenIdeal.main_arg1)
          ∧ r.2.mem ((c.tc : Thread Cert.ReferenceInEvenIdeal.nD Cert.ReferenceInEvenIdeal.τ).loc Cert.ReferenceInEvenIdeal.main_arg2) = m' ((c.tc : Thread Cert.ReferenceInEvenIdeal.nD Cert.ReferenceInEvenIdeal.τ).loc Cert.ReferenceInEvenIdeal.main_arg2))

def preserves_KernelInOdd_KernelInOddIdeal : Prop :=
  True

def algebraic_KernelInOddIdeal_ReferenceInOddIdeal [hKernelInOddIdeal : Cert.KernelInOddIdeal.Facts] [hReferenceInOddIdeal : Cert.ReferenceInOddIdeal.Facts] : Prop :=
  ∀ (m : (ℓ : Loc Cert.KernelInOddIdeal.nD Cert.KernelInOddIdeal.τ Cert.KernelInOddIdeal.sig) → Buf (Elt Ideal) ℓ) (g : Dev Cert.KernelInOddIdeal.nD → PrngReg)
    (m' : (ℓ : Loc Cert.ReferenceInOddIdeal.nD Cert.ReferenceInOddIdeal.τ Cert.ReferenceInOddIdeal.sig) → Buf (Elt Ideal) ℓ) (g' : Dev Cert.ReferenceInOddIdeal.nD → PrngReg), Pre_KernelInOddIdeal m →
    (∀ c : Dev Cert.KernelInOddIdeal.nD,
      m' ((c.tc : Thread Cert.ReferenceInOddIdeal.nD Cert.ReferenceInOddIdeal.τ).loc Cert.ReferenceInOddIdeal.main_arg0) = m ((c.tc : Thread Cert.KernelInOddIdeal.nD Cert.KernelInOddIdeal.τ).loc Cert.KernelInOddIdeal.main_arg0)
      ∧ m' ((c.tc : Thread Cert.ReferenceInOddIdeal.nD Cert.ReferenceInOddIdeal.τ).loc Cert.ReferenceInOddIdeal.main_arg1) = m ((c.tc : Thread Cert.KernelInOddIdeal.nD Cert.KernelInOddIdeal.τ).loc Cert.KernelInOddIdeal.main_arg1)
      ∧ m' ((c.tc : Thread Cert.ReferenceInOddIdeal.nD Cert.ReferenceInOddIdeal.τ).loc Cert.ReferenceInOddIdeal.main_arg2) = m ((c.tc : Thread Cert.KernelInOddIdeal.nD Cert.KernelInOddIdeal.τ).loc Cert.KernelInOddIdeal.main_arg2)) →
    ∃ (v0 : (c : Dev Cert.KernelInOddIdeal.nD) → Buf (Elt Ideal) ((c.tc : Thread Cert.KernelInOddIdeal.nD Cert.KernelInOddIdeal.τ).loc Cert.KernelInOddIdeal.main_v0_0)) (v1 : (c : Dev Cert.KernelInOddIdeal.nD) → Buf (Elt Ideal) ((c.tc : Thread Cert.KernelInOddIdeal.nD Cert.KernelInOddIdeal.τ).loc Cert.KernelInOddIdeal.main_v0_1)),
      θ_run (Cert.KernelInOddIdeal.defs (F := Ideal)) (onTc (τ := Cert.KernelInOddIdeal.τ) (Cert.KernelInOddIdeal.main (F := Ideal))) ⟨m, fun _ => 0, g⟩ (fun r => ∀ c : Dev Cert.KernelInOddIdeal.nD,
          r.2.mem ((c.tc : Thread Cert.KernelInOddIdeal.nD Cert.KernelInOddIdeal.τ).loc Cert.KernelInOddIdeal.main_v0_0) = v0 c
          ∧ r.2.mem ((c.tc : Thread Cert.KernelInOddIdeal.nD Cert.KernelInOddIdeal.τ).loc Cert.KernelInOddIdeal.main_v0_1) = v1 c
          ∧ r.2.mem ((c.tc : Thread Cert.KernelInOddIdeal.nD Cert.KernelInOddIdeal.τ).loc Cert.KernelInOddIdeal.main_arg0) = m ((c.tc : Thread Cert.KernelInOddIdeal.nD Cert.KernelInOddIdeal.τ).loc Cert.KernelInOddIdeal.main_arg0)
          ∧ r.2.mem ((c.tc : Thread Cert.KernelInOddIdeal.nD Cert.KernelInOddIdeal.τ).loc Cert.KernelInOddIdeal.main_arg1) = m ((c.tc : Thread Cert.KernelInOddIdeal.nD Cert.KernelInOddIdeal.τ).loc Cert.KernelInOddIdeal.main_arg1)
          ∧ r.2.mem ((c.tc : Thread Cert.KernelInOddIdeal.nD Cert.KernelInOddIdeal.τ).loc Cert.KernelInOddIdeal.main_arg2) = m ((c.tc : Thread Cert.KernelInOddIdeal.nD Cert.KernelInOddIdeal.τ).loc Cert.KernelInOddIdeal.main_arg2))
      ∧ θ_run (Cert.ReferenceInOddIdeal.defs (F := Ideal)) (onTc (τ := Cert.ReferenceInOddIdeal.τ) (Cert.ReferenceInOddIdeal.main (F := Ideal))) ⟨m', fun _ => 0, g'⟩ (fun r => ∀ c : Dev Cert.ReferenceInOddIdeal.nD,
          r.2.mem ((c.tc : Thread Cert.ReferenceInOddIdeal.nD Cert.ReferenceInOddIdeal.τ).loc Cert.ReferenceInOddIdeal.main_v2) = v0 c
          ∧ r.2.mem ((c.tc : Thread Cert.ReferenceInOddIdeal.nD Cert.ReferenceInOddIdeal.τ).loc Cert.ReferenceInOddIdeal.main_v3) = v1 c
          ∧ r.2.mem ((c.tc : Thread Cert.ReferenceInOddIdeal.nD Cert.ReferenceInOddIdeal.τ).loc Cert.ReferenceInOddIdeal.main_arg0) = m' ((c.tc : Thread Cert.ReferenceInOddIdeal.nD Cert.ReferenceInOddIdeal.τ).loc Cert.ReferenceInOddIdeal.main_arg0)
          ∧ r.2.mem ((c.tc : Thread Cert.ReferenceInOddIdeal.nD Cert.ReferenceInOddIdeal.τ).loc Cert.ReferenceInOddIdeal.main_arg1) = m' ((c.tc : Thread Cert.ReferenceInOddIdeal.nD Cert.ReferenceInOddIdeal.τ).loc Cert.ReferenceInOddIdeal.main_arg1)
          ∧ r.2.mem ((c.tc : Thread Cert.ReferenceInOddIdeal.nD Cert.ReferenceInOddIdeal.τ).loc Cert.ReferenceInOddIdeal.main_arg2) = m' ((c.tc : Thread Cert.ReferenceInOddIdeal.nD Cert.ReferenceInOddIdeal.τ).loc Cert.ReferenceInOddIdeal.main_arg2))

def preserves_KernelOutEven_KernelOutEvenIdeal : Prop :=
  True

def algebraic_KernelOutEvenIdeal_ReferenceOutEvenIdeal [hKernelOutEvenIdeal : Cert.KernelOutEvenIdeal.Facts] [hReferenceOutEvenIdeal : Cert.ReferenceOutEvenIdeal.Facts] : Prop :=
  ∀ (m : (ℓ : Loc Cert.KernelOutEvenIdeal.nD Cert.KernelOutEvenIdeal.τ Cert.KernelOutEvenIdeal.sig) → Buf (Elt Ideal) ℓ) (g : Dev Cert.KernelOutEvenIdeal.nD → PrngReg)
    (m' : (ℓ : Loc Cert.ReferenceOutEvenIdeal.nD Cert.ReferenceOutEvenIdeal.τ Cert.ReferenceOutEvenIdeal.sig) → Buf (Elt Ideal) ℓ) (g' : Dev Cert.ReferenceOutEvenIdeal.nD → PrngReg), Pre_KernelOutEvenIdeal m →
    (∀ c : Dev Cert.KernelOutEvenIdeal.nD,
      m' ((c.tc : Thread Cert.ReferenceOutEvenIdeal.nD Cert.ReferenceOutEvenIdeal.τ).loc Cert.ReferenceOutEvenIdeal.main_arg0) = m ((c.tc : Thread Cert.KernelOutEvenIdeal.nD Cert.KernelOutEvenIdeal.τ).loc Cert.KernelOutEvenIdeal.main_arg0)
      ∧ m' ((c.tc : Thread Cert.ReferenceOutEvenIdeal.nD Cert.ReferenceOutEvenIdeal.τ).loc Cert.ReferenceOutEvenIdeal.main_arg1) = m ((c.tc : Thread Cert.KernelOutEvenIdeal.nD Cert.KernelOutEvenIdeal.τ).loc Cert.KernelOutEvenIdeal.main_arg1)
      ∧ m' ((c.tc : Thread Cert.ReferenceOutEvenIdeal.nD Cert.ReferenceOutEvenIdeal.τ).loc Cert.ReferenceOutEvenIdeal.main_arg2) = m ((c.tc : Thread Cert.KernelOutEvenIdeal.nD Cert.KernelOutEvenIdeal.τ).loc Cert.KernelOutEvenIdeal.main_arg2)
      ∧ m' ((c.tc : Thread Cert.ReferenceOutEvenIdeal.nD Cert.ReferenceOutEvenIdeal.τ).loc Cert.ReferenceOutEvenIdeal.main_arg3) = m ((c.tc : Thread Cert.KernelOutEvenIdeal.nD Cert.KernelOutEvenIdeal.τ).loc Cert.KernelOutEvenIdeal.main_arg3)
      ∧ m' ((c.tc : Thread Cert.ReferenceOutEvenIdeal.nD Cert.ReferenceOutEvenIdeal.τ).loc Cert.ReferenceOutEvenIdeal.main_arg4) = m ((c.tc : Thread Cert.KernelOutEvenIdeal.nD Cert.KernelOutEvenIdeal.τ).loc Cert.KernelOutEvenIdeal.main_arg4)
      ∧ m' ((c.tc : Thread Cert.ReferenceOutEvenIdeal.nD Cert.ReferenceOutEvenIdeal.τ).loc Cert.ReferenceOutEvenIdeal.main_arg5) = m ((c.tc : Thread Cert.KernelOutEvenIdeal.nD Cert.KernelOutEvenIdeal.τ).loc Cert.KernelOutEvenIdeal.main_arg5)) →
    ∃ (v0 : (c : Dev Cert.KernelOutEvenIdeal.nD) → Buf (Elt Ideal) ((c.tc : Thread Cert.KernelOutEvenIdeal.nD Cert.KernelOutEvenIdeal.τ).loc Cert.KernelOutEvenIdeal.main_v2_0)) (v1 : (c : Dev Cert.KernelOutEvenIdeal.nD) → Buf (Elt Ideal) ((c.tc : Thread Cert.KernelOutEvenIdeal.nD Cert.KernelOutEvenIdeal.τ).loc Cert.KernelOutEvenIdeal.main_v2_1)),
      θ_run (Cert.KernelOutEvenIdeal.defs (F := Ideal)) (onTc (τ := Cert.KernelOutEvenIdeal.τ) (Cert.KernelOutEvenIdeal.main (F := Ideal))) ⟨m, fun _ => 0, g⟩ (fun r => ∀ c : Dev Cert.KernelOutEvenIdeal.nD,
          r.2.mem ((c.tc : Thread Cert.KernelOutEvenIdeal.nD Cert.KernelOutEvenIdeal.τ).loc Cert.KernelOutEvenIdeal.main_v2_0) = v0 c
          ∧ r.2.mem ((c.tc : Thread Cert.KernelOutEvenIdeal.nD Cert.KernelOutEvenIdeal.τ).loc Cert.KernelOutEvenIdeal.main_v2_1) = v1 c
          ∧ r.2.mem ((c.tc : Thread Cert.KernelOutEvenIdeal.nD Cert.KernelOutEvenIdeal.τ).loc Cert.KernelOutEvenIdeal.main_arg0) = m ((c.tc : Thread Cert.KernelOutEvenIdeal.nD Cert.KernelOutEvenIdeal.τ).loc Cert.KernelOutEvenIdeal.main_arg0)
          ∧ r.2.mem ((c.tc : Thread Cert.KernelOutEvenIdeal.nD Cert.KernelOutEvenIdeal.τ).loc Cert.KernelOutEvenIdeal.main_arg1) = m ((c.tc : Thread Cert.KernelOutEvenIdeal.nD Cert.KernelOutEvenIdeal.τ).loc Cert.KernelOutEvenIdeal.main_arg1)
          ∧ r.2.mem ((c.tc : Thread Cert.KernelOutEvenIdeal.nD Cert.KernelOutEvenIdeal.τ).loc Cert.KernelOutEvenIdeal.main_arg2) = m ((c.tc : Thread Cert.KernelOutEvenIdeal.nD Cert.KernelOutEvenIdeal.τ).loc Cert.KernelOutEvenIdeal.main_arg2)
          ∧ r.2.mem ((c.tc : Thread Cert.KernelOutEvenIdeal.nD Cert.KernelOutEvenIdeal.τ).loc Cert.KernelOutEvenIdeal.main_arg3) = m ((c.tc : Thread Cert.KernelOutEvenIdeal.nD Cert.KernelOutEvenIdeal.τ).loc Cert.KernelOutEvenIdeal.main_arg3)
          ∧ r.2.mem ((c.tc : Thread Cert.KernelOutEvenIdeal.nD Cert.KernelOutEvenIdeal.τ).loc Cert.KernelOutEvenIdeal.main_arg4) = m ((c.tc : Thread Cert.KernelOutEvenIdeal.nD Cert.KernelOutEvenIdeal.τ).loc Cert.KernelOutEvenIdeal.main_arg4)
          ∧ r.2.mem ((c.tc : Thread Cert.KernelOutEvenIdeal.nD Cert.KernelOutEvenIdeal.τ).loc Cert.KernelOutEvenIdeal.main_arg5) = m ((c.tc : Thread Cert.KernelOutEvenIdeal.nD Cert.KernelOutEvenIdeal.τ).loc Cert.KernelOutEvenIdeal.main_arg5))
      ∧ θ_run (Cert.ReferenceOutEvenIdeal.defs (F := Ideal)) (onTc (τ := Cert.ReferenceOutEvenIdeal.τ) (Cert.ReferenceOutEvenIdeal.main (F := Ideal))) ⟨m', fun _ => 0, g'⟩ (fun r => ∀ c : Dev Cert.ReferenceOutEvenIdeal.nD,
          r.2.mem ((c.tc : Thread Cert.ReferenceOutEvenIdeal.nD Cert.ReferenceOutEvenIdeal.τ).loc Cert.ReferenceOutEvenIdeal.main_v17) = v0 c
          ∧ r.2.mem ((c.tc : Thread Cert.ReferenceOutEvenIdeal.nD Cert.ReferenceOutEvenIdeal.τ).loc Cert.ReferenceOutEvenIdeal.main_v31) = v1 c
          ∧ r.2.mem ((c.tc : Thread Cert.ReferenceOutEvenIdeal.nD Cert.ReferenceOutEvenIdeal.τ).loc Cert.ReferenceOutEvenIdeal.main_arg0) = m' ((c.tc : Thread Cert.ReferenceOutEvenIdeal.nD Cert.ReferenceOutEvenIdeal.τ).loc Cert.ReferenceOutEvenIdeal.main_arg0)
          ∧ r.2.mem ((c.tc : Thread Cert.ReferenceOutEvenIdeal.nD Cert.ReferenceOutEvenIdeal.τ).loc Cert.ReferenceOutEvenIdeal.main_arg1) = m' ((c.tc : Thread Cert.ReferenceOutEvenIdeal.nD Cert.ReferenceOutEvenIdeal.τ).loc Cert.ReferenceOutEvenIdeal.main_arg1)
          ∧ r.2.mem ((c.tc : Thread Cert.ReferenceOutEvenIdeal.nD Cert.ReferenceOutEvenIdeal.τ).loc Cert.ReferenceOutEvenIdeal.main_arg2) = m' ((c.tc : Thread Cert.ReferenceOutEvenIdeal.nD Cert.ReferenceOutEvenIdeal.τ).loc Cert.ReferenceOutEvenIdeal.main_arg2)
          ∧ r.2.mem ((c.tc : Thread Cert.ReferenceOutEvenIdeal.nD Cert.ReferenceOutEvenIdeal.τ).loc Cert.ReferenceOutEvenIdeal.main_arg3) = m' ((c.tc : Thread Cert.ReferenceOutEvenIdeal.nD Cert.ReferenceOutEvenIdeal.τ).loc Cert.ReferenceOutEvenIdeal.main_arg3)
          ∧ r.2.mem ((c.tc : Thread Cert.ReferenceOutEvenIdeal.nD Cert.ReferenceOutEvenIdeal.τ).loc Cert.ReferenceOutEvenIdeal.main_arg4) = m' ((c.tc : Thread Cert.ReferenceOutEvenIdeal.nD Cert.ReferenceOutEvenIdeal.τ).loc Cert.ReferenceOutEvenIdeal.main_arg4)
          ∧ r.2.mem ((c.tc : Thread Cert.ReferenceOutEvenIdeal.nD Cert.ReferenceOutEvenIdeal.τ).loc Cert.ReferenceOutEvenIdeal.main_arg5) = m' ((c.tc : Thread Cert.ReferenceOutEvenIdeal.nD Cert.ReferenceOutEvenIdeal.τ).loc Cert.ReferenceOutEvenIdeal.main_arg5))

def preserves_KernelOutOdd_KernelOutOddIdeal : Prop :=
  True

def algebraic_KernelOutOddIdeal_ReferenceOutOddIdeal [hKernelOutOddIdeal : Cert.KernelOutOddIdeal.Facts] [hReferenceOutOddIdeal : Cert.ReferenceOutOddIdeal.Facts] : Prop :=
  ∀ (m : (ℓ : Loc Cert.KernelOutOddIdeal.nD Cert.KernelOutOddIdeal.τ Cert.KernelOutOddIdeal.sig) → Buf (Elt Ideal) ℓ) (g : Dev Cert.KernelOutOddIdeal.nD → PrngReg)
    (m' : (ℓ : Loc Cert.ReferenceOutOddIdeal.nD Cert.ReferenceOutOddIdeal.τ Cert.ReferenceOutOddIdeal.sig) → Buf (Elt Ideal) ℓ) (g' : Dev Cert.ReferenceOutOddIdeal.nD → PrngReg), Pre_KernelOutOddIdeal m →
    (∀ c : Dev Cert.KernelOutOddIdeal.nD,
      m' ((c.tc : Thread Cert.ReferenceOutOddIdeal.nD Cert.ReferenceOutOddIdeal.τ).loc Cert.ReferenceOutOddIdeal.main_arg0) = m ((c.tc : Thread Cert.KernelOutOddIdeal.nD Cert.KernelOutOddIdeal.τ).loc Cert.KernelOutOddIdeal.main_arg0)
      ∧ m' ((c.tc : Thread Cert.ReferenceOutOddIdeal.nD Cert.ReferenceOutOddIdeal.τ).loc Cert.ReferenceOutOddIdeal.main_arg1) = m ((c.tc : Thread Cert.KernelOutOddIdeal.nD Cert.KernelOutOddIdeal.τ).loc Cert.KernelOutOddIdeal.main_arg1)
      ∧ m' ((c.tc : Thread Cert.ReferenceOutOddIdeal.nD Cert.ReferenceOutOddIdeal.τ).loc Cert.ReferenceOutOddIdeal.main_arg2) = m ((c.tc : Thread Cert.KernelOutOddIdeal.nD Cert.KernelOutOddIdeal.τ).loc Cert.KernelOutOddIdeal.main_arg2)
      ∧ m' ((c.tc : Thread Cert.ReferenceOutOddIdeal.nD Cert.ReferenceOutOddIdeal.τ).loc Cert.ReferenceOutOddIdeal.main_arg3) = m ((c.tc : Thread Cert.KernelOutOddIdeal.nD Cert.KernelOutOddIdeal.τ).loc Cert.KernelOutOddIdeal.main_arg3)) →
    ∃ (v0 : (c : Dev Cert.KernelOutOddIdeal.nD) → Buf (Elt Ideal) ((c.tc : Thread Cert.KernelOutOddIdeal.nD Cert.KernelOutOddIdeal.τ).loc Cert.KernelOutOddIdeal.main_v1)),
      θ_run (Cert.KernelOutOddIdeal.defs (F := Ideal)) (onTc (τ := Cert.KernelOutOddIdeal.τ) (Cert.KernelOutOddIdeal.main (F := Ideal))) ⟨m, fun _ => 0, g⟩ (fun r => ∀ c : Dev Cert.KernelOutOddIdeal.nD,
          r.2.mem ((c.tc : Thread Cert.KernelOutOddIdeal.nD Cert.KernelOutOddIdeal.τ).loc Cert.KernelOutOddIdeal.main_v1) = v0 c
          ∧ r.2.mem ((c.tc : Thread Cert.KernelOutOddIdeal.nD Cert.KernelOutOddIdeal.τ).loc Cert.KernelOutOddIdeal.main_arg0) = m ((c.tc : Thread Cert.KernelOutOddIdeal.nD Cert.KernelOutOddIdeal.τ).loc Cert.KernelOutOddIdeal.main_arg0)
          ∧ r.2.mem ((c.tc : Thread Cert.KernelOutOddIdeal.nD Cert.KernelOutOddIdeal.τ).loc Cert.KernelOutOddIdeal.main_arg1) = m ((c.tc : Thread Cert.KernelOutOddIdeal.nD Cert.KernelOutOddIdeal.τ).loc Cert.KernelOutOddIdeal.main_arg1)
          ∧ r.2.mem ((c.tc : Thread Cert.KernelOutOddIdeal.nD Cert.KernelOutOddIdeal.τ).loc Cert.KernelOutOddIdeal.main_arg2) = m ((c.tc : Thread Cert.KernelOutOddIdeal.nD Cert.KernelOutOddIdeal.τ).loc Cert.KernelOutOddIdeal.main_arg2)
          ∧ r.2.mem ((c.tc : Thread Cert.KernelOutOddIdeal.nD Cert.KernelOutOddIdeal.τ).loc Cert.KernelOutOddIdeal.main_arg3) = m ((c.tc : Thread Cert.KernelOutOddIdeal.nD Cert.KernelOutOddIdeal.τ).loc Cert.KernelOutOddIdeal.main_arg3))
      ∧ θ_run (Cert.ReferenceOutOddIdeal.defs (F := Ideal)) (onTc (τ := Cert.ReferenceOutOddIdeal.τ) (Cert.ReferenceOutOddIdeal.main (F := Ideal))) ⟨m', fun _ => 0, g'⟩ (fun r => ∀ c : Dev Cert.ReferenceOutOddIdeal.nD,
          r.2.mem ((c.tc : Thread Cert.ReferenceOutOddIdeal.nD Cert.ReferenceOutOddIdeal.τ).loc Cert.ReferenceOutOddIdeal.main_v16) = v0 c
          ∧ r.2.mem ((c.tc : Thread Cert.ReferenceOutOddIdeal.nD Cert.ReferenceOutOddIdeal.τ).loc Cert.ReferenceOutOddIdeal.main_arg0) = m' ((c.tc : Thread Cert.ReferenceOutOddIdeal.nD Cert.ReferenceOutOddIdeal.τ).loc Cert.ReferenceOutOddIdeal.main_arg0)
          ∧ r.2.mem ((c.tc : Thread Cert.ReferenceOutOddIdeal.nD Cert.ReferenceOutOddIdeal.τ).loc Cert.ReferenceOutOddIdeal.main_arg1) = m' ((c.tc : Thread Cert.ReferenceOutOddIdeal.nD Cert.ReferenceOutOddIdeal.τ).loc Cert.ReferenceOutOddIdeal.main_arg1)
          ∧ r.2.mem ((c.tc : Thread Cert.ReferenceOutOddIdeal.nD Cert.ReferenceOutOddIdeal.τ).loc Cert.ReferenceOutOddIdeal.main_arg2) = m' ((c.tc : Thread Cert.ReferenceOutOddIdeal.nD Cert.ReferenceOutOddIdeal.τ).loc Cert.ReferenceOutOddIdeal.main_arg2)
          ∧ r.2.mem ((c.tc : Thread Cert.ReferenceOutOddIdeal.nD Cert.ReferenceOutOddIdeal.τ).loc Cert.ReferenceOutOddIdeal.main_arg3) = m' ((c.tc : Thread Cert.ReferenceOutOddIdeal.nD Cert.ReferenceOutOddIdeal.τ).loc Cert.ReferenceOutOddIdeal.main_arg3))

def Claim : Prop :=
  ∃ (hKernel : Cert.Kernel.Facts) (hKernelIdeal : Cert.KernelIdeal.Facts) (hReferenceIdeal : Cert.ReferenceIdeal.Facts) (hKernelNorm : Cert.KernelNorm.Facts) (hKernelNormIdeal : Cert.KernelNormIdeal.Facts) (hReferenceNormIdeal : Cert.ReferenceNormIdeal.Facts) (hKernelForget : Cert.KernelForget.Facts) (hKernelForgetIdeal : Cert.KernelForgetIdeal.Facts) (hReferenceForgetIdeal : Cert.ReferenceForgetIdeal.Facts) (hKernelInEven : Cert.KernelInEven.Facts) (hKernelInEvenIdeal : Cert.KernelInEvenIdeal.Facts) (hReferenceInEvenIdeal : Cert.ReferenceInEvenIdeal.Facts) (hKernelInOdd : Cert.KernelInOdd.Facts) (hKernelInOddIdeal : Cert.KernelInOddIdeal.Facts) (hReferenceInOddIdeal : Cert.ReferenceInOddIdeal.Facts) (hKernelOutEven : Cert.KernelOutEven.Facts) (hKernelOutEvenIdeal : Cert.KernelOutEvenIdeal.Facts) (hReferenceOutEvenIdeal : Cert.ReferenceOutEvenIdeal.Facts) (hKernelOutOdd : Cert.KernelOutOdd.Facts) (hKernelOutOddIdeal : Cert.KernelOutOddIdeal.Facts) (hReferenceOutOddIdeal : Cert.ReferenceOutOddIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelForget (hKernelForget := hKernelForget)
    ∧ quiescent_KernelForgetIdeal (hKernelForgetIdeal := hKernelForgetIdeal)
    ∧ quiescent_ReferenceForgetIdeal (hReferenceForgetIdeal := hReferenceForgetIdeal)
    ∧ quiescent_KernelInEven (hKernelInEven := hKernelInEven)
    ∧ quiescent_KernelInEvenIdeal (hKernelInEvenIdeal := hKernelInEvenIdeal)
    ∧ quiescent_ReferenceInEvenIdeal (hReferenceInEvenIdeal := hReferenceInEvenIdeal)
    ∧ quiescent_KernelInOdd (hKernelInOdd := hKernelInOdd)
    ∧ quiescent_KernelInOddIdeal (hKernelInOddIdeal := hKernelInOddIdeal)
    ∧ quiescent_ReferenceInOddIdeal (hReferenceInOddIdeal := hReferenceInOddIdeal)
    ∧ quiescent_KernelOutEven (hKernelOutEven := hKernelOutEven)
    ∧ quiescent_KernelOutEvenIdeal (hKernelOutEvenIdeal := hKernelOutEvenIdeal)
    ∧ quiescent_ReferenceOutEvenIdeal (hReferenceOutEvenIdeal := hReferenceOutEvenIdeal)
    ∧ quiescent_KernelOutOdd (hKernelOutOdd := hKernelOutOdd)
    ∧ quiescent_KernelOutOddIdeal (hKernelOutOddIdeal := hKernelOutOddIdeal)
    ∧ quiescent_ReferenceOutOddIdeal (hReferenceOutOddIdeal := hReferenceOutOddIdeal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_KernelNorm_KernelNormIdeal
    ∧ algebraic_KernelNormIdeal_ReferenceNormIdeal (hKernelNormIdeal := hKernelNormIdeal) (hReferenceNormIdeal := hReferenceNormIdeal)
    ∧ preserves_KernelForget_KernelForgetIdeal
    ∧ algebraic_KernelForgetIdeal_ReferenceForgetIdeal (hKernelForgetIdeal := hKernelForgetIdeal) (hReferenceForgetIdeal := hReferenceForgetIdeal)
    ∧ preserves_KernelInEven_KernelInEvenIdeal
    ∧ algebraic_KernelInEvenIdeal_ReferenceInEvenIdeal (hKernelInEvenIdeal := hKernelInEvenIdeal) (hReferenceInEvenIdeal := hReferenceInEvenIdeal)
    ∧ preserves_KernelInOdd_KernelInOddIdeal
    ∧ algebraic_KernelInOddIdeal_ReferenceInOddIdeal (hKernelInOddIdeal := hKernelInOddIdeal) (hReferenceInOddIdeal := hReferenceInOddIdeal)
    ∧ preserves_KernelOutEven_KernelOutEvenIdeal
    ∧ algebraic_KernelOutEvenIdeal_ReferenceOutEvenIdeal (hKernelOutEvenIdeal := hKernelOutEvenIdeal) (hReferenceOutEvenIdeal := hReferenceOutEvenIdeal)
    ∧ preserves_KernelOutOdd_KernelOutOddIdeal
    ∧ algebraic_KernelOutOddIdeal_ReferenceOutOddIdeal (hKernelOutOddIdeal := hKernelOutOddIdeal) (hReferenceOutOddIdeal := hReferenceOutOddIdeal)
-- ==== Pre_finite_logits.lean ====
abbrev S8192x16384 : Shape := ⟨2, ![8192, 16384]⟩
abbrev S2x4096x16 : Shape := ⟨3, ![2, 4096, 16]⟩
abbrev S8192x4096 : Shape := ⟨2, ![8192, 4096]⟩
abbrev S_ : Shape := ⟨0, ![]⟩

class Facts : Prop where
  slices_S8192x16384_S8192x4096_0_0 : S8192x16384.Slices ![0, 0] S8192x4096
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S2x4096x16 : S_.BroadcastsInDim S2x4096x16 (![] : Fin 0 → Fin S2x4096x16.rank)
  reducesTo_S2x4096x16_S_d0_1_2 : S2x4096x16.ReducesTo [0, 1, 2] S_

variable [Facts]

def fn {F : FTy → Type} [FloatOps F] (main_arg0 : FVec F S8192x16384 .bf16) (main_arg1 : FVec F S2x4096x16 .f32) : IVec S_ 1 :=
  let main_v0 : FVec F S8192x4096 .bf16 := (extractStridedSlice S8192x4096 ![0, 0] · slices_S8192x16384_S8192x4096_0_0) main_arg0
  let main_v1 : FVec F S8192x4096 .f32 := (extf .f32 · bitsLt_bf16_f32) main_v0
  let main_v2 : FVec F S8192x4096 .f32 := Host.absf main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  let main_c : IVec S_ 1 := constantI S_ 1 1#1
  let main_v5 : IVec S_ 1 := (fun x v => Host.reduce IntOp.andi x v reducesTo_S8192x4096_S_d0_1 h_S_) main_v4 main_c
  let main_v6 : FVec F S2x4096x16 .f32 := Host.absf main_arg1
  let main_cst_0 : FVec F S_ .f32 := constant S_ .f32 0x7F800000#32
  let main_v7 : FVec F S2x4096x16 .f32 := broadcastInDim S2x4096x16 ![] bcast_S_S2x4096x16 main_cst_0
  let main_v8 : IVec S2x4096x16 1 := cmpf .olt main_v6 main_v7
  let main_c_1 : IVec S_ 1 := constantI S_ 1 1#1
  let main_v9 : IVec S_ 1 := (fun x v => Host.reduce IntOp.andi x v reducesTo_S2x4096x16_S_d0_1_2 h_S_) main_v8 main_c_1
  let main_v10 : IVec S_ 1 := andi main_v5 main_v9
  main_v10
-- ==== Kernel.lean ====
abbrev S8192x16384 : Shape := ⟨2, ![8192, 16384]⟩
abbrev S2x4096x16 : Shape := ⟨3, ![2, 4096, 16]⟩
abbrev S8192x16 : Shape := ⟨2, ![8192, 16]⟩
abbrev S_ : Shape := ⟨0, ![]⟩
abbrev S16x8192 : Shape := ⟨2, ![16, 8192]⟩
abbrev S16x1x8192 : Shape := ⟨3, ![16, 1, 8192]⟩
abbrev S8192x2048 : Shape := ⟨2, ![8192, 2048]⟩
abbrev S4096x256 : Shape := ⟨2, ![4096, 256]⟩
abbrev S2x1x4096 : Shape := ⟨3, ![2, 1, 4096]⟩
abbrev S4096x16 : Shape := ⟨2, ![4096, 16]⟩
abbrev S4096x512 : Shape := ⟨2, ![4096, 512]⟩
abbrev S256x16 : Shape := ⟨2, ![256, 16]⟩
abbrev S4096x128 : Shape := ⟨2, ![4096, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S1024x128 : Shape := ⟨2, ![1024, 128]⟩
abbrev S256x1024 : Shape := ⟨2, ![256, 1024]⟩
abbrev S1x1x1024 : Shape := ⟨3, ![1, 1, 1024]⟩
abbrev S1x1024 : Shape := ⟨2, ![1, 1024]⟩
abbrev S1024x256 : Shape := ⟨2, ![1024, 256]⟩
abbrev S768x128 : Shape := ⟨2, ![768, 128]⟩
abbrev S256x768 : Shape := ⟨2, ![256, 768]⟩
abbrev S1x1x768 : Shape := ⟨3, ![1, 1, 768]⟩
abbrev S1x768 : Shape := ⟨2, ![1, 768]⟩
abbrev S768x256 : Shape := ⟨2, ![768, 256]⟩
abbrev S512x128 : Shape := ⟨2, ![512, 128]⟩
abbrev S256x512 : Shape := ⟨2, ![256, 512]⟩
abbrev S1x1x512 : Shape := ⟨3, ![1, 1, 512]⟩
abbrev S1x512 : Shape := ⟨2, ![1, 512]⟩
abbrev S512x256 : Shape := ⟨2, ![512, 256]⟩
abbrev S1x1x256 : Shape := ⟨3, ![1, 1, 256]⟩
abbrev S1x256 : Shape := ⟨2, ![1, 256]⟩

abbrev nBuf : Space → Nat
  | .hbm => 10
  | .vmem => 15
  | .smem => 0
  | _ => 0

abbrev bufTy : (tb : Table) → Fin (tcTables nBuf tb) → BufTy
  | .hbm, ⟨0, _⟩ => ⟨S8192x16384, .bf16⟩
  | .hbm, ⟨1, _⟩ => ⟨S2x4096x16, .f32⟩
  | .hbm, ⟨2, _⟩ => ⟨S8192x16, .f32⟩
  | .hbm, ⟨3, _⟩ => ⟨S_, .f32⟩
  | .hbm, ⟨4, _⟩ => ⟨S_, .f32⟩
  | .hbm, ⟨5, _⟩ => ⟨S8192x16, .f32⟩
  | .hbm, ⟨6, _⟩ => ⟨S8192x16, .f32⟩
  | .hbm, ⟨7, _⟩ => ⟨S16x8192, .f32⟩
  | .hbm, ⟨8, _⟩ => ⟨S16x1x8192, .f32⟩
  | .hbm, ⟨9, _⟩ => ⟨S8192x2048, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S2x1x4096, .f32⟩
  | .local _ .vmem, ⟨9, _⟩ => ⟨S2x1x4096, .f32⟩
  | .local _ .vmem, ⟨10, _⟩ => ⟨S4096x16, .f32⟩
  | .local _ .vmem, ⟨11, _⟩ => ⟨S4096x16, .f32⟩
  | .local _ .vmem, ⟨12, _⟩ => ⟨S4096x256, .bf16⟩
  | .local _ .vmem, ⟨13, _⟩ => ⟨S4096x256, .bf16⟩
  | .local _ .vmem, ⟨14, _⟩ => ⟨S4096x512, .bf16⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c16_i32 : BitVec 32 := 16#32
  let v14 : BitVec 32 := Scalar.addi c0_i32 c16_i32
  let c1_i32 : BitVec 32 := 1#32
  ⟨c0_i32, v14, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  v15
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v17 : Index := Scalar.indexCast v16
  let c0_7 : Index := 0#32
  ![v17.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v19 : Index := Scalar.indexCast v16
  let c128_8 : Index := 128#32
  ![v19.toNat, 128]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v21 : Index := Scalar.indexCast v16
  let c0_9 : Index := 0#32
  ![v21.toNat, 0]
@[reducible] def k0_t2_loop (k0_t1 : Fin k0_t1_loop.trips) : Scf.Loop 32 :=
  let c0_i32_33 : BitVec 32 := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c0_i32_27 : BitVec 32 := 0#32
  let v60 : BitVec 1 := Scalar.cmpi .sgt v54 c0_i32_27
  let v61 : BitVec 32 := Scalar.extui v60
  let c0_i32_28 : BitVec 32 := 0#32
  let v62 : BitVec 1 := Scalar.cmpi .slt v54 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v54 c2_i32_26
  let c0_i32_31 : BitVec 32 := 0#32
  let v72 : BitVec 1 := Scalar.cmpi .ne v71 c0_i32_31
  let v73 : BitVec 1 := Scalar.andi v70 v72
  let v59 : BitVec 32 := Scalar.divsi v54 c2_i32_26
  let c1_i32_32 : BitVec 32 := 1#32
  let v74 : BitVec 32 := Scalar.subi v59 c1_i32_32
  let v75 : BitVec 32 := Scalar.select v73 v74 v59
  let v76 : BitVec 32 := Scalar.subi v75 c0_i32_33
  let c1_i32_34 : BitVec 32 := 1#32
  let v78 : BitVec 32 := Scalar.divsi v76 c1_i32_34
  let v79 : BitVec 32 := Scalar.muli v78 c1_i32_34
  let v80 : BitVec 32 := Scalar.addi c0_i32_33 v79
  let c1_i32_35 : BitVec 32 := 1#32
  ⟨c0_i32_33, v80, c1_i32_35⟩
def k0_mult2 (k0_t1 : Fin k0_t1_loop.trips) (k0_t2 : Fin (k0_t2_loop k0_t1).trips) : BitVec 32 :=
  let c2_i32_52 : BitVec 32 := 2#32
  let c0_i32_33 : BitVec 32 := 0#32
  let c1_i32_35 : BitVec 32 := 1#32
  let arg11 : BitVec 32 := Scf.iv c0_i32_33 c1_i32_35 k0_t2
  let v110 : BitVec 32 := Scalar.muli c2_i32_52 arg11
  let c1024_i32_53 : BitVec 32 := 1024#32
  let v111 : BitVec 32 := Scalar.muli v110 c1024_i32_53
  v111
def k0_off4 (k0_t1 : Fin k0_t1_loop.trips) (k0_t2 : Fin (k0_t2_loop k0_t1).trips) : Fin 2 → Nat :=
  let c2_i32_52 : BitVec 32 := 2#32
  let c0_i32_33 : BitVec 32 := 0#32
  let c1_i32_35 : BitVec 32 := 1#32
  let arg11 : BitVec 32 := Scf.iv c0_i32_33 c1_i32_35 k0_t2
  let v110 : BitVec 32 := Scalar.muli c2_i32_52 arg11
  let c1024_i32_53 : BitVec 32 := 1024#32
  let v111 : BitVec 32 := Scalar.muli v110 c1024_i32_53
  let v112 : BitVec 32 := v111
  let v114 : Index := Scalar.indexCast v112
  let c0_55 : Index := 0#32
  ![v114.toNat, 0]
def k0_off5 (k0_t1 : Fin k0_t1_loop.trips) (k0_t2 : Fin (k0_t2_loop k0_t1).trips) : Fin 3 → Nat :=
  let c0_58 : Index := 0#32
  let c0_59 : Index := 0#32
  let c2_i32_52 : BitVec 32 := 2#32
  let c0_i32_33 : BitVec 32 := 0#32
  let c1_i32_35 : BitVec 32 := 1#32
  let arg11 : BitVec 32 := Scf.iv c0_i32_33 c1_i32_35 k0_t2
  let v110 : BitVec 32 := Scalar.muli c2_i32_52 arg11
  let c1024_i32_53 : BitVec 32 := 1024#32
  let v111 : BitVec 32 := Scalar.muli v110 c1024_i32_53
  let v112 : BitVec 32 := v111
  let v119 : Index := Scalar.indexCast v112
  ![0, 0, v119.toNat]
def k0_off6 (k0_t1 : Fin k0_t1_loop.trips) (k0_t2 : Fin (k0_t2_loop k0_t1).trips) : Fin 2 → Nat :=
  let c2_i32_52 : BitVec 32 := 2#32
  let c0_i32_33 : BitVec 32 := 0#32
  let c1_i32_35 : BitVec 32 := 1#32
  let arg11 : BitVec 32 := Scf.iv c0_i32_33 c1_i32_35 k0_t2
  let v110 : BitVec 32 := Scalar.muli c2_i32_52 arg11
  let c1024_i32_53 : BitVec 32 := 1024#32
  let v111 : BitVec 32 := Scalar.muli v110 c1024_i32_53
  let v112 : BitVec 32 := v111
  let v124 : Index := Scalar.indexCast v112
  let c128_60 : Index := 128#32
  ![v124.toNat, 128]
def k0_off7 (k0_t1 : Fin k0_t1_loop.trips) (k0_t2 : Fin (k0_t2_loop k0_t1).trips) : Fin 3 → Nat :=
  let c1 : Index := 1#32
  let c0_63 : Index := 0#32
  let c2_i32_52 : BitVec 32 := 2#32
  let c0_i32_33 : BitVec 32 := 0#32
  let c1_i32_35 : BitVec 32 := 1#32
  let arg11 : BitVec 32 := Scf.iv c0_i32_33 c1_i32_35 k0_t2
  let v110 : BitVec 32 := Scalar.muli c2_i32_52 arg11
  let c1024_i32_53 : BitVec 32 := 1024#32
  let v111 : BitVec 32 := Scalar.muli v110 c1024_i32_53
  let v112 : BitVec 32 := v111
  let v129 : Index := Scalar.indexCast v112
  ![1, 0, v129.toNat]
def k0_off8 (k0_t1 : Fin k0_t1_loop.trips) (k0_t2 : Fin (k0_t2_loop k0_t1).trips) : Fin 2 → Nat :=
  let c2_i32_52 : BitVec 32 := 2#32
  let c0_i32_33 : BitVec 32 := 0#32
  let c1_i32_35 : BitVec 32 := 1#32
  let arg11 : BitVec 32 := Scf.iv c0_i32_33 c1_i32_35 k0_t2
  let v110 : BitVec 32 := Scalar.muli c2_i32_52 arg11
  let c1024_i32_53 : BitVec 32 := 1024#32
  let v111 : BitVec 32 := Scalar.muli v110 c1024_i32_53
  let v112 : BitVec 32 := v111
  let c1024_i32_54 : BitVec 32 := 1024#32
  let v113 : BitVec 32 := Scalar.addi v112 c1024_i32_54
  let v134 : Index := Scalar.indexCast v113
  let c0_64 : Index := 0#32
  ![v134.toNat, 0]
def k0_off9 (k0_t1 : Fin k0_t1_loop.trips) (k0_t2 : Fin (k0_t2_loop k0_t1).trips) : Fin 3 → Nat :=
  let c0_67 : Index := 0#32
  let c0_68 : Index := 0#32
  let c2_i32_52 : BitVec 32 := 2#32
  let c0_i32_33 : BitVec 32 := 0#32
  let c1_i32_35 : BitVec 32 := 1#32
  let arg11 : BitVec 32 := Scf.iv c0_i32_33 c1_i32_35 k0_t2
  let v110 : BitVec 32 := Scalar.muli c2_i32_52 arg11
  let c1024_i32_53 : BitVec 32 := 1024#32
  let v111 : BitVec 32 := Scalar.muli v110 c1024_i32_53
  let v112 : BitVec 32 := v111
  let c1024_i32_54 : BitVec 32 := 1024#32
  let v113 : BitVec 32 := Scalar.addi v112 c1024_i32_54
  let v139 : Index := Scalar.indexCast v113
  ![0, 0, v139.toNat]
def k0_off10 (k0_t1 : Fin k0_t1_loop.trips) (k0_t2 : Fin (k0_t2_loop k0_t1).trips) : Fin 2 → Nat :=
  let c2_i32_52 : BitVec 32 := 2#32
  let c0_i32_33 : BitVec 32 := 0#32
  let c1_i32_35 : BitVec 32 := 1#32
  let arg11 : BitVec 32 := Scf.iv c0_i32_33 c1_i32_35 k0_t2
  let v110 : BitVec 32 := Scalar.muli c2_i32_52 arg11
  let c1024_i32_53 : BitVec 32 := 1024#32
  let v111 : BitVec 32 := Scalar.muli v110 c1024_i32_53
  let v112 : BitVec 32 := v111
  let c1024_i32_54 : BitVec 32 := 1024#32
  let v113 : BitVec 32 := Scalar.addi v112 c1024_i32_54
  let v144 : Index := Scalar.indexCast v113
  let c128_69 : Index := 128#32
  ![v144.toNat, 128]
def k0_off11 (k0_t1 : Fin k0_t1_loop.trips) (k0_t2 : Fin (k0_t2_loop k0_t1).trips) : Fin 3 → Nat :=
  let c1_72 : Index := 1#32
  let c0_73 : Index := 0#32
  let c2_i32_52 : BitVec 32 := 2#32
  let c0_i32_33 : BitVec 32 := 0#32
  let c1_i32_35 : BitVec 32 := 1#32
  let arg11 : BitVec 32 := Scf.iv c0_i32_33 c1_i32_35 k0_t2
  let v110 : BitVec 32 := Scalar.muli c2_i32_52 arg11
  let c1024_i32_53 : BitVec 32 := 1024#32
  let v111 : BitVec 32 := Scalar.muli v110 c1024_i32_53
  let v112 : BitVec 32 := v111
  let c1024_i32_54 : BitVec 32 := 1024#32
  let v113 : BitVec 32 := Scalar.addi v112 c1024_i32_54
  let v149 : Index := Scalar.indexCast v113
  ![1, 0, v149.toNat]
def k0_off12 (k0_t1 : Fin k0_t1_loop.trips) (k0_t2 : Fin (k0_t2_loop k0_t1).trips) : Fin 2 → Nat :=
  let c2_i32_52 : BitVec 32 := 2#32
  let c0_i32_33 : BitVec 32 := 0#32
  let c1_i32_35 : BitVec 32 := 1#32
  let arg11 : BitVec 32 := Scf.iv c0_i32_33 c1_i32_35 k0_t2
  let v110 : BitVec 32 := Scalar.muli c2_i32_52 arg11
  let c1024_i32_53 : BitVec 32 := 1024#32
  let v111 : BitVec 32 := Scalar.muli v110 c1024_i32_53
  let v112 : BitVec 32 := v111
  let v172 : Index := Scalar.indexCast v112
  let c0_76 : Index := 0#32
  ![v172.toNat, 0]
def k0_off13 (k0_t1 : Fin k0_t1_loop.trips) (k0_t2 : Fin (k0_t2_loop k0_t1).trips) : Fin 2 → Nat :=
  let c2_i32_52 : BitVec 32 := 2#32
  let c0_i32_33 : BitVec 32 := 0#32
  let c1_i32_35 : BitVec 32 := 1#32
  let arg11 : BitVec 32 := Scf.iv c0_i32_33 c1_i32_35 k0_t2
  let v110 : BitVec 32 := Scalar.muli c2_i32_52 arg11
  let c1024_i32_53 : BitVec 32 := 1024#32
  let v111 : BitVec 32 := Scalar.muli v110 c1024_i32_53
  let v112 : BitVec 32 := v111
  let v175 : Index := Scalar.indexCast v112
  let c256_78 : Index := 256#32
  ![v175.toNat, 256]
def k0_off14 (k0_t1 : Fin k0_t1_loop.trips) (k0_t2 : Fin (k0_t2_loop k0_t1).trips) : Fin 2 → Nat :=
  let c2_i32_52 : BitVec 32 := 2#32
  let c0_i32_33 : BitVec 32 := 0#32
  let c1_i32_35 : BitVec 32 := 1#32
  let arg11 : BitVec 32 := Scf.iv c0_i32_33 c1_i32_35 k0_t2
  let v110 : BitVec 32 := Scalar.muli c2_i32_52 arg11
  let c1024_i32_53 : BitVec 32 := 1024#32
  let v111 : BitVec 32 := Scalar.muli v110 c1024_i32_53
  let v112 : BitVec 32 := v111
  let c1024_i32_54 : BitVec 32 := 1024#32
  let v113 : BitVec 32 := Scalar.addi v112 c1024_i32_54
  let v206 : Index := Scalar.indexCast v113
  let c0_82 : Index := 0#32
  ![v206.toNat, 0]
def k0_off15 (k0_t1 : Fin k0_t1_loop.trips) (k0_t2 : Fin (k0_t2_loop k0_t1).trips) : Fin 2 → Nat :=
  let c2_i32_52 : BitVec 32 := 2#32
  let c0_i32_33 : BitVec 32 := 0#32
  let c1_i32_35 : BitVec 32 := 1#32
  let arg11 : BitVec 32 := Scf.iv c0_i32_33 c1_i32_35 k0_t2
  let v110 : BitVec 32 := Scalar.muli c2_i32_52 arg11
  let c1024_i32_53 : BitVec 32 := 1024#32
  let v111 : BitVec 32 := Scalar.muli v110 c1024_i32_53
  let v112 : BitVec 32 := v111
  let c1024_i32_54 : BitVec 32 := 1024#32
  let v113 : BitVec 32 := Scalar.addi v112 c1024_i32_54
  let v209 : Index := Scalar.indexCast v113
  let c256_84 : Index := 256#32
  ![v209.toNat, 256]
@[reducible] def k0_t3_loop (k0_t1 : Fin k0_t1_loop.trips) : Scf.Loop 32 :=
  let c0_i32_33 : BitVec 32 := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c0_i32_27 : BitVec 32 := 0#32
  let v60 : BitVec 1 := Scalar.cmpi .sgt v54 c0_i32_27
  let v61 : BitVec 32 := Scalar.extui v60
  let c0_i32_28 : BitVec 32 := 0#32
  let v62 : BitVec 1 := Scalar.cmpi .slt v54 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v54 c2_i32_26
  let c0_i32_31 : BitVec 32 := 0#32
  let v72 : BitVec 1 := Scalar.cmpi .ne v71 c0_i32_31
  let v73 : BitVec 1 := Scalar.andi v70 v72
  let v59 : BitVec 32 := Scalar.divsi v54 c2_i32_26
  let c1_i32_32 : BitVec 32 := 1#32
  let v74 : BitVec 32 := Scalar.subi v59 c1_i32_32
  let v75 : BitVec 32 := Scalar.select v73 v74 v59
  let v76 : BitVec 32 := Scalar.subi v75 c0_i32_33
  let c1_i32_34 : BitVec 32 := 1#32
  let v78 : BitVec 32 := Scalar.divsi v76 c1_i32_34
  let v79 : BitVec 32 := Scalar.muli v78 c1_i32_34
  let v80 : BitVec 32 := Scalar.addi c0_i32_33 v79
  let v77 : BitVec 32 := Scalar.addi c0_i32_33 v76
  let c1_i32_36 : BitVec 32 := 1#32
  ⟨v80, v77, c1_i32_36⟩
def k0_mult3 (k0_t1 : Fin k0_t1_loop.trips) (k0_t3 : Fin (k0_t3_loop k0_t1).trips) : BitVec 32 :=
  let c2_i32_52 : BitVec 32 := 2#32
  let c0_i32_33 : BitVec 32 := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c0_i32_27 : BitVec 32 := 0#32
  let v60 : BitVec 1 := Scalar.cmpi .sgt v54 c0_i32_27
  let v61 : BitVec 32 := Scalar.extui v60
  let c0_i32_28 : BitVec 32 := 0#32
  let v62 : BitVec 1 := Scalar.cmpi .slt v54 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v54 c2_i32_26
  let c0_i32_31 : BitVec 32 := 0#32
  let v72 : BitVec 1 := Scalar.cmpi .ne v71 c0_i32_31
  let v73 : BitVec 1 := Scalar.andi v70 v72
  let v59 : BitVec 32 := Scalar.divsi v54 c2_i32_26
  let c1_i32_32 : BitVec 32 := 1#32
  let v74 : BitVec 32 := Scalar.subi v59 c1_i32_32
  let v75 : BitVec 32 := Scalar.select v73 v74 v59
  let v76 : BitVec 32 := Scalar.subi v75 c0_i32_33
  let c1_i32_34 : BitVec 32 := 1#32
  let v78 : BitVec 32 := Scalar.divsi v76 c1_i32_34
  let v79 : BitVec 32 := Scalar.muli v78 c1_i32_34
  let v80 : BitVec 32 := Scalar.addi c0_i32_33 v79
  let c1_i32_36 : BitVec 32 := 1#32
  let arg11 : BitVec 32 := Scf.iv v80 c1_i32_36 k0_t3
  let v110 : BitVec 32 := Scalar.muli c2_i32_52 arg11
  let c1024_i32_53 : BitVec 32 := 1024#32
  let v111 : BitVec 32 := Scalar.muli v110 c1024_i32_53
  v111
def k0_off16 (k0_t1 : Fin k0_t1_loop.trips) (k0_t3 : Fin (k0_t3_loop k0_t1).trips) : Fin 2 → Nat :=
  let c2_i32_52 : BitVec 32 := 2#32
  let c0_i32_33 : BitVec 32 := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c0_i32_27 : BitVec 32 := 0#32
  let v60 : BitVec 1 := Scalar.cmpi .sgt v54 c0_i32_27
  let v61 : BitVec 32 := Scalar.extui v60
  let c0_i32_28 : BitVec 32 := 0#32
  let v62 : BitVec 1 := Scalar.cmpi .slt v54 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v54 c2_i32_26
  let c0_i32_31 : BitVec 32 := 0#32
  let v72 : BitVec 1 := Scalar.cmpi .ne v71 c0_i32_31
  let v73 : BitVec 1 := Scalar.andi v70 v72
  let v59 : BitVec 32 := Scalar.divsi v54 c2_i32_26
  let c1_i32_32 : BitVec 32 := 1#32
  let v74 : BitVec 32 := Scalar.subi v59 c1_i32_32
  let v75 : BitVec 32 := Scalar.select v73 v74 v59
  let v76 : BitVec 32 := Scalar.subi v75 c0_i32_33
  let c1_i32_34 : BitVec 32 := 1#32
  let v78 : BitVec 32 := Scalar.divsi v76 c1_i32_34
  let v79 : BitVec 32 := Scalar.muli v78 c1_i32_34
  let v80 : BitVec 32 := Scalar.addi c0_i32_33 v79
  let c1_i32_36 : BitVec 32 := 1#32
  let arg11 : BitVec 32 := Scf.iv v80 c1_i32_36 k0_t3
  let v110 : BitVec 32 := Scalar.muli c2_i32_52 arg11
  let c1024_i32_53 : BitVec 32 := 1024#32
  let v111 : BitVec 32 := Scalar.muli v110 c1024_i32_53
  let v112 : BitVec 32 := v111
  let v114 : Index := Scalar.indexCast v112
  let c0_55 : Index := 0#32
  ![v114.toNat, 0]
def k0_off17 (k0_t1 : Fin k0_t1_loop.trips) (k0_t3 : Fin (k0_t3_loop k0_t1).trips) : Fin 3 → Nat :=
  let c0_58 : Index := 0#32
  let c0_59 : Index := 0#32
  let c2_i32_52 : BitVec 32 := 2#32
  let c0_i32_33 : BitVec 32 := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c0_i32_27 : BitVec 32 := 0#32
  let v60 : BitVec 1 := Scalar.cmpi .sgt v54 c0_i32_27
  let v61 : BitVec 32 := Scalar.extui v60
  let c0_i32_28 : BitVec 32 := 0#32
  let v62 : BitVec 1 := Scalar.cmpi .slt v54 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v54 c2_i32_26
  let c0_i32_31 : BitVec 32 := 0#32
  let v72 : BitVec 1 := Scalar.cmpi .ne v71 c0_i32_31
  let v73 : BitVec 1 := Scalar.andi v70 v72
  let v59 : BitVec 32 := Scalar.divsi v54 c2_i32_26
  let c1_i32_32 : BitVec 32 := 1#32
  let v74 : BitVec 32 := Scalar.subi v59 c1_i32_32
  let v75 : BitVec 32 := Scalar.select v73 v74 v59
  let v76 : BitVec 32 := Scalar.subi v75 c0_i32_33
  let c1_i32_34 : BitVec 32 := 1#32
  let v78 : BitVec 32 := Scalar.divsi v76 c1_i32_34
  let v79 : BitVec 32 := Scalar.muli v78 c1_i32_34
  let v80 : BitVec 32 := Scalar.addi c0_i32_33 v79
  let c1_i32_36 : BitVec 32 := 1#32
  let arg11 : BitVec 32 := Scf.iv v80 c1_i32_36 k0_t3
  let v110 : BitVec 32 := Scalar.muli c2_i32_52 arg11
  let c1024_i32_53 : BitVec 32 := 1024#32
  let v111 : BitVec 32 := Scalar.muli v110 c1024_i32_53
  let v112 : BitVec 32 := v111
  let v119 : Index := Scalar.indexCast v112
  ![0, 0, v119.toNat]
def k0_off18 (k0_t1 : Fin k0_t1_loop.trips) (k0_t3 : Fin (k0_t3_loop k0_t1).trips) : Fin 2 → Nat :=
  let c2_i32_52 : BitVec 32 := 2#32
  let c0_i32_33 : BitVec 32 := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c0_i32_27 : BitVec 32 := 0#32
  let v60 : BitVec 1 := Scalar.cmpi .sgt v54 c0_i32_27
  let v61 : BitVec 32 := Scalar.extui v60
  let c0_i32_28 : BitVec 32 := 0#32
  let v62 : BitVec 1 := Scalar.cmpi .slt v54 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v54 c2_i32_26
  let c0_i32_31 : BitVec 32 := 0#32
  let v72 : BitVec 1 := Scalar.cmpi .ne v71 c0_i32_31
  let v73 : BitVec 1 := Scalar.andi v70 v72
  let v59 : BitVec 32 := Scalar.divsi v54 c2_i32_26
  let c1_i32_32 : BitVec 32 := 1#32
  let v74 : BitVec 32 := Scalar.subi v59 c1_i32_32
  let v75 : BitVec 32 := Scalar.select v73 v74 v59
  let v76 : BitVec 32 := Scalar.subi v75 c0_i32_33
  let c1_i32_34 : BitVec 32 := 1#32
  let v78 : BitVec 32 := Scalar.divsi v76 c1_i32_34
  let v79 : BitVec 32 := Scalar.muli v78 c1_i32_34
  let v80 : BitVec 32 := Scalar.addi c0_i32_33 v79
  let c1_i32_36 : BitVec 32 := 1#32
  let arg11 : BitVec 32 := Scf.iv v80 c1_i32_36 k0_t3
  let v110 : BitVec 32 := Scalar.muli c2_i32_52 arg11
  let c1024_i32_53 : BitVec 32 := 1024#32
  let v111 : BitVec 32 := Scalar.muli v110 c1024_i32_53
  let v112 : BitVec 32 := v111
  let v124 : Index := Scalar.indexCast v112
  let c128_60 : Index := 128#32
  ![v124.toNat, 128]
def k0_off19 (k0_t1 : Fin k0_t1_loop.trips) (k0_t3 : Fin (k0_t3_loop k0_t1).trips) : Fin 3 → Nat :=
  let c1 : Index := 1#32
  let c0_63 : Index := 0#32
  let c2_i32_52 : BitVec 32 := 2#32
  let c0_i32_33 : BitVec 32 := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c0_i32_27 : BitVec 32 := 0#32
  let v60 : BitVec 1 := Scalar.cmpi .sgt v54 c0_i32_27
  let v61 : BitVec 32 := Scalar.extui v60
  let c0_i32_28 : BitVec 32 := 0#32
  let v62 : BitVec 1 := Scalar.cmpi .slt v54 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v54 c2_i32_26
  let c0_i32_31 : BitVec 32 := 0#32
  let v72 : BitVec 1 := Scalar.cmpi .ne v71 c0_i32_31
  let v73 : BitVec 1 := Scalar.andi v70 v72
  let v59 : BitVec 32 := Scalar.divsi v54 c2_i32_26
  let c1_i32_32 : BitVec 32 := 1#32
  let v74 : BitVec 32 := Scalar.subi v59 c1_i32_32
  let v75 : BitVec 32 := Scalar.select v73 v74 v59
  let v76 : BitVec 32 := Scalar.subi v75 c0_i32_33
  let c1_i32_34 : BitVec 32 := 1#32
  let v78 : BitVec 32 := Scalar.divsi v76 c1_i32_34
  let v79 : BitVec 32 := Scalar.muli v78 c1_i32_34
  let v80 : BitVec 32 := Scalar.addi c0_i32_33 v79
  let c1_i32_36 : BitVec 32 := 1#32
  let arg11 : BitVec 32 := Scf.iv v80 c1_i32_36 k0_t3
  let v110 : BitVec 32 := Scalar.muli c2_i32_52 arg11
  let c1024_i32_53 : BitVec 32 := 1024#32
  let v111 : BitVec 32 := Scalar.muli v110 c1024_i32_53
  let v112 : BitVec 32 := v111
  let v129 : Index := Scalar.indexCast v112
  ![1, 0, v129.toNat]
def k0_off20 (k0_t1 : Fin k0_t1_loop.trips) (k0_t3 : Fin (k0_t3_loop k0_t1).trips) : Fin 2 → Nat :=
  let c2_i32_52 : BitVec 32 := 2#32
  let c0_i32_33 : BitVec 32 := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c0_i32_27 : BitVec 32 := 0#32
  let v60 : BitVec 1 := Scalar.cmpi .sgt v54 c0_i32_27
  let v61 : BitVec 32 := Scalar.extui v60
  let c0_i32_28 : BitVec 32 := 0#32
  let v62 : BitVec 1 := Scalar.cmpi .slt v54 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v54 c2_i32_26
  let c0_i32_31 : BitVec 32 := 0#32
  let v72 : BitVec 1 := Scalar.cmpi .ne v71 c0_i32_31
  let v73 : BitVec 1 := Scalar.andi v70 v72
  let v59 : BitVec 32 := Scalar.divsi v54 c2_i32_26
  let c1_i32_32 : BitVec 32 := 1#32
  let v74 : BitVec 32 := Scalar.subi v59 c1_i32_32
  let v75 : BitVec 32 := Scalar.select v73 v74 v59
  let v76 : BitVec 32 := Scalar.subi v75 c0_i32_33
  let c1_i32_34 : BitVec 32 := 1#32
  let v78 : BitVec 32 := Scalar.divsi v76 c1_i32_34
  let v79 : BitVec 32 := Scalar.muli v78 c1_i32_34
  let v80 : BitVec 32 := Scalar.addi c0_i32_33 v79
  let c1_i32_36 : BitVec 32 := 1#32
  let arg11 : BitVec 32 := Scf.iv v80 c1_i32_36 k0_t3
  let v110 : BitVec 32 := Scalar.muli c2_i32_52 arg11
  let c1024_i32_53 : BitVec 32 := 1024#32
  let v111 : BitVec 32 := Scalar.muli v110 c1024_i32_53
  let v112 : BitVec 32 := v111
  let c1024_i32_54 : BitVec 32 := 1024#32
  let v113 : BitVec 32 := Scalar.addi v112 c1024_i32_54
  let v134 : Index := Scalar.indexCast v113
  let c0_64 : Index := 0#32
  ![v134.toNat, 0]
def k0_off21 (k0_t1 : Fin k0_t1_loop.trips) (k0_t3 : Fin (k0_t3_loop k0_t1).trips) : Fin 3 → Nat :=
  let c0_67 : Index := 0#32
  let c0_68 : Index := 0#32
  let c2_i32_52 : BitVec 32 := 2#32
  let c0_i32_33 : BitVec 32 := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c0_i32_27 : BitVec 32 := 0#32
  let v60 : BitVec 1 := Scalar.cmpi .sgt v54 c0_i32_27
  let v61 : BitVec 32 := Scalar.extui v60
  let c0_i32_28 : BitVec 32 := 0#32
  let v62 : BitVec 1 := Scalar.cmpi .slt v54 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v54 c2_i32_26
  let c0_i32_31 : BitVec 32 := 0#32
  let v72 : BitVec 1 := Scalar.cmpi .ne v71 c0_i32_31
  let v73 : BitVec 1 := Scalar.andi v70 v72
  let v59 : BitVec 32 := Scalar.divsi v54 c2_i32_26
  let c1_i32_32 : BitVec 32 := 1#32
  let v74 : BitVec 32 := Scalar.subi v59 c1_i32_32
  let v75 : BitVec 32 := Scalar.select v73 v74 v59
  let v76 : BitVec 32 := Scalar.subi v75 c0_i32_33
  let c1_i32_34 : BitVec 32 := 1#32
  let v78 : BitVec 32 := Scalar.divsi v76 c1_i32_34
  let v79 : BitVec 32 := Scalar.muli v78 c1_i32_34
  let v80 : BitVec 32 := Scalar.addi c0_i32_33 v79
  let c1_i32_36 : BitVec 32 := 1#32
  let arg11 : BitVec 32 := Scf.iv v80 c1_i32_36 k0_t3
  let v110 : BitVec 32 := Scalar.muli c2_i32_52 arg11
  let c1024_i32_53 : BitVec 32 := 1024#32
  let v111 : BitVec 32 := Scalar.muli v110 c1024_i32_53
  let v112 : BitVec 32 := v111
  let c1024_i32_54 : BitVec 32 := 1024#32
  let v113 : BitVec 32 := Scalar.addi v112 c1024_i32_54
  let v139 : Index := Scalar.indexCast v113
  ![0, 0, v139.toNat]
def k0_off22 (k0_t1 : Fin k0_t1_loop.trips) (k0_t3 : Fin (k0_t3_loop k0_t1).trips) : Fin 2 → Nat :=
  let c2_i32_52 : BitVec 32 := 2#32
  let c0_i32_33 : BitVec 32 := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c0_i32_27 : BitVec 32 := 0#32
  let v60 : BitVec 1 := Scalar.cmpi .sgt v54 c0_i32_27
  let v61 : BitVec 32 := Scalar.extui v60
  let c0_i32_28 : BitVec 32 := 0#32
  let v62 : BitVec 1 := Scalar.cmpi .slt v54 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v54 c2_i32_26
  let c0_i32_31 : BitVec 32 := 0#32
  let v72 : BitVec 1 := Scalar.cmpi .ne v71 c0_i32_31
  let v73 : BitVec 1 := Scalar.andi v70 v72
  let v59 : BitVec 32 := Scalar.divsi v54 c2_i32_26
  let c1_i32_32 : BitVec 32 := 1#32
  let v74 : BitVec 32 := Scalar.subi v59 c1_i32_32
  let v75 : BitVec 32 := Scalar.select v73 v74 v59
  let v76 : BitVec 32 := Scalar.subi v75 c0_i32_33
  let c1_i32_34 : BitVec 32 := 1#32
  let v78 : BitVec 32 := Scalar.divsi v76 c1_i32_34
  let v79 : BitVec 32 := Scalar.muli v78 c1_i32_34
  let v80 : BitVec 32 := Scalar.addi c0_i32_33 v79
  let c1_i32_36 : BitVec 32 := 1#32
  let arg11 : BitVec 32 := Scf.iv v80 c1_i32_36 k0_t3
  let v110 : BitVec 32 := Scalar.muli c2_i32_52 arg11
  let c1024_i32_53 : BitVec 32 := 1024#32
  let v111 : BitVec 32 := Scalar.muli v110 c1024_i32_53
  let v112 : BitVec 32 := v111
  let c1024_i32_54 : BitVec 32 := 1024#32
  let v113 : BitVec 32 := Scalar.addi v112 c1024_i32_54
  let v144 : Index := Scalar.indexCast v113
  let c128_69 : Index := 128#32
  ![v144.toNat, 128]
def k0_off23 (k0_t1 : Fin k0_t1_loop.trips) (k0_t3 : Fin (k0_t3_loop k0_t1).trips) : Fin 3 → Nat :=
  let c1_72 : Index := 1#32
  let c0_73 : Index := 0#32
  let c2_i32_52 : BitVec 32 := 2#32
  let c0_i32_33 : BitVec 32 := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c0_i32_27 : BitVec 32 := 0#32
  let v60 : BitVec 1 := Scalar.cmpi .sgt v54 c0_i32_27
  let v61 : BitVec 32 := Scalar.extui v60
  let c0_i32_28 : BitVec 32 := 0#32
  let v62 : BitVec 1 := Scalar.cmpi .slt v54 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v54 c2_i32_26
  let c0_i32_31 : BitVec 32 := 0#32
  let v72 : BitVec 1 := Scalar.cmpi .ne v71 c0_i32_31
  let v73 : BitVec 1 := Scalar.andi v70 v72
  let v59 : BitVec 32 := Scalar.divsi v54 c2_i32_26
  let c1_i32_32 : BitVec 32 := 1#32
  let v74 : BitVec 32 := Scalar.subi v59 c1_i32_32
  let v75 : BitVec 32 := Scalar.select v73 v74 v59
  let v76 : BitVec 32 := Scalar.subi v75 c0_i32_33
  let c1_i32_34 : BitVec 32 := 1#32
  let v78 : BitVec 32 := Scalar.divsi v76 c1_i32_34
  let v79 : BitVec 32 := Scalar.muli v78 c1_i32_34
  let v80 : BitVec 32 := Scalar.addi c0_i32_33 v79
  let c1_i32_36 : BitVec 32 := 1#32
  let arg11 : BitVec 32 := Scf.iv v80 c1_i32_36 k0_t3
  let v110 : BitVec 32 := Scalar.muli c2_i32_52 arg11
  let c1024_i32_53 : BitVec 32 := 1024#32
  let v111 : BitVec 32 := Scalar.muli v110 c1024_i32_53
  let v112 : BitVec 32 := v111
  let c1024_i32_54 : BitVec 32 := 1024#32
  let v113 : BitVec 32 := Scalar.addi v112 c1024_i32_54
  let v149 : Index := Scalar.indexCast v113
  ![1, 0, v149.toNat]
def k0_off24 (k0_t1 : Fin k0_t1_loop.trips) (k0_t3 : Fin (k0_t3_loop k0_t1).trips) : Fin 2 → Nat :=
  let c2_i32_52 : BitVec 32 := 2#32
  let c0_i32_33 : BitVec 32 := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c0_i32_27 : BitVec 32 := 0#32
  let v60 : BitVec 1 := Scalar.cmpi .sgt v54 c0_i32_27
  let v61 : BitVec 32 := Scalar.extui v60
  let c0_i32_28 : BitVec 32 := 0#32
  let v62 : BitVec 1 := Scalar.cmpi .slt v54 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v54 c2_i32_26
  let c0_i32_31 : BitVec 32 := 0#32
  let v72 : BitVec 1 := Scalar.cmpi .ne v71 c0_i32_31
  let v73 : BitVec 1 := Scalar.andi v70 v72
  let v59 : BitVec 32 := Scalar.divsi v54 c2_i32_26
  let c1_i32_32 : BitVec 32 := 1#32
  let v74 : BitVec 32 := Scalar.subi v59 c1_i32_32
  let v75 : BitVec 32 := Scalar.select v73 v74 v59
  let v76 : BitVec 32 := Scalar.subi v75 c0_i32_33
  let c1_i32_34 : BitVec 32 := 1#32
  let v78 : BitVec 32 := Scalar.divsi v76 c1_i32_34
  let v79 : BitVec 32 := Scalar.muli v78 c1_i32_34
  let v80 : BitVec 32 := Scalar.addi c0_i32_33 v79
  let c1_i32_36 : BitVec 32 := 1#32
  let arg11 : BitVec 32 := Scf.iv v80 c1_i32_36 k0_t3
  let v110 : BitVec 32 := Scalar.muli c2_i32_52 arg11
  let c1024_i32_53 : BitVec 32 := 1024#32
  let v111 : BitVec 32 := Scalar.muli v110 c1024_i32_53
  let v112 : BitVec 32 := v111
  let v172 : Index := Scalar.indexCast v112
  let c0_76 : Index := 0#32
  ![v172.toNat, 0]
def k0_off25 (k0_t1 : Fin k0_t1_loop.trips) (k0_t3 : Fin (k0_t3_loop k0_t1).trips) : Fin 2 → Nat :=
  let c2_i32_52 : BitVec 32 := 2#32
  let c0_i32_33 : BitVec 32 := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c0_i32_27 : BitVec 32 := 0#32
  let v60 : BitVec 1 := Scalar.cmpi .sgt v54 c0_i32_27
  let v61 : BitVec 32 := Scalar.extui v60
  let c0_i32_28 : BitVec 32 := 0#32
  let v62 : BitVec 1 := Scalar.cmpi .slt v54 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v54 c2_i32_26
  let c0_i32_31 : BitVec 32 := 0#32
  let v72 : BitVec 1 := Scalar.cmpi .ne v71 c0_i32_31
  let v73 : BitVec 1 := Scalar.andi v70 v72
  let v59 : BitVec 32 := Scalar.divsi v54 c2_i32_26
  let c1_i32_32 : BitVec 32 := 1#32
  let v74 : BitVec 32 := Scalar.subi v59 c1_i32_32
  let v75 : BitVec 32 := Scalar.select v73 v74 v59
  let v76 : BitVec 32 := Scalar.subi v75 c0_i32_33
  let c1_i32_34 : BitVec 32 := 1#32
  let v78 : BitVec 32 := Scalar.divsi v76 c1_i32_34
  let v79 : BitVec 32 := Scalar.muli v78 c1_i32_34
  let v80 : BitVec 32 := Scalar.addi c0_i32_33 v79
  let c1_i32_36 : BitVec 32 := 1#32
  let arg11 : BitVec 32 := Scf.iv v80 c1_i32_36 k0_t3
  let v110 : BitVec 32 := Scalar.muli c2_i32_52 arg11
  let c1024_i32_53 : BitVec 32 := 1024#32
  let v111 : BitVec 32 := Scalar.muli v110 c1024_i32_53
  let v112 : BitVec 32 := v111
  let v175 : Index := Scalar.indexCast v112
  let c256_78 : Index := 256#32
  ![v175.toNat, 256]
def k0_off26 (k0_t1 : Fin k0_t1_loop.trips) (k0_t3 : Fin (k0_t3_loop k0_t1).trips) : Fin 2 → Nat :=
  let c2_i32_52 : BitVec 32 := 2#32
  let c0_i32_33 : BitVec 32 := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c0_i32_27 : BitVec 32 := 0#32
  let v60 : BitVec 1 := Scalar.cmpi .sgt v54 c0_i32_27
  let v61 : BitVec 32 := Scalar.extui v60
  let c0_i32_28 : BitVec 32 := 0#32
  let v62 : BitVec 1 := Scalar.cmpi .slt v54 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v54 c2_i32_26
  let c0_i32_31 : BitVec 32 := 0#32
  let v72 : BitVec 1 := Scalar.cmpi .ne v71 c0_i32_31
  let v73 : BitVec 1 := Scalar.andi v70 v72
  let v59 : BitVec 32 := Scalar.divsi v54 c2_i32_26
  let c1_i32_32 : BitVec 32 := 1#32
  let v74 : BitVec 32 := Scalar.subi v59 c1_i32_32
  let v75 : BitVec 32 := Scalar.select v73 v74 v59
  let v76 : BitVec 32 := Scalar.subi v75 c0_i32_33
  let c1_i32_34 : BitVec 32 := 1#32
  let v78 : BitVec 32 := Scalar.divsi v76 c1_i32_34
  let v79 : BitVec 32 := Scalar.muli v78 c1_i32_34
  let v80 : BitVec 32 := Scalar.addi c0_i32_33 v79
  let c1_i32_36 : BitVec 32 := 1#32
  let arg11 : BitVec 32 := Scf.iv v80 c1_i32_36 k0_t3
  let v110 : BitVec 32 := Scalar.muli c2_i32_52 arg11
  let c1024_i32_53 : BitVec 32 := 1024#32
  let v111 : BitVec 32 := Scalar.muli v110 c1024_i32_53
  let v112 : BitVec 32 := v111
  let c1024_i32_54 : BitVec 32 := 1024#32
  let v113 : BitVec 32 := Scalar.addi v112 c1024_i32_54
  let v206 : Index := Scalar.indexCast v113
  let c0_82 : Index := 0#32
  ![v206.toNat, 0]
def k0_off27 (k0_t1 : Fin k0_t1_loop.trips) (k0_t3 : Fin (k0_t3_loop k0_t1).trips) : Fin 2 → Nat :=
  let c2_i32_52 : BitVec 32 := 2#32
  let c0_i32_33 : BitVec 32 := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c0_i32_27 : BitVec 32 := 0#32
  let v60 : BitVec 1 := Scalar.cmpi .sgt v54 c0_i32_27
  let v61 : BitVec 32 := Scalar.extui v60
  let c0_i32_28 : BitVec 32 := 0#32
  let v62 : BitVec 1 := Scalar.cmpi .slt v54 c0_i32_28
  let v63 : BitVec 32 := Scalar.extui v62
  let v64 : BitVec 32 := Scalar.subi v61 v63
  let c2_i32_26 : BitVec 32 := 2#32
  let c0_i32_29 : BitVec 32 := 0#32
  let v65 : BitVec 1 := Scalar.cmpi .sgt c2_i32_26 c0_i32_29
  let v66 : BitVec 32 := Scalar.extui v65
  let c0_i32_30 : BitVec 32 := 0#32
  let v67 : BitVec 1 := Scalar.cmpi .slt c2_i32_26 c0_i32_30
  let v68 : BitVec 32 := Scalar.extui v67
  let v69 : BitVec 32 := Scalar.subi v66 v68
  let v70 : BitVec 1 := Scalar.cmpi .ne v64 v69
  let v71 : BitVec 32 := Scalar.remsi v54 c2_i32_26
  let c0_i32_31 : BitVec 32 := 0#32
  let v72 : BitVec 1 := Scalar.cmpi .ne v71 c0_i32_31
  let v73 : BitVec 1 := Scalar.andi v70 v72
  let v59 : BitVec 32 := Scalar.divsi v54 c2_i32_26
  let c1_i32_32 : BitVec 32 := 1#32
  let v74 : BitVec 32 := Scalar.subi v59 c1_i32_32
  let v75 : BitVec 32 := Scalar.select v73 v74 v59
  let v76 : BitVec 32 := Scalar.subi v75 c0_i32_33
  let c1_i32_34 : BitVec 32 := 1#32
  let v78 : BitVec 32 := Scalar.divsi v76 c1_i32_34
  let v79 : BitVec 32 := Scalar.muli v78 c1_i32_34
  let v80 : BitVec 32 := Scalar.addi c0_i32_33 v79
  let c1_i32_36 : BitVec 32 := 1#32
  let arg11 : BitVec 32 := Scf.iv v80 c1_i32_36 k0_t3
  let v110 : BitVec 32 := Scalar.muli c2_i32_52 arg11
  let c1024_i32_53 : BitVec 32 := 1024#32
  let v111 : BitVec 32 := Scalar.muli v110 c1024_i32_53
  let v112 : BitVec 32 := v111
  let c1024_i32_54 : BitVec 32 := 1024#32
  let v113 : BitVec 32 := Scalar.addi v112 c1024_i32_54
  let v209 : Index := Scalar.indexCast v113
  let c256_84 : Index := 256#32
  ![v209.toNat, 256]
def k0_mult4 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  v83
def k0_cond1 (k0_t1 : Fin k0_t1_loop.trips) : BitVec 1 :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c2_i32_38 : BitVec 32 := 2#32
  let c0_i32_39 : BitVec 32 := 0#32
  let v85 : BitVec 1 := Scalar.cmpi .eq c2_i32_38 c0_i32_39
  let c1_i32_40 : BitVec 32 := 1#32
  let v86 : BitVec 32 := Scalar.select v85 c1_i32_40 c2_i32_38
  let v87 : BitVec 32 := Scalar.remsi v54 v86
  let c0_i32_42 : BitVec 32 := 0#32
  let v89 : BitVec 1 := Scalar.cmpi .slt v87 c0_i32_42
  let c0_i32_43 : BitVec 32 := 0#32
  let v90 : BitVec 1 := Scalar.cmpi .slt v86 c0_i32_43
  let v91 : BitVec 1 := Scalar.xori v89 v90
  let c0_i32_41 : BitVec 32 := 0#32
  let v88 : BitVec 1 := Scalar.cmpi .ne v87 c0_i32_41
  let v92 : BitVec 1 := Scalar.andi v91 v88
  let v93 : BitVec 32 := Scalar.addi v87 v86
  let v94 : BitVec 32 := Scalar.select v92 v93 v87
  let c4_i32 : BitVec 32 := 4#32
  let v95 : BitVec 32 := Scalar.muli v94 c4_i32
  let c4_i32_44 : BitVec 32 := 4#32
  let c0_i32_45 : BitVec 32 := 0#32
  let v96 : BitVec 1 := Scalar.cmpi .eq c4_i32_44 c0_i32_45
  let c1_i32_46 : BitVec 32 := 1#32
  let v97 : BitVec 32 := Scalar.select v96 c1_i32_46 c4_i32_44
  let v98 : BitVec 32 := Scalar.remsi arg10 v97
  let c0_i32_48 : BitVec 32 := 0#32
  let v100 : BitVec 1 := Scalar.cmpi .slt v98 c0_i32_48
  let c0_i32_49 : BitVec 32 := 0#32
  let v101 : BitVec 1 := Scalar.cmpi .slt v97 c0_i32_49
  let v102 : BitVec 1 := Scalar.xori v100 v101
  let c0_i32_47 : BitVec 32 := 0#32
  let v99 : BitVec 1 := Scalar.cmpi .ne v98 c0_i32_47
  let v103 : BitVec 1 := Scalar.andi v102 v99
  let v104 : BitVec 32 := Scalar.addi v98 v97
  let v105 : BitVec 32 := Scalar.select v103 v104 v98
  let v106 : BitVec 32 := Scalar.addi v95 v105
  let c0_i32_50 : BitVec 32 := 0#32
  let v107 : BitVec 32 := Scalar.maxsi v106 c0_i32_50
  let c7_i32 : BitVec 32 := 7#32
  let v108 : BitVec 32 := Scalar.minsi v107 c7_i32
  let c0_i32_51 : BitVec 32 := 0#32
  let v109 : BitVec 1 := Scalar.cmpi .ne v108 c0_i32_51
  v109

def k0_cond2 (k0_t1 : Fin k0_t1_loop.trips) : BitVec 1 :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c2_i32_38 : BitVec 32 := 2#32
  let c0_i32_39 : BitVec 32 := 0#32
  let v85 : BitVec 1 := Scalar.cmpi .eq c2_i32_38 c0_i32_39
  let c1_i32_40 : BitVec 32 := 1#32
  let v86 : BitVec 32 := Scalar.select v85 c1_i32_40 c2_i32_38
  let v87 : BitVec 32 := Scalar.remsi v54 v86
  let c0_i32_42 : BitVec 32 := 0#32
  let v89 : BitVec 1 := Scalar.cmpi .slt v87 c0_i32_42
  let c0_i32_43 : BitVec 32 := 0#32
  let v90 : BitVec 1 := Scalar.cmpi .slt v86 c0_i32_43
  let v91 : BitVec 1 := Scalar.xori v89 v90
  let c0_i32_41 : BitVec 32 := 0#32
  let v88 : BitVec 1 := Scalar.cmpi .ne v87 c0_i32_41
  let v92 : BitVec 1 := Scalar.andi v91 v88
  let v93 : BitVec 32 := Scalar.addi v87 v86
  let v94 : BitVec 32 := Scalar.select v92 v93 v87
  let c4_i32 : BitVec 32 := 4#32
  let v95 : BitVec 32 := Scalar.muli v94 c4_i32
  let c4_i32_44 : BitVec 32 := 4#32
  let c0_i32_45 : BitVec 32 := 0#32
  let v96 : BitVec 1 := Scalar.cmpi .eq c4_i32_44 c0_i32_45
  let c1_i32_46 : BitVec 32 := 1#32
  let v97 : BitVec 32 := Scalar.select v96 c1_i32_46 c4_i32_44
  let v98 : BitVec 32 := Scalar.remsi arg10 v97
  let c0_i32_48 : BitVec 32 := 0#32
  let v100 : BitVec 1 := Scalar.cmpi .slt v98 c0_i32_48
  let c0_i32_49 : BitVec 32 := 0#32
  let v101 : BitVec 1 := Scalar.cmpi .slt v97 c0_i32_49
  let v102 : BitVec 1 := Scalar.xori v100 v101
  let c0_i32_47 : BitVec 32 := 0#32
  let v99 : BitVec 1 := Scalar.cmpi .ne v98 c0_i32_47
  let v103 : BitVec 1 := Scalar.andi v102 v99
  let v104 : BitVec 32 := Scalar.addi v98 v97
  let v105 : BitVec 32 := Scalar.select v103 v104 v98
  let v106 : BitVec 32 := Scalar.addi v95 v105
  let c0_i32_50 : BitVec 32 := 0#32
  let v107 : BitVec 32 := Scalar.maxsi v106 c0_i32_50
  let c7_i32 : BitVec 32 := 7#32
  let v108 : BitVec 32 := Scalar.minsi v107 c7_i32
  let c1_i32_52 : BitVec 32 := 1#32
  let v110 : BitVec 32 := Scalar.subi v108 c1_i32_52
  let c0_i32_53 : BitVec 32 := 0#32
  let v111 : BitVec 1 := Scalar.cmpi .ne v110 c0_i32_53
  v111

def k0_cond3 (k0_t1 : Fin k0_t1_loop.trips) : BitVec 1 :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c2_i32_38 : BitVec 32 := 2#32
  let c0_i32_39 : BitVec 32 := 0#32
  let v85 : BitVec 1 := Scalar.cmpi .eq c2_i32_38 c0_i32_39
  let c1_i32_40 : BitVec 32 := 1#32
  let v86 : BitVec 32 := Scalar.select v85 c1_i32_40 c2_i32_38
  let v87 : BitVec 32 := Scalar.remsi v54 v86
  let c0_i32_42 : BitVec 32 := 0#32
  let v89 : BitVec 1 := Scalar.cmpi .slt v87 c0_i32_42
  let c0_i32_43 : BitVec 32 := 0#32
  let v90 : BitVec 1 := Scalar.cmpi .slt v86 c0_i32_43
  let v91 : BitVec 1 := Scalar.xori v89 v90
  let c0_i32_41 : BitVec 32 := 0#32
  let v88 : BitVec 1 := Scalar.cmpi .ne v87 c0_i32_41
  let v92 : BitVec 1 := Scalar.andi v91 v88
  let v93 : BitVec 32 := Scalar.addi v87 v86
  let v94 : BitVec 32 := Scalar.select v92 v93 v87
  let c4_i32 : BitVec 32 := 4#32
  let v95 : BitVec 32 := Scalar.muli v94 c4_i32
  let c4_i32_44 : BitVec 32 := 4#32
  let c0_i32_45 : BitVec 32 := 0#32
  let v96 : BitVec 1 := Scalar.cmpi .eq c4_i32_44 c0_i32_45
  let c1_i32_46 : BitVec 32 := 1#32
  let v97 : BitVec 32 := Scalar.select v96 c1_i32_46 c4_i32_44
  let v98 : BitVec 32 := Scalar.remsi arg10 v97
  let c0_i32_48 : BitVec 32 := 0#32
  let v100 : BitVec 1 := Scalar.cmpi .slt v98 c0_i32_48
  let c0_i32_49 : BitVec 32 := 0#32
  let v101 : BitVec 1 := Scalar.cmpi .slt v97 c0_i32_49
  let v102 : BitVec 1 := Scalar.xori v100 v101
  let c0_i32_47 : BitVec 32 := 0#32
  let v99 : BitVec 1 := Scalar.cmpi .ne v98 c0_i32_47
  let v103 : BitVec 1 := Scalar.andi v102 v99
  let v104 : BitVec 32 := Scalar.addi v98 v97
  let v105 : BitVec 32 := Scalar.select v103 v104 v98
  let v106 : BitVec 32 := Scalar.addi v95 v105
  let c0_i32_50 : BitVec 32 := 0#32
  let v107 : BitVec 32 := Scalar.maxsi v106 c0_i32_50
  let c7_i32 : BitVec 32 := 7#32
  let v108 : BitVec 32 := Scalar.minsi v107 c7_i32
  let c1_i32_52 : BitVec 32 := 1#32
  let v110 : BitVec 32 := Scalar.subi v108 c1_i32_52
  let c1_i32_54 : BitVec 32 := 1#32
  let v112 : BitVec 32 := Scalar.subi v110 c1_i32_54
  let c0_i32_55 : BitVec 32 := 0#32
  let v113 : BitVec 1 := Scalar.cmpi .ne v112 c0_i32_55
  v113

def k0_cond4 (k0_t1 : Fin k0_t1_loop.trips) : BitVec 1 :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c2_i32_38 : BitVec 32 := 2#32
  let c0_i32_39 : BitVec 32 := 0#32
  let v85 : BitVec 1 := Scalar.cmpi .eq c2_i32_38 c0_i32_39
  let c1_i32_40 : BitVec 32 := 1#32
  let v86 : BitVec 32 := Scalar.select v85 c1_i32_40 c2_i32_38
  let v87 : BitVec 32 := Scalar.remsi v54 v86
  let c0_i32_42 : BitVec 32 := 0#32
  let v89 : BitVec 1 := Scalar.cmpi .slt v87 c0_i32_42
  let c0_i32_43 : BitVec 32 := 0#32
  let v90 : BitVec 1 := Scalar.cmpi .slt v86 c0_i32_43
  let v91 : BitVec 1 := Scalar.xori v89 v90
  let c0_i32_41 : BitVec 32 := 0#32
  let v88 : BitVec 1 := Scalar.cmpi .ne v87 c0_i32_41
  let v92 : BitVec 1 := Scalar.andi v91 v88
  let v93 : BitVec 32 := Scalar.addi v87 v86
  let v94 : BitVec 32 := Scalar.select v92 v93 v87
  let c4_i32 : BitVec 32 := 4#32
  let v95 : BitVec 32 := Scalar.muli v94 c4_i32
  let c4_i32_44 : BitVec 32 := 4#32
  let c0_i32_45 : BitVec 32 := 0#32
  let v96 : BitVec 1 := Scalar.cmpi .eq c4_i32_44 c0_i32_45
  let c1_i32_46 : BitVec 32 := 1#32
  let v97 : BitVec 32 := Scalar.select v96 c1_i32_46 c4_i32_44
  let v98 : BitVec 32 := Scalar.remsi arg10 v97
  let c0_i32_48 : BitVec 32 := 0#32
  let v100 : BitVec 1 := Scalar.cmpi .slt v98 c0_i32_48
  let c0_i32_49 : BitVec 32 := 0#32
  let v101 : BitVec 1 := Scalar.cmpi .slt v97 c0_i32_49
  let v102 : BitVec 1 := Scalar.xori v100 v101
  let c0_i32_47 : BitVec 32 := 0#32
  let v99 : BitVec 1 := Scalar.cmpi .ne v98 c0_i32_47
  let v103 : BitVec 1 := Scalar.andi v102 v99
  let v104 : BitVec 32 := Scalar.addi v98 v97
  let v105 : BitVec 32 := Scalar.select v103 v104 v98
  let v106 : BitVec 32 := Scalar.addi v95 v105
  let c0_i32_50 : BitVec 32 := 0#32
  let v107 : BitVec 32 := Scalar.maxsi v106 c0_i32_50
  let c7_i32 : BitVec 32 := 7#32
  let v108 : BitVec 32 := Scalar.minsi v107 c7_i32
  let c1_i32_52 : BitVec 32 := 1#32
  let v110 : BitVec 32 := Scalar.subi v108 c1_i32_52
  let c1_i32_54 : BitVec 32 := 1#32
  let v112 : BitVec 32 := Scalar.subi v110 c1_i32_54
  let c1_i32_56 : BitVec 32 := 1#32
  let v114 : BitVec 32 := Scalar.subi v112 c1_i32_56
  let c0_i32_57 : BitVec 32 := 0#32
  let v115 : BitVec 1 := Scalar.cmpi .ne v114 c0_i32_57
  v115

def k0_cond5 (k0_t1 : Fin k0_t1_loop.trips) : BitVec 1 :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c2_i32_38 : BitVec 32 := 2#32
  let c0_i32_39 : BitVec 32 := 0#32
  let v85 : BitVec 1 := Scalar.cmpi .eq c2_i32_38 c0_i32_39
  let c1_i32_40 : BitVec 32 := 1#32
  let v86 : BitVec 32 := Scalar.select v85 c1_i32_40 c2_i32_38
  let v87 : BitVec 32 := Scalar.remsi v54 v86
  let c0_i32_42 : BitVec 32 := 0#32
  let v89 : BitVec 1 := Scalar.cmpi .slt v87 c0_i32_42
  let c0_i32_43 : BitVec 32 := 0#32
  let v90 : BitVec 1 := Scalar.cmpi .slt v86 c0_i32_43
  let v91 : BitVec 1 := Scalar.xori v89 v90
  let c0_i32_41 : BitVec 32 := 0#32
  let v88 : BitVec 1 := Scalar.cmpi .ne v87 c0_i32_41
  let v92 : BitVec 1 := Scalar.andi v91 v88
  let v93 : BitVec 32 := Scalar.addi v87 v86
  let v94 : BitVec 32 := Scalar.select v92 v93 v87
  let c4_i32 : BitVec 32 := 4#32
  let v95 : BitVec 32 := Scalar.muli v94 c4_i32
  let c4_i32_44 : BitVec 32 := 4#32
  let c0_i32_45 : BitVec 32 := 0#32
  let v96 : BitVec 1 := Scalar.cmpi .eq c4_i32_44 c0_i32_45
  let c1_i32_46 : BitVec 32 := 1#32
  let v97 : BitVec 32 := Scalar.select v96 c1_i32_46 c4_i32_44
  let v98 : BitVec 32 := Scalar.remsi arg10 v97
  let c0_i32_48 : BitVec 32 := 0#32
  let v100 : BitVec 1 := Scalar.cmpi .slt v98 c0_i32_48
  let c0_i32_49 : BitVec 32 := 0#32
  let v101 : BitVec 1 := Scalar.cmpi .slt v97 c0_i32_49
  let v102 : BitVec 1 := Scalar.xori v100 v101
  let c0_i32_47 : BitVec 32 := 0#32
  let v99 : BitVec 1 := Scalar.cmpi .ne v98 c0_i32_47
  let v103 : BitVec 1 := Scalar.andi v102 v99
  let v104 : BitVec 32 := Scalar.addi v98 v97
  let v105 : BitVec 32 := Scalar.select v103 v104 v98
  let v106 : BitVec 32 := Scalar.addi v95 v105
  let c0_i32_50 : BitVec 32 := 0#32
  let v107 : BitVec 32 := Scalar.maxsi v106 c0_i32_50
  let c7_i32 : BitVec 32 := 7#32
  let v108 : BitVec 32 := Scalar.minsi v107 c7_i32
  let c1_i32_52 : BitVec 32 := 1#32
  let v110 : BitVec 32 := Scalar.subi v108 c1_i32_52
  let c1_i32_54 : BitVec 32 := 1#32
  let v112 : BitVec 32 := Scalar.subi v110 c1_i32_54
  let c1_i32_56 : BitVec 32 := 1#32
  let v114 : BitVec 32 := Scalar.subi v112 c1_i32_56
  let c1_i32_58 : BitVec 32 := 1#32
  let v116 : BitVec 32 := Scalar.subi v114 c1_i32_58
  let c0_i32_59 : BitVec 32 := 0#32
  let v117 : BitVec 1 := Scalar.cmpi .ne v116 c0_i32_59
  v117

def k0_cond6 (k0_t1 : Fin k0_t1_loop.trips) : BitVec 1 :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c2_i32_38 : BitVec 32 := 2#32
  let c0_i32_39 : BitVec 32 := 0#32
  let v85 : BitVec 1 := Scalar.cmpi .eq c2_i32_38 c0_i32_39
  let c1_i32_40 : BitVec 32 := 1#32
  let v86 : BitVec 32 := Scalar.select v85 c1_i32_40 c2_i32_38
  let v87 : BitVec 32 := Scalar.remsi v54 v86
  let c0_i32_42 : BitVec 32 := 0#32
  let v89 : BitVec 1 := Scalar.cmpi .slt v87 c0_i32_42
  let c0_i32_43 : BitVec 32 := 0#32
  let v90 : BitVec 1 := Scalar.cmpi .slt v86 c0_i32_43
  let v91 : BitVec 1 := Scalar.xori v89 v90
  let c0_i32_41 : BitVec 32 := 0#32
  let v88 : BitVec 1 := Scalar.cmpi .ne v87 c0_i32_41
  let v92 : BitVec 1 := Scalar.andi v91 v88
  let v93 : BitVec 32 := Scalar.addi v87 v86
  let v94 : BitVec 32 := Scalar.select v92 v93 v87
  let c4_i32 : BitVec 32 := 4#32
  let v95 : BitVec 32 := Scalar.muli v94 c4_i32
  let c4_i32_44 : BitVec 32 := 4#32
  let c0_i32_45 : BitVec 32 := 0#32
  let v96 : BitVec 1 := Scalar.cmpi .eq c4_i32_44 c0_i32_45
  let c1_i32_46 : BitVec 32 := 1#32
  let v97 : BitVec 32 := Scalar.select v96 c1_i32_46 c4_i32_44
  let v98 : BitVec 32 := Scalar.remsi arg10 v97
  let c0_i32_48 : BitVec 32 := 0#32
  let v100 : BitVec 1 := Scalar.cmpi .slt v98 c0_i32_48
  let c0_i32_49 : BitVec 32 := 0#32
  let v101 : BitVec 1 := Scalar.cmpi .slt v97 c0_i32_49
  let v102 : BitVec 1 := Scalar.xori v100 v101
  let c0_i32_47 : BitVec 32 := 0#32
  let v99 : BitVec 1 := Scalar.cmpi .ne v98 c0_i32_47
  let v103 : BitVec 1 := Scalar.andi v102 v99
  let v104 : BitVec 32 := Scalar.addi v98 v97
  let v105 : BitVec 32 := Scalar.select v103 v104 v98
  let v106 : BitVec 32 := Scalar.addi v95 v105
  let c0_i32_50 : BitVec 32 := 0#32
  let v107 : BitVec 32 := Scalar.maxsi v106 c0_i32_50
  let c7_i32 : BitVec 32 := 7#32
  let v108 : BitVec 32 := Scalar.minsi v107 c7_i32
  let c1_i32_52 : BitVec 32 := 1#32
  let v110 : BitVec 32 := Scalar.subi v108 c1_i32_52
  let c1_i32_54 : BitVec 32 := 1#32
  let v112 : BitVec 32 := Scalar.subi v110 c1_i32_54
  let c1_i32_56 : BitVec 32 := 1#32
  let v114 : BitVec 32 := Scalar.subi v112 c1_i32_56
  let c1_i32_58 : BitVec 32 := 1#32
  let v116 : BitVec 32 := Scalar.subi v114 c1_i32_58
  let c1_i32_60 : BitVec 32 := 1#32
  let v118 : BitVec 32 := Scalar.subi v116 c1_i32_60
  let c0_i32_61 : BitVec 32 := 0#32
  let v119 : BitVec 1 := Scalar.cmpi .ne v118 c0_i32_61
  v119

def k0_cond7 (k0_t1 : Fin k0_t1_loop.trips) : BitVec 1 :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c2_i32_38 : BitVec 32 := 2#32
  let c0_i32_39 : BitVec 32 := 0#32
  let v85 : BitVec 1 := Scalar.cmpi .eq c2_i32_38 c0_i32_39
  let c1_i32_40 : BitVec 32 := 1#32
  let v86 : BitVec 32 := Scalar.select v85 c1_i32_40 c2_i32_38
  let v87 : BitVec 32 := Scalar.remsi v54 v86
  let c0_i32_42 : BitVec 32 := 0#32
  let v89 : BitVec 1 := Scalar.cmpi .slt v87 c0_i32_42
  let c0_i32_43 : BitVec 32 := 0#32
  let v90 : BitVec 1 := Scalar.cmpi .slt v86 c0_i32_43
  let v91 : BitVec 1 := Scalar.xori v89 v90
  let c0_i32_41 : BitVec 32 := 0#32
  let v88 : BitVec 1 := Scalar.cmpi .ne v87 c0_i32_41
  let v92 : BitVec 1 := Scalar.andi v91 v88
  let v93 : BitVec 32 := Scalar.addi v87 v86
  let v94 : BitVec 32 := Scalar.select v92 v93 v87
  let c4_i32 : BitVec 32 := 4#32
  let v95 : BitVec 32 := Scalar.muli v94 c4_i32
  let c4_i32_44 : BitVec 32 := 4#32
  let c0_i32_45 : BitVec 32 := 0#32
  let v96 : BitVec 1 := Scalar.cmpi .eq c4_i32_44 c0_i32_45
  let c1_i32_46 : BitVec 32 := 1#32
  let v97 : BitVec 32 := Scalar.select v96 c1_i32_46 c4_i32_44
  let v98 : BitVec 32 := Scalar.remsi arg10 v97
  let c0_i32_48 : BitVec 32 := 0#32
  let v100 : BitVec 1 := Scalar.cmpi .slt v98 c0_i32_48
  let c0_i32_49 : BitVec 32 := 0#32
  let v101 : BitVec 1 := Scalar.cmpi .slt v97 c0_i32_49
  let v102 : BitVec 1 := Scalar.xori v100 v101
  let c0_i32_47 : BitVec 32 := 0#32
  let v99 : BitVec 1 := Scalar.cmpi .ne v98 c0_i32_47
  let v103 : BitVec 1 := Scalar.andi v102 v99
  let v104 : BitVec 32 := Scalar.addi v98 v97
  let v105 : BitVec 32 := Scalar.select v103 v104 v98
  let v106 : BitVec 32 := Scalar.addi v95 v105
  let c0_i32_50 : BitVec 32 := 0#32
  let v107 : BitVec 32 := Scalar.maxsi v106 c0_i32_50
  let c7_i32 : BitVec 32 := 7#32
  let v108 : BitVec 32 := Scalar.minsi v107 c7_i32
  let c1_i32_52 : BitVec 32 := 1#32
  let v110 : BitVec 32 := Scalar.subi v108 c1_i32_52
  let c1_i32_54 : BitVec 32 := 1#32
  let v112 : BitVec 32 := Scalar.subi v110 c1_i32_54
  let c1_i32_56 : BitVec 32 := 1#32
  let v114 : BitVec 32 := Scalar.subi v112 c1_i32_56
  let c1_i32_58 : BitVec 32 := 1#32
  let v116 : BitVec 32 := Scalar.subi v114 c1_i32_58
  let c1_i32_60 : BitVec 32 := 1#32
  let v118 : BitVec 32 := Scalar.subi v116 c1_i32_60
  let c1_i32_62 : BitVec 32 := 1#32
  let v120 : BitVec 32 := Scalar.subi v118 c1_i32_62
  let c0_i32_63 : BitVec 32 := 0#32
  let v121 : BitVec 1 := Scalar.cmpi .ne v120 c0_i32_63
  v121

def k0_off28 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v122 : Index := Scalar.indexCast v16
  let c0_64 : Index := 0#32
  ![v122.toNat, 0]
def k0_off29 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v131 : Index := Scalar.indexCast v16
  let c128_67 : Index := 128#32
  ![v131.toNat, 128]
def k0_mult5 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_70 : BitVec 32 := 1024#32
  let v140 : BitVec 32 := Scalar.subi v84 c1024_i32_70
  v140
def k0_off30 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_70 : BitVec 32 := 1024#32
  let v140 : BitVec 32 := Scalar.subi v84 c1024_i32_70
  let v141 : BitVec 32 := v140
  let v142 : Index := Scalar.indexCast v141
  let c0_71 : Index := 0#32
  ![v142.toNat, 0]
def k0_off31 (k0_t1 : Fin k0_t1_loop.trips) : Fin 3 → Nat :=
  let c0_74 : Index := 0#32
  let c0_75 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_70 : BitVec 32 := 1024#32
  let v140 : BitVec 32 := Scalar.subi v84 c1024_i32_70
  let v141 : BitVec 32 := v140
  let v147 : Index := Scalar.indexCast v141
  ![0, 0, v147.toNat]
def k0_off32 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_70 : BitVec 32 := 1024#32
  let v140 : BitVec 32 := Scalar.subi v84 c1024_i32_70
  let v141 : BitVec 32 := v140
  let v152 : Index := Scalar.indexCast v141
  let c128_76 : Index := 128#32
  ![v152.toNat, 128]
def k0_off33 (k0_t1 : Fin k0_t1_loop.trips) : Fin 3 → Nat :=
  let c1 : Index := 1#32
  let c0_79 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_70 : BitVec 32 := 1024#32
  let v140 : BitVec 32 := Scalar.subi v84 c1024_i32_70
  let v141 : BitVec 32 := v140
  let v157 : Index := Scalar.indexCast v141
  ![1, 0, v157.toNat]
def k0_off34 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v162 : Index := Scalar.indexCast v84
  let c0_80 : Index := 0#32
  ![v162.toNat, 0]
def k0_off35 (k0_t1 : Fin k0_t1_loop.trips) : Fin 3 → Nat :=
  let c0_83 : Index := 0#32
  let c0_84 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v167 : Index := Scalar.indexCast v84
  ![0, 0, v167.toNat]
def k0_off36 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v172 : Index := Scalar.indexCast v84
  let c128_85 : Index := 128#32
  ![v172.toNat, 128]
def k0_off37 (k0_t1 : Fin k0_t1_loop.trips) : Fin 3 → Nat :=
  let c1_88 : Index := 1#32
  let c0_89 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v177 : Index := Scalar.indexCast v84
  ![1, 0, v177.toNat]
def k0_off38 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_70 : BitVec 32 := 1024#32
  let v140 : BitVec 32 := Scalar.subi v84 c1024_i32_70
  let v141 : BitVec 32 := v140
  let v200 : Index := Scalar.indexCast v141
  let c0_92 : Index := 0#32
  ![v200.toNat, 0]
def k0_off39 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_70 : BitVec 32 := 1024#32
  let v140 : BitVec 32 := Scalar.subi v84 c1024_i32_70
  let v141 : BitVec 32 := v140
  let v203 : Index := Scalar.indexCast v141
  let c256_94 : Index := 256#32
  ![v203.toNat, 256]
def k0_off40 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v243 : Index := Scalar.indexCast v84
  let c0_100 : Index := 0#32
  ![v243.toNat, 0]
def k0_off41 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v246 : Index := Scalar.indexCast v84
  let c256_102 : Index := 256#32
  ![v246.toNat, 256]
def k0_off42 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v122 : Index := Scalar.indexCast v16
  let c0_64 : Index := 0#32
  ![v122.toNat, 0]
def k0_off43 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v131 : Index := Scalar.indexCast v16
  let c128_67 : Index := 128#32
  ![v131.toNat, 128]
def k0_mult6 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_70 : BitVec 32 := 1024#32
  let v140 : BitVec 32 := Scalar.subi v84 c1024_i32_70
  v140
def k0_off44 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_70 : BitVec 32 := 1024#32
  let v140 : BitVec 32 := Scalar.subi v84 c1024_i32_70
  let v141 : BitVec 32 := v140
  let v142 : Index := Scalar.indexCast v141
  let c0_71 : Index := 0#32
  ![v142.toNat, 0]
def k0_off45 (k0_t1 : Fin k0_t1_loop.trips) : Fin 3 → Nat :=
  let c0_74 : Index := 0#32
  let c0_75 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_70 : BitVec 32 := 1024#32
  let v140 : BitVec 32 := Scalar.subi v84 c1024_i32_70
  let v141 : BitVec 32 := v140
  let v147 : Index := Scalar.indexCast v141
  ![0, 0, v147.toNat]
def k0_off46 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_70 : BitVec 32 := 1024#32
  let v140 : BitVec 32 := Scalar.subi v84 c1024_i32_70
  let v141 : BitVec 32 := v140
  let v152 : Index := Scalar.indexCast v141
  let c128_76 : Index := 128#32
  ![v152.toNat, 128]
def k0_off47 (k0_t1 : Fin k0_t1_loop.trips) : Fin 3 → Nat :=
  let c1 : Index := 1#32
  let c0_79 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_70 : BitVec 32 := 1024#32
  let v140 : BitVec 32 := Scalar.subi v84 c1024_i32_70
  let v141 : BitVec 32 := v140
  let v157 : Index := Scalar.indexCast v141
  ![1, 0, v157.toNat]
def k0_off48 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v162 : Index := Scalar.indexCast v84
  let c0_80 : Index := 0#32
  ![v162.toNat, 0]
def k0_off49 (k0_t1 : Fin k0_t1_loop.trips) : Fin 3 → Nat :=
  let c0_83 : Index := 0#32
  let c0_84 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v167 : Index := Scalar.indexCast v84
  ![0, 0, v167.toNat]
def k0_off50 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v172 : Index := Scalar.indexCast v84
  let c128_85 : Index := 128#32
  ![v172.toNat, 128]
def k0_off51 (k0_t1 : Fin k0_t1_loop.trips) : Fin 3 → Nat :=
  let c1_88 : Index := 1#32
  let c0_89 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v177 : Index := Scalar.indexCast v84
  ![1, 0, v177.toNat]
def k0_off52 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_70 : BitVec 32 := 1024#32
  let v140 : BitVec 32 := Scalar.subi v84 c1024_i32_70
  let v141 : BitVec 32 := v140
  let v200 : Index := Scalar.indexCast v141
  let c0_92 : Index := 0#32
  ![v200.toNat, 0]
def k0_off53 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_70 : BitVec 32 := 1024#32
  let v140 : BitVec 32 := Scalar.subi v84 c1024_i32_70
  let v141 : BitVec 32 := v140
  let v203 : Index := Scalar.indexCast v141
  let c256_94 : Index := 256#32
  ![v203.toNat, 256]
def k0_off54 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v243 : Index := Scalar.indexCast v84
  let c0_100 : Index := 0#32
  ![v243.toNat, 0]
def k0_off55 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v246 : Index := Scalar.indexCast v84
  let c256_102 : Index := 256#32
  ![v246.toNat, 256]
def k0_off56 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v120 : Index := Scalar.indexCast v16
  let c0_62 : Index := 0#32
  ![v120.toNat, 0]
def k0_off57 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v129 : Index := Scalar.indexCast v16
  let c128_65 : Index := 128#32
  ![v129.toNat, 128]
def k0_mult7 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_68 : BitVec 32 := 1024#32
  let v138 : BitVec 32 := Scalar.subi v84 c1024_i32_68
  v138
def k0_off58 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_68 : BitVec 32 := 1024#32
  let v138 : BitVec 32 := Scalar.subi v84 c1024_i32_68
  let v139 : BitVec 32 := v138
  let v140 : Index := Scalar.indexCast v139
  let c0_69 : Index := 0#32
  ![v140.toNat, 0]
def k0_off59 (k0_t1 : Fin k0_t1_loop.trips) : Fin 3 → Nat :=
  let c0_72 : Index := 0#32
  let c0_73 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_68 : BitVec 32 := 1024#32
  let v138 : BitVec 32 := Scalar.subi v84 c1024_i32_68
  let v139 : BitVec 32 := v138
  let v145 : Index := Scalar.indexCast v139
  ![0, 0, v145.toNat]
def k0_off60 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_68 : BitVec 32 := 1024#32
  let v138 : BitVec 32 := Scalar.subi v84 c1024_i32_68
  let v139 : BitVec 32 := v138
  let v150 : Index := Scalar.indexCast v139
  let c128_74 : Index := 128#32
  ![v150.toNat, 128]
def k0_off61 (k0_t1 : Fin k0_t1_loop.trips) : Fin 3 → Nat :=
  let c1 : Index := 1#32
  let c0_77 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_68 : BitVec 32 := 1024#32
  let v138 : BitVec 32 := Scalar.subi v84 c1024_i32_68
  let v139 : BitVec 32 := v138
  let v155 : Index := Scalar.indexCast v139
  ![1, 0, v155.toNat]
def k0_off62 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v160 : Index := Scalar.indexCast v84
  let c0_78 : Index := 0#32
  ![v160.toNat, 0]
def k0_off63 (k0_t1 : Fin k0_t1_loop.trips) : Fin 3 → Nat :=
  let c0_81 : Index := 0#32
  let c0_82 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v165 : Index := Scalar.indexCast v84
  ![0, 0, v165.toNat]
def k0_off64 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v170 : Index := Scalar.indexCast v84
  let c128_83 : Index := 128#32
  ![v170.toNat, 128]
def k0_off65 (k0_t1 : Fin k0_t1_loop.trips) : Fin 3 → Nat :=
  let c1_86 : Index := 1#32
  let c0_87 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v175 : Index := Scalar.indexCast v84
  ![1, 0, v175.toNat]
def k0_off66 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_68 : BitVec 32 := 1024#32
  let v138 : BitVec 32 := Scalar.subi v84 c1024_i32_68
  let v139 : BitVec 32 := v138
  let v198 : Index := Scalar.indexCast v139
  let c0_90 : Index := 0#32
  ![v198.toNat, 0]
def k0_off67 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_68 : BitVec 32 := 1024#32
  let v138 : BitVec 32 := Scalar.subi v84 c1024_i32_68
  let v139 : BitVec 32 := v138
  let v201 : Index := Scalar.indexCast v139
  let c256_92 : Index := 256#32
  ![v201.toNat, 256]
def k0_off68 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v241 : Index := Scalar.indexCast v84
  let c0_99 : Index := 0#32
  ![v241.toNat, 0]
def k0_off69 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v244 : Index := Scalar.indexCast v84
  let c256_101 : Index := 256#32
  ![v244.toNat, 256]
def k0_off70 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v118 : Index := Scalar.indexCast v16
  let c0_60 : Index := 0#32
  ![v118.toNat, 0]
def k0_off71 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v127 : Index := Scalar.indexCast v16
  let c128_63 : Index := 128#32
  ![v127.toNat, 128]
def k0_mult8 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_66 : BitVec 32 := 1024#32
  let v136 : BitVec 32 := Scalar.subi v84 c1024_i32_66
  v136
def k0_off72 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_66 : BitVec 32 := 1024#32
  let v136 : BitVec 32 := Scalar.subi v84 c1024_i32_66
  let v137 : BitVec 32 := v136
  let v138 : Index := Scalar.indexCast v137
  let c0_67 : Index := 0#32
  ![v138.toNat, 0]
def k0_off73 (k0_t1 : Fin k0_t1_loop.trips) : Fin 3 → Nat :=
  let c0_70 : Index := 0#32
  let c0_71 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_66 : BitVec 32 := 1024#32
  let v136 : BitVec 32 := Scalar.subi v84 c1024_i32_66
  let v137 : BitVec 32 := v136
  let v143 : Index := Scalar.indexCast v137
  ![0, 0, v143.toNat]
def k0_off74 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_66 : BitVec 32 := 1024#32
  let v136 : BitVec 32 := Scalar.subi v84 c1024_i32_66
  let v137 : BitVec 32 := v136
  let v148 : Index := Scalar.indexCast v137
  let c128_72 : Index := 128#32
  ![v148.toNat, 128]
def k0_off75 (k0_t1 : Fin k0_t1_loop.trips) : Fin 3 → Nat :=
  let c1 : Index := 1#32
  let c0_75 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_66 : BitVec 32 := 1024#32
  let v136 : BitVec 32 := Scalar.subi v84 c1024_i32_66
  let v137 : BitVec 32 := v136
  let v153 : Index := Scalar.indexCast v137
  ![1, 0, v153.toNat]
def k0_off76 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v158 : Index := Scalar.indexCast v84
  let c0_76 : Index := 0#32
  ![v158.toNat, 0]
def k0_off77 (k0_t1 : Fin k0_t1_loop.trips) : Fin 3 → Nat :=
  let c0_79 : Index := 0#32
  let c0_80 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v163 : Index := Scalar.indexCast v84
  ![0, 0, v163.toNat]
def k0_off78 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v168 : Index := Scalar.indexCast v84
  let c128_81 : Index := 128#32
  ![v168.toNat, 128]
def k0_off79 (k0_t1 : Fin k0_t1_loop.trips) : Fin 3 → Nat :=
  let c1_84 : Index := 1#32
  let c0_85 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v173 : Index := Scalar.indexCast v84
  ![1, 0, v173.toNat]
def k0_off80 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_66 : BitVec 32 := 1024#32
  let v136 : BitVec 32 := Scalar.subi v84 c1024_i32_66
  let v137 : BitVec 32 := v136
  let v196 : Index := Scalar.indexCast v137
  let c0_88 : Index := 0#32
  ![v196.toNat, 0]
def k0_off81 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let c1024_i32_66 : BitVec 32 := 1024#32
  let v136 : BitVec 32 := Scalar.subi v84 c1024_i32_66
  let v137 : BitVec 32 := v136
  let v199 : Index := Scalar.indexCast v137
  let c256_90 : Index := 256#32
  ![v199.toNat, 256]
def k0_off82 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v239 : Index := Scalar.indexCast v84
  let c0_97 : Index := 0#32
  ![v239.toNat, 0]
def k0_off83 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v242 : Index := Scalar.indexCast v84
  let c256_99 : Index := 256#32
  ![v242.toNat, 256]
def k0_off84 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v116 : Index := Scalar.indexCast v16
  let c0_58 : Index := 0#32
  ![v116.toNat, 0]
def k0_off85 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v125 : Index := Scalar.indexCast v16
  let c128_61 : Index := 128#32
  ![v125.toNat, 128]
def k0_off86 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v134 : Index := Scalar.indexCast v84
  let c0_64 : Index := 0#32
  ![v134.toNat, 0]
def k0_off87 (k0_t1 : Fin k0_t1_loop.trips) : Fin 3 → Nat :=
  let c0_67 : Index := 0#32
  let c0_68 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v139 : Index := Scalar.indexCast v84
  ![0, 0, v139.toNat]
def k0_off88 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v144 : Index := Scalar.indexCast v84
  let c128_69 : Index := 128#32
  ![v144.toNat, 128]
def k0_off89 (k0_t1 : Fin k0_t1_loop.trips) : Fin 3 → Nat :=
  let c1 : Index := 1#32
  let c0_72 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v149 : Index := Scalar.indexCast v84
  ![1, 0, v149.toNat]
def k0_off90 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v181 : Index := Scalar.indexCast v84
  let c0_77 : Index := 0#32
  ![v181.toNat, 0]
def k0_off91 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v184 : Index := Scalar.indexCast v84
  let c256_79 : Index := 256#32
  ![v184.toNat, 256]
def k0_off92 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v114 : Index := Scalar.indexCast v16
  let c0_56 : Index := 0#32
  ![v114.toNat, 0]
def k0_off93 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v123 : Index := Scalar.indexCast v16
  let c128_59 : Index := 128#32
  ![v123.toNat, 128]
def k0_off94 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v132 : Index := Scalar.indexCast v84
  let c0_62 : Index := 0#32
  ![v132.toNat, 0]
def k0_off95 (k0_t1 : Fin k0_t1_loop.trips) : Fin 3 → Nat :=
  let c0_65 : Index := 0#32
  let c0_66 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v137 : Index := Scalar.indexCast v84
  ![0, 0, v137.toNat]
def k0_off96 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v142 : Index := Scalar.indexCast v84
  let c128_67 : Index := 128#32
  ![v142.toNat, 128]
def k0_off97 (k0_t1 : Fin k0_t1_loop.trips) : Fin 3 → Nat :=
  let c1 : Index := 1#32
  let c0_70 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v147 : Index := Scalar.indexCast v84
  ![1, 0, v147.toNat]
def k0_off98 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v179 : Index := Scalar.indexCast v84
  let c0_75 : Index := 0#32
  ![v179.toNat, 0]
def k0_off99 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v182 : Index := Scalar.indexCast v84
  let c256_77 : Index := 256#32
  ![v182.toNat, 256]
def k0_off100 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v112 : Index := Scalar.indexCast v16
  let c0_54 : Index := 0#32
  ![v112.toNat, 0]
def k0_off101 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v121 : Index := Scalar.indexCast v16
  let c128_57 : Index := 128#32
  ![v121.toNat, 128]
def k0_off102 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v130 : Index := Scalar.indexCast v84
  let c0_60 : Index := 0#32
  ![v130.toNat, 0]
def k0_off103 (k0_t1 : Fin k0_t1_loop.trips) : Fin 3 → Nat :=
  let c0_63 : Index := 0#32
  let c0_64 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v135 : Index := Scalar.indexCast v84
  ![0, 0, v135.toNat]
def k0_off104 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v140 : Index := Scalar.indexCast v84
  let c128_65 : Index := 128#32
  ![v140.toNat, 128]
def k0_off105 (k0_t1 : Fin k0_t1_loop.trips) : Fin 3 → Nat :=
  let c1 : Index := 1#32
  let c0_68 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v145 : Index := Scalar.indexCast v84
  ![1, 0, v145.toNat]
def k0_off106 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v177 : Index := Scalar.indexCast v84
  let c0_74 : Index := 0#32
  ![v177.toNat, 0]
def k0_off107 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v180 : Index := Scalar.indexCast v84
  let c256_76 : Index := 256#32
  ![v180.toNat, 256]
def k0_off108 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v110 : Index := Scalar.indexCast v16
  let c0_52 : Index := 0#32
  ![v110.toNat, 0]
def k0_off109 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let v119 : Index := Scalar.indexCast v16
  let c128_55 : Index := 128#32
  ![v119.toNat, 128]
def k0_off110 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v128 : Index := Scalar.indexCast v84
  let c0_58 : Index := 0#32
  ![v128.toNat, 0]
def k0_off111 (k0_t1 : Fin k0_t1_loop.trips) : Fin 3 → Nat :=
  let c0_61 : Index := 0#32
  let c0_62 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v133 : Index := Scalar.indexCast v84
  ![0, 0, v133.toNat]
def k0_off112 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v138 : Index := Scalar.indexCast v84
  let c128_63 : Index := 128#32
  ![v138.toNat, 128]
def k0_off113 (k0_t1 : Fin k0_t1_loop.trips) : Fin 3 → Nat :=
  let c1 : Index := 1#32
  let c0_66 : Index := 0#32
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v143 : Index := Scalar.indexCast v84
  ![1, 0, v143.toNat]
def k0_off114 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v175 : Index := Scalar.indexCast v84
  let c0_72 : Index := 0#32
  ![v175.toNat, 0]
def k0_off115 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v15 : BitVec 32 := Scalar.muli arg10 c256_i32
  let v16 : BitVec 32 := v15
  let c0_i32_16 : BitVec 32 := 0#32
  let v39 : BitVec 1 := Scalar.cmpi .sgt v16 c0_i32_16
  let v40 : BitVec 32 := Scalar.extui v39
  let c0_i32_17 : BitVec 32 := 0#32
  let v41 : BitVec 1 := Scalar.cmpi .slt v16 c0_i32_17
  let v42 : BitVec 32 := Scalar.extui v41
  let v43 : BitVec 32 := Scalar.subi v40 v42
  let c1024_i32 : BitVec 32 := 1024#32
  let c0_i32_18 : BitVec 32 := 0#32
  let v44 : BitVec 1 := Scalar.cmpi .sgt c1024_i32 c0_i32_18
  let v45 : BitVec 32 := Scalar.extui v44
  let c0_i32_19 : BitVec 32 := 0#32
  let v46 : BitVec 1 := Scalar.cmpi .slt c1024_i32 c0_i32_19
  let v47 : BitVec 32 := Scalar.extui v46
  let v48 : BitVec 32 := Scalar.subi v45 v47
  let v49 : BitVec 1 := Scalar.cmpi .ne v43 v48
  let v50 : BitVec 32 := Scalar.remsi v16 c1024_i32
  let c0_i32_20 : BitVec 32 := 0#32
  let v51 : BitVec 1 := Scalar.cmpi .ne v50 c0_i32_20
  let v52 : BitVec 1 := Scalar.andi v49 v51
  let v38 : BitVec 32 := Scalar.divsi v16 c1024_i32
  let c1_i32_21 : BitVec 32 := 1#32
  let v53 : BitVec 32 := Scalar.subi v38 c1_i32_21
  let v54 : BitVec 32 := Scalar.select v52 v53 v38
  let c1024_i32_37 : BitVec 32 := 1024#32
  let v83 : BitVec 32 := Scalar.muli v54 c1024_i32_37
  let v84 : BitVec 32 := v83
  let v178 : Index := Scalar.indexCast v84
  let c256_74 : Index := 256#32
  ![v178.toNat, 256]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "neg_inf" => some ⊥
  | "scale2" => some (((Real.log 2)⁻¹ * (Real.sqrt 128)⁻¹ : ℝ) : EReal)
  | _ => none
-- ==== ReferenceIdeal.lean ====
abbrev S8192x16384 : Shape := ⟨2, ![8192, 16384]⟩
abbrev S2x4096x16 : Shape := ⟨3, ![2, 4096, 16]⟩
abbrev S8192x2048 : Shape := ⟨2, ![8192, 2048]⟩
abbrev S2x4096x2048 : Shape := ⟨3, ![2, 4096, 2048]⟩
abbrev S2x4096x16x128 : Shape := ⟨4, ![2, 4096, 16, 128]⟩
abbrev S2x16x4096 : Shape := ⟨3, ![2, 16, 4096]⟩
abbrev S2x16x4096x4096 : Shape := ⟨4, ![2, 16, 4096, 4096]⟩
abbrev S_ : Shape := ⟨0, ![]⟩
abbrev S2x16x4096x1 : Shape := ⟨4, ![2, 16, 4096, 1]⟩
abbrev S2x16x1x4096 : Shape := ⟨4, ![2, 16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2x16x128x4096 : Shape := ⟨4, ![2, 16, 128, 4096]⟩

abbrev nBuf : Space → Nat
  | .hbm => 70
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S2x4096x16, .f32⟩
  | .hbm, ⟨2, _⟩ => ⟨S8192x2048, .bf16⟩
  | .hbm, ⟨3, _⟩ => ⟨S8192x2048, .f32⟩
  | .hbm, ⟨4, _⟩ => ⟨S2x4096x2048, .f32⟩
  | .hbm, ⟨5, _⟩ => ⟨S8192x2048, .bf16⟩
  | .hbm, ⟨6, _⟩ => ⟨S8192x2048, .f32⟩
  | .hbm, ⟨7, _⟩ => ⟨S2x4096x2048, .f32⟩
  | .hbm, ⟨8, _⟩ => ⟨S8192x2048, .bf16⟩
  | .hbm, ⟨9, _⟩ => ⟨S8192x2048, .f32⟩
  | .hbm, ⟨10, _⟩ => ⟨S2x4096x2048, .f32⟩
  | .hbm, ⟨11, _⟩ => ⟨S8192x2048, .bf16⟩
  | .hbm, ⟨12, _⟩ => ⟨S8192x2048, .f32⟩
  | .hbm, ⟨13, _⟩ => ⟨S2x4096x2048, .f32⟩
  | .hbm, ⟨14, _⟩ => ⟨S2x4096x16x128, .f32⟩
  | .hbm, ⟨15, _⟩ => ⟨S2x4096x16x128, .f32⟩
  | .hbm, ⟨16, _⟩ => ⟨S2x4096x16x128, .f32⟩
  | .hbm, ⟨17, _⟩ => ⟨S2x16x4096, .f32⟩
  | .hbm, ⟨18, _⟩ => ⟨S2x16x4096x4096, .f32⟩
  | .hbm, ⟨19, _⟩ => ⟨S_, .f32⟩
  | .hbm, ⟨20, _⟩ => ⟨S_, .f32⟩
  | .hbm, ⟨21, _⟩ => ⟨S2x16x4096x4096, .f32⟩
  | .hbm, ⟨22, _⟩ => ⟨S2x16x4096x4096, .f32⟩
  | .hbm, ⟨23, _⟩ => ⟨S2x16x4096x1, .f32⟩
  | .hbm, ⟨24, _⟩ => ⟨S2x16x1x4096, .f32⟩
  | .hbm, ⟨25, _⟩ => ⟨S2x16x4096x4096, .f32⟩
  | .hbm, ⟨26, _⟩ => ⟨S2x16x4096x4096, .f32⟩
  | .hbm, ⟨27, _⟩ => ⟨S2x16x4096x4096, .f32⟩
  | .hbm, ⟨28, _⟩ => ⟨S4096, .i32⟩
  | .hbm, ⟨29, _⟩ => ⟨S4096x1, .i32⟩
  | .hbm, ⟨30, _⟩ => ⟨S4096, .i32⟩
  | .hbm, ⟨31, _⟩ => ⟨S1x4096, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S2x16x4096x4096, .f32⟩
  | .hbm, ⟨36, _⟩ => ⟨S_, .f32⟩
  | .hbm, ⟨37, _⟩ => ⟨S_, .f32⟩
  | .hbm, ⟨38, _⟩ => ⟨S2x16x4096x4096, .i1⟩
  | .hbm, ⟨39, _⟩ => ⟨S2x16x4096x4096, .f32⟩
  | .hbm, ⟨40, _⟩ => ⟨S2x16x4096x4096, .f32⟩
  | .hbm, ⟨41, _⟩ => ⟨S_, .f32⟩
  | .hbm, ⟨42, _⟩ => ⟨S2x16x4096, .f32⟩
  | .hbm, ⟨43, _⟩ => ⟨S_, .f32⟩
  | .hbm, ⟨44, _⟩ => ⟨S2x16x4096, .f32⟩
  | .hbm, ⟨45, _⟩ => ⟨S2x16x4096, .f32⟩
  | .hbm, ⟨46, _⟩ => ⟨S2x16x4096x1, .f32⟩
  | .hbm, ⟨47, _⟩ => ⟨S2x16x4096x4096, .f32⟩
  | .hbm, ⟨48, _⟩ => ⟨S2x16x4096x4096, .f32⟩
  | .hbm, ⟨49, _⟩ => ⟨S2x16x4096x4096, .f32⟩
  | .hbm, ⟨50, _⟩ => ⟨S_, .f32⟩
  | .hbm, ⟨51, _⟩ => ⟨S2x16x4096, .f32⟩
  | .hbm, ⟨52, _⟩ => ⟨S2x16x4096x1, .f32⟩
  | .hbm, ⟨53, _⟩ => ⟨S2x16x4096x4096, .f32⟩
  | .hbm, ⟨54, _⟩ => ⟨S2x16x4096x4096, .f32⟩
  | .hbm, ⟨55, _⟩ => ⟨S2x16x128x4096, .f32⟩
  | .hbm, ⟨56, _⟩ => ⟨S2x4096x16x128, .f32⟩
  | .hbm, ⟨57, _⟩ => ⟨S2x4096x2048, .f32⟩
  | .hbm, ⟨58, _⟩ => ⟨S2x4096x2048, .f32⟩
  | .hbm, ⟨59, _⟩ => ⟨S2x4096x2048, .f32⟩
  | .hbm, ⟨60, _⟩ => ⟨S_, .f32⟩
  | .hbm, ⟨61, _⟩ => ⟨S2x4096x2048, .f32⟩
  | .hbm, ⟨62, _⟩ => ⟨S2x4096x2048, .f32⟩
  | .hbm, ⟨63, _⟩ => ⟨S_, .f32⟩
  | .hbm, ⟨64, _⟩ => ⟨S2x4096x2048, .f32⟩
  | .hbm, ⟨65, _⟩ => ⟨S2x4096x2048, .f32⟩
  | .hbm, ⟨66, _⟩ => ⟨S2x4096x2048, .f32⟩
  | .hbm, ⟨67, _⟩ => ⟨S2x4096x2048, .f32⟩
  | .hbm, ⟨68, _⟩ => ⟨S8192x2048, .f32⟩
  | .hbm, ⟨69, _⟩ => ⟨S8192x2048, .bf16⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_cst_0 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v33 : Ref sig .tc := ⟨.hbm, 40, rfl⟩
abbrev main_cst_1 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_3 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_call1_v0 : Ref sig .tc := ⟨.hbm, 58, rfl⟩
abbrev main_call1_v1 : Ref sig .tc := ⟨.hbm, 59, rfl⟩
abbrev main_call1_cst : Ref sig .tc := ⟨.hbm, 60, rfl⟩
abbrev main_call1_v2 : Ref sig .tc := ⟨.hbm, 61, rfl⟩
abbrev main_call1_v3 : Ref sig .tc := ⟨.hbm, 62, rfl⟩
abbrev main_call1_cst_0 : Ref sig .tc := ⟨.hbm, 63, rfl⟩
abbrev main_call1_v4 : Ref sig .tc := ⟨.hbm, 64, rfl⟩
abbrev main_call1_v5 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== KernelNorm.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelForget.lean ====
abbrev S8192x4096 : Shape := ⟨2, ![8192, 4096]⟩
abbrev S4096x16400 : Shape := ⟨2, ![4096, 16400]⟩
abbrev S16400x4096 : Shape := ⟨2, ![16400, 4096]⟩
abbrev S8192x16 : Shape := ⟨2, ![8192, 16]⟩
abbrev S1024x4096 : Shape := ⟨2, ![1024, 4096]⟩
abbrev S16x4096 : Shape := ⟨2, ![16, 4096]⟩
abbrev S1024x16 : Shape := ⟨2, ![1024, 16]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S4096x16400, .f32⟩
  | .hbm, ⟨2, _⟩ => ⟨S16400x4096, .f32⟩
  | .hbm, ⟨3, _⟩ => ⟨S8192x16, .f32⟩
  | .local _ .vmem, ⟨0, _⟩ => ⟨S1024x4096, .bf16⟩
  | .local _ .vmem, ⟨1, _⟩ => ⟨S1024x4096, .bf16⟩
  | .local _ .vmem, ⟨2, _⟩ => ⟨S16x4096, .f32⟩
  | .local _ .vmem, ⟨3, _⟩ => ⟨S1024x16, .f32⟩
  | .local _ .vmem, ⟨4, _⟩ => ⟨S1024x16, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1024_i32 : BitVec 32 := 1024#32
  let c0_i32 : BitVec 32 := 0#32
  let c0_i32_0 : BitVec 32 := 0#32
  ![c1024_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceForgetIdeal.lean ====
abbrev S8192x4096 : Shape := ⟨2, ![8192, 4096]⟩
abbrev S4096x16400 : Shape := ⟨2, ![4096, 16400]⟩
abbrev S4096x16 : Shape := ⟨2, ![4096, 16]⟩
abbrev S8192x16 : Shape := ⟨2, ![8192, 16]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16400, .f32⟩
  | .hbm, ⟨2, _⟩ => ⟨S8192x4096, .f32⟩
  | .hbm, ⟨3, _⟩ => ⟨S4096x16, .f32⟩
  | .hbm, ⟨4, _⟩ => ⟨S8192x16, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelInEven.lean ====
abbrev S8192x4096 : Shape := ⟨2, ![8192, 4096]⟩
abbrev S4096x16400 : Shape := ⟨2, ![4096, 16400]⟩
abbrev S4096x4096 : Shape := ⟨2, ![4096, 4096]⟩
abbrev S16400x4096 : Shape := ⟨2, ![16400, 4096]⟩
abbrev S8192x16384 : Shape := ⟨2, ![8192, 16384]⟩
abbrev S512x4096 : Shape := ⟨2, ![512, 4096]⟩
abbrev S1024x4096 : Shape := ⟨2, ![1024, 4096]⟩
abbrev S16x4096 : Shape := ⟨2, ![16, 4096]⟩
abbrev S512x1024 : Shape := ⟨2, ![512, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4096x16400, .f32⟩
  | .hbm, ⟨2, _⟩ => ⟨S4096x4096, .f32⟩
  | .hbm, ⟨3, _⟩ => ⟨S16400x4096, .f32⟩
  | .hbm, ⟨4, _⟩ => ⟨S8192x16384, .bf16⟩
  | .hbm, ⟨5, _⟩ => ⟨S4096x4096, .bf16⟩
  | .local _ .vmem, ⟨0, _⟩ => ⟨S512x4096, .bf16⟩
  | .local _ .vmem, ⟨1, _⟩ => ⟨S512x4096, .bf16⟩
  | .local _ .vmem, ⟨2, _⟩ => ⟨S1024x4096, .f32⟩
  | .local _ .vmem, ⟨3, _⟩ => ⟨S1024x4096, .f32⟩
  | .local _ .vmem, ⟨4, _⟩ => ⟨S16x4096, .f32⟩
  | .local _ .vmem, ⟨5, _⟩ => ⟨S16x4096, .f32⟩
  | .local _ .vmem, ⟨6, _⟩ => ⟨S512x1024, .bf16⟩
  | .local _ .vmem, ⟨7, _⟩ => ⟨S512x1024, .bf16⟩
  | .local _ .vmem, ⟨8, _⟩ => ⟨S16x4096, .bf16⟩
  | .local _ .vmem, ⟨9, _⟩ => ⟨S16x4096, .bf16⟩
  | .local _ .vmem, ⟨10, _⟩ => ⟨S1024x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceInEvenIdeal.lean ====
abbrev S8192x4096 : Shape := ⟨2, ![8192, 4096]⟩
abbrev S4096x16400 : Shape := ⟨2, ![4096, 16400]⟩
abbrev S4096x4096 : Shape := ⟨2, ![4096, 4096]⟩
abbrev S4096x16384 : Shape := ⟨2, ![4096, 16384]⟩
abbrev S8192x16384 : Shape := ⟨2, ![8192, 16384]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16400, .f32⟩
  | .hbm, ⟨2, _⟩ => ⟨S4096x4096, .f32⟩
  | .hbm, ⟨3, _⟩ => ⟨S8192x4096, .f32⟩
  | .hbm, ⟨4, _⟩ => ⟨S4096x16384, .f32⟩
  | .hbm, ⟨5, _⟩ => ⟨S8192x16384, .f32⟩
  | .hbm, ⟨6, _⟩ => ⟨S8192x16384, .bf16⟩
  | .hbm, ⟨7, _⟩ => ⟨S4096x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelInOdd.lean ====
abbrev S8192x4096 : Shape := ⟨2, ![8192, 4096]⟩
abbrev S4096x16384 : Shape := ⟨2, ![4096, 16384]⟩
abbrev S4096x4096 : Shape := ⟨2, ![4096, 4096]⟩
abbrev S8192x16384 : Shape := ⟨2, ![8192, 16384]⟩
abbrev S512x4096 : Shape := ⟨2, ![512, 4096]⟩
abbrev S4096x1024 : Shape := ⟨2, ![4096, 1024]⟩
abbrev S16x4096 : Shape := ⟨2, ![16, 4096]⟩
abbrev S512x1024 : Shape := ⟨2, ![512, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S4096x4096, .f32⟩
  | .hbm, ⟨3, _⟩ => ⟨S8192x16384, .bf16⟩
  | .hbm, ⟨4, _⟩ => ⟨S4096x4096, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .f32⟩
  | .local _ .vmem, ⟨3, _⟩ => ⟨S4096x1024, .f32⟩
  | .local _ .vmem, ⟨4, _⟩ => ⟨S16x4096, .f32⟩
  | .local _ .vmem, ⟨5, _⟩ => ⟨S16x4096, .f32⟩
  | .local _ .vmem, ⟨6, _⟩ => ⟨S512x1024, .bf16⟩
  | .local _ .vmem, ⟨7, _⟩ => ⟨S512x1024, .bf16⟩
  | .local _ .vmem, ⟨8, _⟩ => ⟨S16x4096, .bf16⟩
  | .local _ .vmem, ⟨9, _⟩ => ⟨S16x4096, .bf16⟩
  | .local _ .vmem, ⟨10, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceInOddIdeal.lean ====
abbrev S8192x4096 : Shape := ⟨2, ![8192, 4096]⟩
abbrev S4096x16384 : Shape := ⟨2, ![4096, 16384]⟩
abbrev S4096x4096 : Shape := ⟨2, ![4096, 4096]⟩
abbrev S8192x16384 : Shape := ⟨2, ![8192, 16384]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x16384, .f32⟩
  | .hbm, ⟨2, _⟩ => ⟨S4096x4096, .f32⟩
  | .hbm, ⟨3, _⟩ => ⟨S8192x4096, .f32⟩
  | .hbm, ⟨4, _⟩ => ⟨S8192x16384, .f32⟩
  | .hbm, ⟨5, _⟩ => ⟨S8192x16384, .bf16⟩
  | .hbm, ⟨6, _⟩ => ⟨S4096x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelOutEven.lean ====
abbrev S8192x2048 : Shape := ⟨2, ![8192, 2048]⟩
abbrev S4096x4096 : Shape := ⟨2, ![4096, 4096]⟩
abbrev S8192x4096 : Shape := ⟨2, ![8192, 4096]⟩
abbrev S4096 : Shape := ⟨1, ![4096]⟩
abbrev S1x4096 : Shape := ⟨2, ![1, 4096]⟩
abbrev S512x2048 : Shape := ⟨2, ![512, 2048]⟩
abbrev S2048x512 : Shape := ⟨2, ![2048, 512]⟩
abbrev S512x512 : Shape := ⟨2, ![512, 512]⟩
abbrev S512x4096 : Shape := ⟨2, ![512, 4096]⟩
abbrev S128x4096 : Shape := ⟨2, ![128, 4096]⟩
abbrev S128 : Shape := ⟨1, ![128]⟩
abbrev S128x1 : Shape := ⟨2, ![128, 1]⟩

abbrev nBuf : Space → Nat
  | .hbm => 10
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .bf16⟩
  | .hbm, ⟨3, _⟩ => ⟨S8192x4096, .f32⟩
  | .hbm, ⟨4, _⟩ => ⟨S4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S8192x4096, .f32⟩
  | .hbm, ⟨9, _⟩ => ⟨S8192x4096, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x512, .f32⟩
  | .local _ .vmem, ⟨9, _⟩ => ⟨S512x512, .f32⟩
  | .local _ .vmem, ⟨10, _⟩ => ⟨S1x4096, .f32⟩
  | .local _ .vmem, ⟨11, _⟩ => ⟨S1x4096, .f32⟩
  | .local _ .vmem, ⟨12, _⟩ => ⟨S512x4096, .f32⟩
  | .local _ .vmem, ⟨13, _⟩ => ⟨S512x4096, .f32⟩
  | .local _ .vmem, ⟨14, _⟩ => ⟨S512x4096, .bf16⟩
  | .local _ .vmem, ⟨15, _⟩ => ⟨S512x4096, .bf16⟩
  | .local _ .vmem, ⟨16, _⟩ => ⟨S512x4096, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let c0_8 : Index := 0#32
  let arg1 : BitVec 32 := BitVec.ofNat 32 (i 1).val
  let c512_i32 : BitVec 32 := 512#32
  let v0 : BitVec 32 := Scalar.muli arg1 c512_i32
  let v1 : BitVec 32 := v0
  let v9 : Index := Scalar.indexCast v1
  ![0, v9.toNat]
def k0_cond1 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32 : BitVec 32 := 0#32
  let v18 : BitVec 1 := Scalar.cmpi .ne v17 c0_i32
  v18

@[reducible] def k0_t1_loop : Scf.Loop 32 :=
  let c0_i32_12 : BitVec 32 := 0#32
  let c4_i32 : BitVec 32 := 4#32
  let v19 : BitVec 32 := Scalar.addi c0_i32_12 c4_i32
  let c1_i32 : BitVec 32 := 1#32
  ⟨c0_i32_12, v19, c1_i32⟩
def k0_mult2 (k0_t1 : Fin k0_t1_loop.trips) : BitVec 32 :=
  let c0_i32_12 : BitVec 32 := 0#32
  let c1_i32 : BitVec 32 := 1#32
  let arg12 : BitVec 32 := Scf.iv c0_i32_12 c1_i32 k0_t1
  let c128_i32 : BitVec 32 := 128#32
  let v20 : BitVec 32 := Scalar.muli arg12 c128_i32
  v20
def k0_off2 (k0_t1 : Fin k0_t1_loop.trips) : Fin 2 → Nat :=
  let c0_i32_12 : BitVec 32 := 0#32
  let c1_i32 : BitVec 32 := 1#32
  let arg12 : BitVec 32 := Scf.iv c0_i32_12 c1_i32 k0_t1
  let c128_i32 : BitVec 32 := 128#32
  let v20 : BitVec 32 := Scalar.muli arg12 c128_i32
  let v21 : BitVec 32 := v20
  let v22 : Index := Scalar.indexCast v21
  let c0_14 : Index := 0#32
  ![v22.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceOutEvenIdeal.lean ====
abbrev S8192x2048 : Shape := ⟨2, ![8192, 2048]⟩
abbrev S4096x4096 : Shape := ⟨2, ![4096, 4096]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .bf16⟩
  | .hbm, ⟨3, _⟩ => ⟨S8192x4096, .f32⟩
  | .hbm, ⟨4, _⟩ => ⟨S4096, .f32⟩
  | .hbm, ⟨5, _⟩ => ⟨S4096, .f32⟩
  | .hbm, ⟨6, _⟩ => ⟨S8192x4096, .bf16⟩
  | .hbm, ⟨7, _⟩ => ⟨S8192x4096, .f32⟩
  | .hbm, ⟨8, _⟩ => ⟨S4096x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x4096, .f32⟩
  | .hbm, ⟨22, _⟩ => ⟨S8192x4096, .f32⟩
  | .hbm, ⟨23, _⟩ => ⟨S1x4096, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x4096, .f32⟩
  | .hbm, ⟨39, _⟩ => ⟨S8192x4096, .f32⟩
  | .hbm, ⟨40, _⟩ => ⟨S1x4096, .f32⟩
  | .hbm, ⟨41, _⟩ => ⟨S8192x4096, .f32⟩
  | .hbm, ⟨42, _⟩ => ⟨S8192x4096, .f32⟩
  | .hbm, ⟨43, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== KernelOutOdd.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x4096 : Shape := ⟨2, ![512, 4096]⟩
abbrev S4096x512 : Shape := ⟨2, ![4096, 512]⟩
abbrev S512x512 : Shape := ⟨2, ![512, 512]⟩
abbrev S128x4096 : Shape := ⟨2, ![128, 4096]⟩
abbrev S128 : Shape := ⟨1, ![128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S4096, .f32⟩
  | .hbm, ⟨4, _⟩ => ⟨S1x4096, .f32⟩
  | .hbm, ⟨5, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | .local _ .vmem, ⟨9, _⟩ => ⟨S512x4096, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 2 → Nat :=
  let c0_3 : Index := 0#32
  let arg1 : BitVec 32 := BitVec.ofNat 32 (i 1).val
  let c512_i32 : BitVec 32 := 512#32
  let v0 : BitVec 32 := Scalar.muli arg1 c512_i32
  let v1 : BitVec 32 := v0
  let v5 : Index := Scalar.indexCast v1
  ![0, v5.toNat]
def k0_cond1 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32 : BitVec 32 := 0#32
  let v14 : BitVec 1 := Scalar.cmpi .ne v13 c0_i32
  v14

@[reducible] def k0_t1_loop : Scf.Loop 32 :=
  let c0_i32_7 : BitVec 32 := 0#32
  let c4_i32 : BitVec 32 := 4#32
  let v15 : BitVec 32 := Scalar.addi c0_i32_7 c4_i32
  let c1_i32 : BitVec 32 := 1#32
  ⟨c0_i32_7, v15, c1_i32⟩
def k0_mult2 (k0_t1 : Fin k0_t1_loop.trips) : BitVec 32 :=
  let c0_i32_7 : BitVec 32 := 0#32
  let c1_i32 : BitVec 32 := 1#32
  let arg8 : BitVec 32 := Scf.iv c0_i32_7 c1_i32 k0_t1
  let c128_i32 : BitVec 32 := 128#32
  let v16 : BitVec 32 := Scalar.muli arg8 c128_i32
  v16
def k0_off2 (k0_t1 : Fin k0_t1_loop.trips) : Fin 2 → Nat :=
  let c0_i32_7 : BitVec 32 := 0#32
  let c1_i32 : BitVec 32 := 1#32
  let arg8 : BitVec 32 := Scf.iv c0_i32_7 c1_i32 k0_t1
  let c128_i32 : BitVec 32 := 128#32
  let v16 : BitVec 32 := Scalar.muli arg8 c128_i32
  let v17 : BitVec 32 := v16
  let v18 : Index := Scalar.indexCast v17
  let c0_9 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceOutOddIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .bf16⟩
  | .hbm, ⟨2, _⟩ => ⟨S8192x4096, .f32⟩
  | .hbm, ⟨3, _⟩ => ⟨S4096, .f32⟩
  | .hbm, ⟨4, _⟩ => ⟨S8192x4096, .f32⟩
  | .hbm, ⟨5, _⟩ => ⟨S4096x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Trips.lean ====
/- One trip of the loop over the sixteen query blocks, once for each branch of the kernel's `lax.switch`. -/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F]

local notation "𝕄" => MT nD τ sig Unit (Elt F) ℕ (UR sig nD τ) ℕ

/-- The contents of a memref's buffer on device `c`. -/
abbrev Bf (c : Dev nD) {sp : Space} {s : Shape} {e : EltTy} (M : Memref sig .tc sp s e) : Type := Buf (Elt F) (M.view.loc (c : Thread nD τ))
/-- A memref held whole, at contents `f`. -/
abbrev pt (c : Dev nD) {sp : Space} {s : Shape} {e : EltTy} (M : Memref sig .tc sp s e) (f : Bf (F := F) c M) : sProp 𝕄 :=
  M.view.loc (c : Thread nD τ) ↦[M.view.set]{fullShare} f

section
variable (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S2x1x4096 .f32) (harg6 : arg6.IsWhole) (arg7 : Memref sig .tc .vmem S4096x16 .f32) (harg7 : arg7.IsWhole) (arg8 : Memref sig .tc .vmem S4096x256 .bf16) (harg8 : arg8.IsWhole) (arg9 : Memref sig .tc .vmem S4096x512 .bf16) (harg9 : arg9.IsWhole) (v0 : BitVec 32) (v1 : IVec S256x16 32)

/-- What one trip holds: the queries, keys, gates, the two decay blocks and the scratch at fixed contents, and the
    output block at `f`. -/
abbrev TripRes (X2 : Bf (F := F) c arg2) (X3 : Bf (F := F) c arg3) (X5 : Bf (F := F) c arg5) (X6 : Bf (F := F) c arg6) (X7 : Bf (F := F) c arg7) (X9 : Bf (F := F) c arg9) (f : Bf (F := F) c arg8) : sProp 𝕄 :=
  iprop(pt c arg2 X2 ∗ pt c arg3 X3 ∗ pt c arg5 X5 ∗ pt c arg6 X6 ∗ pt c arg7 X7 ∗ pt c arg9 X9 ∗ pt c arg8 f)

/-- A trip that takes the switch's first branch: the pieces it writes into the output block, and that it leaves
    everything else as it was. -/
def trip0 (k : Fin k0_t1_loop.trips) (h1 : ¬(k0_cond1 k = 1#1)) (X2 : Bf (F := F) c arg2) (X3 : Bf (F := F) c arg3) (X5 : Bf (F := F) c arg5) (X6 : Bf (F := F) c arg6) (X7 : Bf (F := F) c arg7) (X9 : Bf (F := F) c arg9) :
    { L : List (View.Piece (Elt F) S4096x256 .bf16) // ∀ (f : Bf (F := F) c arg8),
      TripRes c arg2 arg3 arg5 arg6 arg7 arg8 arg9 X2 X3 X5 X6 X7 X9 f
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 v0 v1 k ())
          (fun _ => TripRes c arg2 arg3 arg5 arg6 arg7 arg8 arg9 X2 X3 X5 X6 X7 X9 (arg8.view.writes (Elt F) f L)) } := by
  refine ⟨?_, fun f => ?run⟩
  case run =>
    unfold k0_t1_body
    iintro ⟨H2, H3, H5, H6, H7, H9, H8⟩
    sl_exec
    sl_step
    sl_close

/-- A trip that takes the switch's second branch: the pieces it writes into the output block, and that it leaves
    everything else as it was. -/
def trip1 (k : Fin k0_t1_loop.trips) (h1 : k0_cond1 k = 1#1) (h2 : ¬(k0_cond2 k = 1#1)) (X2 : Bf (F := F) c arg2) (X3 : Bf (F := F) c arg3) (X5 : Bf (F := F) c arg5) (X6 : Bf (F := F) c arg6) (X7 : Bf (F := F) c arg7) (X9 : Bf (F := F) c arg9) :
    { L : List (View.Piece (Elt F) S4096x256 .bf16) // ∀ (f : Bf (F := F) c arg8),
      TripRes c arg2 arg3 arg5 arg6 arg7 arg8 arg9 X2 X3 X5 X6 X7 X9 f
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 v0 v1 k ())
          (fun _ => TripRes c arg2 arg3 arg5 arg6 arg7 arg8 arg9 X2 X3 X5 X6 X7 X9 (arg8.view.writes (Elt F) f L)) } := by
  refine ⟨?_, fun f => ?run⟩
  case run =>
    unfold k0_t1_body
    iintro ⟨H2, H3, H5, H6, H7, H9, H8⟩
    sl_exec
    sl_step
    sl_close

/-- A trip that takes the switch's third branch: the pieces it writes into the output block, and that it leaves
    everything else as it was. -/
def trip2 (k : Fin k0_t1_loop.trips) (h1 : k0_cond1 k = 1#1) (h2 : k0_cond2 k = 1#1) (h3 : ¬(k0_cond3 k = 1#1)) (X2 : Bf (F := F) c arg2) (X3 : Bf (F := F) c arg3) (X5 : Bf (F := F) c arg5) (X6 : Bf (F := F) c arg6) (X7 : Bf (F := F) c arg7) (X9 : Bf (F := F) c arg9) :
    { L : List (View.Piece (Elt F) S4096x256 .bf16) // ∀ (f : Bf (F := F) c arg8),
      TripRes c arg2 arg3 arg5 arg6 arg7 arg8 arg9 X2 X3 X5 X6 X7 X9 f
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 v0 v1 k ())
          (fun _ => TripRes c arg2 arg3 arg5 arg6 arg7 arg8 arg9 X2 X3 X5 X6 X7 X9 (arg8.view.writes (Elt F) f L)) } := by
  refine ⟨?_, fun f => ?run⟩
  case run =>
    unfold k0_t1_body
    iintro ⟨H2, H3, H5, H6, H7, H9, H8⟩
    sl_exec
    sl_step
    sl_close

/-- A trip that takes the switch's fourth branch: the pieces it writes into the output block, and that it leaves
    everything else as it was. -/
def trip3 (k : Fin k0_t1_loop.trips) (h1 : k0_cond1 k = 1#1) (h2 : k0_cond2 k = 1#1) (h3 : k0_cond3 k = 1#1) (h4 : ¬(k0_cond4 k = 1#1)) (X2 : Bf (F := F) c arg2) (X3 : Bf (F := F) c arg3) (X5 : Bf (F := F) c arg5) (X6 : Bf (F := F) c arg6) (X7 : Bf (F := F) c arg7) (X9 : Bf (F := F) c arg9) :
    { L : List (View.Piece (Elt F) S4096x256 .bf16) // ∀ (f : Bf (F := F) c arg8),
      TripRes c arg2 arg3 arg5 arg6 arg7 arg8 arg9 X2 X3 X5 X6 X7 X9 f
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 v0 v1 k ())
          (fun _ => TripRes c arg2 arg3 arg5 arg6 arg7 arg8 arg9 X2 X3 X5 X6 X7 X9 (arg8.view.writes (Elt F) f L)) } := by
  refine ⟨?_, fun f => ?run⟩
  case run =>
    unfold k0_t1_body
    iintro ⟨H2, H3, H5, H6, H7, H9, H8⟩
    sl_exec
    sl_step
    sl_close

/-- A trip that takes the switch's fifth branch: the pieces it writes into the output block, and that it leaves
    everything else as it was. -/
def trip4 (k : Fin k0_t1_loop.trips) (h1 : k0_cond1 k = 1#1) (h2 : k0_cond2 k = 1#1) (h3 : k0_cond3 k = 1#1) (h4 : k0_cond4 k = 1#1) (h5 : ¬(k0_cond5 k = 1#1)) (X2 : Bf (F := F) c arg2) (X3 : Bf (F := F) c arg3) (X5 : Bf (F := F) c arg5) (X6 : Bf (F := F) c arg6) (X7 : Bf (F := F) c arg7) (X9 : Bf (F := F) c arg9) :
    { L : List (View.Piece (Elt F) S4096x256 .bf16) // ∀ (f : Bf (F := F) c arg8),
      TripRes c arg2 arg3 arg5 arg6 arg7 arg8 arg9 X2 X3 X5 X6 X7 X9 f
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 v0 v1 k ())
          (fun _ => TripRes c arg2 arg3 arg5 arg6 arg7 arg8 arg9 X2 X3 X5 X6 X7 X9 (arg8.view.writes (Elt F) f L)) } := by
  refine ⟨?_, fun f => ?run⟩
  case run =>
    unfold k0_t1_body
    iintro ⟨H2, H3, H5, H6, H7, H9, H8⟩
    sl_exec
    sl_step
    sl_close

/-- A trip that takes the switch's sixth branch: the pieces it writes into the output block, and that it leaves
    everything else as it was. -/
def trip5 (k : Fin k0_t1_loop.trips) (h1 : k0_cond1 k = 1#1) (h2 : k0_cond2 k = 1#1) (h3 : k0_cond3 k = 1#1) (h4 : k0_cond4 k = 1#1) (h5 : k0_cond5 k = 1#1) (h6 : ¬(k0_cond6 k = 1#1)) (X2 : Bf (F := F) c arg2) (X3 : Bf (F := F) c arg3) (X5 : Bf (F := F) c arg5) (X6 : Bf (F := F) c arg6) (X7 : Bf (F := F) c arg7) (X9 : Bf (F := F) c arg9) :
    { L : List (View.Piece (Elt F) S4096x256 .bf16) // ∀ (f : Bf (F := F) c arg8),
      TripRes c arg2 arg3 arg5 arg6 arg7 arg8 arg9 X2 X3 X5 X6 X7 X9 f
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 v0 v1 k ())
          (fun _ => TripRes c arg2 arg3 arg5 arg6 arg7 arg8 arg9 X2 X3 X5 X6 X7 X9 (arg8.view.writes (Elt F) f L)) } := by
  refine ⟨?_, fun f => ?run⟩
  case run =>
    unfold k0_t1_body
    iintro ⟨H2, H3, H5, H6, H7, H9, H8⟩
    sl_exec
    sl_step
    sl_close

/-- A trip that takes the switch's seventh branch: the pieces it writes into the output block, and that it leaves
    everything else as it was. -/
def trip6 (k : Fin k0_t1_loop.trips) (h1 : k0_cond1 k = 1#1) (h2 : k0_cond2 k = 1#1) (h3 : k0_cond3 k = 1#1) (h4 : k0_cond4 k = 1#1) (h5 : k0_cond5 k = 1#1) (h6 : k0_cond6 k = 1#1) (h7 : ¬(k0_cond7 k = 1#1)) (X2 : Bf (F := F) c arg2) (X3 : Bf (F := F) c arg3) (X5 : Bf (F := F) c arg5) (X6 : Bf (F := F) c arg6) (X7 : Bf (F := F) c arg7) (X9 : Bf (F := F) c arg9) :
    { L : List (View.Piece (Elt F) S4096x256 .bf16) // ∀ (f : Bf (F := F) c arg8),
      TripRes c arg2 arg3 arg5 arg6 arg7 arg8 arg9 X2 X3 X5 X6 X7 X9 f
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 v0 v1 k ())
          (fun _ => TripRes c arg2 arg3 arg5 arg6 arg7 arg8 arg9 X2 X3 X5 X6 X7 X9 (arg8.view.writes (Elt F) f L)) } := by
  refine ⟨?_, fun f => ?run⟩
  case run =>
    unfold k0_t1_body
    iintro ⟨H2, H3, H5, H6, H7, H9, H8⟩
    sl_exec
    sl_step
    sl_close

/-- A trip that takes the switch's eighth branch: the pieces it writes into the output block, and that it leaves
    everything else as it was. -/
def trip7 (k : Fin k0_t1_loop.trips) (h1 : k0_cond1 k = 1#1) (h2 : k0_cond2 k = 1#1) (h3 : k0_cond3 k = 1#1) (h4 : k0_cond4 k = 1#1) (h5 : k0_cond5 k = 1#1) (h6 : k0_cond6 k = 1#1) (h7 : k0_cond7 k = 1#1) (X2 : Bf (F := F) c arg2) (X3 : Bf (F := F) c arg3) (X5 : Bf (F := F) c arg5) (X6 : Bf (F := F) c arg6) (X7 : Bf (F := F) c arg7) (X9 : Bf (F := F) c arg9) :
    { L : List (View.Piece (Elt F) S4096x256 .bf16) // ∀ (f : Bf (F := F) c arg8),
      TripRes c arg2 arg3 arg5 arg6 arg7 arg8 arg9 X2 X3 X5 X6 X7 X9 f
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 v0 v1 k ())
          (fun _ => TripRes c arg2 arg3 arg5 arg6 arg7 arg8 arg9 X2 X3 X5 X6 X7 X9 (arg8.view.writes (Elt F) f L)) } := by
  refine ⟨?_, fun f => ?run⟩
  case run =>
    unfold k0_t1_body
    iintro ⟨H2, H3, H5, H6, H7, H9, H8⟩
    sl_exec
    sl_step
    sl_close

/-- A trip, whichever branch it takes: the branch number is decided by the seven printed conditions in turn. -/
@[irreducible] def trip (k : Fin k0_t1_loop.trips) (X2 : Bf (F := F) c arg2) (X3 : Bf (F := F) c arg3) (X5 : Bf (F := F) c arg5) (X6 : Bf (F := F) c arg6) (X7 : Bf (F := F) c arg7) (X9 : Bf (F := F) c arg9) :
    { L : List (View.Piece (Elt F) S4096x256 .bf16) // ∀ (f : Bf (F := F) c arg8),
      TripRes c arg2 arg3 arg5 arg6 arg7 arg8 arg9 X2 X3 X5 X6 X7 X9 f
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 v0 v1 k ())
          (fun _ => TripRes c arg2 arg3 arg5 arg6 arg7 arg8 arg9 X2 X3 X5 X6 X7 X9 (arg8.view.writes (Elt F) f L)) } :=
  if h1 : k0_cond1 k = 1#1 then
  if h2 : k0_cond2 k = 1#1 then
  if h3 : k0_cond3 k = 1#1 then
  if h4 : k0_cond4 k = 1#1 then
  if h5 : k0_cond5 k = 1#1 then
  if h6 : k0_cond6 k = 1#1 then
  if h7 : k0_cond7 k = 1#1 then
  trip7 c i arg2 harg2 arg3 harg3 arg4 harg4 arg5 harg5 arg6 harg6 arg7 harg7 arg8 harg8 arg9 harg9 v0 v1 k h1 h2 h3 h4 h5 h6 h7 X2 X3 X5 X6 X7 X9
  else trip6 c i arg2 harg2 arg3 harg3 arg4 harg4 arg5 harg5 arg6 harg6 arg7 harg7 arg8 harg8 arg9 harg9 v0 v1 k h1 h2 h3 h4 h5 h6 h7 X2 X3 X5 X6 X7 X9
  else trip5 c i arg2 harg2 arg3 harg3 arg4 harg4 arg5 harg5 arg6 harg6 arg7 harg7 arg8 harg8 arg9 harg9 v0 v1 k h1 h2 h3 h4 h5 h6 X2 X3 X5 X6 X7 X9
  else trip4 c i arg2 harg2 arg3 harg3 arg4 harg4 arg5 harg5 arg6 harg6 arg7 harg7 arg8 harg8 arg9 harg9 v0 v1 k h1 h2 h3 h4 h5 X2 X3 X5 X6 X7 X9
  else trip3 c i arg2 harg2 arg3 harg3 arg4 harg4 arg5 harg5 arg6 harg6 arg7 harg7 arg8 harg8 arg9 harg9 v0 v1 k h1 h2 h3 h4 X2 X3 X5 X6 X7 X9
  else trip2 c i arg2 harg2 arg3 harg3 arg4 harg4 arg5 harg5 arg6 harg6 arg7 harg7 arg8 harg8 arg9 harg9 v0 v1 k h1 h2 h3 X2 X3 X5 X6 X7 X9
  else trip1 c i arg2 harg2 arg3 harg3 arg4 harg4 arg5 harg5 arg6 harg6 arg7 harg7 arg8 harg8 arg9 harg9 v0 v1 k h1 h2 X2 X3 X5 X6 X7 X9
  else trip0 c i arg2 harg2 arg3 harg3 arg4 harg4 arg5 harg5 arg6 harg6 arg7 harg7 arg8 harg8 arg9 harg9 v0 v1 k h1 X2 X3 X5 X6 X7 X9

end

end Cert.Proof.Fox

end
-- ==== Proof.Run.lean ====
/- The loop over the query blocks and the whole kernel body, from one trip. -/
module

public import proofs.«01_k».proof.Proof.Trips

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F]

local notation "𝕄" => MT nD τ sig Unit (Elt F) ℕ (UR sig nD τ) ℕ

section
variable (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S2x1x4096 .f32) (harg6 : arg6.IsWhole) (arg7 : Memref sig .tc .vmem S4096x16 .f32) (harg7 : arg7.IsWhole) (arg8 : Memref sig .tc .vmem S4096x256 .bf16) (harg8 : arg8.IsWhole) (arg9 : Memref sig .tc .vmem S4096x512 .bf16) (harg9 : arg9.IsWhole) (v0 : BitVec 32) (v1 : IVec S256x16 32)

/-- The pieces the trips before trip `k` write into the output block, the last written first. -/
def pcs (X2 : Bf (F := F) c arg2) (X3 : Bf (F := F) c arg3) (X5 : Bf (F := F) c arg5) (X6 : Bf (F := F) c arg6) (X7 : Bf (F := F) c arg7) (X9 : Bf (F := F) c arg9) : ℕ → List (View.Piece (Elt F) S4096x256 .bf16)
  | 0 => []
  | k + 1 => if h : k < k0_t1_loop.trips then (trip c i arg2 harg2 arg3 harg3 arg4 harg4 arg5 harg5 arg6 harg6 arg7 harg7 arg8 harg8 arg9 harg9 v0 v1 ⟨k, h⟩ X2 X3 X5 X6 X7 X9).1 ++ pcs X2 X3 X5 X6 X7 X9 k else pcs X2 X3 X5 X6 X7 X9 k

/-- One trip's pieces go in front of the earlier ones. -/
theorem pcs_succ (X2 : Bf (F := F) c arg2) (X3 : Bf (F := F) c arg3) (X5 : Bf (F := F) c arg5) (X6 : Bf (F := F) c arg6) (X7 : Bf (F := F) c arg7) (X9 : Bf (F := F) c arg9) (k : Fin k0_t1_loop.trips) :
    pcs c i arg2 harg2 arg3 harg3 arg4 harg4 arg5 harg5 arg6 harg6 arg7 harg7 arg8 harg8 arg9 harg9 v0 v1 X2 X3 X5 X6 X7 X9 (k.val + 1) = (trip c i arg2 harg2 arg3 harg3 arg4 harg4 arg5 harg5 arg6 harg6 arg7 harg7 arg8 harg8 arg9 harg9 v0 v1 k X2 X3 X5 X6 X7 X9).1 ++ pcs c i arg2 harg2 arg3 harg3 arg4 harg4 arg5 harg5 arg6 harg6 arg7 harg7 arg8 harg8 arg9 harg9 v0 v1 X2 X3 X5 X6 X7 X9 k.val := by
  rw [pcs.eq_2]; exact dif_pos k.isLt

/-- The loop's invariant before trip `k`: the inputs and the scratch unchanged, and the output block as the loop found
    it with the earlier trips' pieces written over. -/
abbrev loopAt (X2 : Bf (F := F) c arg2) (X3 : Bf (F := F) c arg3) (X5 : Bf (F := F) c arg5) (X6 : Bf (F := F) c arg6) (X7 : Bf (F := F) c arg7) (X9 : Bf (F := F) c arg9) (G8 : Bf (F := F) c arg8) (k : ℕ) : sProp 𝕄 :=
  iprop(pt c arg2 X2 ∗ pt c arg3 X3 ∗ pt c arg5 X5 ∗ pt c arg6 X6 ∗ pt c arg7 X7 ∗ pt c arg9 X9
    ∗ ∃ f, pt c arg8 f ∗ ⌜f = arg8.view.writes (Elt F) G8 (pcs c i arg2 harg2 arg3 harg3 arg4 harg4 arg5 harg5 arg6 harg6 arg7 harg7 arg8 harg8 arg9 harg9 v0 v1 X2 X3 X5 X6 X7 X9 k)⌝)

set_option warn.classDefReducibility false in
/-- The loop over the query blocks runs by that invariant. -/
@[sl_loop] def rowLoop (X2 : Bf (F := F) c arg2) (X3 : Bf (F := F) c arg3) (X5 : Bf (F := F) c arg5) (X6 : Bf (F := F) c arg6) (X7 : Bf (F := F) c arg7) (X9 : Bf (F := F) c arg9) (G8 : Bf (F := F) c arg8) :
    LoopInvTy_k0_t1 (F := F) Unit ℕ (UR sig nD τ) ℕ Variants.none c none Set.univ i arg2 harg2 arg3 harg3 arg4 harg4 arg5 harg5 arg6 harg6 arg7 harg7 arg8 harg8 arg9 harg9 v0 v1 where
  inv k _ := loopAt c i arg2 harg2 arg3 harg3 arg4 harg4 arg5 harg5 arg6 harg6 arg7 harg7 arg8 harg8 arg9 harg9 v0 v1 X2 X3 X5 X6 X7 X9 G8 k
  step k _ := by
    iintro ⟨H2, H3, H5, H6, H7, H9, %f, H8, %hf⟩
    subst hf
    iapply (wp_wand_r Idealize.ShloMosaic.frame (wpE (defs₀ (F := F)) Variants.none (c : Thread nD τ) none) Set.univ)
    isplitl [H2 H3 H5 H6 H7 H9 H8]
    · iapply ((trip c i arg2 harg2 arg3 harg3 arg4 harg4 arg5 harg5 arg6 harg6 arg7 harg7 arg8 harg8 arg9 harg9 v0 v1 k X2 X3 X5 X6 X7 X9).2 _)
      isplitl [H2]; · iexact H2
      isplitl [H3]; · iexact H3
      isplitl [H5]; · iexact H5
      isplitl [H6]; · iexact H6
      isplitl [H7]; · iexact H7
      isplitl [H9]; · iexact H9
      iexact H8
    · iintro %_ ⟨H2, H3, H5, H6, H7, H9, H8⟩
      isplitl [H2]; · iexact H2
      isplitl [H3]; · iexact H3
      isplitl [H5]; · iexact H5
      isplitl [H6]; · iexact H6
      isplitl [H7]; · iexact H7
      isplitl [H9]; · iexact H9
      iexists _
      isplitl [H8]; · iexact H8
      ipureintro
      rw [pcs_succ, ← View.writes_append]

end

section
variable (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S2x1x4096 .f32) (harg6 : arg6.IsWhole) (arg7 : Memref sig .tc .vmem S4096x16 .f32) (harg7 : arg7.IsWhole) (arg8 : Memref sig .tc .vmem S4096x256 .bf16) (harg8 : arg8.IsWhole) (arg9 : Memref sig .tc .vmem S4096x512 .bf16) (harg9 : arg9.IsWhole)

/-- The whole body, on any buffers: it leaves the inputs as they were, writes the pieces it finds into the output
    block, and leaves something in the scratch. -/
def bodyRun (X2 : Bf (F := F) c arg2) (X3 : Bf (F := F) c arg3) (X4 : Bf (F := F) c arg4) (X5 : Bf (F := F) c arg5) (X6 : Bf (F := F) c arg6) (X7 : Bf (F := F) c arg7) :
    { L : List (View.Piece (Elt F) S4096x256 .bf16) // ∀ (G8 : Bf (F := F) c arg8) (G9 : Bf (F := F) c arg9),
      iprop(pt c arg2 X2 ∗ pt c arg3 X3 ∗ pt c arg4 X4 ∗ pt c arg5 X5 ∗ pt c arg6 X6 ∗ pt c arg7 X7 ∗ pt c arg8 G8 ∗ pt c arg9 G9)
      ⊢ wp frame (wpE (defs₀ (F := F)) Variants.none (c : Thread nD τ) none) Set.univ (cc0_fox_attention (F := F) i arg2 harg2 arg3 harg3 arg4 harg4 arg5 harg5 arg6 harg6 arg7 harg7 arg8 harg8 arg9 harg9)
          (fun _ => iprop(pt c arg2 X2 ∗ pt c arg3 X3 ∗ pt c arg4 X4 ∗ pt c arg5 X5 ∗ pt c arg6 X6 ∗ pt c arg7 X7
            ∗ pt c arg8 (arg8.view.writes (Elt F) G8 L) ∗ ∃ f, pt c arg9 f)) } := by
  refine ⟨?_, fun G8 G9 => ?run⟩
  case run =>
    rw [cc0_fox_attention_eq_skeleton]; unfold cc0_fox_attention_skel
    iintro ⟨H2, H3, H4, H5, H6, H7, H8, H9⟩
    sl_exec
    sl_step
    sl_close

end

end Cert.Proof.Fox

end
-- ==== Proof.Cover.lean ====
/- Where the pieces of a trip lie: one band of 256 rows, cut into the two heads' halves; all trips cover the block. -/
module

public import proofs.«01_k».proof.Proof.Run

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F]

local notation "𝕄" => MT nD τ sig Unit (Elt F) ℕ (UR sig nD τ) ℕ

/-- A list of pieces is one band: rows `256 k` to `256 k + 255`, the second head's columns holding `w1`, the first
    head's holding `w0`. -/
def IsBand (k : ℕ) (L : List (View.Piece (Elt F) S4096x256 .bf16)) (w0 w1 : S256x128.Idx → Elt F .bf16) : Prop :=
  ∃ (o1 o0 : Fin 2 → ℕ) (h1 : ∀ a, o1 a + S256x128.size a ≤ S4096x256.size a) (h0 : ∀ a, o0 a + S256x128.size a ≤ S4096x256.size a),
    o1 = ![256 * k, 128] ∧ o0 = ![256 * k, 0]
      ∧ L = [⟨Rect.unit (s := S4096x256) o1 S256x128.size h1, w1⟩, ⟨Rect.unit (s := S4096x256) o0 S256x128.size h0, w0⟩]

/-- A band covers its rows. -/
theorem IsBand.cover {k : ℕ} {L : List (View.Piece (Elt F) S4096x256 .bf16)} {w0 w1 : S256x128.Idx → Elt F .bf16}
    (h : IsBand k L w0 w1) (y : S4096x256.Idx) (h0 : 256 * k ≤ (y 0).val) (h1 : (y 0).val < 256 * (k + 1)) :
    ∃ p ∈ L, y ∈ p.1.set := by
  obtain ⟨o1, o0, i1, i0, e1, e0, rfl⟩ := h
  subst e1 e0
  have hy : (y 1).val < 256 := (y 1).isLt
  by_cases hc : (y 1).val < 128
  · refine ⟨⟨Rect.unit (s := S4096x256) ![256 * k, 0] S256x128.size i0, w0⟩, List.mem_cons_of_mem _ List.mem_cons_self, ?_⟩
    refine (Rect.mem_set_unit (inb := i0)).mpr fun a => ?_
    match a with
    | ⟨0, _⟩ => exact ⟨h0, by show (y 0).val < 256 * k + 256; omega⟩
    | ⟨1, _⟩ => exact ⟨Nat.zero_le _, by show (y 1).val < 0 + 128; omega⟩
  · refine ⟨⟨Rect.unit (s := S4096x256) ![256 * k, 128] S256x128.size i1, w1⟩, List.mem_cons_self, ?_⟩
    refine (Rect.mem_set_unit (inb := i1)).mpr fun a => ?_
    match a with
    | ⟨0, _⟩ => exact ⟨h0, by show (y 0).val < 256 * k + 256; omega⟩
    | ⟨1, _⟩ => exact ⟨by show 128 ≤ (y 1).val; omega, by show (y 1).val < 128 + 128; omega⟩

section
variable (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S2x1x4096 .f32) (harg6 : arg6.IsWhole) (arg7 : Memref sig .tc .vmem S4096x16 .f32) (harg7 : arg7.IsWhole) (arg8 : Memref sig .tc .vmem S4096x256 .bf16) (harg8 : arg8.IsWhole) (arg9 : Memref sig .tc .vmem S4096x512 .bf16) (harg9 : arg9.IsWhole) (v0 : BitVec 32) (v1 : IVec S256x16 32)

variable (X2 : Bf (F := F) c arg2) (X3 : Bf (F := F) c arg3) (X5 : Bf (F := F) c arg5) (X6 : Bf (F := F) c arg6) (X7 : Bf (F := F) c arg7) (X9 : Bf (F := F) c arg9) (k : Fin k0_t1_loop.trips)

/-- Every trip, whichever branch it takes, writes one band: its own. -/
theorem trip_band : ∃ w0 w1, IsBand k.val (trip c i arg2 harg2 arg3 harg3 arg4 harg4 arg5 harg5 arg6 harg6 arg7 harg7 arg8 harg8 arg9 harg9 v0 v1 k X2 X3 X5 X6 X7 X9).1 w0 w1 := by
  unfold trip
  by_cases h1 : k0_cond1 k = 1#1
  rotate_left
  · simp only [h1, ↓reduceDIte]
    exact ⟨_, _, _, _, _, _, k0_off109_eq k, k0_off108_eq k, rfl⟩
  by_cases h2 : k0_cond2 k = 1#1
  rotate_left
  · simp only [h1, h2, ↓reduceDIte]
    exact ⟨_, _, _, _, _, _, k0_off101_eq k, k0_off100_eq k, rfl⟩
  by_cases h3 : k0_cond3 k = 1#1
  rotate_left
  · simp only [h1, h2, h3, ↓reduceDIte]
    exact ⟨_, _, _, _, _, _, k0_off93_eq k, k0_off92_eq k, rfl⟩
  by_cases h4 : k0_cond4 k = 1#1
  rotate_left
  · simp only [h1, h2, h3, h4, ↓reduceDIte]
    exact ⟨_, _, _, _, _, _, k0_off85_eq k, k0_off84_eq k, rfl⟩
  by_cases h5 : k0_cond5 k = 1#1
  rotate_left
  · simp only [h1, h2, h3, h4, h5, ↓reduceDIte]
    exact ⟨_, _, _, _, _, _, k0_off71_eq k, k0_off70_eq k, rfl⟩
  by_cases h6 : k0_cond6 k = 1#1
  rotate_left
  · simp only [h1, h2, h3, h4, h5, h6, ↓reduceDIte]
    exact ⟨_, _, _, _, _, _, k0_off57_eq k, k0_off56_eq k, rfl⟩
  by_cases h7 : k0_cond7 k = 1#1
  rotate_left
  · simp only [h1, h2, h3, h4, h5, h6, h7, ↓reduceDIte]
    exact ⟨_, _, _, _, _, _, k0_off43_eq k, k0_off42_eq k, rfl⟩
  simp only [h1, h2, h3, h4, h5, h6, h7, ↓reduceDIte]
  exact ⟨_, _, _, _, _, _, k0_off29_eq k, k0_off28_eq k, rfl⟩

/-- The first `n` trips cover the first `256 n` rows. -/
theorem pcs_cover_rows (n : ℕ) (hn : n ≤ k0_t1_loop.trips) (y : S4096x256.Idx) (hy : (y 0).val < 256 * n) :
    ∃ p ∈ pcs c i arg2 harg2 arg3 harg3 arg4 harg4 arg5 harg5 arg6 harg6 arg7 harg7 arg8 harg8 arg9 harg9 v0 v1 X2 X3 X5 X6 X7 X9 n, y ∈ p.1.set := by
  induction n with
  | zero => omega
  | succ n ih =>
    rw [pcs_succ c i arg2 harg2 arg3 harg3 arg4 harg4 arg5 harg5 arg6 harg6 arg7 harg7 arg8 harg8 arg9 harg9 v0 v1 X2 X3 X5 X6 X7 X9 ⟨n, hn⟩]
    by_cases h : (y 0).val < 256 * n
    · obtain ⟨p, hp, hm⟩ := ih (Nat.le_of_succ_le hn) h
      exact ⟨p, List.mem_append_right _ hp, hm⟩
    · obtain ⟨w0, w1, hb⟩ := trip_band c i arg2 harg2 arg3 harg3 arg4 harg4 arg5 harg5 arg6 harg6 arg7 harg7 arg8 harg8 arg9 harg9 v0 v1 X2 X3 X5 X6 X7 X9 ⟨n, hn⟩
      obtain ⟨p, hp, hm⟩ := hb.cover y (not_lt.mp h) hy
      exact ⟨p, List.mem_append_left _ hp, hm⟩

end

/-- The loop runs sixteen times. -/
theorem trips_eq : k0_t1_loop.trips = 16 := by decide

/-- What the body writes into the output block covers it. -/
theorem bodyRun_cover (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S2x1x4096 .f32) (harg6 : arg6.IsWhole) (arg7 : Memref sig .tc .vmem S4096x16 .f32) (harg7 : arg7.IsWhole) (arg8 : Memref sig .tc .vmem S4096x256 .bf16) (harg8 : arg8.IsWhole) (arg9 : Memref sig .tc .vmem S4096x512 .bf16) (harg9 : arg9.IsWhole)
    (X2 : Bf (F := F) c arg2) (X3 : Bf (F := F) c arg3) (X4 : Bf (F := F) c arg4) (X5 : Bf (F := F) c arg5) (X6 : Bf (F := F) c arg6) (X7 : Bf (F := F) c arg7) (y : S4096x256.Idx) :
    ∃ p ∈ (bodyRun c i arg2 harg2 arg3 harg3 arg4 harg4 arg5 harg5 arg6 harg6 arg7 harg7 arg8 harg8 arg9 harg9 X2 X3 X4 X5 X6 X7).1, y ∈ p.1.set :=
  pcs_cover_rows (hn := le_refl _) (hy := by
    have h : (y 0).val < 4096 := (y 0).isLt
    rw [trips_eq]; exact h) ..

end Cert.Proof.Fox

end
-- ==== Proof.Frame.lean ====
/- The run of the whole program: every window's block at every grid point, the launch, and the frame. -/
module

public import proofs.«01_k».proof.Proof.Cover
public import Idealize.ShloMosaic.Lib.Pipeline.TableIdle
public import Idealize.ShloMosaic.Lib.Claim

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F]

local notation "𝕄" => MT nD τ sig Unit (Elt F) ℕ (UR sig nD τ) ℕ
/-- Window 0's staging buffer at point `t`. -/
abbrev ms0 (t : Fin cfg0.N) : Memref sig .tc .vmem S4096x256 .bf16 := win0_0.stage (cfg0.slots t 0)
/-- It is a whole buffer. -/
abbrev hs0 (t : Fin cfg0.N) : (ms0 t).IsWhole := hstage0_0 ((cfg0.slots t 0).cast nbuf0_0)
/-- Window 1's staging buffer at point `t`. -/
abbrev ms1 (t : Fin cfg0.N) : Memref sig .tc .vmem S4096x256 .bf16 := win0_1.stage (cfg0.slots t 1)
/-- It is a whole buffer. -/
abbrev hs1 (t : Fin cfg0.N) : (ms1 t).IsWhole := hstage0_1 ((cfg0.slots t 1).cast nbuf0_1)
/-- Window 2's staging buffer at point `t`. -/
abbrev ms2 (t : Fin cfg0.N) : Memref sig .tc .vmem S4096x256 .bf16 := win0_2.stage (cfg0.slots t 2)
/-- It is a whole buffer. -/
abbrev hs2 (t : Fin cfg0.N) : (ms2 t).IsWhole := hstage0_2 ((cfg0.slots t 2).cast nbuf0_2)
/-- Window 3's staging buffer at point `t`. -/
abbrev ms3 (t : Fin cfg0.N) : Memref sig .tc .vmem S4096x256 .bf16 := win0_3.stage (cfg0.slots t 3)
/-- It is a whole buffer. -/
abbrev hs3 (t : Fin cfg0.N) : (ms3 t).IsWhole := hstage0_3 ((cfg0.slots t 3).cast nbuf0_3)
/-- Window 4's staging buffer at point `t`. -/
abbrev ms4 (t : Fin cfg0.N) : Memref sig .tc .vmem S2x1x4096 .f32 := win0_4.stage (cfg0.slots t 4)
/-- It is a whole buffer. -/
abbrev hs4 (t : Fin cfg0.N) : (ms4 t).IsWhole := hstage0_4 ((cfg0.slots t 4).cast nbuf0_4)
/-- Window 5's staging buffer at point `t`. -/
abbrev ms5 (t : Fin cfg0.N) : Memref sig .tc .vmem S4096x16 .f32 := win0_5.stage (cfg0.slots t 5)
/-- It is a whole buffer. -/
abbrev hs5 (t : Fin cfg0.N) : (ms5 t).IsWhole := hstage0_5 ((cfg0.slots t 5).cast nbuf0_5)
/-- Window 6's staging buffer at point `t`. -/
abbrev ms6 (t : Fin cfg0.N) : Memref sig .tc .vmem S4096x256 .bf16 := win0_6.stage (cfg0.slots t 6)
/-- It is a whole buffer. -/
abbrev hs6 (t : Fin cfg0.N) : (ms6 t).IsWhole := hstage0_6 ((cfg0.slots t 6).cast nbuf0_6)
/-- The scratch. -/
abbrev scM : Memref sig .tc .vmem S4096x512 .bf16 := Memref.whole cc0_scratch0

variable (m : (ℓ : Loc nD τ sig) → Buf (Elt F) ℓ) (ρ : Dev nD → PrngReg)

/-- The body's run at grid point `t`, on the blocks the windows bring there. -/
abbrev runAt (c : Dev nD) (t : Fin cfg0.N) :=
  bodyRun c (grid0.coords t) (ms0 t) (hs0 t) (ms1 t) (hs1 t) (ms2 t) (hs2 t) (ms3 t) (hs3 t) (ms4 t) (hs4 t) (ms5 t) (hs5 t) (ms6 t) (hs6 t) scM (Memref.isWhole_whole _)
    ((ms0 t).view.rep (iblk m c 0 t)) ((ms1 t).view.rep (iblk m c 1 t)) ((ms2 t).view.rep (iblk m c 2 t)) ((ms3 t).view.rep (iblk m c 3 t)) ((ms4 t).view.rep (iblk m c 4 t)) ((ms5 t).view.rep (iblk m c 5 t))

/-- The output block after the body at point `t`: the pieces it writes, which cover the block. -/
def outAt (c : Dev nD) (t : Fin cfg0.N) : Vec F S4096x256 .bf16 := View.canon (runAt m c t).1

/-- The proof data: the arrays as the host code leaves them, every input's block in place after the body, the output's
    block at `outAt`; the scratch and the generator register are the invariant; the four windows on one array share it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q w := Pipeline.shareOf spec0 w
  owed _ := 0

/-- The arrays of the proof data are those the region finds. -/
theorem A_eq (c : Dev nD) (w : Fin cfg0.W) : (dats m 0 c).A w = V m c (Pipeline.arrRef spec0 w) := by
  dsimp only [dats]

/-- What the body leaves in window 0. -/
theorem after0 (c : Dev nD) (t : Fin cfg0.N) : (dats m 0 c).after 0 t = iblk m c 0 t := by dsimp only [dats]
/-- What the body leaves in window 1. -/
theorem after1 (c : Dev nD) (t : Fin cfg0.N) : (dats m 0 c).after 1 t = iblk m c 1 t := by dsimp only [dats]
/-- What the body leaves in window 2. -/
theorem after2 (c : Dev nD) (t : Fin cfg0.N) : (dats m 0 c).after 2 t = iblk m c 2 t := by dsimp only [dats]
/-- What the body leaves in window 3. -/
theorem after3 (c : Dev nD) (t : Fin cfg0.N) : (dats m 0 c).after 3 t = iblk m c 3 t := by dsimp only [dats]
/-- What the body leaves in window 4. -/
theorem after4 (c : Dev nD) (t : Fin cfg0.N) : (dats m 0 c).after 4 t = iblk m c 4 t := by dsimp only [dats]
/-- What the body leaves in window 5. -/
theorem after5 (c : Dev nD) (t : Fin cfg0.N) : (dats m 0 c).after 5 t = iblk m c 5 t := by dsimp only [dats]
/-- What the body leaves in window 6. -/
theorem after6 (c : Dev nD) (t : Fin cfg0.N) : (dats m 0 c).after 6 t = outAt m c t := by dsimp only [dats]
/-- Window 0 holds its block before the body. -/
theorem before0 (c : Dev nD) (t : Fin cfg0.N) (d) : (dats m 0 c).before 0 t d = iblk m c 0 t :=
  before0_0_of m (dats m 0 c) (A_eq m c 0) (after0 m c) t d
/-- Window 1 holds its block before the body. -/
theorem before1 (c : Dev nD) (t : Fin cfg0.N) (d) : (dats m 0 c).before 1 t d = iblk m c 1 t :=
  before0_1_of m (dats m 0 c) (A_eq m c 1) (after1 m c) t d
/-- Window 2 holds its block before the body. -/
theorem before2 (c : Dev nD) (t : Fin cfg0.N) (d) : (dats m 0 c).before 2 t d = iblk m c 2 t :=
  before0_2_of m (dats m 0 c) (A_eq m c 2) (after2 m c) t d
/-- Window 3 holds its block before the body. -/
theorem before3 (c : Dev nD) (t : Fin cfg0.N) (d) : (dats m 0 c).before 3 t d = iblk m c 3 t :=
  before0_3_of m (dats m 0 c) (A_eq m c 3) (after3 m c) t d
/-- Window 4 holds its block before the body. -/
theorem before4 (c : Dev nD) (t : Fin cfg0.N) (d) : (dats m 0 c).before 4 t d = iblk m c 4 t :=
  before0_4_of m (dats m 0 c) (A_eq m c 4) (after4 m c) t d
/-- Window 5 holds its block before the body. -/
theorem before5 (c : Dev nD) (t : Fin cfg0.N) (d) : (dats m 0 c).before 5 t d = iblk m c 5 t :=
  before0_5_of m (dats m 0 c) (A_eq m c 5) (after5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- Holding the output block with covering pieces written is owning it at those pieces' contents. -/
theorem owns_pieces (c : Dev nD) (M : Memref sig .tc .vmem S4096x256 .bf16) (L : List (View.Piece (Elt F) S4096x256 .bf16))
    (hL : ∀ y, ∃ p ∈ L, y ∈ p.1.set) (f : Bf (F := F) c M) :
    (pt c M (M.view.writes (Elt F) f L) : sProp 𝕄) ⊢ owns (c : Thread nD τ) M fullShare (View.canon L) := by
  unfold owns
  iintro H
  iexists _
  isplitr
  swap; · iexact H
  ipureintro
  exact View.read_writes_eq_canon _ _ _ hL

/-- Holding a whole buffer is holding the memref of that buffer. -/
theorem whole_pt (c : Dev nD) (f : Bf (F := F) c scM) :
    (((c : Thread nD τ).loc cc0_scratch0) ↦{fullShare} f : sProp 𝕄) = pt c scM f := by
  unfold pt; rw [View.set_whole]

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6]
  unfold Pipeline.ΦA
  rw [scopedRest0_eq]
  iintro ⟨⟨⟨%g9, H9⟩, Hr⟩, Ho, ⟨%d0, H2⟩, ⟨%d1, H3⟩, ⟨%d2, H4⟩, ⟨%d3, H5⟩, ⟨%d4, H6⟩, ⟨%d5, H7⟩, ⟨%d6, H8⟩⟩
  ihave H2' := (rep_of_owns (c : Thread nD τ) (ms0 t) fullShare (iblk m c 0 t)) $$ H2
  ihave H3' := (rep_of_owns (c : Thread nD τ) (ms1 t) fullShare (iblk m c 1 t)) $$ H3
  ihave H4' := (rep_of_owns (c : Thread nD τ) (ms2 t) fullShare (iblk m c 2 t)) $$ H4
  ihave H5' := (rep_of_owns (c : Thread nD τ) (ms3 t) fullShare (iblk m c 3 t)) $$ H5
  ihave H6' := (rep_of_owns (c : Thread nD τ) (ms4 t) fullShare (iblk m c 4 t)) $$ H6
  ihave H7' := (rep_of_owns (c : Thread nD τ) (ms5 t) fullShare (iblk m c 5 t)) $$ H7
  ihave H8' := (rep_of_owns (c : Thread nD τ) (ms6 t) fullShare _) $$ H8
  iapply (wp_wand_r Idealize.ShloMosaic.frame (wpE (defs₀ (F := F)) Variants.none (c : Thread nD τ) none) Set.univ)
  isplitl [H2' H3' H4' H5' H6' H7' H8' H9]
  · iapply ((runAt m c t).2 _ g9)
    isplitl [H2']; · iexact H2'
    isplitl [H3']; · iexact H3'
    isplitl [H4']; · iexact H4'
    isplitl [H5']; · iexact H5'
    isplitl [H6']; · iexact H6'
    isplitl [H7']; · iexact H7'
    isplitl [H8']; · iexact H8'
    ihave H9' := (Entails.of_eq (whole_pt c g9)) $$ H9
    iexact H9'
  · iintro %_ ⟨H2, H3, H4, H5, H6, H7, H8, ⟨%f9, H9⟩⟩
    isplitl [H9 Hr]
    · isplitl [H9]
      · iexists f9
        ihave H9' := (Entails.of_eq (whole_pt c f9).symm) $$ H9
        iexact H9'
      · iexact Hr
    isplitl [Ho]; · iexact Ho
    isplitl [H2]; · iapply (owns_of_rep (c : Thread nD τ) (ms0 t) fullShare (iblk m c 0 t)); iexact H2
    isplitl [H3]; · iapply (owns_of_rep (c : Thread nD τ) (ms1 t) fullShare (iblk m c 1 t)); iexact H3
    isplitl [H4]; · iapply (owns_of_rep (c : Thread nD τ) (ms2 t) fullShare (iblk m c 2 t)); iexact H4
    isplitl [H5]; · iapply (owns_of_rep (c : Thread nD τ) (ms3 t) fullShare (iblk m c 3 t)); iexact H5
    isplitl [H6]; · iapply (owns_of_rep (c : Thread nD τ) (ms4 t) fullShare (iblk m c 4 t)); iexact H6
    isplitl [H7]; · iapply (owns_of_rep (c : Thread nD τ) (ms5 t) fullShare (iblk m c 5 t)); iexact H7
    unfold outAt
    iapply (owns_pieces c (ms6 t) (runAt m c t).1 (fun y => bodyRun_cover (y := y) ..) _)
    iexact H8

/-- The body the pipeline calls at point `t`, as it is written above. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution of the program ends, with every array of the pipeline at what the proof data say, every other
    buffer as the region found it, and every semaphore counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := fun r => (Pipeline.FramePost cfgs (dats m) 0 (V m)) r ∧ r.2.sem = fun _ => 0) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)
    (hQ' := fun _ h => h)

/-- The frame: the program ends, its arguments are unchanged and the counters are zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Fox

end
-- ==== Proof.Model.lean ====
/- The kernel's arithmetic on one block of 256 query rows, for a key tile of any width, and what each step reads at an
   index when the numbers are extended reals. -/
module

public import proofs.«01_k».proof.Defs
public import proofs.«01_k».proof.Proof.Gen.KernelIdeal
public import proofs.«01_k».proof.Proof.Gen.KernelIdeal.Skeleton
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.PureOps.Ideal.Laws

@[expose] public section

noncomputable section

namespace Cert.Proof.Fox

open Cert.KernelIdeal Cert.KernelIdeal.Gen
open Idealize.ShloMosaic Idealize.ShloMosaic.ValueIdx

section Ops
variable {F : FTy → Type} [FloatOps F] [Named F]

/-- The shape facts of the steps at a tile of `w` keys. -/
structure TileFacts (w : ℕ) : Prop where
  cast : (⟨3, ![1, 1, w]⟩ : Shape).ShapeCasts ⟨2, ![1, w]⟩
  row : (⟨2, ![1, w]⟩ : Shape).Broadcasts ⟨2, ![256, w]⟩
  red : (⟨2, ![256, w]⟩ : Shape).Reduces [1] S256
  col : S256x1.Broadcasts ⟨2, ![256, w]⟩

/-- The logits of a tile: query-key products, scaled, less the keys' decay. -/
def logits {w : ℕ} (h : TileFacts w) (q : FVec F S256x128 .bf16) (kk : FVec F ⟨2, ![w, 128]⟩ .bf16)
    (cr : FVec F ⟨3, ![1, 1, w]⟩ .f32) : FVec F ⟨2, ![256, w]⟩ .f32 :=
  subf (mulf (matmul (DotDims.transposedRhs 256 128 w) none q kk (constant ⟨2, ![256, w]⟩ .f32 0x00000000#32))
      (broadcast ⟨2, ![256, w]⟩ (Named.named κ "scale2" 0x3E0293EE#32)))
    (broadcastTo ⟨2, ![256, w]⟩ (shapeCast ⟨2, ![1, w]⟩ cr h.cast) h.row)

/-- Logits with the named −∞ where the mask is off. -/
def masked {w : ℕ} (msk : IVec ⟨2, ![256, w]⟩ 1) (u : FVec F ⟨2, ![256, w]⟩ .f32) : FVec F ⟨2, ![256, w]⟩ .f32 :=
  select msk u (broadcast ⟨2, ![256, w]⟩ (Named.named κ "neg_inf" 0xF149F2CA#32))

/-- The running row maximum after a tile. -/
def newMax {w : ℕ} (h : TileFacts w) (ct m : FVec F S256x1 .f32) (u : FVec F ⟨2, ![256, w]⟩ .f32) : FVec F S256x1 .f32 :=
  maximumf m (addf (shapeCast S256x1 (multiReduction .maximumf [1] S256 u 0xFF800000#32 h.red (.inl rfl) rfl)
    Facts₀.shapeCasts_S256_S256x1) ct)

/-- The running weighted sum after a tile. -/
def newAcc {w : ℕ} (h : TileFacts w) (ct m : FVec F S256x1 .f32) (acc : FVec F S256x256 .f32)
    (u : FVec F ⟨2, ![256, w]⟩ .f32) (vo : FVec F ⟨2, ![w, 256]⟩ .bf16) : FVec F S256x256 .f32 :=
  addf (mulf (broadcastTo S256x256 (exp2 (subf m (newMax h ct m u))) Facts₀.broadcasts_S256x1_S256x256) acc)
    (matmul (DotDims.plain 256 w 256) none
      (truncf .bf16 (exp2 (subf u (broadcastTo ⟨2, ![256, w]⟩ (subf (newMax h ct m u) ct) h.col))) Facts₀.bitsLt_bf16_f32)
      vo (constant S256x256 .f32 0x00000000#32))

/-- The gate of an output block: `g / (1 + exp (0 - g))`. -/
def gate (g : FVec F S256x128 .bf16) : FVec F S256x128 .f32 :=
  divf (extf .f32 g Facts₀.bitsLt_bf16_f32)
    (addf (broadcast S256x128 (Scalar.ofBits .f32 0x3F800000#32))
      (exp (subf (broadcast S256x128 (Scalar.ofBits .f32 0x00000000#32)) (extf .f32 g Facts₀.bitsLt_bf16_f32))))

/-- The block's result: the weighted sum over its normaliser, gated. -/
def finish (gt : FVec F S256x128 .f32) (acc : FVec F S256x256 .f32) : FVec F S256x128 .bf16 :=
  truncf .bf16 (mulf (divf (extractStridedSlice S256x128 ![0, 0] acc Facts₀.slices_S256x256_o0_0_S256x128)
    (extractStridedSlice S256x128 ![0, 128] acc Facts₀.slices_S256x256_o0_128_S256x128)) gt) Facts₀.bitsLt_bf16_f32

/-- The diagonal mask: key `j` is kept for row `r` when `j ≤ r + o`. -/
def diag {w : ℕ} (h₁ : (⟨2, ![256, w]⟩ : Shape).Iotas .tc 32 [1]) (h₀ : (⟨2, ![256, w]⟩ : Shape).Iotas .tc 32 [0]) (o : BitVec 32) :
    IVec ⟨2, ![256, w]⟩ 1 :=
  cmpi .sle (iota .tc ⟨2, ![256, w]⟩ 32 [1] h₁) (addi (iota .tc ⟨2, ![256, w]⟩ 32 [0] h₀) (broadcast ⟨2, ![256, w]⟩ o))

/-- The decay of each row: the column of the block that the head's index picks out. -/
def rowDecay (hd : BitVec 32) (blk : FVec F S256x16 .f32) : FVec F S256x1 .f32 :=
  shapeCast S256x1 (multiReduction .add [1] S256
    (select (cmpi .eq (iota .tc S256x16 32 [1] Facts₀.iota_S256x16_d1_w32) (broadcast S256x16 hd)) blk
      (broadcast S256x16 (Scalar.ofBits .f32 0x00000000#32))) 0x00000000#32 Facts₀.reduces_S256x16_S256 (.inl rfl) rfl)
    Facts₀.shapeCasts_S256_S256x1

end Ops

section Read

/-- An index of one row's columns, as the reduction spells it. -/
theorem lift_row {w : ℕ} (h : (⟨2, ![256, w]⟩ : Shape).Reduces [1] S256) (r : Fin 256) (j : Fin w) :
    h.lift (ix1 r) j = ix2 r j := by
  funext a
  match a with
  | ⟨0, _⟩ => exact Fin.ext rfl
  | ⟨1, _⟩ => exact Fin.ext rfl

/-- A column spread over `w` columns reads its row. -/
theorem col_apply {w : ℕ} {α : Type} (v : S256x1.Idx → α) (h : S256x1.Broadcasts ⟨2, ![256, w]⟩) (r : Fin 256) (j : Fin w) :
    broadcastTo ⟨2, ![256, w]⟩ v h (ix2 r j) = v (ix2 r (0 : Fin 1)) := by
  refine broadcastTo_apply v h (ix2 r j) (ix2 r (0 : Fin 1)) fun ax => ?_
  match ax with
  | ⟨0, _⟩ => rfl
  | ⟨1, _⟩ => rfl

/-- The value of the named scale. -/
theorem named_scale : Named.named (F := Ideal) κ "scale2" (φ := .f32) 0x3E0293EE#32
    = (((Real.log 2)⁻¹ * (Real.sqrt 128)⁻¹ : ℝ) : EReal) := IdealRules.named_const.ideal_named_scalar _ _ _ _ rfl

/-- The value of the named −∞. -/
theorem named_neg_inf : Named.named (F := Ideal) κ "neg_inf" (φ := .f32) 0xF149F2CA#32 = (⊥ : EReal) :=
  IdealRules.named_const.ideal_named_scalar _ _ _ _ rfl

/-- A tile's logit at row `r`, key `j`. -/
theorem logits_apply {w : ℕ} (h : TileFacts w) (q : FVec Ideal S256x128 .bf16) (kk : FVec Ideal ⟨2, ![w, 128]⟩ .bf16)
    (cr : FVec Ideal ⟨3, ![1, 1, w]⟩ .f32) (r : Fin 256) (j : Fin w) :
    logits h q kk cr (ix2 r j)
      = (∑ d : Fin 128, q (ix2 r d) * kk (ix2 j d)) * (((Real.log 2)⁻¹ * (Real.sqrt 128)⁻¹ : ℝ) : EReal)
        - cr (ix3 (0 : Fin 1) (0 : Fin 1) j) := by
  unfold logits
  rw [subf_apply, mulf_apply, broadcastTo_1b_ab_apply, shapeCast_1ab_ab_apply]
  rw [show broadcast (⟨2, ![256, w]⟩ : Shape) (Named.named (F := Ideal) κ "scale2" (φ := .f32) 0x3E0293EE#32) (ix2 r j)
    = (((Real.log 2)⁻¹ * (Real.sqrt 128)⁻¹ : ℝ) : EReal) from named_scale]
  rw [show matmul (DotDims.transposedRhs 256 128 w) none q kk (constant ⟨2, ![256, w]⟩ .f32 0x00000000#32) (ix2 r j)
    = _ from Ideal.matmul_transposedRhs_apply _ _ _ _ _ _]
  rw [constant_apply, Ideal.ofBits_zero_f32, zero_add]

/-- A masked logit. -/
theorem masked_apply {w : ℕ} (msk : IVec ⟨2, ![256, w]⟩ 1) (u : FVec Ideal ⟨2, ![256, w]⟩ .f32) (i : (⟨2, ![256, w]⟩ : Shape).Idx) :
    masked msk u i = if msk i = 1#1 then u i else (⊥ : EReal) := by
  unfold masked
  rw [select_apply, show broadcast (⟨2, ![256, w]⟩ : Shape) (Named.named (F := Ideal) κ "neg_inf" (φ := .f32) 0xF149F2CA#32) i
    = (⊥ : EReal) from named_neg_inf]
  by_cases hm : msk i = 1#1
  · rw [hm, select_one, if_pos rfl]
  · rw [eq_zero_of_ne_one hm, select_zero, if_neg (by decide)]

/-- The bit pattern of −∞. -/
theorem ofBits_neg_inf : Ideal.ofBits .f32 0xFF800000#32 = (⊥ : EReal) := by simp [Ideal.ofBits, Ideal.ieee]

/-- The running maximum at a row. -/
theorem newMax_apply {w : ℕ} (h : TileFacts w) (ct m : FVec Ideal S256x1 .f32) (u : FVec Ideal ⟨2, ![256, w]⟩ .f32) (r : Fin 256) :
    newMax h ct m u (ix2 r (0 : Fin 1))
      = max (m (ix2 r (0 : Fin 1)))
          ((Finset.univ : Finset (Fin w)).fold max (⊥ : EReal) (fun j => u (ix2 r j)) + ct (ix2 r (0 : Fin 1))) := by
  unfold newMax
  rw [maximumf_apply, addf_apply, shapeCast_a_a1_apply]
  refine congrArg (fun x : EReal => max (m (ix2 r (0 : Fin 1))) (x + ct (ix2 r (0 : Fin 1)))) ?_
  refine (Ideal.multiReduction_maximumf_single (s := ⟨2, ![256, w]⟩) (t := S256) (a := 1) u _ h.red (.inl rfl) rfl (ix1 r)).trans ?_
  have e : (u ∘ h.red.lift (ix1 r)) = fun j : Fin w => u (ix2 r j) := funext fun j => congrArg u (lift_row h.red r j)
  exact congrArg₂ (fun (b : EReal) (f : Fin w → EReal) => (Finset.univ : Finset (Fin w)).fold max b f) ofBits_neg_inf e

/-- The running weighted sum at an entry. -/
theorem newAcc_apply {w : ℕ} (h : TileFacts w) (ct m : FVec Ideal S256x1 .f32) (acc : FVec Ideal S256x256 .f32)
    (u : FVec Ideal ⟨2, ![256, w]⟩ .f32) (vo : FVec Ideal ⟨2, ![w, 256]⟩ .bf16) (r d : Fin 256) :
    newAcc h ct m acc u vo (ix2 r d)
      = Ideal.exp2 (m (ix2 r (0 : Fin 1)) - newMax h ct m u (ix2 r (0 : Fin 1))) * acc (ix2 r d)
        + ∑ j : Fin w, Ideal.exp2 (u (ix2 r j) - (newMax h ct m u (ix2 r (0 : Fin 1)) - ct (ix2 r (0 : Fin 1)))) * vo (ix2 j d) := by
  unfold newAcc
  rw [addf_apply, mulf_apply, col_apply (w := 256)]
  rw [show ∀ (l : FVec Ideal ⟨2, ![256, w]⟩ .bf16), matmul (DotDims.plain 256 w 256) none l vo (constant S256x256 .f32 0x00000000#32) (ix2 r d)
    = _ from fun l => Ideal.matmul_plain_apply _ _ _ _ _ _]
  rw [constant_apply, Ideal.ofBits_zero_f32, zero_add]
  refine congrArg₂ (· + ·) rfl (Finset.sum_congr rfl fun j _ => ?_)
  rw [truncf_apply]
  show Ideal.exp2 (u (ix2 r j) - broadcastTo ⟨2, ![256, w]⟩ (subf (newMax h ct m u) ct) h.col (ix2 r j)) * _ = _
  rw [col_apply, subf_apply]

/-- The gate at an entry. -/
theorem gate_apply (g : FVec Ideal S256x128 .bf16) (i : S256x128.Idx) :
    gate g i = Ideal.div (g i) (1 + Ideal.exp (0 - g i)) := by
  show Ideal.div (g i) (Ideal.ofBits .f32 0x3F800000#32 + Ideal.exp (Ideal.ofBits .f32 0x00000000#32 - g i)) = _
  rw [Ideal.ofBits_one_f32, Ideal.ofBits_zero_f32]

/-- The block's result at an entry. -/
theorem finish_apply (gt : FVec Ideal S256x128 .f32) (acc : FVec Ideal S256x256 .f32) (r : Fin 256) (d : Fin 128) :
    finish gt acc (ix2 r d)
      = Ideal.div (acc (ix2 r (⟨d.val, by omega⟩ : Fin 256))) (acc (ix2 r (⟨128 + d.val, by omega⟩ : Fin 256))) * gt (ix2 r d) := by
  unfold finish
  rw [truncf_apply, mulf_apply, divf_apply,
    extractStridedSlice_apply _ acc _ (ix2 r d) (ix2 r (⟨d.val, by omega⟩ : Fin 256)) (fun a => by
      match a with
      | ⟨0, _⟩ => exact (Nat.zero_add _).symm
      | ⟨1, _⟩ => exact (Nat.zero_add _).symm),
    extractStridedSlice_apply _ acc _ (ix2 r d) (ix2 r (⟨128 + d.val, by omega⟩ : Fin 256)) (fun a => by
      match a with
      | ⟨0, _⟩ => exact (Nat.zero_add _).symm
      | ⟨1, _⟩ => rfl)]

/-- Counting along the second axis gives the column. -/
theorem iota_col {n w : ℕ} (h : (⟨2, ![n, w]⟩ : Shape).Iotas .tc 32 [1]) (r : Fin n) (j : Fin w) :
    iota .tc ⟨2, ![n, w]⟩ 32 [1] h (ix2 r j) = BitVec.ofNat 32 j.val := by
  refine congrArg (BitVec.ofNat 32) ?_
  show 0 * w + j.val = j.val
  omega

/-- Counting along the first axis gives the row. -/
theorem iota_row {n w : ℕ} (h : (⟨2, ![n, w]⟩ : Shape).Iotas .tc 32 [0]) (r : Fin n) (j : Fin w) :
    iota .tc ⟨2, ![n, w]⟩ 32 [0] h (ix2 r j) = BitVec.ofNat 32 r.val := by
  refine congrArg (BitVec.ofNat 32) ?_
  show 0 * n + r.val = r.val
  omega

/-- The diagonal mask is on exactly where the key's place in the tile is at most the row plus the offset. -/
theorem diag_apply {w : ℕ} (h₁ : (⟨2, ![256, w]⟩ : Shape).Iotas .tc 32 [1]) (h₀ : (⟨2, ![256, w]⟩ : Shape).Iotas .tc 32 [0])
    (o : ℕ) (hw : w ≤ 1024) (ho : o ≤ 768) (r : Fin 256) (j : Fin w) :
    diag h₁ h₀ (BitVec.ofNat 32 o) (ix2 r j) = 1#1 ↔ j.val ≤ r.val + o := by
  show IntOp.cmpi .sle (iota .tc ⟨2, ![256, w]⟩ 32 [1] h₁ (ix2 r j))
    (iota .tc ⟨2, ![256, w]⟩ 32 [0] h₀ (ix2 r j) + BitVec.ofNat 32 o) = 1#1 ↔ _
  rw [iota_col, iota_row]
  have hj := j.isLt
  have hr := r.isLt
  have e : (BitVec.ofNat 32 r.val + BitVec.ofNat 32 o) = BitVec.ofNat 32 (r.val + o) := (BitVec.ofNat_add _ _).symm
  rw [e]
  have t : ∀ n : ℕ, n < 2048 → (BitVec.ofNat 32 n).toInt = (n : ℤ) := fun n hn => by
    rw [BitVec.toInt_eq_toNat_of_lt (by simp only [BitVec.toNat_ofNat]; omega)]
    simp only [BitVec.toNat_ofNat]; omega
  simp only [IntOp.cmpi, BitVec.sle, t _ (show j.val < 2048 by omega), t _ (show r.val + o < 2048 by omega)]
  by_cases hle : j.val ≤ r.val + o
  · simp only [hle, iff_true, Int.ofNat_le, decide_true]; rfl
  · have : ¬ ((j.val : ℤ) ≤ ((r.val + o : ℕ) : ℤ)) := by omega
    simp only [hle, this, decide_false, iff_false]; decide

/-- The rows' decay at a row: the entry of the head's column. -/
theorem rowDecay_apply (hd : BitVec 32) (n : Fin 16) (hn : hd = BitVec.ofNat 32 n.val) (blk : FVec Ideal S256x16 .f32) (r : Fin 256) :
    rowDecay hd blk (ix2 r (0 : Fin 1)) = blk (ix2 r n) := by
  unfold rowDecay
  rw [shapeCast_a_a1_apply]
  refine (Ideal.multiReduction_add_single (s := S256x16) (t := S256) (a := 1) _ _ Facts₀.reduces_S256x16_S256 (.inl rfl) rfl (ix1 r)).trans ?_
  refine (Finset.sum_eq_single (M := EReal) (n : Fin 16) ?_ ?_).trans ?_
  · intro b _ hb
    rw [show Facts₀.reduces_S256x16_S256.lift (ix1 r) b = ix2 r (b : Fin 16) from lift_row (w := 16) _ r b]
    rw [select_apply]
    show Scalar.select (IntOp.cmpi .eq (iota .tc S256x16 32 [1] Facts₀.iota_S256x16_d1_w32 (ix2 r b)) hd) _ (Ideal.ofBits .f32 0x00000000#32) = _
    rw [iota_col]
    have : (BitVec.ofNat 32 b.val == BitVec.ofNat 32 n.val) = false := by
      have hb16 : b.val < 16 := b.isLt
      have hn16 := n.isLt
      have : b.val ≠ n.val := fun e => hb (Fin.ext e)
      simp only [beq_eq_false_iff_ne, ne_eq]
      intro e
      have := congrArg BitVec.toNat e
      simp only [BitVec.toNat_ofNat] at this
      omega
    rw [hn]; simp [IntOp.cmpi, Scalar.select, this, Ideal.ofBits_zero_f32]
  · intro h; exact absurd (Finset.mem_univ _) h
  · rw [show Facts₀.reduces_S256x16_S256.lift (ix1 r) (n : Fin 16) = ix2 r n from lift_row (w := 16) _ r n]
    rw [select_apply]
    show Scalar.select (IntOp.cmpi .eq (iota .tc S256x16 32 [1] Facts₀.iota_S256x16_d1_w32 (ix2 r n)) hd) _ _ = _
    rw [iota_col, hn]; simp [IntOp.cmpi, Scalar.select]

end Read

end Cert.Proof.Fox

end

end
-- ==== Proof.Branch.lean ====
/- What each branch of the switch writes, in the steps of the model. -/
module

public import proofs.«01_k».proof.Proof.Cover
public import proofs.«01_k».proof.Proof.Model

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F]

local notation "𝕄" => MT nD τ sig Unit (Elt F) ℕ (UR sig nD τ) ℕ

/-- The shape facts at the four tile widths. -/
theorem tf256 : TileFacts 256 :=
  ⟨Facts₀.shapeCasts_S1x1x256_S1x256, Facts₀.broadcasts_S1x256_S256x256, Facts₀.reduces_S256x256_S256, Facts₀.broadcasts_S256x1_S256x256⟩
theorem tf512 : TileFacts 512 :=
  ⟨Facts₀.shapeCasts_S1x1x512_S1x512, Facts₀.broadcasts_S1x512_S256x512, Facts₀.reduces_S256x512_S256, Facts₀.broadcasts_S256x1_S256x512⟩
theorem tf768 : TileFacts 768 :=
  ⟨Facts₀.shapeCasts_S1x1x768_S1x768, Facts₀.broadcasts_S1x768_S256x768, Facts₀.reduces_S256x768_S256, Facts₀.broadcasts_S256x1_S256x768⟩
theorem tf1024 : TileFacts 1024 :=
  ⟨Facts₀.shapeCasts_S1x1x1024_S1x1024, Facts₀.broadcasts_S1x1024_S256x1024, Facts₀.reduces_S256x1024_S256, Facts₀.broadcasts_S256x1_S256x1024⟩

/-- One head's block where the diagonal tile alone is left: absorb it, divide and gate. -/
def evenOut {w : ℕ} (h : TileFacts w) (msk : IVec ⟨2, ![256, w]⟩ 1) (ct m : FVec F S256x1 .f32) (acc : FVec F S256x256 .f32)
    (q : FVec F S256x128 .bf16) (kk : FVec F ⟨2, ![w, 128]⟩ .bf16) (cr : FVec F ⟨3, ![1, 1, w]⟩ .f32)
    (vo : FVec F ⟨2, ![w, 256]⟩ .bf16) (g : FVec F S256x128 .bf16) : FVec F S256x128 .bf16 :=
  finish (gate g) (newAcc h ct m acc (masked msk (logits h q kk cr)) vo)

/-- One head's block where a full tile comes before the diagonal one. -/
def oddOut {w : ℕ} (h : TileFacts w) (msk : IVec ⟨2, ![256, w]⟩ 1) (ct m : FVec F S256x1 .f32) (acc : FVec F S256x256 .f32)
    (q : FVec F S256x128 .bf16) (k₁ : FVec F S1024x128 .bf16) (c₁ : FVec F S1x1x1024 .f32) (v₁ : FVec F S1024x256 .bf16)
    (kk : FVec F ⟨2, ![w, 128]⟩ .bf16) (cr : FVec F ⟨3, ![1, 1, w]⟩ .f32)
    (vo : FVec F ⟨2, ![w, 256]⟩ .bf16) (g : FVec F S256x128 .bf16) : FVec F S256x128 .bf16 :=
  evenOut h msk ct (newMax tf1024 ct m (logits tf1024 q k₁ c₁)) (newAcc tf1024 ct m acc (logits tf1024 q k₁ c₁) v₁) q kk cr vo g

/-- What a load of the rectangle at `off` reads. -/
abbrev ld (c : Dev nD) {s : Shape} {e : EltTy} (M : Memref sig .tc .vmem s e) (X : Bf (F := F) c M) (off sz : Fin s.rank → ℕ)
    (inb : ∀ a, off a + sz a ≤ s.size a) : (Rect.unit (s := s) off sz inb).shape.Idx → Elt F e :=
  View.readAt (Elt F) M.view (Rect.unit (s := s) off sz inb).toLoadRect X

section
variable (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S2x1x4096 .f32) (harg6 : arg6.IsWhole) (arg7 : Memref sig .tc .vmem S4096x16 .f32) (harg7 : arg7.IsWhole) (arg8 : Memref sig .tc .vmem S4096x256 .bf16) (harg8 : arg8.IsWhole) (arg9 : Memref sig .tc .vmem S4096x512 .bf16) (harg9 : arg9.IsWhole) (v0 : BitVec 32) (v1 : IVec S256x16 32) (k : Fin k0_t1_loop.trips)
variable (X2 : Bf (F := F) c arg2) (X3 : Bf (F := F) c arg3) (X5 : Bf (F := F) c arg5) (X6 : Bf (F := F) c arg6) (X7 : Bf (F := F) c arg7) (X9 : Bf (F := F) c arg9)

/-- The first head's queries, and the second's. -/
abbrev q0 : FVec F S256x128 .bf16 := ld c arg2 X2 (k0_off1 k) S256x128.size (Facts₀.k0_off1_inb k)
abbrev q1 : FVec F S256x128 .bf16 := ld c arg2 X2 (k0_off2 k) S256x128.size (Facts₀.k0_off2_inb k)
/-- The two heads' row decays. -/
abbrev ct0 : FVec F S256x1 .f32 := k0_pay126 v0 v1 (ld c arg7 X7 (k0_off3 k) S256x16.size (Facts₀.k0_off3_inb k))
abbrev ct1 : FVec F S256x1 .f32 := k0_pay127 v0 v1 (ld c arg7 X7 (k0_off3 k) S256x16.size (Facts₀.k0_off3_inb k))

/-- The running state of both heads after the loop over pairs of full tiles. -/
def pairs (v54 : BitVec 32) (n : ℕ) : FVec F S256x1 .f32 × FVec F S256x256 .f32 × FVec F S256x1 .f32 × FVec F S256x256 .f32 :=
  st_k0_t2 Variants.none c none i arg2 harg2 arg3 harg3 arg4 harg4 arg5 harg5 arg6 harg6 arg7 harg7 arg8 harg8 arg9 harg9 k (q0 c arg2 k X2) (q1 c arg2 k X2) (ct0 c arg7 v0 v1 k X7) (ct1 c arg7 v0 v1 k X7)
    v54 k0_pay128 X3 X6 X9 (k0_pay128, k0_pay129, k0_pay130, k0_pay131) n

/-- The same after the loop's remainder. -/
def state (v54 v80 : BitVec 32) : FVec F S256x1 .f32 × FVec F S256x256 .f32 × FVec F S256x1 .f32 × FVec F S256x256 .f32 :=
  let s := pairs c i arg2 harg2 arg3 harg3 arg4 harg4 arg5 harg5 arg6 harg6 arg7 harg7 arg8 harg8 arg9 harg9 v0 v1 k X2 X3 X6 X7 X9 v54 (Scf.trips (k0_t2_loop k).lb (k0_t2_loop k).ub (k0_t2_loop k).st)
  st_k0_t3 Variants.none c none i arg2 harg2 arg3 harg3 arg4 harg4 arg5 harg5 arg6 harg6 arg7 harg7 arg8 harg8 arg9 harg9 k (q0 c arg2 k X2) (q1 c arg2 k X2) (ct0 c arg7 v0 v1 k X7) (ct1 c arg7 v0 v1 k X7)
    v54 k0_pay128 v80 X3 X6 X9 (s.1, s.2.1, s.2.2.1, s.2.2.2) (Scf.trips (k0_t3_loop k).lb (k0_t3_loop k).ub (k0_t3_loop k).st)

/-- The pieces of the first branch. -/
theorem trip0_out (h1 : ¬(k0_cond1 k = 1#1)) : ∃ v54 v80 : BitVec 32,
    (trip0 c i arg2 harg2 arg3 harg3 arg4 harg4 arg5 harg5 arg6 harg6 arg7 harg7 arg8 harg8 arg9 harg9 v0 v1 k h1 X2 X3 X5 X6 X7 X9).1
      = [⟨Rect.unit (s := S4096x256) (k0_off109 k) S256x128.size (Facts₀.k0_off109_inb k h1),
            evenOut tf256 (diag (w := 256) Facts₀.iota_S256x256_d1_w32 Facts₀.iota_S256x256_d0_w32 0#32) (ct1 c arg7 v0 v1 k X7) (state c i arg2 harg2 arg3 harg3 arg4 harg4 arg5 harg5 arg6 harg6 arg7 harg7 arg8 harg8 arg9 harg9 v0 v1 k X2 X3 X6 X7 X9 v54 v80).2.2.1 (state c i arg2 harg2 arg3 harg3 arg4 harg4 arg5 harg5 arg6 harg6 arg7 harg7 arg8 harg8 arg9 harg9 v0 v1 k X2 X3 X6 X7 X9 v54 v80).2.2.2 (q1 c arg2 k X2) (ld c arg3 X3 (k0_off112 k) S256x128.size (Facts₀.k0_off112_inb k h1)) (ld c arg6 X6 (k0_off113 k) S1x1x256.size (Facts₀.k0_off113_inb k h1)) (ld c arg9 X9 (k0_off115 k) S256x256.size (Facts₀.k0_off115_inb k h1)) (ld c arg5 X5 (k0_off109 k) S256x128.size (Facts₀.k0_off109_inb k h1))⟩,
         ⟨Rect.unit (s := S4096x256) (k0_off108 k) S256x128.size (Facts₀.k0_off108_inb k h1),
            evenOut tf256 (diag (w := 256) Facts₀.iota_S256x256_d1_w32 Facts₀.iota_S256x256_d0_w32 0#32) (ct0 c arg7 v0 v1 k X7) (state c i arg2 harg2 arg3 harg3 arg4 harg4 arg5 harg5 arg6 harg6 arg7 harg7 arg8 harg8 arg9 harg9 v0 v1 k X2 X3 X6 X7 X9 v54 v80).1 (state c i arg2 harg2 arg3 harg3 arg4 harg4 arg5 harg5 arg6 harg6 arg7 harg7 arg8 harg8 arg9 harg9 v0 v1 k X2 X3 X6 X7 X9 v54 v80).2.1 (q0 c arg2 k X2) (ld c arg3 X3 (k0_off110 k) S256x128.size (Facts₀.k0_off110_inb k h1)) (ld c arg6 X6 (k0_off111 k) S1x1x256.size (Facts₀.k0_off111_inb k h1)) (ld c arg9 X9 (k0_off114 k) S256x256.size (Facts₀.k0_off114_inb k h1)) (ld c arg5 X5 (k0_off108 k) S256x128.size (Facts₀.k0_off108_inb k h1))⟩] :=
  ⟨trip0.sl.v54 k, trip0.sl.v80 k, rfl⟩

/-- The pieces of the second branch. -/
theorem trip1_out (h1 : k0_cond1 k = 1#1) (h2 : ¬(k0_cond2 k = 1#1)) : ∃ v54 v80 : BitVec 32,
    (trip1 c i arg2 harg2 arg3 harg3 arg4 harg4 arg5 harg5 arg6 harg6 arg7 harg7 arg8 harg8 arg9 harg9 v0 v1 k h1 h2 X2 X3 X5 X6 X7 X9).1
      = [⟨Rect.unit (s := S4096x256) (k0_off101 k) S256x128.size (Facts₀.k0_off101_inb k h1 h2),
            evenOut tf512 (diag (w := 512) Facts₀.iota_S256x512_d1_w32 Facts₀.iota_S256x512_d0_w32 256#32) (ct1 c arg7 v0 v1 k X7) (state c i arg2 harg2 arg3 harg3 arg4 harg4 arg5 harg5 arg6 harg6 arg7 harg7 arg8 harg8 arg9 harg9 v0 v1 k X2 X3 X6 X7 X9 v54 v80).2.2.1 (state c i arg2 harg2 arg3 harg3 arg4 harg4 arg5 harg5 arg6 harg6 arg7 harg7 arg8 harg8 arg9 harg9 v0 v1 k X2 X3 X6 X7 X9 v54 v80).2.2.2 (q1 c arg2 k X2) (ld c arg3 X3 (k0_off104 k) S512x128.size (Facts₀.k0_off104_inb k h1 h2)) (ld c arg6 X6 (k0_off105 k) S1x1x512.size (Facts₀.k0_off105_inb k h1 h2)) (ld c arg9 X9 (k0_off107 k) S512x256.size (Facts₀.k0_off107_inb k h1 h2)) (ld c arg5 X5 (k0_off101 k) S256x128.size (Facts₀.k0_off101_inb k h1 h2))⟩,
         ⟨Rect.unit (s := S4096x256) (k0_off100 k) S256x128.size (Facts₀.k0_off100_inb k h1 h2),
            evenOut tf512 (diag (w := 512) Facts₀.iota_S256x512_d1_w32 Facts₀.iota_S256x512_d0_w32 256#32) (ct0 c arg7 v0 v1 k X7) (state c i arg2 harg2 arg3 harg3 arg4 harg4 arg5 harg5 arg6 harg6 arg7 harg7 arg8 harg8 arg9 harg9 v0 v1 k X2 X3 X6 X7 X9 v54 v80).1 (state c i arg2 harg2 arg3 harg3 arg4 harg4 arg5 harg5 arg6 harg6 arg7 harg7 arg8 harg8 arg9 harg9 v0 v1 k X2 X3 X6 X7 X9 v54 v80).2.1 (q0 c arg2 k X2) (ld c arg3 X3 (k0_off102 k) S512x128.size (Facts₀.k0_off102_inb k h1 h2)) (ld c arg6 X6 (k0_off103 k) S1x1x512.size (Facts₀.k0_off103_inb k h1 h2)) (ld c arg9 X9 (k0_off106 k) S512x256.size (Facts₀.k0_off106_inb k h1 h2)) (ld c arg5 X5 (k0_off100 k) S256x128.size (Facts₀.k0_off100_inb k h1 h2))⟩] :=
  ⟨trip1.sl.v54 k, trip1.sl.v80 k, rfl⟩

/-- The pieces of the third branch. -/
theorem trip2_out (h1 : k0_cond1 k = 1#1) (h2 : k0_cond2 k = 1#1) (h3 : ¬(k0_cond3 k = 1#1)) : ∃ v54 v80 : BitVec 32,
    (trip2 c i arg2 harg2 arg3 harg3 arg4 harg4 arg5 harg5 arg6 harg6 arg7 harg7 arg8 harg8 arg9 harg9 v0 v1 k h1 h2 h3 X2 X3 X5 X6 X7 X9).1
      = [⟨Rect.unit (s := S4096x256) (k0_off93 k) S256x128.size (Facts₀.k0_off93_inb k h1 h2 h3),
            evenOut tf768 (diag (w := 768) Facts₀.iota_S256x768_d1_w32 Facts₀.iota_S256x768_d0_w32 512#32) (ct1 c arg7 v0 v1 k X7) (state c i arg2 harg2 arg3 harg3 arg4 harg4 arg5 harg5 arg6 harg6 arg7 harg7 arg8 harg8 arg9 harg9 v0 v1 k X2 X3 X6 X7 X9 v54 v80).2.2.1 (state c i arg2 harg2 arg3 harg3 arg4 harg4 arg5 harg5 arg6 harg6 arg7 harg7 arg8 harg8 arg9 harg9 v0 v1 k X2 X3 X6 X7 X9 v54 v80).2.2.2 (q1 c arg2 k X2) (ld c arg3 X3 (k0_off96 k) S768x128.size (Facts₀.k0_off96_inb k h1 h2 h3)) (ld c arg6 X6 (k0_off97 k) S1x1x768.size (Facts₀.k0_off97_inb k h1 h2 h3)) (ld c arg9 X9 (k0_off99 k) S768x256.size (Facts₀.k0_off99_inb k h1 h2 h3)) (ld c arg5 X5 (k0_off93 k) S256x128.size (Facts₀.k0_off93_inb k h1 h2 h3))⟩,
         ⟨Rect.unit (s := S4096x256) (k0_off92 k) S256x128.size (Facts₀.k0_off92_inb k h1 h2 h3),
            evenOut tf768 (diag (w := 768) Facts₀.iota_S256x768_d1_w32 Facts₀.iota_S256x768_d0_w32 512#32) (ct0 c arg7 v0 v1 k X7) (state c i arg2 harg2 arg3 harg3 arg4 harg4 arg5 harg5 arg6 harg6 arg7 harg7 arg8 harg8 arg9 harg9 v0 v1 k X2 X3 X6 X7 X9 v54 v80).1 (state c i arg2 harg2 arg3 harg3 arg4 harg4 arg5 harg5 arg6 harg6 arg7 harg7 arg8 harg8 arg9 harg9 v0 v1 k X2 X3 X6 X7 X9 v54 v80).2.1 (q0 c arg2 k X2) (ld c arg3 X3 (k0_off94 k) S768x128.size (Facts₀.k0_off94_inb k h1 h2 h3)) (ld c arg6 X6 (k0_off95 k) S1x1x768.size (Facts₀.k0_off95_inb k h1 h2 h3)) (ld c arg9 X9 (k0_off98 k) S768x256.size (Facts₀.k0_off98_inb k h1 h2 h3)) (ld c arg5 X5 (k0_off92 k) S256x128.size (Facts₀.k0_off92_inb k h1 h2 h3))⟩] :=
  ⟨trip2.sl.v54 k, trip2.sl.v80 k, rfl⟩

/-- The pieces of the fourth branch. -/
theorem trip3_out (h1 : k0_cond1 k = 1#1) (h2 : k0_cond2 k = 1#1) (h3 : k0_cond3 k = 1#1) (h4 : ¬(k0_cond4 k = 1#1)) : ∃ v54 v80 : BitVec 32,
    (trip3 c i arg2 harg2 arg3 harg3 arg4 harg4 arg5 harg5 arg6 harg6 arg7 harg7 arg8 harg8 arg9 harg9 v0 v1 k h1 h2 h3 h4 X2 X3 X5 X6 X7 X9).1
      = [⟨Rect.unit (s := S4096x256) (k0_off85 k) S256x128.size (Facts₀.k0_off85_inb k h1 h2 h3 h4),
            evenOut tf1024 (diag (w := 1024) Facts₀.iota_S256x1024_d1_w32 Facts₀.iota_S256x1024_d0_w32 768#32) (ct1 c arg7 v0 v1 k X7) (state c i arg2 harg2 arg3 harg3 arg4 harg4 arg5 harg5 arg6 harg6 arg7 harg7 arg8 harg8 arg9 harg9 v0 v1 k X2 X3 X6 X7 X9 v54 v80).2.2.1 (state c i arg2 harg2 arg3 harg3 arg4 harg4 arg5 harg5 arg6 harg6 arg7 harg7 arg8 harg8 arg9 harg9 v0 v1 k X2 X3 X6 X7 X9 v54 v80).2.2.2 (q1 c arg2 k X2) (ld c arg3 X3 (k0_off88 k) S1024x128.size (Facts₀.k0_off88_inb k h1 h2 h3 h4)) (ld c arg6 X6 (k0_off89 k) S1x1x1024.size (Facts₀.k0_off89_inb k h1 h2 h3 h4)) (ld c arg9 X9 (k0_off91 k) S1024x256.size (Facts₀.k0_off91_inb k h1 h2 h3 h4)) (ld c arg5 X5 (k0_off85 k) S256x128.size (Facts₀.k0_off85_inb k h1 h2 h3 h4))⟩,
         ⟨Rect.unit (s := S4096x256) (k0_off84 k) S256x128.size (Facts₀.k0_off84_inb k h1 h2 h3 h4),
            evenOut tf1024 (diag (w := 1024) Facts₀.iota_S256x1024_d1_w32 Facts₀.iota_S256x1024_d0_w32 768#32) (ct0 c arg7 v0 v1 k X7) (state c i arg2 harg2 arg3 harg3 arg4 harg4 arg5 harg5 arg6 harg6 arg7 harg7 arg8 harg8 arg9 harg9 v0 v1 k X2 X3 X6 X7 X9 v54 v80).1 (state c i arg2 harg2 arg3 harg3 arg4 harg4 arg5 harg5 arg6 harg6 arg7 harg7 arg8 harg8 arg9 harg9 v0 v1 k X2 X3 X6 X7 X9 v54 v80).2.1 (q0 c arg2 k X2) (ld c arg3 X3 (k0_off86 k) S1024x128.size (Facts₀.k0_off86_inb k h1 h2 h3 h4)) (ld c arg6 X6 (k0_off87 k) S1x1x1024.size (Facts₀.k0_off87_inb k h1 h2 h3 h4)) (ld c arg9 X9 (k0_off90 k) S1024x256.size (Facts₀.k0_off90_inb k h1 h2 h3 h4)) (ld c arg5 X5 (k0_off84 k) S256x128.size (Facts₀.k0_off84_inb k h1 h2 h3 h4))⟩] :=
  ⟨trip3.sl.v54 k, trip3.sl.v80 k, rfl⟩

/-- The pieces of the fifth branch. -/
theorem trip4_out (h1 : k0_cond1 k = 1#1) (h2 : k0_cond2 k = 1#1) (h3 : k0_cond3 k = 1#1) (h4 : k0_cond4 k = 1#1) (h5 : ¬(k0_cond5 k = 1#1)) : ∃ v54 v80 : BitVec 32,
    (trip4 c i arg2 harg2 arg3 harg3 arg4 harg4 arg5 harg5 arg6 harg6 arg7 harg7 arg8 harg8 arg9 harg9 v0 v1 k h1 h2 h3 h4 h5 X2 X3 X5 X6 X7 X9).1
      = [⟨Rect.unit (s := S4096x256) (k0_off71 k) S256x128.size (Facts₀.k0_off71_inb k h1 h2 h3 h4 h5),
            oddOut tf256 (diag (w := 256) Facts₀.iota_S256x256_d1_w32 Facts₀.iota_S256x256_d0_w32 0#32) (ct1 c arg7 v0 v1 k X7) (state c i arg2 harg2 arg3 harg3 arg4 harg4 arg5 harg5 arg6 harg6 arg7 harg7 arg8 harg8 arg9 harg9 v0 v1 k X2 X3 X6 X7 X9 v54 v80).2.2.1 (state c i arg2 harg2 arg3 harg3 arg4 harg4 arg5 harg5 arg6 harg6 arg7 harg7 arg8 harg8 arg9 harg9 v0 v1 k X2 X3 X6 X7 X9 v54 v80).2.2.2 (q1 c arg2 k X2) (ld c arg3 X3 (k0_off74 k) S1024x128.size (Facts₀.k0_off74_inb k h1 h2 h3 h4 h5)) (ld c arg6 X6 (k0_off75 k) S1x1x1024.size (Facts₀.k0_off75_inb k h1 h2 h3 h4 h5)) (ld c arg9 X9 (k0_off81 k) S1024x256.size (Facts₀.k0_off81_inb k h1 h2 h3 h4 h5)) (ld c arg3 X3 (k0_off78 k) S256x128.size (Facts₀.k0_off78_inb k h1 h2 h3 h4 h5)) (ld c arg6 X6 (k0_off79 k) S1x1x256.size (Facts₀.k0_off79_inb k h1 h2 h3 h4 h5)) (ld c arg9 X9 (k0_off83 k) S256x256.size (Facts₀.k0_off83_inb k h1 h2 h3 h4 h5)) (ld c arg5 X5 (k0_off71 k) S256x128.size (Facts₀.k0_off71_inb k h1 h2 h3 h4 h5))⟩,
         ⟨Rect.unit (s := S4096x256) (k0_off70 k) S256x128.size (Facts₀.k0_off70_inb k h1 h2 h3 h4 h5),
            oddOut tf256 (diag (w := 256) Facts₀.iota_S256x256_d1_w32 Facts₀.iota_S256x256_d0_w32 0#32) (ct0 c arg7 v0 v1 k X7) (state c i arg2 harg2 arg3 harg3 arg4 harg4 arg5 harg5 arg6 harg6 arg7 harg7 arg8 harg8 arg9 harg9 v0 v1 k X2 X3 X6 X7 X9 v54 v80).1 (state c i arg2 harg2 arg3 harg3 arg4 harg4 arg5 harg5 arg6 harg6 arg7 harg7 arg8 harg8 arg9 harg9 v0 v1 k X2 X3 X6 X7 X9 v54 v80).2.1 (q0 c arg2 k X2) (ld c arg3 X3 (k0_off72 k) S1024x128.size (Facts₀.k0_off72_inb k h1 h2 h3 h4 h5)) (ld c arg6 X6 (k0_off73 k) S1x1x1024.size (Facts₀.k0_off73_inb k h1 h2 h3 h4 h5)) (ld c arg9 X9 (k0_off80 k) S1024x256.size (Facts₀.k0_off80_inb k h1 h2 h3 h4 h5)) (ld c arg3 X3 (k0_off76 k) S256x128.size (Facts₀.k0_off76_inb k h1 h2 h3 h4 h5)) (ld c arg6 X6 (k0_off77 k) S1x1x256.size (Facts₀.k0_off77_inb k h1 h2 h3 h4 h5)) (ld c arg9 X9 (k0_off82 k) S256x256.size (Facts₀.k0_off82_inb k h1 h2 h3 h4 h5)) (ld c arg5 X5 (k0_off70 k) S256x128.size (Facts₀.k0_off70_inb k h1 h2 h3 h4 h5))⟩] :=
  ⟨trip4.sl.v54 k, trip4.sl.v80 k, rfl⟩

/-- The pieces of the sixth branch. -/
theorem trip5_out (h1 : k0_cond1 k = 1#1) (h2 : k0_cond2 k = 1#1) (h3 : k0_cond3 k = 1#1) (h4 : k0_cond4 k = 1#1) (h5 : k0_cond5 k = 1#1) (h6 : ¬(k0_cond6 k = 1#1)) : ∃ v54 v80 : BitVec 32,
    (trip5 c i arg2 harg2 arg3 harg3 arg4 harg4 arg5 harg5 arg6 harg6 arg7 harg7 arg8 harg8 arg9 harg9 v0 v1 k h1 h2 h3 h4 h5 h6 X2 X3 X5 X6 X7 X9).1
      = [⟨Rect.unit (s := S4096x256) (k0_off57 k) S256x128.size (Facts₀.k0_off57_inb k h1 h2 h3 h4 h5 h6),
            oddOut tf512 (diag (w := 512) Facts₀.iota_S256x512_d1_w32 Facts₀.iota_S256x512_d0_w32 256#32) (ct1 c arg7 v0 v1 k X7) (state c i arg2 harg2 arg3 harg3 arg4 harg4 arg5 harg5 arg6 harg6 arg7 harg7 arg8 harg8 arg9 harg9 v0 v1 k X2 X3 X6 X7 X9 v54 v80).2.2.1 (state c i arg2 harg2 arg3 harg3 arg4 harg4 arg5 harg5 arg6 harg6 arg7 harg7 arg8 harg8 arg9 harg9 v0 v1 k X2 X3 X6 X7 X9 v54 v80).2.2.2 (q1 c arg2 k X2) (ld c arg3 X3 (k0_off60 k) S1024x128.size (Facts₀.k0_off60_inb k h1 h2 h3 h4 h5 h6)) (ld c arg6 X6 (k0_off61 k) S1x1x1024.size (Facts₀.k0_off61_inb k h1 h2 h3 h4 h5 h6)) (ld c arg9 X9 (k0_off67 k) S1024x256.size (Facts₀.k0_off67_inb k h1 h2 h3 h4 h5 h6)) (ld c arg3 X3 (k0_off64 k) S512x128.size (Facts₀.k0_off64_inb k h1 h2 h3 h4 h5 h6)) (ld c arg6 X6 (k0_off65 k) S1x1x512.size (Facts₀.k0_off65_inb k h1 h2 h3 h4 h5 h6)) (ld c arg9 X9 (k0_off69 k) S512x256.size (Facts₀.k0_off69_inb k h1 h2 h3 h4 h5 h6)) (ld c arg5 X5 (k0_off57 k) S256x128.size (Facts₀.k0_off57_inb k h1 h2 h3 h4 h5 h6))⟩,
         ⟨Rect.unit (s := S4096x256) (k0_off56 k) S256x128.size (Facts₀.k0_off56_inb k h1 h2 h3 h4 h5 h6),
            oddOut tf512 (diag (w := 512) Facts₀.iota_S256x512_d1_w32 Facts₀.iota_S256x512_d0_w32 256#32) (ct0 c arg7 v0 v1 k X7) (state c i arg2 harg2 arg3 harg3 arg4 harg4 arg5 harg5 arg6 harg6 arg7 harg7 arg8 harg8 arg9 harg9 v0 v1 k X2 X3 X6 X7 X9 v54 v80).1 (state c i arg2 harg2 arg3 harg3 arg4 harg4 arg5 harg5 arg6 harg6 arg7 harg7 arg8 harg8 arg9 harg9 v0 v1 k X2 X3 X6 X7 X9 v54 v80).2.1 (q0 c arg2 k X2) (ld c arg3 X3 (k0_off58 k) S1024x128.size (Facts₀.k0_off58_inb k h1 h2 h3 h4 h5 h6)) (ld c arg6 X6 (k0_off59 k) S1x1x1024.size (Facts₀.k0_off59_inb k h1 h2 h3 h4 h5 h6)) (ld c arg9 X9 (k0_off66 k) S1024x256.size (Facts₀.k0_off66_inb k h1 h2 h3 h4 h5 h6)) (ld c arg3 X3 (k0_off62 k) S512x128.size (Facts₀.k0_off62_inb k h1 h2 h3 h4 h5 h6)) (ld c arg6 X6 (k0_off63 k) S1x1x512.size (Facts₀.k0_off63_inb k h1 h2 h3 h4 h5 h6)) (ld c arg9 X9 (k0_off68 k) S512x256.size (Facts₀.k0_off68_inb k h1 h2 h3 h4 h5 h6)) (ld c arg5 X5 (k0_off56 k) S256x128.size (Facts₀.k0_off56_inb k h1 h2 h3 h4 h5 h6))⟩] :=
  ⟨trip5.sl.v54 k, trip5.sl.v80 k, rfl⟩

/-- The pieces of the seventh branch. -/
theorem trip6_out (h1 : k0_cond1 k = 1#1) (h2 : k0_cond2 k = 1#1) (h3 : k0_cond3 k = 1#1) (h4 : k0_cond4 k = 1#1) (h5 : k0_cond5 k = 1#1) (h6 : k0_cond6 k = 1#1) (h7 : ¬(k0_cond7 k = 1#1)) : ∃ v54 v80 : BitVec 32,
    (trip6 c i arg2 harg2 arg3 harg3 arg4 harg4 arg5 harg5 arg6 harg6 arg7 harg7 arg8 harg8 arg9 harg9 v0 v1 k h1 h2 h3 h4 h5 h6 h7 X2 X3 X5 X6 X7 X9).1
      = [⟨Rect.unit (s := S4096x256) (k0_off43 k) S256x128.size (Facts₀.k0_off43_inb k h1 h2 h3 h4 h5 h6 h7),
            oddOut tf768 (diag (w := 768) Facts₀.iota_S256x768_d1_w32 Facts₀.iota_S256x768_d0_w32 512#32) (ct1 c arg7 v0 v1 k X7) (state c i arg2 harg2 arg3 harg3 arg4 harg4 arg5 harg5 arg6 harg6 arg7 harg7 arg8 harg8 arg9 harg9 v0 v1 k X2 X3 X6 X7 X9 v54 v80).2.2.1 (state c i arg2 harg2 arg3 harg3 arg4 harg4 arg5 harg5 arg6 harg6 arg7 harg7 arg8 harg8 arg9 harg9 v0 v1 k X2 X3 X6 X7 X9 v54 v80).2.2.2 (q1 c arg2 k X2) (ld c arg3 X3 (k0_off46 k) S1024x128.size (Facts₀.k0_off46_inb k h1 h2 h3 h4 h5 h6 h7)) (ld c arg6 X6 (k0_off47 k) S1x1x1024.size (Facts₀.k0_off47_inb k h1 h2 h3 h4 h5 h6 h7)) (ld c arg9 X9 (k0_off53 k) S1024x256.size (Facts₀.k0_off53_inb k h1 h2 h3 h4 h5 h6 h7)) (ld c arg3 X3 (k0_off50 k) S768x128.size (Facts₀.k0_off50_inb k h1 h2 h3 h4 h5 h6 h7)) (ld c arg6 X6 (k0_off51 k) S1x1x768.size (Facts₀.k0_off51_inb k h1 h2 h3 h4 h5 h6 h7)) (ld c arg9 X9 (k0_off55 k) S768x256.size (Facts₀.k0_off55_inb k h1 h2 h3 h4 h5 h6 h7)) (ld c arg5 X5 (k0_off43 k) S256x128.size (Facts₀.k0_off43_inb k h1 h2 h3 h4 h5 h6 h7))⟩,
         ⟨Rect.unit (s := S4096x256) (k0_off42 k) S256x128.size (Facts₀.k0_off42_inb k h1 h2 h3 h4 h5 h6 h7),
            oddOut tf768 (diag (w := 768) Facts₀.iota_S256x768_d1_w32 Facts₀.iota_S256x768_d0_w32 512#32) (ct0 c arg7 v0 v1 k X7) (state c i arg2 harg2 arg3 harg3 arg4 harg4 arg5 harg5 arg6 harg6 arg7 harg7 arg8 harg8 arg9 harg9 v0 v1 k X2 X3 X6 X7 X9 v54 v80).1 (state c i arg2 harg2 arg3 harg3 arg4 harg4 arg5 harg5 arg6 harg6 arg7 harg7 arg8 harg8 arg9 harg9 v0 v1 k X2 X3 X6 X7 X9 v54 v80).2.1 (q0 c arg2 k X2) (ld c arg3 X3 (k0_off44 k) S1024x128.size (Facts₀.k0_off44_inb k h1 h2 h3 h4 h5 h6 h7)) (ld c arg6 X6 (k0_off45 k) S1x1x1024.size (Facts₀.k0_off45_inb k h1 h2 h3 h4 h5 h6 h7)) (ld c arg9 X9 (k0_off52 k) S1024x256.size (Facts₀.k0_off52_inb k h1 h2 h3 h4 h5 h6 h7)) (ld c arg3 X3 (k0_off48 k) S768x128.size (Facts₀.k0_off48_inb k h1 h2 h3 h4 h5 h6 h7)) (ld c arg6 X6 (k0_off49 k) S1x1x768.size (Facts₀.k0_off49_inb k h1 h2 h3 h4 h5 h6 h7)) (ld c arg9 X9 (k0_off54 k) S768x256.size (Facts₀.k0_off54_inb k h1 h2 h3 h4 h5 h6 h7)) (ld c arg5 X5 (k0_off42 k) S256x128.size (Facts₀.k0_off42_inb k h1 h2 h3 h4 h5 h6 h7))⟩] :=
  ⟨trip6.sl.v54 k, trip6.sl.v80 k, rfl⟩

/-- The pieces of the eighth branch. -/
theorem trip7_out (h1 : k0_cond1 k = 1#1) (h2 : k0_cond2 k = 1#1) (h3 : k0_cond3 k = 1#1) (h4 : k0_cond4 k = 1#1) (h5 : k0_cond5 k = 1#1) (h6 : k0_cond6 k = 1#1) (h7 : k0_cond7 k = 1#1) : ∃ v54 v80 : BitVec 32,
    (trip7 c i arg2 harg2 arg3 harg3 arg4 harg4 arg5 harg5 arg6 harg6 arg7 harg7 arg8 harg8 arg9 harg9 v0 v1 k h1 h2 h3 h4 h5 h6 h7 X2 X3 X5 X6 X7 X9).1
      = [⟨Rect.unit (s := S4096x256) (k0_off29 k) S256x128.size (Facts₀.k0_off29_inb k h1 h2 h3 h4 h5 h6 h7),
            oddOut tf1024 (diag (w := 1024) Facts₀.iota_S256x1024_d1_w32 Facts₀.iota_S256x1024_d0_w32 768#32) (ct1 c arg7 v0 v1 k X7) (state c i arg2 harg2 arg3 harg3 arg4 harg4 arg5 harg5 arg6 harg6 arg7 harg7 arg8 harg8 arg9 harg9 v0 v1 k X2 X3 X6 X7 X9 v54 v80).2.2.1 (state c i arg2 harg2 arg3 harg3 arg4 harg4 arg5 harg5 arg6 harg6 arg7 harg7 arg8 harg8 arg9 harg9 v0 v1 k X2 X3 X6 X7 X9 v54 v80).2.2.2 (q1 c arg2 k X2) (ld c arg3 X3 (k0_off32 k) S1024x128.size (Facts₀.k0_off32_inb k h1 h2 h3 h4 h5 h6 h7)) (ld c arg6 X6 (k0_off33 k) S1x1x1024.size (Facts₀.k0_off33_inb k h1 h2 h3 h4 h5 h6 h7)) (ld c arg9 X9 (k0_off39 k) S1024x256.size (Facts₀.k0_off39_inb k h1 h2 h3 h4 h5 h6 h7)) (ld c arg3 X3 (k0_off36 k) S1024x128.size (Facts₀.k0_off36_inb k h1 h2 h3 h4 h5 h6 h7)) (ld c arg6 X6 (k0_off37 k) S1x1x1024.size (Facts₀.k0_off37_inb k h1 h2 h3 h4 h5 h6 h7)) (ld c arg9 X9 (k0_off41 k) S1024x256.size (Facts₀.k0_off41_inb k h1 h2 h3 h4 h5 h6 h7)) (ld c arg5 X5 (k0_off29 k) S256x128.size (Facts₀.k0_off29_inb k h1 h2 h3 h4 h5 h6 h7))⟩,
         ⟨Rect.unit (s := S4096x256) (k0_off28 k) S256x128.size (Facts₀.k0_off28_inb k h1 h2 h3 h4 h5 h6 h7),
            oddOut tf1024 (diag (w := 1024) Facts₀.iota_S256x1024_d1_w32 Facts₀.iota_S256x1024_d0_w32 768#32) (ct0 c arg7 v0 v1 k X7) (state c i arg2 harg2 arg3 harg3 arg4 harg4 arg5 harg5 arg6 harg6 arg7 harg7 arg8 harg8 arg9 harg9 v0 v1 k X2 X3 X6 X7 X9 v54 v80).1 (state c i arg2 harg2 arg3 harg3 arg4 harg4 arg5 harg5 arg6 harg6 arg7 harg7 arg8 harg8 arg9 harg9 v0 v1 k X2 X3 X6 X7 X9 v54 v80).2.1 (q0 c arg2 k X2) (ld c arg3 X3 (k0_off30 k) S1024x128.size (Facts₀.k0_off30_inb k h1 h2 h3 h4 h5 h6 h7)) (ld c arg6 X6 (k0_off31 k) S1x1x1024.size (Facts₀.k0_off31_inb k h1 h2 h3 h4 h5 h6 h7)) (ld c arg9 X9 (k0_off38 k) S1024x256.size (Facts₀.k0_off38_inb k h1 h2 h3 h4 h5 h6 h7)) (ld c arg3 X3 (k0_off34 k) S1024x128.size (Facts₀.k0_off34_inb k h1 h2 h3 h4 h5 h6 h7)) (ld c arg6 X6 (k0_off35 k) S1x1x1024.size (Facts₀.k0_off35_inb k h1 h2 h3 h4 h5 h6 h7)) (ld c arg9 X9 (k0_off40 k) S1024x256.size (Facts₀.k0_off40_inb k h1 h2 h3 h4 h5 h6 h7)) (ld c arg5 X5 (k0_off28 k) S256x128.size (Facts₀.k0_off28_inb k h1 h2 h3 h4 h5 h6 h7))⟩] :=
  ⟨trip7.sl.v54 k, trip7.sl.v80 k, rfl⟩

end

end Cert.Proof.Fox

end
-- ==== Proof.Inner.lean ====
/- The loop over pairs of full key tiles: how often it runs, and what one trip does in the steps of the model. -/
module

public import proofs.«01_k».proof.Proof.Branch

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F] [Named F]

local notation "𝕄" => MT nD τ sig Unit (Elt F) ℕ (UR sig nD τ) ℕ

/-- The loop over pairs of full tiles runs once for every eight query blocks before this one. -/
theorem pair_trips : ∀ k : Fin k0_t1_loop.trips, Scf.trips (k0_t2_loop k).lb (k0_t2_loop k).ub (k0_t2_loop k).st = k.val / 8 := by
  decide +kernel

/-- Its remainder never runs. -/
theorem rest_trips : ∀ k : Fin k0_t1_loop.trips, Scf.trips (k0_t3_loop k).lb (k0_t3_loop k).ub (k0_t3_loop k).st = 0 := by
  decide +kernel

section
variable (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S2x1x4096 .f32) (harg6 : arg6.IsWhole) (arg7 : Memref sig .tc .vmem S4096x16 .f32) (harg7 : arg7.IsWhole) (arg8 : Memref sig .tc .vmem S4096x256 .bf16) (harg8 : arg8.IsWhole) (arg9 : Memref sig .tc .vmem S4096x512 .bf16) (harg9 : arg9.IsWhole) (v0 : BitVec 32) (v1 : IVec S256x16 32) (k : Fin k0_t1_loop.trips)
variable (X2 : Bf (F := F) c arg2) (X3 : Bf (F := F) c arg3) (X5 : Bf (F := F) c arg5) (X6 : Bf (F := F) c arg6) (X7 : Bf (F := F) c arg7) (X9 : Bf (F := F) c arg9)

/-- The state before the switch is the pairs' state. -/
theorem state_eq (v54 v80 : BitVec 32) :
    state c i arg2 harg2 arg3 harg3 arg4 harg4 arg5 harg5 arg6 harg6 arg7 harg7 arg8 harg8 arg9 harg9 v0 v1 k X2 X3 X6 X7 X9 v54 v80 = pairs c i arg2 harg2 arg3 harg3 arg4 harg4 arg5 harg5 arg6 harg6 arg7 harg7 arg8 harg8 arg9 harg9 v0 v1 k X2 X3 X6 X7 X9 v54 (k.val / 8) := by
  unfold state
  rw [rest_trips, pair_trips]
  rfl

/-- No pair absorbed: both heads start from −∞ and zero. -/
theorem pairs_zero (v54 : BitVec 32) :
    pairs c i arg2 harg2 arg3 harg3 arg4 harg4 arg5 harg5 arg6 harg6 arg7 harg7 arg8 harg8 arg9 harg9 v0 v1 k X2 X3 X6 X7 X9 v54 0 = (k0_pay128, k0_pay129, k0_pay130, k0_pay131) := rfl

/-- One more pair absorbed. -/
theorem pairs_succ (v54 : BitVec 32) (t : Fin (k0_t2_loop k).trips) :
    pairs c i arg2 harg2 arg3 harg3 arg4 harg4 arg5 harg5 arg6 harg6 arg7 harg7 arg8 harg8 arg9 harg9 v0 v1 k X2 X3 X6 X7 X9 v54 (t.val + 1)
      = (let s := pairs c i arg2 harg2 arg3 harg3 arg4 harg4 arg5 harg5 arg6 harg6 arg7 harg7 arg8 harg8 arg9 harg9 v0 v1 k X2 X3 X6 X7 X9 v54 t.val
         (newMax tf1024 (ct0 c arg7 v0 v1 k X7) (newMax tf1024 (ct0 c arg7 v0 v1 k X7) s.1 (logits tf1024 (q0 c arg2 k X2) (ld c arg3 X3 (k0_off4 k t) S1024x128.size (Facts₀.k0_off4_inb k t)) (ld c arg6 X6 (k0_off5 k t) S1x1x1024.size (Facts₀.k0_off5_inb k t)))) (logits tf1024 (q0 c arg2 k X2) (ld c arg3 X3 (k0_off8 k t) S1024x128.size (Facts₀.k0_off8_inb k t)) (ld c arg6 X6 (k0_off9 k t) S1x1x1024.size (Facts₀.k0_off9_inb k t))),
          newAcc tf1024 (ct0 c arg7 v0 v1 k X7) (newMax tf1024 (ct0 c arg7 v0 v1 k X7) s.1 (logits tf1024 (q0 c arg2 k X2) (ld c arg3 X3 (k0_off4 k t) S1024x128.size (Facts₀.k0_off4_inb k t)) (ld c arg6 X6 (k0_off5 k t) S1x1x1024.size (Facts₀.k0_off5_inb k t)))) (newAcc tf1024 (ct0 c arg7 v0 v1 k X7) s.1 s.2.1 (logits tf1024 (q0 c arg2 k X2) (ld c arg3 X3 (k0_off4 k t) S1024x128.size (Facts₀.k0_off4_inb k t)) (ld c arg6 X6 (k0_off5 k t) S1x1x1024.size (Facts₀.k0_off5_inb k t))) (ld c arg9 X9 (k0_off12 k t) S1024x256.size (Facts₀.k0_off12_inb k t))) (logits tf1024 (q0 c arg2 k X2) (ld c arg3 X3 (k0_off8 k t) S1024x128.size (Facts₀.k0_off8_inb k t)) (ld c arg6 X6 (k0_off9 k t) S1x1x1024.size (Facts₀.k0_off9_inb k t))) (ld c arg9 X9 (k0_off14 k t) S1024x256.size (Facts₀.k0_off14_inb k t)),
          newMax tf1024 (ct1 c arg7 v0 v1 k X7) (newMax tf1024 (ct1 c arg7 v0 v1 k X7) s.2.2.1 (logits tf1024 (q1 c arg2 k X2) (ld c arg3 X3 (k0_off6 k t) S1024x128.size (Facts₀.k0_off6_inb k t)) (ld c arg6 X6 (k0_off7 k t) S1x1x1024.size (Facts₀.k0_off7_inb k t)))) (logits tf1024 (q1 c arg2 k X2) (ld c arg3 X3 (k0_off10 k t) S1024x128.size (Facts₀.k0_off10_inb k t)) (ld c arg6 X6 (k0_off11 k t) S1x1x1024.size (Facts₀.k0_off11_inb k t))),
          newAcc tf1024 (ct1 c arg7 v0 v1 k X7) (newMax tf1024 (ct1 c arg7 v0 v1 k X7) s.2.2.1 (logits tf1024 (q1 c arg2 k X2) (ld c arg3 X3 (k0_off6 k t) S1024x128.size (Facts₀.k0_off6_inb k t)) (ld c arg6 X6 (k0_off7 k t) S1x1x1024.size (Facts₀.k0_off7_inb k t)))) (newAcc tf1024 (ct1 c arg7 v0 v1 k X7) s.2.2.1 s.2.2.2 (logits tf1024 (q1 c arg2 k X2) (ld c arg3 X3 (k0_off6 k t) S1024x128.size (Facts₀.k0_off6_inb k t)) (ld c arg6 X6 (k0_off7 k t) S1x1x1024.size (Facts₀.k0_off7_inb k t))) (ld c arg9 X9 (k0_off13 k t) S1024x256.size (Facts₀.k0_off13_inb k t))) (logits tf1024 (q1 c arg2 k X2) (ld c arg3 X3 (k0_off10 k t) S1024x128.size (Facts₀.k0_off10_inb k t)) (ld c arg6 X6 (k0_off11 k t) S1x1x1024.size (Facts₀.k0_off11_inb k t))) (ld c arg9 X9 (k0_off15 k t) S1024x256.size (Facts₀.k0_off15_inb k t)))) := by
  unfold pairs
  rw [st_k0_t2_succ]
  unfold tripR_k0_t2 trip_k0_t2
  rfl

end

end Cert.Proof.Fox

end
-- ==== Proof.Absorb.lean ====
/- Absorbing key tiles one after another keeps a running maximum and a weighted sum that mean the same thing as the whole
   softmax: the sum over the keys seen so far, up to a positive factor. -/
module

public import proofs.«01_k».proof.Proof.Model

@[expose] public section

noncomputable section

namespace Cert.Proof.Fox

open Cert.KernelIdeal Cert.KernelIdeal.Gen
open Idealize.ShloMosaic Idealize.ShloMosaic.ValueIdx

/-- A nonnegative real times a sum, term by term, whatever the terms are. -/
theorem coe_mul_sum {ι : Type*} (S : Finset ι) (a : ℝ) (ha : 0 ≤ a) (f : ι → EReal) :
    (a : EReal) * ∑ s ∈ S, f s = ∑ s ∈ S, (a : EReal) * f s := by
  classical
  induction S using Finset.induction_on with
  | empty => simp
  | insert x S hx ih =>
    rw [Finset.sum_insert hx, Finset.sum_insert hx,
      EReal.left_distrib_of_nonneg_of_ne_top (EReal.coe_nonneg.mpr ha) (EReal.coe_ne_top a), ih]

/-- A sum of reals, as an extended real. -/
theorem coe_sum {ι : Type*} (S : Finset ι) (f : ι → ℝ) : ((∑ s ∈ S, f s : ℝ) : EReal) = ∑ s ∈ S, (f s : EReal) := by
  classical
  induction S using Finset.induction_on with
  | empty => simp
  | insert x S hx ih => rw [Finset.sum_insert hx, Finset.sum_insert hx, EReal.coe_add, ih]

/-- The maximum of values that are real or −∞, one of them real, is a real. -/
theorem fold_max_real {w : ℕ} (f : Fin w → EReal) (h : ∀ j, f j ≠ ⊤) (j₀ : Fin w) (h₀ : f j₀ ≠ ⊥) :
    ∃ B : ℝ, (Finset.univ : Finset (Fin w)).fold max (⊥ : EReal) f = B := by
  have ht : (Finset.univ : Finset (Fin w)).fold max (⊥ : EReal) f ≠ ⊤ := by
    refine ne_of_lt ((Finset.fold_max_lt _).mpr ⟨bot_lt_top, fun j _ => lt_top_iff_ne_top.mpr (h j)⟩)
  have hb : (Finset.univ : Finset (Fin w)).fold max (⊥ : EReal) f ≠ ⊥ := by
    refine ne_of_gt (lt_of_lt_of_le (bot_lt_iff_ne_bot.mpr h₀) ((Finset.le_fold_max _).mpr (Or.inr ⟨j₀, Finset.mem_univ _, le_rfl⟩)))
  exact ⟨_, (EReal.coe_toReal ht hb).symm⟩

/-- A power of two of a real. -/
theorem exp2_coe (x : ℝ) : Ideal.exp2 (x : EReal) = (((2 : ℝ) ^ x : ℝ) : EReal) := rfl

/-- A power of two of −∞ is nothing. -/
theorem exp2_bot : Ideal.exp2 (⊥ : EReal) = 0 := rfl

section
variable (tt : Fin 256 → ℕ) (z : Fin 256 → ℕ → ℝ) (cT : Fin 256 → ℝ) (V : ℕ → Fin 256 → EReal)

/-- The weighted sum over the first `K` keys that row `r` may see, with weights `2 ^ (z + cT - M)`. -/
def part (K : ℕ) (M : ℝ) (r d : Fin 256) : EReal :=
  ∑ s ∈ Finset.range K, if s ≤ tt r then (((2 : ℝ) ^ (z r s + cT r - M) : ℝ) : EReal) * V s d else 0

/-- The state after `K` keys: nothing yet, or a real maximum and the weighted sum relative to it. -/
def Holds (m : FVec Ideal S256x1 .f32) (acc : FVec Ideal S256x256 .f32) (K : ℕ) : Prop :=
  ∀ r : Fin 256, (K = 0 ∧ m (ix2 r (0 : Fin 1)) = (⊥ : EReal) ∧ ∀ d, acc (ix2 r d) = (0 : EReal))
    ∨ ∃ M : ℝ, m (ix2 r (0 : Fin 1)) = (M : EReal) ∧ ∀ d, acc (ix2 r d) = part tt z cT V K M r d

/-- Absorbing a tile of `w` keys that starts at key `K`. -/
theorem Holds.absorb {w : ℕ} (h : TileFacts w) (hw : 0 < w) {ct m : FVec Ideal S256x1 .f32} {acc : FVec Ideal S256x256 .f32}
    {u : FVec Ideal ⟨2, ![256, w]⟩ .f32} {vo : FVec Ideal ⟨2, ![w, 256]⟩ .bf16} {K : ℕ}
    (hs : Holds tt z cT V m acc K) (hct : ∀ r, ct (ix2 r (0 : Fin 1)) = (cT r : EReal))
    (hu : ∀ r j, u (ix2 r j) = if K + j.val ≤ tt r then (z r (K + j.val) : EReal) else ⊥)
    (hv : ∀ j d, vo (ix2 j d) = V (K + j.val) d) (hK : ∀ r, K ≤ tt r) :
    Holds tt z cT V (newMax h ct m u) (newAcc h ct m acc u vo) (K + w) := by
  intro r
  right
  obtain ⟨B, hB⟩ := fold_max_real (fun j => u (ix2 r j))
    (fun j => by rw [hu]; split <;> simp) ⟨0, hw⟩ (by rw [hu, if_pos (by simpa using hK r)]; simp)
  have hmax : ∃ M : ℝ, newMax h ct m u (ix2 r (0 : Fin 1)) = (M : EReal) := by
    rw [newMax_apply, hct, hB, ← EReal.coe_add]
    rcases hs r with ⟨_, hm, _⟩ | ⟨M, hm, _⟩
    · exact ⟨B + cT r, by rw [hm]; exact max_eq_right bot_le⟩
    · exact ⟨max M (B + cT r), by rw [hm]; exact (EReal.coe_strictMono.monotone.map_max).symm⟩
  obtain ⟨M', hM'⟩ := hmax
  refine ⟨M', hM', fun d => ?_⟩
  rw [newAcc_apply, hM', hct]
  have hnew : (∑ j : Fin w, Ideal.exp2 (u (ix2 r j) - ((M' : EReal) - (cT r : EReal))) * vo (ix2 j d))
      = ∑ j ∈ Finset.range w, if K + j ≤ tt r then (((2 : ℝ) ^ (z r (K + j) + cT r - M') : ℝ) : EReal) * V (K + j) d else 0 := by
    rw [Finset.sum_range]
    refine Finset.sum_congr rfl fun j _ => ?_
    rw [hu, hv]
    by_cases hj : K + j.val ≤ tt r
    · rw [if_pos hj, if_pos hj, ← EReal.coe_sub, ← EReal.coe_sub, exp2_coe, show z r (K + j.val) - (M' - cT r) = z r (K + j.val) + cT r - M' by ring]
    · rw [if_neg hj, if_neg hj, ← EReal.coe_sub, EReal.bot_sub, exp2_bot, zero_mul]
  have hold : Ideal.exp2 (m (ix2 r (0 : Fin 1)) - (M' : EReal)) * acc (ix2 r d) = part tt z cT V K M' r d := by
    rcases hs r with ⟨h0, hm, ha⟩ | ⟨M, hm, ha⟩
    · rw [hm, ha, h0, EReal.bot_sub, exp2_bot, zero_mul]; simp [part]
    · rw [hm, ha, ← EReal.coe_sub, exp2_coe]
      unfold part
      rw [coe_mul_sum _ _ (Real.rpow_nonneg (by norm_num) _)]
      refine Finset.sum_congr rfl fun s _ => ?_
      by_cases hsr : s ≤ tt r
      · rw [if_pos hsr, if_pos hsr, ← mul_assoc, ← EReal.coe_mul, ← Real.rpow_add (by norm_num)]
        rw [show M - M' + (z r s + cT r - M) = z r s + cT r - M' by ring]
      · rw [if_neg hsr, if_neg hsr, mul_zero]
  refine (congrArg₂ (· + ·) hold hnew).trans ?_
  unfold part
  rw [Finset.sum_range_add]

/-- The softmax-weighted sum over keys `0 … t`, with logits `y` and values `v`. -/
def soft (t : ℕ) (y : ℕ → ℝ) (v : ℕ → EReal) : EReal :=
  ∑ s ∈ Finset.range (t + 1), ((Real.exp (y s) / ∑ s' ∈ Finset.range (t + 1), Real.exp (y s') : ℝ) : EReal) * v s

/-- The partial sum over enough keys, as a sum over the keys seen. -/
theorem part_eq (K : ℕ) (M : ℝ) (r d : Fin 256) (hK : tt r < K) :
    part tt z cT V K M r d = ∑ s ∈ Finset.range (tt r + 1), (((2 : ℝ) ^ (z r s + cT r - M) : ℝ) : EReal) * V s d := by
  unfold part
  rw [← Finset.sum_filter]
  refine Finset.sum_congr ?_ fun _ _ => rfl
  ext s
  simp only [Finset.mem_filter, Finset.mem_range]
  omega

/-- A weighted sum over its normaliser is the softmax-weighted sum, whatever the common factor of the weights. -/
theorem div_soft (t : ℕ) (y : ℕ → ℝ) (v : ℕ → EReal) (a : ℕ → ℝ) (e : ℝ) (he : 0 < e) (ha : ∀ s, a s = Real.exp (y s) * e) :
    Ideal.div (∑ s ∈ Finset.range (t + 1), (a s : EReal) * v s) (∑ s ∈ Finset.range (t + 1), (a s : EReal) * 1) = soft t y v := by
  have hD : 0 < ∑ s ∈ Finset.range (t + 1), a s :=
    Finset.sum_pos (fun s _ => by rw [ha]; exact mul_pos (Real.exp_pos _) he) ⟨0, by simp⟩
  have e1 : (∑ s ∈ Finset.range (t + 1), (a s : EReal) * 1) = ((∑ s ∈ Finset.range (t + 1), a s : ℝ) : EReal) := by
    rw [coe_sum]; simp
  rw [e1]
  unfold Ideal.div
  rw [if_neg (by rw [EReal.coe_eq_zero]; exact hD.ne'), ← EReal.coe_inv, mul_comm, coe_mul_sum _ _ (inv_pos.mpr hD).le]
  unfold soft
  refine Finset.sum_congr rfl fun s _ => ?_
  rw [← mul_assoc, ← EReal.coe_mul]
  congr 2
  rw [show ∑ s ∈ Finset.range (t + 1), a s = (∑ s ∈ Finset.range (t + 1), Real.exp (y s)) * e by
    rw [Finset.sum_mul]; exact Finset.sum_congr rfl fun s _ => ha s, ha]
  have : 0 < ∑ s ∈ Finset.range (t + 1), Real.exp (y s) := Finset.sum_pos (fun s _ => Real.exp_pos _) ⟨0, by simp⟩
  field_simp

/-- The block's result from a state that has seen every key of each row. -/
theorem Holds.finish {gt : FVec Ideal S256x128 .f32} {m : FVec Ideal S256x1 .f32} {acc : FVec Ideal S256x256 .f32} {K : ℕ}
    (hs : Holds tt z cT V m acc K) (hK : ∀ r, tt r < K) (hone : ∀ s, ∀ d : Fin 128, V s (⟨128 + d.val, by omega⟩ : Fin 256) = 1)
    (r : Fin 256) (d : Fin 128) :
    Fox.finish gt acc (ix2 r d)
      = soft (tt r) (fun s => Real.log 2 * (z r s + cT r)) (fun s => V s (⟨d.val, by omega⟩ : Fin 256)) * gt (ix2 r d) := by
  rw [finish_apply]
  rcases hs r with ⟨h0, _⟩ | ⟨M, hm, ha⟩
  · exact absurd (hK r) (by omega)
  · rw [ha, ha, part_eq _ _ _ _ _ _ _ _ (hK r), part_eq _ _ _ _ _ _ _ _ (hK r)]
    refine congrArg (· * gt (ix2 r d)) ?_
    simp only [hone]
    refine div_soft (tt r) _ _ _ (Real.exp (-(Real.log 2 * M))) (Real.exp_pos _) fun s => ?_
    rw [Real.rpow_def_of_pos (by norm_num), ← Real.exp_add]
    congr 1
    ring

end

end Cert.Proof.Fox

end

end
-- ==== Proof.Tile.lean ====
/- One head of one query block: what a full tile, the diagonal tile and the branch's end do to the state, from the values
   the tiles hold. -/
module

public import proofs.«01_k».proof.Proof.Absorb
public import proofs.«01_k».proof.Proof.Branch

@[expose] public section

noncomputable section

namespace Cert.Proof.Fox

open Cert.KernelIdeal Cert.KernelIdeal.Gen
open Idealize.ShloMosaic Idealize.ShloMosaic.ValueIdx

/-- The logit of query `t` and key `s`, in powers of two: the scaled product less the key's decay. -/
def logit (Q K : ℕ → Fin 128 → ℝ) (C : ℕ → ℝ) (t s : ℕ) : ℝ :=
  (∑ d : Fin 128, Q t d * K s d) * ((Real.log 2)⁻¹ * (Real.sqrt 128)⁻¹) - C s

/-- The gated attention of query `t`, column `d`. -/
def attn (Q K : ℕ → Fin 128 → ℝ) (C : ℕ → ℝ) (V : ℕ → Fin 256 → EReal) (G : ℕ → Fin 128 → EReal) (t : ℕ) (d : Fin 128) : EReal :=
  soft t (fun s => Real.log 2 * (logit Q K C t s + C t)) (fun s => V s (⟨d.val, by omega⟩ : Fin 256))
    * Ideal.div (G t d) (1 + Ideal.exp (0 - G t d))

section
variable (Q K : ℕ → Fin 128 → ℝ) (C : ℕ → ℝ) (V : ℕ → Fin 256 → EReal) (G : ℕ → Fin 128 → EReal)

/-- A tile of `w` keys that starts at key `n`: its keys, their decays, and their values beside the ones. -/
structure IsTile {w : ℕ} (n : ℕ) (kk : FVec Ideal ⟨2, ![w, 128]⟩ .bf16) (cr : FVec Ideal ⟨3, ![1, 1, w]⟩ .f32)
    (vo : FVec Ideal ⟨2, ![w, 256]⟩ .bf16) : Prop where
  key : ∀ j d, kk (ix2 j d) = (K (n + j.val) d : EReal)
  dec : ∀ j, cr (ix3 (0 : Fin 1) (0 : Fin 1) j) = (C (n + j.val) : EReal)
  val : ∀ j d, vo (ix2 j d) = V (n + j.val) d

/-- A block of 256 queries that starts at row `T`: the queries and their decays. -/
structure IsRows (T : ℕ) (q : FVec Ideal S256x128 .bf16) (ct : FVec Ideal S256x1 .f32) : Prop where
  qry : ∀ r d, q (ix2 r d) = (Q (T + r.val) d : EReal)
  dec : ∀ r : Fin 256, ct (ix2 r (0 : Fin 1)) = (C (T + r.val) : EReal)

/-- The state of the block at row `T` after `n` keys. -/
abbrev After (T : ℕ) (m : FVec Ideal S256x1 .f32) (acc : FVec Ideal S256x256 .f32) (n : ℕ) : Prop :=
  Holds (fun r => T + r.val) (fun r s => logit Q K C (T + r.val) s) (fun r => C (T + r.val)) V m acc n

variable {Q K C V G}

/-- A tile's logits are real, and the ones named. -/
theorem logits_real {w T n : ℕ} (h : TileFacts w) {q : FVec Ideal S256x128 .bf16} {ct : FVec Ideal S256x1 .f32}
    {kk : FVec Ideal ⟨2, ![w, 128]⟩ .bf16} {cr : FVec Ideal ⟨3, ![1, 1, w]⟩ .f32} {vo : FVec Ideal ⟨2, ![w, 256]⟩ .bf16}
    (hq : IsRows Q C T q ct) (ht : IsTile K C V n kk cr vo) (r : Fin 256) (j : Fin w) :
    logits h q kk cr (ix2 r j) = (logit Q K C (T + r.val) (n + j.val) : EReal) := by
  rw [logits_apply, ht.dec]
  simp only [hq.qry, ht.key, ← EReal.coe_mul]
  rw [← coe_sum, ← EReal.coe_mul, ← EReal.coe_sub]
  rfl

/-- Absorbing a full tile. -/
theorem After.full {w T n : ℕ} (h : TileFacts w) (hw : 0 < w) {m : FVec Ideal S256x1 .f32} {acc : FVec Ideal S256x256 .f32}
    {q : FVec Ideal S256x128 .bf16} {ct : FVec Ideal S256x1 .f32} {kk : FVec Ideal ⟨2, ![w, 128]⟩ .bf16}
    {cr : FVec Ideal ⟨3, ![1, 1, w]⟩ .f32} {vo : FVec Ideal ⟨2, ![w, 256]⟩ .bf16}
    (hs : After Q K C V T m acc n) (hq : IsRows Q C T q ct) (ht : IsTile K C V n kk cr vo) (hn : n + w ≤ T) :
    After Q K C V T (newMax h ct m (logits h q kk cr)) (newAcc h ct m acc (logits h q kk cr) vo) (n + w) :=
  Holds.absorb _ _ _ _ h hw hs hq.dec
    (fun r j => by
      have := j.isLt
      rw [logits_real h hq ht, if_pos (by omega)]) ht.val (fun r => by omega)

/-- Absorbing the diagonal tile. -/
theorem After.diagonal {w T n o : ℕ} (h : TileFacts w) (hw : 0 < w) (hw' : w ≤ 1024) (ho : o ≤ 768)
    (h₁ : (⟨2, ![256, w]⟩ : Shape).Iotas .tc 32 [1]) (h₀ : (⟨2, ![256, w]⟩ : Shape).Iotas .tc 32 [0])
    {m : FVec Ideal S256x1 .f32} {acc : FVec Ideal S256x256 .f32}
    {q : FVec Ideal S256x128 .bf16} {ct : FVec Ideal S256x1 .f32} {kk : FVec Ideal ⟨2, ![w, 128]⟩ .bf16}
    {cr : FVec Ideal ⟨3, ![1, 1, w]⟩ .f32} {vo : FVec Ideal ⟨2, ![w, 256]⟩ .bf16}
    (hs : After Q K C V T m acc n) (hq : IsRows Q C T q ct) (ht : IsTile K C V n kk cr vo) (hn : n + o = T) :
    After Q K C V T (newMax h ct m (masked (diag h₁ h₀ (BitVec.ofNat 32 o)) (logits h q kk cr)))
      (newAcc h ct m acc (masked (diag h₁ h₀ (BitVec.ofNat 32 o)) (logits h q kk cr)) vo) (n + w) :=
  Holds.absorb _ _ _ _ h hw hs hq.dec
    (fun r j => by
      rw [masked_apply, logits_real h hq ht]
      by_cases hj : j.val ≤ r.val + o
      · rw [if_pos ((diag_apply h₁ h₀ o hw' ho r j).mpr hj), if_pos (by omega)]
      · rw [if_neg (fun e => hj ((diag_apply h₁ h₀ o hw' ho r j).mp e)), if_neg (by omega)]) ht.val (fun r => by omega)

/-- The end of a branch with the diagonal tile alone. -/
theorem even_value {w T n o : ℕ} (h : TileFacts w) (hw' : w ≤ 1024) (ho : o ≤ 768) (hwo : w = o + 256)
    (h₁ : (⟨2, ![256, w]⟩ : Shape).Iotas .tc 32 [1]) (h₀ : (⟨2, ![256, w]⟩ : Shape).Iotas .tc 32 [0])
    {m : FVec Ideal S256x1 .f32} {acc : FVec Ideal S256x256 .f32}
    {q : FVec Ideal S256x128 .bf16} {ct : FVec Ideal S256x1 .f32} {kk : FVec Ideal ⟨2, ![w, 128]⟩ .bf16}
    {cr : FVec Ideal ⟨3, ![1, 1, w]⟩ .f32} {vo : FVec Ideal ⟨2, ![w, 256]⟩ .bf16} {g : FVec Ideal S256x128 .bf16}
    (hs : After Q K C V T m acc n) (hq : IsRows Q C T q ct) (ht : IsTile K C V n kk cr vo) (hn : n + o = T)
    (hone : ∀ s, ∀ d : Fin 128, V s (⟨128 + d.val, by omega⟩ : Fin 256) = 1)
    (hg : ∀ r d, g (ix2 r d) = G (T + r.val) d) (r : Fin 256) (d : Fin 128) :
    evenOut h (diag h₁ h₀ (BitVec.ofNat 32 o)) ct m acc q kk cr vo g (ix2 r d) = attn Q K C V G (T + r.val) d := by
  unfold evenOut
  refine (Holds.finish _ _ _ _ (hs.diagonal h (by omega) hw' ho h₁ h₀ hq ht hn) (fun r => ?_) hone r d).trans ?_
  · have := r.isLt; omega
  · rw [gate_apply, hg]
    rfl

/-- The end of a branch with a full tile before the diagonal one. -/
theorem odd_value {w T n n' o : ℕ} (h : TileFacts w) (hw' : w ≤ 1024) (ho : o ≤ 768) (hwo : w = o + 256)
    (h₁ : (⟨2, ![256, w]⟩ : Shape).Iotas .tc 32 [1]) (h₀ : (⟨2, ![256, w]⟩ : Shape).Iotas .tc 32 [0])
    {m : FVec Ideal S256x1 .f32} {acc : FVec Ideal S256x256 .f32}
    {q : FVec Ideal S256x128 .bf16} {ct : FVec Ideal S256x1 .f32} {k₁ : FVec Ideal S1024x128 .bf16}
    {c₁ : FVec Ideal S1x1x1024 .f32} {v₁ : FVec Ideal S1024x256 .bf16} {kk : FVec Ideal ⟨2, ![w, 128]⟩ .bf16}
    {cr : FVec Ideal ⟨3, ![1, 1, w]⟩ .f32} {vo : FVec Ideal ⟨2, ![w, 256]⟩ .bf16} {g : FVec Ideal S256x128 .bf16}
    (hs : After Q K C V T m acc n) (hq : IsRows Q C T q ct) (h1t : IsTile (w := 1024) K C V n k₁ c₁ v₁)
    (ht : IsTile K C V n' kk cr vo) (hn' : n' = n + 1024) (hn : n' + o = T)
    (hone : ∀ s, ∀ d : Fin 128, V s (⟨128 + d.val, by omega⟩ : Fin 256) = 1)
    (hg : ∀ r d, g (ix2 r d) = G (T + r.val) d) (r : Fin 256) (d : Fin 128) :
    oddOut h (diag h₁ h₀ (BitVec.ofNat 32 o)) ct m acc q k₁ c₁ v₁ kk cr vo g (ix2 r d) = attn Q K C V G (T + r.val) d := by
  subst hn'
  exact even_value h hw' ho hwo h₁ h₀ (hs.full tf1024 (by omega) hq h1t (by omega)) hq ht hn hone hg r d

/-- Nothing absorbed. -/
theorem After.start (T : ℕ) : After Q K C V T (k0_pay128 (F := Ideal)) (k0_pay129 (F := Ideal)) 0 := fun r =>
  Or.inl ⟨rfl, named_neg_inf, fun _ => Ideal.ofBits_zero_f32⟩

end

end Cert.Proof.Fox

end

end
-- ==== Proof.Offsets.lean ====
/- Where the loads of a trip lie: closed forms of the printed offsets, decided over the sixteen query blocks, and what
   the switch's conditions say of the block's number. -/
module

public import proofs.«01_k».proof.Defs
public import proofs.«01_k».proof.Proof.Gen.KernelIdeal

@[expose] public section

namespace Cert.Proof.Fox

open Cert.KernelIdeal Cert.KernelIdeal.Gen
open Idealize.ShloMosaic

/-! ## The branches -/

/-- The first branch takes the query blocks `8 a + 0`. -/
theorem branch0 : ∀ k : Fin k0_t1_loop.trips, ¬(k0_cond1 k = 1#1) → k.val % 8 = 0 := by decide +kernel
/-- The second branch takes the query blocks `8 a + 1`. -/
theorem branch1 : ∀ k : Fin k0_t1_loop.trips, k0_cond1 k = 1#1 → ¬(k0_cond2 k = 1#1) → k.val % 8 = 1 := by decide +kernel
/-- The third branch takes the query blocks `8 a + 2`. -/
theorem branch2 : ∀ k : Fin k0_t1_loop.trips, k0_cond1 k = 1#1 → k0_cond2 k = 1#1 → ¬(k0_cond3 k = 1#1) → k.val % 8 = 2 := by decide +kernel
/-- The fourth branch takes the query blocks `8 a + 3`. -/
theorem branch3 : ∀ k : Fin k0_t1_loop.trips, k0_cond1 k = 1#1 → k0_cond2 k = 1#1 → k0_cond3 k = 1#1 → ¬(k0_cond4 k = 1#1) → k.val % 8 = 3 := by decide +kernel
/-- The fifth branch takes the query blocks `8 a + 4`. -/
theorem branch4 : ∀ k : Fin k0_t1_loop.trips, k0_cond1 k = 1#1 → k0_cond2 k = 1#1 → k0_cond3 k = 1#1 → k0_cond4 k = 1#1 → ¬(k0_cond5 k = 1#1) → k.val % 8 = 4 := by decide +kernel
/-- The sixth branch takes the query blocks `8 a + 5`. -/
theorem branch5 : ∀ k : Fin k0_t1_loop.trips, k0_cond1 k = 1#1 → k0_cond2 k = 1#1 → k0_cond3 k = 1#1 → k0_cond4 k = 1#1 → k0_cond5 k = 1#1 → ¬(k0_cond6 k = 1#1) → k.val % 8 = 5 := by decide +kernel
/-- The seventh branch takes the query blocks `8 a + 6`. -/
theorem branch6 : ∀ k : Fin k0_t1_loop.trips, k0_cond1 k = 1#1 → k0_cond2 k = 1#1 → k0_cond3 k = 1#1 → k0_cond4 k = 1#1 → k0_cond5 k = 1#1 → k0_cond6 k = 1#1 → ¬(k0_cond7 k = 1#1) → k.val % 8 = 6 := by decide +kernel
/-- The eighth branch takes the query blocks `8 a + 7`. -/
theorem branch7 : ∀ k : Fin k0_t1_loop.trips, k0_cond1 k = 1#1 → k0_cond2 k = 1#1 → k0_cond3 k = 1#1 → k0_cond4 k = 1#1 → k0_cond5 k = 1#1 → k0_cond6 k = 1#1 → k0_cond7 k = 1#1 → k.val % 8 = 7 := by decide +kernel

/-! ## The pairs' tiles -/

theorem off4_eq : ∀ (k : Fin k0_t1_loop.trips) (t : Fin (k0_t2_loop k).trips), k0_off4 k t = ![2048 * t.val + 0, 0] := by decide +kernel
theorem off5_eq : ∀ (k : Fin k0_t1_loop.trips) (t : Fin (k0_t2_loop k).trips), k0_off5 k t = ![0, 0, 2048 * t.val + 0] := by decide +kernel
theorem off12_eq : ∀ (k : Fin k0_t1_loop.trips) (t : Fin (k0_t2_loop k).trips), k0_off12 k t = ![2048 * t.val + 0, 0] := by decide +kernel
theorem off6_eq : ∀ (k : Fin k0_t1_loop.trips) (t : Fin (k0_t2_loop k).trips), k0_off6 k t = ![2048 * t.val + 0, 128] := by decide +kernel
theorem off7_eq : ∀ (k : Fin k0_t1_loop.trips) (t : Fin (k0_t2_loop k).trips), k0_off7 k t = ![1, 0, 2048 * t.val + 0] := by decide +kernel
theorem off13_eq : ∀ (k : Fin k0_t1_loop.trips) (t : Fin (k0_t2_loop k).trips), k0_off13 k t = ![2048 * t.val + 0, 256] := by decide +kernel
theorem off8_eq : ∀ (k : Fin k0_t1_loop.trips) (t : Fin (k0_t2_loop k).trips), k0_off8 k t = ![2048 * t.val + 1024, 0] := by decide +kernel
theorem off9_eq : ∀ (k : Fin k0_t1_loop.trips) (t : Fin (k0_t2_loop k).trips), k0_off9 k t = ![0, 0, 2048 * t.val + 1024] := by decide +kernel
theorem off14_eq : ∀ (k : Fin k0_t1_loop.trips) (t : Fin (k0_t2_loop k).trips), k0_off14 k t = ![2048 * t.val + 1024, 0] := by decide +kernel
theorem off10_eq : ∀ (k : Fin k0_t1_loop.trips) (t : Fin (k0_t2_loop k).trips), k0_off10 k t = ![2048 * t.val + 1024, 128] := by decide +kernel
theorem off11_eq : ∀ (k : Fin k0_t1_loop.trips) (t : Fin (k0_t2_loop k).trips), k0_off11 k t = ![1, 0, 2048 * t.val + 1024] := by decide +kernel
theorem off15_eq : ∀ (k : Fin k0_t1_loop.trips) (t : Fin (k0_t2_loop k).trips), k0_off15 k t = ![2048 * t.val + 1024, 256] := by decide +kernel

/-! ## The branches' tiles -/

theorem off110_eq : ∀ k : Fin k0_t1_loop.trips, k0_off110 k = ![1024 * (k.val / 4), 0] := by decide +kernel
theorem off111_eq : ∀ k : Fin k0_t1_loop.trips, k0_off111 k = ![0, 0, 1024 * (k.val / 4)] := by decide +kernel
theorem off114_eq : ∀ k : Fin k0_t1_loop.trips, k0_off114 k = ![1024 * (k.val / 4), 0] := by decide +kernel
theorem off112_eq : ∀ k : Fin k0_t1_loop.trips, k0_off112 k = ![1024 * (k.val / 4), 128] := by decide +kernel
theorem off113_eq : ∀ k : Fin k0_t1_loop.trips, k0_off113 k = ![1, 0, 1024 * (k.val / 4)] := by decide +kernel
theorem off115_eq : ∀ k : Fin k0_t1_loop.trips, k0_off115 k = ![1024 * (k.val / 4), 256] := by decide +kernel
theorem off102_eq : ∀ k : Fin k0_t1_loop.trips, k0_off102 k = ![1024 * (k.val / 4), 0] := by decide +kernel
theorem off103_eq : ∀ k : Fin k0_t1_loop.trips, k0_off103 k = ![0, 0, 1024 * (k.val / 4)] := by decide +kernel
theorem off106_eq : ∀ k : Fin k0_t1_loop.trips, k0_off106 k = ![1024 * (k.val / 4), 0] := by decide +kernel
theorem off104_eq : ∀ k : Fin k0_t1_loop.trips, k0_off104 k = ![1024 * (k.val / 4), 128] := by decide +kernel
theorem off105_eq : ∀ k : Fin k0_t1_loop.trips, k0_off105 k = ![1, 0, 1024 * (k.val / 4)] := by decide +kernel
theorem off107_eq : ∀ k : Fin k0_t1_loop.trips, k0_off107 k = ![1024 * (k.val / 4), 256] := by decide +kernel
theorem off94_eq : ∀ k : Fin k0_t1_loop.trips, k0_off94 k = ![1024 * (k.val / 4), 0] := by decide +kernel
theorem off95_eq : ∀ k : Fin k0_t1_loop.trips, k0_off95 k = ![0, 0, 1024 * (k.val / 4)] := by decide +kernel
theorem off98_eq : ∀ k : Fin k0_t1_loop.trips, k0_off98 k = ![1024 * (k.val / 4), 0] := by decide +kernel
theorem off96_eq : ∀ k : Fin k0_t1_loop.trips, k0_off96 k = ![1024 * (k.val / 4), 128] := by decide +kernel
theorem off97_eq : ∀ k : Fin k0_t1_loop.trips, k0_off97 k = ![1, 0, 1024 * (k.val / 4)] := by decide +kernel
theorem off99_eq : ∀ k : Fin k0_t1_loop.trips, k0_off99 k = ![1024 * (k.val / 4), 256] := by decide +kernel
theorem off86_eq : ∀ k : Fin k0_t1_loop.trips, k0_off86 k = ![1024 * (k.val / 4), 0] := by decide +kernel
theorem off87_eq : ∀ k : Fin k0_t1_loop.trips, k0_off87 k = ![0, 0, 1024 * (k.val / 4)] := by decide +kernel
theorem off90_eq : ∀ k : Fin k0_t1_loop.trips, k0_off90 k = ![1024 * (k.val / 4), 0] := by decide +kernel
theorem off88_eq : ∀ k : Fin k0_t1_loop.trips, k0_off88 k = ![1024 * (k.val / 4), 128] := by decide +kernel
theorem off89_eq : ∀ k : Fin k0_t1_loop.trips, k0_off89 k = ![1, 0, 1024 * (k.val / 4)] := by decide +kernel
theorem off91_eq : ∀ k : Fin k0_t1_loop.trips, k0_off91 k = ![1024 * (k.val / 4), 256] := by decide +kernel
theorem off72_eq : ∀ k : Fin k0_t1_loop.trips, k.val % 8 = 4 → k0_off72 k = ![1024 * (k.val / 4) - 1024, 0] := by decide +kernel
theorem off73_eq : ∀ k : Fin k0_t1_loop.trips, k.val % 8 = 4 → k0_off73 k = ![0, 0, 1024 * (k.val / 4) - 1024] := by decide +kernel
theorem off80_eq : ∀ k : Fin k0_t1_loop.trips, k.val % 8 = 4 → k0_off80 k = ![1024 * (k.val / 4) - 1024, 0] := by decide +kernel
theorem off74_eq : ∀ k : Fin k0_t1_loop.trips, k.val % 8 = 4 → k0_off74 k = ![1024 * (k.val / 4) - 1024, 128] := by decide +kernel
theorem off75_eq : ∀ k : Fin k0_t1_loop.trips, k.val % 8 = 4 → k0_off75 k = ![1, 0, 1024 * (k.val / 4) - 1024] := by decide +kernel
theorem off81_eq : ∀ k : Fin k0_t1_loop.trips, k.val % 8 = 4 → k0_off81 k = ![1024 * (k.val / 4) - 1024, 256] := by decide +kernel
theorem off76_eq : ∀ k : Fin k0_t1_loop.trips, k0_off76 k = ![1024 * (k.val / 4), 0] := by decide +kernel
theorem off77_eq : ∀ k : Fin k0_t1_loop.trips, k0_off77 k = ![0, 0, 1024 * (k.val / 4)] := by decide +kernel
theorem off82_eq : ∀ k : Fin k0_t1_loop.trips, k0_off82 k = ![1024 * (k.val / 4), 0] := by decide +kernel
theorem off78_eq : ∀ k : Fin k0_t1_loop.trips, k0_off78 k = ![1024 * (k.val / 4), 128] := by decide +kernel
theorem off79_eq : ∀ k : Fin k0_t1_loop.trips, k0_off79 k = ![1, 0, 1024 * (k.val / 4)] := by decide +kernel
theorem off83_eq : ∀ k : Fin k0_t1_loop.trips, k0_off83 k = ![1024 * (k.val / 4), 256] := by decide +kernel
theorem off58_eq : ∀ k : Fin k0_t1_loop.trips, k.val % 8 = 5 → k0_off58 k = ![1024 * (k.val / 4) - 1024, 0] := by decide +kernel
theorem off59_eq : ∀ k : Fin k0_t1_loop.trips, k.val % 8 = 5 → k0_off59 k = ![0, 0, 1024 * (k.val / 4) - 1024] := by decide +kernel
theorem off66_eq : ∀ k : Fin k0_t1_loop.trips, k.val % 8 = 5 → k0_off66 k = ![1024 * (k.val / 4) - 1024, 0] := by decide +kernel
theorem off60_eq : ∀ k : Fin k0_t1_loop.trips, k.val % 8 = 5 → k0_off60 k = ![1024 * (k.val / 4) - 1024, 128] := by decide +kernel
theorem off61_eq : ∀ k : Fin k0_t1_loop.trips, k.val % 8 = 5 → k0_off61 k = ![1, 0, 1024 * (k.val / 4) - 1024] := by decide +kernel
theorem off67_eq : ∀ k : Fin k0_t1_loop.trips, k.val % 8 = 5 → k0_off67 k = ![1024 * (k.val / 4) - 1024, 256] := by decide +kernel
theorem off62_eq : ∀ k : Fin k0_t1_loop.trips, k0_off62 k = ![1024 * (k.val / 4), 0] := by decide +kernel
theorem off63_eq : ∀ k : Fin k0_t1_loop.trips, k0_off63 k = ![0, 0, 1024 * (k.val / 4)] := by decide +kernel
theorem off68_eq : ∀ k : Fin k0_t1_loop.trips, k0_off68 k = ![1024 * (k.val / 4), 0] := by decide +kernel
theorem off64_eq : ∀ k : Fin k0_t1_loop.trips, k0_off64 k = ![1024 * (k.val / 4), 128] := by decide +kernel
theorem off65_eq : ∀ k : Fin k0_t1_loop.trips, k0_off65 k = ![1, 0, 1024 * (k.val / 4)] := by decide +kernel
theorem off69_eq : ∀ k : Fin k0_t1_loop.trips, k0_off69 k = ![1024 * (k.val / 4), 256] := by decide +kernel
theorem off44_eq : ∀ k : Fin k0_t1_loop.trips, k.val % 8 = 6 → k0_off44 k = ![1024 * (k.val / 4) - 1024, 0] := by decide +kernel
theorem off45_eq : ∀ k : Fin k0_t1_loop.trips, k.val % 8 = 6 → k0_off45 k = ![0, 0, 1024 * (k.val / 4) - 1024] := by decide +kernel
theorem off52_eq : ∀ k : Fin k0_t1_loop.trips, k.val % 8 = 6 → k0_off52 k = ![1024 * (k.val / 4) - 1024, 0] := by decide +kernel
theorem off46_eq : ∀ k : Fin k0_t1_loop.trips, k.val % 8 = 6 → k0_off46 k = ![1024 * (k.val / 4) - 1024, 128] := by decide +kernel
theorem off47_eq : ∀ k : Fin k0_t1_loop.trips, k.val % 8 = 6 → k0_off47 k = ![1, 0, 1024 * (k.val / 4) - 1024] := by decide +kernel
theorem off53_eq : ∀ k : Fin k0_t1_loop.trips, k.val % 8 = 6 → k0_off53 k = ![1024 * (k.val / 4) - 1024, 256] := by decide +kernel
theorem off48_eq : ∀ k : Fin k0_t1_loop.trips, k0_off48 k = ![1024 * (k.val / 4), 0] := by decide +kernel
theorem off49_eq : ∀ k : Fin k0_t1_loop.trips, k0_off49 k = ![0, 0, 1024 * (k.val / 4)] := by decide +kernel
theorem off54_eq : ∀ k : Fin k0_t1_loop.trips, k0_off54 k = ![1024 * (k.val / 4), 0] := by decide +kernel
theorem off50_eq : ∀ k : Fin k0_t1_loop.trips, k0_off50 k = ![1024 * (k.val / 4), 128] := by decide +kernel
theorem off51_eq : ∀ k : Fin k0_t1_loop.trips, k0_off51 k = ![1, 0, 1024 * (k.val / 4)] := by decide +kernel
theorem off55_eq : ∀ k : Fin k0_t1_loop.trips, k0_off55 k = ![1024 * (k.val / 4), 256] := by decide +kernel
theorem off30_eq : ∀ k : Fin k0_t1_loop.trips, k.val % 8 = 7 → k0_off30 k = ![1024 * (k.val / 4) - 1024, 0] := by decide +kernel
theorem off31_eq : ∀ k : Fin k0_t1_loop.trips, k.val % 8 = 7 → k0_off31 k = ![0, 0, 1024 * (k.val / 4) - 1024] := by decide +kernel
theorem off38_eq : ∀ k : Fin k0_t1_loop.trips, k.val % 8 = 7 → k0_off38 k = ![1024 * (k.val / 4) - 1024, 0] := by decide +kernel
theorem off32_eq : ∀ k : Fin k0_t1_loop.trips, k.val % 8 = 7 → k0_off32 k = ![1024 * (k.val / 4) - 1024, 128] := by decide +kernel
theorem off33_eq : ∀ k : Fin k0_t1_loop.trips, k.val % 8 = 7 → k0_off33 k = ![1, 0, 1024 * (k.val / 4) - 1024] := by decide +kernel
theorem off39_eq : ∀ k : Fin k0_t1_loop.trips, k.val % 8 = 7 → k0_off39 k = ![1024 * (k.val / 4) - 1024, 256] := by decide +kernel
theorem off34_eq : ∀ k : Fin k0_t1_loop.trips, k0_off34 k = ![1024 * (k.val / 4), 0] := by decide +kernel
theorem off35_eq : ∀ k : Fin k0_t1_loop.trips, k0_off35 k = ![0, 0, 1024 * (k.val / 4)] := by decide +kernel
theorem off40_eq : ∀ k : Fin k0_t1_loop.trips, k0_off40 k = ![1024 * (k.val / 4), 0] := by decide +kernel
theorem off36_eq : ∀ k : Fin k0_t1_loop.trips, k0_off36 k = ![1024 * (k.val / 4), 128] := by decide +kernel
theorem off37_eq : ∀ k : Fin k0_t1_loop.trips, k0_off37 k = ![1, 0, 1024 * (k.val / 4)] := by decide +kernel
theorem off41_eq : ∀ k : Fin k0_t1_loop.trips, k0_off41 k = ![1024 * (k.val / 4), 256] := by decide +kernel

end Cert.Proof.Fox

end
-- ==== Proof.Block.lean ====
/- What a trip of the loop over query blocks writes, from what its buffers hold. -/
module

public import proofs.«01_k».proof.Proof.Inner
public import proofs.«01_k».proof.Proof.Tile
public import proofs.«01_k».proof.Proof.Offsets
public import Idealize.ShloMosaic.Lib.Pipeline.ValueKit.Tiles

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.ShloMosaic.ValueIdx

/-- A load of a rectangle of a two-axis buffer, at an entry. -/
theorem ld_mat {n m w l : ℕ} (c : Dev nD) (M : Memref sig .tc .vmem ⟨2, ![n, m]⟩ .bf16) (X : Bf (F := Ideal) c M)
    (R : ℕ → ℕ → EReal) (hR : ∀ x, View.read (Elt Ideal) M.view X x = R (x 0).val (x 1).val)
    {off : Fin 2 → ℕ} {a b : ℕ} (e : off = ![a, b]) (inb : ∀ ax, off ax + ![w, l] ax ≤ (⟨2, ![n, m]⟩ : Shape).size ax)
    (r : Fin w) (j : Fin l) : (ld c M X off ![w, l] inb : FVec Ideal ⟨2, ![w, l]⟩ .bf16) (ix2 r j) = R (a + r.val) (b + j.val) := by
  subst e
  refine (hR ((Rect.unit (s := ⟨2, ![n, m]⟩) ![a, b] ![w, l] inb).idx (ix2 r j))).trans ?_
  exact congrArg₂ R (Rect.idx_unit_val (s := ⟨2, ![n, m]⟩) ![a, b] ![w, l] inb (ix2 r j) 0) (Rect.idx_unit_val (s := ⟨2, ![n, m]⟩) ![a, b] ![w, l] inb (ix2 r j) 1)

/-- A load of one row of a stack of rows, at an entry. -/
theorem ld_row {n m w : ℕ} (c : Dev nD) (M : Memref sig .tc .vmem ⟨3, ![n, 1, m]⟩ .f32) (X : Bf (F := Ideal) c M)
    (R : ℕ → ℕ → EReal) (hR : ∀ x, View.read (Elt Ideal) M.view X x = R (x 0).val (x 2).val)
    {off : Fin 3 → ℕ} {a b : ℕ} (e : off = ![a, 0, b]) (inb : ∀ ax, off ax + ![1, 1, w] ax ≤ (⟨3, ![n, 1, m]⟩ : Shape).size ax)
    (j : Fin w) : (ld c M X off ![1, 1, w] inb : FVec Ideal ⟨3, ![1, 1, w]⟩ .f32) (ix3 (0 : Fin 1) (0 : Fin 1) j) = R a (b + j.val) := by
  subst e
  refine (hR ((Rect.unit (s := ⟨3, ![n, 1, m]⟩) ![a, 0, b] ![1, 1, w] inb).idx (ix3 (0 : Fin 1) (0 : Fin 1) j))).trans ?_
  exact congrArg₂ R (Rect.idx_unit_val (s := ⟨3, ![n, 1, m]⟩) ![a, 0, b] ![1, 1, w] inb (ix3 (0 : Fin 1) (0 : Fin 1) j) 0) (Rect.idx_unit_val (s := ⟨3, ![n, 1, m]⟩) ![a, 0, b] ![1, 1, w] inb (ix3 (0 : Fin 1) (0 : Fin 1) j) 2)

section
variable (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S2x1x4096 .f32) (harg6 : arg6.IsWhole) (arg7 : Memref sig .tc .vmem S4096x16 .f32) (harg7 : arg7.IsWhole) (arg8 : Memref sig .tc .vmem S4096x256 .bf16) (harg8 : arg8.IsWhole) (arg9 : Memref sig .tc .vmem S4096x512 .bf16) (harg9 : arg9.IsWhole)
variable (X2 : Bf (F := Ideal) c arg2) (X3 : Bf (F := Ideal) c arg3) (X5 : Bf (F := Ideal) c arg5) (X6 : Bf (F := Ideal) c arg6) (X7 : Bf (F := Ideal) c arg7) (X9 : Bf (F := Ideal) c arg9)
variable (Q K : ℕ → ℕ → ℝ) (G : ℕ → ℕ → EReal) (C : ℕ → ℕ → ℝ) (V : ℕ → ℕ → EReal)

/-- What the body's buffers hold: queries `Q`, keys `K`, gates `G`, the two heads' decays `C`, and the values beside ones `V`. -/
structure Reads : Prop where
  q : ∀ x, View.read (Elt Ideal) arg2.view X2 x = (Q (x 0).val (x 1).val : EReal)
  k : ∀ x, View.read (Elt Ideal) arg3.view X3 x = (K (x 0).val (x 1).val : EReal)
  g : ∀ x, View.read (Elt Ideal) arg5.view X5 x = G (x 0).val (x 1).val
  row : ∀ x, View.read (Elt Ideal) arg6.view X6 x = (C (x 0).val (x 2).val : EReal)
  col : ∀ x : S4096x16.Idx, ∀ h < 2, (x 1).val = 2 * (i 1).val + h → View.read (Elt Ideal) arg7.view X7 x = (C h (x 0).val : EReal)
  v : ∀ x, View.read (Elt Ideal) arg9.view X9 x = V (x 0).val (x 1).val
  one : ∀ s, ∀ h < 2, ∀ d < 128, V s (256 * h + 128 + d) = 1

/-- Head `h`'s columns of a block. -/
abbrev hc {α : Type} (Z : ℕ → ℕ → α) (h : ℕ) : ℕ → Fin 128 → α := fun t d => Z t (128 * h + d.val)
/-- Head `h`'s values beside ones. -/
abbrev hv {α : Type} (Z : ℕ → ℕ → α) (h : ℕ) : ℕ → Fin 256 → α := fun t d => Z t (256 * h + d.val)

variable {c i arg2 arg3 arg5 arg6 arg7 arg9 X2 X3 X5 X6 X7 X9 Q K G C V}
variable (H : Reads c i arg2 arg3 arg5 arg6 arg7 arg9 X2 X3 X5 X6 X7 X9 Q K G C V)
include H

/-- A tile that starts at key `n`, as loaded for head `h`. -/
theorem Reads.tile {w n h : ℕ} {o3 : Fin 2 → ℕ} {o6 : Fin 3 → ℕ} {o9 : Fin 2 → ℕ}
    (e3 : o3 = ![n, 128 * h]) (e6 : o6 = ![h, 0, n]) (e9 : o9 = ![n, 256 * h])
    (i3 : ∀ ax, o3 ax + ![w, 128] ax ≤ S4096x256.size ax) (i6 : ∀ ax, o6 ax + ![1, 1, w] ax ≤ S2x1x4096.size ax)
    (i9 : ∀ ax, o9 ax + ![w, 256] ax ≤ S4096x512.size ax) :
    IsTile (w := w) (hc K h) (C h) (hv V h) n (ld c arg3 X3 o3 ![w, 128] i3) (ld c arg6 X6 o6 ![1, 1, w] i6) (ld c arg9 X9 o9 ![w, 256] i9) where
  key j d := ld_mat c arg3 X3 (fun a b => (K a b : EReal)) H.k e3 i3 j d
  dec j := ld_row c arg6 X6 (fun a b => (C a b : EReal)) H.row e6 i6 j
  val j d := ld_mat c arg9 X9 V H.v e9 i9 j d

/-- The gates of head `h`'s block at row `T`. -/
theorem Reads.gates {T h : ℕ} {o5 : Fin 2 → ℕ} (e5 : o5 = ![T, 128 * h]) (i5 : ∀ ax, o5 ax + ![256, 128] ax ≤ S4096x256.size ax)
    (r : Fin 256) (d : Fin 128) : (ld c arg5 X5 o5 ![256, 128] i5 : FVec Ideal S256x128 .bf16) (ix2 r d) = hc G h (T + r.val) d :=
  ld_mat c arg5 X5 G H.g e5 i5 r d

/-- The block of decays at row `256 k`, at a head's column. -/
theorem Reads.dec (k : Fin k0_t1_loop.trips) (h : ℕ) (hh : h < 2) (n : Fin 16) (hn : n.val = 2 * (i 1).val + h) (r : Fin 256) :
    (ld c arg7 X7 (k0_off3 k) S256x16.size (Facts₀.k0_off3_inb k) : FVec Ideal S256x16 .f32) (ix2 r n) = (C h (256 * k.val + r.val) : EReal) := by
  refine (H.col _ h hh ?_).trans ?_
  · refine (Rect.idx_unit_val (s := S4096x16) (k0_off3 k) S256x16.size (Facts₀.k0_off3_inb k) (ix2 r n) 1).trans ?_
    rw [show k0_off3 k (1 : Fin 2) = 0 from congrFun (k0_off3_eq k) 1]
    exact (Nat.zero_add _).trans hn
  · refine congrArg (fun a => ((C h a : ℝ) : EReal)) ((Rect.idx_unit_val (s := S4096x16) (k0_off3 k) S256x16.size (Facts₀.k0_off3_inb k) (ix2 r n) 0).trans ?_)
    rw [show k0_off3 k (0 : Fin 2) = 256 * k.val from congrFun (k0_off3_eq k) 0]

/-- The first head's block of queries. -/
theorem Reads.rows0 (k : Fin k0_t1_loop.trips) : IsRows (hc Q 0) (C 0) (256 * k.val) (q0 c arg2 k X2)
    (ct0 c arg7 (bodyRun.sl.v0 i) bodyRun.sl.v1 k X7) where
  qry r d := ld_mat c arg2 X2 (fun a b => (Q a b : EReal)) H.q (k0_off1_eq k) _ r d
  dec r := by
    have hi : (i 1).val < 8 := (i 1).isLt
    refine Eq.trans (?_ : _ = rowDecay (Scalar.addi (bodyRun.sl.v0 i) 0#32) (ld c arg7 X7 (k0_off3 k) S256x16.size (Facts₀.k0_off3_inb k)) (ix2 r (0 : Fin 1))) ?_
    · show rowDecay _ (k0_pay125 _) _ = _
      rw [show k0_pay125 (F := Ideal) (ld c arg7 X7 (k0_off3 k) S256x16.size (Facts₀.k0_off3_inb k)) = ld c arg7 X7 (k0_off3 k) S256x16.size (Facts₀.k0_off3_inb k) from
        shapeCast_self _ _]
    · refine (rowDecay_apply _ ⟨2 * (i 1).val + 0, by omega⟩ ?_ _ r).trans (H.dec k 0 (by omega) _ rfl r)
      show BitVec.ofNat 32 (i 1).val * 2#32 + 0#32 = BitVec.ofNat 32 (2 * (i 1).val + 0)
      rw [← BitVec.toNat_inj]
      simp only [BitVec.toNat_add, BitVec.toNat_mul, BitVec.toNat_ofNat]
      omega

/-- The second head's block of queries. -/
theorem Reads.rows1 (k : Fin k0_t1_loop.trips) : IsRows (hc Q 1) (C 1) (256 * k.val) (q1 c arg2 k X2)
    (ct1 c arg7 (bodyRun.sl.v0 i) bodyRun.sl.v1 k X7) where
  qry r d := ld_mat c arg2 X2 (fun a b => (Q a b : EReal)) H.q (k0_off2_eq k) _ r d
  dec r := by
    have hi : (i 1).val < 8 := (i 1).isLt
    refine Eq.trans (?_ : _ = rowDecay (Scalar.addi (bodyRun.sl.v0 i) 1#32) (ld c arg7 X7 (k0_off3 k) S256x16.size (Facts₀.k0_off3_inb k)) (ix2 r (0 : Fin 1))) ?_
    · show rowDecay _ (k0_pay125 _) _ = _
      rw [show k0_pay125 (F := Ideal) (ld c arg7 X7 (k0_off3 k) S256x16.size (Facts₀.k0_off3_inb k)) = ld c arg7 X7 (k0_off3 k) S256x16.size (Facts₀.k0_off3_inb k) from
        shapeCast_self _ _]
    · refine (rowDecay_apply _ ⟨2 * (i 1).val + 1, by omega⟩ ?_ _ r).trans (H.dec k 1 (by omega) _ rfl r)
      show BitVec.ofNat 32 (i 1).val * 2#32 + 1#32 = BitVec.ofNat 32 (2 * (i 1).val + 1)
      rw [← BitVec.toNat_inj]
      simp only [BitVec.toNat_add, BitVec.toNat_mul, BitVec.toNat_ofNat]
      omega

/-- The first head's state after `n` pairs of full tiles. -/
theorem Reads.pairs0 (harg2 : arg2.IsWhole) (harg3 : arg3.IsWhole) (arg4 : Memref sig .tc .vmem S4096x256 .bf16) (harg4 : arg4.IsWhole) (harg5 : arg5.IsWhole) (harg6 : arg6.IsWhole) (harg7 : arg7.IsWhole) (arg8 : Memref sig .tc .vmem S4096x256 .bf16) (harg8 : arg8.IsWhole) (harg9 : arg9.IsWhole) (k : Fin k0_t1_loop.trips) (v54 : BitVec 32) (n : ℕ) (hn : n ≤ k.val / 8) :
    After (hc Q 0) (hc K 0) (C 0) (hv V 0) (256 * k.val) (pairs c i arg2 harg2 arg3 harg3 arg4 harg4 arg5 harg5 arg6 harg6 arg7 harg7 arg8 harg8 arg9 harg9 (bodyRun.sl.v0 i) bodyRun.sl.v1 k X2 X3 X6 X7 X9 v54 n).1 (pairs c i arg2 harg2 arg3 harg3 arg4 harg4 arg5 harg5 arg6 harg6 arg7 harg7 arg8 harg8 arg9 harg9 (bodyRun.sl.v0 i) bodyRun.sl.v1 k X2 X3 X6 X7 X9 v54 n).2.1 (2048 * n) := by
  induction n with
  | zero => exact After.start _
  | succ n ih =>
    have ht : n < (k0_t2_loop k).trips := by
      have := pair_trips k
      show n < Scf.trips _ _ _
      omega
    rw [pairs_succ c i arg2 harg2 arg3 harg3 arg4 harg4 arg5 harg5 arg6 harg6 arg7 harg7 arg8 harg8 arg9 harg9 (bodyRun.sl.v0 i) bodyRun.sl.v1 k X2 X3 X6 X7 X9 v54 ⟨n, ht⟩]
    have h1 := (ih (by omega)).full tf1024 (by omega) (H.rows0 k) (H.tile (h := 0) (off4_eq k ⟨n, ht⟩) (off5_eq k ⟨n, ht⟩) (off12_eq k ⟨n, ht⟩) (Facts₀.k0_off4_inb k ⟨n, ht⟩) (Facts₀.k0_off5_inb k ⟨n, ht⟩) (Facts₀.k0_off12_inb k ⟨n, ht⟩)) (by show 2048 * n + 0 + 1024 ≤ _; omega)
    have h2 := h1.full tf1024 (by omega) (H.rows0 k) (H.tile (h := 0) (off8_eq k ⟨n, ht⟩) (off9_eq k ⟨n, ht⟩) (off14_eq k ⟨n, ht⟩) (Facts₀.k0_off8_inb k ⟨n, ht⟩) (Facts₀.k0_off9_inb k ⟨n, ht⟩) (Facts₀.k0_off14_inb k ⟨n, ht⟩)) (by show 2048 * n + 1024 + 1024 ≤ _; omega)
    exact h2

/-- The second head's state after `n` pairs of full tiles. -/
theorem Reads.pairs1 (harg2 : arg2.IsWhole) (harg3 : arg3.IsWhole) (arg4 : Memref sig .tc .vmem S4096x256 .bf16) (harg4 : arg4.IsWhole) (harg5 : arg5.IsWhole) (harg6 : arg6.IsWhole) (harg7 : arg7.IsWhole) (arg8 : Memref sig .tc .vmem S4096x256 .bf16) (harg8 : arg8.IsWhole) (harg9 : arg9.IsWhole) (k : Fin k0_t1_loop.trips) (v54 : BitVec 32) (n : ℕ) (hn : n ≤ k.val / 8) :
    After (hc Q 1) (hc K 1) (C 1) (hv V 1) (256 * k.val) (pairs c i arg2 harg2 arg3 harg3 arg4 harg4 arg5 harg5 arg6 harg6 arg7 harg7 arg8 harg8 arg9 harg9 (bodyRun.sl.v0 i) bodyRun.sl.v1 k X2 X3 X6 X7 X9 v54 n).2.2.1 (pairs c i arg2 harg2 arg3 harg3 arg4 harg4 arg5 harg5 arg6 harg6 arg7 harg7 arg8 harg8 arg9 harg9 (bodyRun.sl.v0 i) bodyRun.sl.v1 k X2 X3 X6 X7 X9 v54 n).2.2.2 (2048 * n) := by
  induction n with
  | zero => exact After.start _
  | succ n ih =>
    have ht : n < (k0_t2_loop k).trips := by
      have := pair_trips k
      show n < Scf.trips _ _ _
      omega
    rw [pairs_succ c i arg2 harg2 arg3 harg3 arg4 harg4 arg5 harg5 arg6 harg6 arg7 harg7 arg8 harg8 arg9 harg9 (bodyRun.sl.v0 i) bodyRun.sl.v1 k X2 X3 X6 X7 X9 v54 ⟨n, ht⟩]
    have h1 := (ih (by omega)).full tf1024 (by omega) (H.rows1 k) (H.tile (h := 1) (off6_eq k ⟨n, ht⟩) (off7_eq k ⟨n, ht⟩) (off13_eq k ⟨n, ht⟩) (Facts₀.k0_off6_inb k ⟨n, ht⟩) (Facts₀.k0_off7_inb k ⟨n, ht⟩) (Facts₀.k0_off13_inb k ⟨n, ht⟩)) (by show 2048 * n + 0 + 1024 ≤ _; omega)
    have h2 := h1.full tf1024 (by omega) (H.rows1 k) (H.tile (h := 1) (off10_eq k ⟨n, ht⟩) (off11_eq k ⟨n, ht⟩) (off15_eq k ⟨n, ht⟩) (Facts₀.k0_off10_inb k ⟨n, ht⟩) (Facts₀.k0_off11_inb k ⟨n, ht⟩) (Facts₀.k0_off15_inb k ⟨n, ht⟩)) (by show 2048 * n + 1024 + 1024 ≤ _; omega)
    exact h2

end

end Cert.Proof.Fox

end

end
-- ==== Proof.TripValue.lean ====
/- What a trip of the loop over query blocks writes: its band of the gated attention. -/
module

public import proofs.«01_k».proof.Proof.Block

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.ShloMosaic.ValueIdx

/-- A list of pieces is the band of block `k`, and holds both heads' gated attention. -/
def IsAttn (Q K : ℕ → ℕ → ℝ) (G : ℕ → ℕ → EReal) (C : ℕ → ℕ → ℝ) (V : ℕ → ℕ → EReal) (k : ℕ)
    (L : List (View.Piece (Elt Ideal) S4096x256 .bf16)) : Prop :=
  ∃ w0 w1 : S256x128.Idx → Elt Ideal .bf16, IsBand k L w0 w1
    ∧ (∀ (r : Fin 256) (d : Fin 128), w0 (ix2 r d) = attn (hc Q 0) (hc K 0) (C 0) (hv V 0) (hc G 0) (256 * k + r.val) d)
    ∧ (∀ (r : Fin 256) (d : Fin 128), w1 (ix2 r d) = attn (hc Q 1) (hc K 1) (C 1) (hv V 1) (hc G 1) (256 * k + r.val) d)

section
variable (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S2x1x4096 .f32) (harg6 : arg6.IsWhole) (arg7 : Memref sig .tc .vmem S4096x16 .f32) (harg7 : arg7.IsWhole) (arg8 : Memref sig .tc .vmem S4096x256 .bf16) (harg8 : arg8.IsWhole) (arg9 : Memref sig .tc .vmem S4096x512 .bf16) (harg9 : arg9.IsWhole) (k : Fin k0_t1_loop.trips)
variable (X2 : Bf (F := Ideal) c arg2) (X3 : Bf (F := Ideal) c arg3) (X5 : Bf (F := Ideal) c arg5) (X6 : Bf (F := Ideal) c arg6) (X7 : Bf (F := Ideal) c arg7) (X9 : Bf (F := Ideal) c arg9)
variable {Q K : ℕ → ℕ → ℝ} {G : ℕ → ℕ → EReal} {C : ℕ → ℕ → ℝ} {V : ℕ → ℕ → EReal}
variable (H : Reads c i arg2 arg3 arg5 arg6 arg7 arg9 X2 X3 X5 X6 X7 X9 Q K G C V)
include H

/-- Beside each head's values stand ones. -/
theorem Reads.ones (h : ℕ) (hh : h < 2) (s : ℕ) (d : Fin 128) : hv V h s (⟨128 + d.val, by omega⟩ : Fin 256) = 1 :=
  (congrArg (V s) (Nat.add_assoc (256 * h) 128 d.val).symm).trans (H.one s h hh d.val d.isLt)

/-- The first branch writes the band of the gated attention. -/
theorem Reads.trip0 (h1 : ¬(k0_cond1 k = 1#1)) : IsAttn Q K G C V k.val
    (trip0 c i arg2 harg2 arg3 harg3 arg4 harg4 arg5 harg5 arg6 harg6 arg7 harg7 arg8 harg8 arg9 harg9 (bodyRun.sl.v0 i) bodyRun.sl.v1 k h1 X2 X3 X5 X6 X7 X9).1 := by
  obtain ⟨v54, v80, e⟩ := trip0_out c i arg2 harg2 arg3 harg3 arg4 harg4 arg5 harg5 arg6 harg6 arg7 harg7 arg8 harg8 arg9 harg9 (bodyRun.sl.v0 i) bodyRun.sl.v1 k X2 X3 X5 X6 X7 X9 h1
  have hb := branch0 k h1
  rw [e, state_eq]
  refine ⟨_, _, ⟨_, _, _, _, k0_off109_eq k, k0_off108_eq k, rfl⟩, fun r d => ?_, fun r d => ?_⟩
  · have hp := H.pairs0 harg2 harg3 arg4 harg4 harg5 harg6 harg7 arg8 harg8 harg9 k v54 (k.val / 8) le_rfl
    rw [show 2048 * (k.val / 8) = 1024 * (k.val / 4) by omega] at hp
    exact even_value (o := 0) tf256 (by omega) (by omega) (by omega) _ _ hp (H.rows0 k) (H.tile (h := 0) (off110_eq k) (off111_eq k) (off114_eq k) (Facts₀.k0_off110_inb k h1) (Facts₀.k0_off111_inb k h1) (Facts₀.k0_off114_inb k h1)) (by omega) (H.ones c i arg2 arg3 arg5 arg6 arg7 arg9 X2 X3 X5 X6 X7 X9 0 (by omega)) (H.gates (h := 0) (k0_off108_eq k) (Facts₀.k0_off108_inb k h1)) r d
  · have hp := H.pairs1 harg2 harg3 arg4 harg4 harg5 harg6 harg7 arg8 harg8 harg9 k v54 (k.val / 8) le_rfl
    rw [show 2048 * (k.val / 8) = 1024 * (k.val / 4) by omega] at hp
    exact even_value (o := 0) tf256 (by omega) (by omega) (by omega) _ _ hp (H.rows1 k) (H.tile (h := 1) (off112_eq k) (off113_eq k) (off115_eq k) (Facts₀.k0_off112_inb k h1) (Facts₀.k0_off113_inb k h1) (Facts₀.k0_off115_inb k h1)) (by omega) (H.ones c i arg2 arg3 arg5 arg6 arg7 arg9 X2 X3 X5 X6 X7 X9 1 (by omega)) (H.gates (h := 1) (k0_off109_eq k) (Facts₀.k0_off109_inb k h1)) r d

/-- The second branch writes the band of the gated attention. -/
theorem Reads.trip1 (h1 : k0_cond1 k = 1#1) (h2 : ¬(k0_cond2 k = 1#1)) : IsAttn Q K G C V k.val
    (trip1 c i arg2 harg2 arg3 harg3 arg4 harg4 arg5 harg5 arg6 harg6 arg7 harg7 arg8 harg8 arg9 harg9 (bodyRun.sl.v0 i) bodyRun.sl.v1 k h1 h2 X2 X3 X5 X6 X7 X9).1 := by
  obtain ⟨v54, v80, e⟩ := trip1_out c i arg2 harg2 arg3 harg3 arg4 harg4 arg5 harg5 arg6 harg6 arg7 harg7 arg8 harg8 arg9 harg9 (bodyRun.sl.v0 i) bodyRun.sl.v1 k X2 X3 X5 X6 X7 X9 h1 h2
  have hb := branch1 k h1 h2
  rw [e, state_eq]
  refine ⟨_, _, ⟨_, _, _, _, k0_off101_eq k, k0_off100_eq k, rfl⟩, fun r d => ?_, fun r d => ?_⟩
  · have hp := H.pairs0 harg2 harg3 arg4 harg4 harg5 harg6 harg7 arg8 harg8 harg9 k v54 (k.val / 8) le_rfl
    rw [show 2048 * (k.val / 8) = 1024 * (k.val / 4) by omega] at hp
    exact even_value (o := 256) tf512 (by omega) (by omega) (by omega) _ _ hp (H.rows0 k) (H.tile (h := 0) (off102_eq k) (off103_eq k) (off106_eq k) (Facts₀.k0_off102_inb k h1 h2) (Facts₀.k0_off103_inb k h1 h2) (Facts₀.k0_off106_inb k h1 h2)) (by omega) (H.ones c i arg2 arg3 arg5 arg6 arg7 arg9 X2 X3 X5 X6 X7 X9 0 (by omega)) (H.gates (h := 0) (k0_off100_eq k) (Facts₀.k0_off100_inb k h1 h2)) r d
  · have hp := H.pairs1 harg2 harg3 arg4 harg4 harg5 harg6 harg7 arg8 harg8 harg9 k v54 (k.val / 8) le_rfl
    rw [show 2048 * (k.val / 8) = 1024 * (k.val / 4) by omega] at hp
    exact even_value (o := 256) tf512 (by omega) (by omega) (by omega) _ _ hp (H.rows1 k) (H.tile (h := 1) (off104_eq k) (off105_eq k) (off107_eq k) (Facts₀.k0_off104_inb k h1 h2) (Facts₀.k0_off105_inb k h1 h2) (Facts₀.k0_off107_inb k h1 h2)) (by omega) (H.ones c i arg2 arg3 arg5 arg6 arg7 arg9 X2 X3 X5 X6 X7 X9 1 (by omega)) (H.gates (h := 1) (k0_off101_eq k) (Facts₀.k0_off101_inb k h1 h2)) r d

/-- The third branch writes the band of the gated attention. -/
theorem Reads.trip2 (h1 : k0_cond1 k = 1#1) (h2 : k0_cond2 k = 1#1) (h3 : ¬(k0_cond3 k = 1#1)) : IsAttn Q K G C V k.val
    (trip2 c i arg2 harg2 arg3 harg3 arg4 harg4 arg5 harg5 arg6 harg6 arg7 harg7 arg8 harg8 arg9 harg9 (bodyRun.sl.v0 i) bodyRun.sl.v1 k h1 h2 h3 X2 X3 X5 X6 X7 X9).1 := by
  obtain ⟨v54, v80, e⟩ := trip2_out c i arg2 harg2 arg3 harg3 arg4 harg4 arg5 harg5 arg6 harg6 arg7 harg7 arg8 harg8 arg9 harg9 (bodyRun.sl.v0 i) bodyRun.sl.v1 k X2 X3 X5 X6 X7 X9 h1 h2 h3
  have hb := branch2 k h1 h2 h3
  rw [e, state_eq]
  refine ⟨_, _, ⟨_, _, _, _, k0_off93_eq k, k0_off92_eq k, rfl⟩, fun r d => ?_, fun r d => ?_⟩
  · have hp := H.pairs0 harg2 harg3 arg4 harg4 harg5 harg6 harg7 arg8 harg8 harg9 k v54 (k.val / 8) le_rfl
    rw [show 2048 * (k.val / 8) = 1024 * (k.val / 4) by omega] at hp
    exact even_value (o := 512) tf768 (by omega) (by omega) (by omega) _ _ hp (H.rows0 k) (H.tile (h := 0) (off94_eq k) (off95_eq k) (off98_eq k) (Facts₀.k0_off94_inb k h1 h2 h3) (Facts₀.k0_off95_inb k h1 h2 h3) (Facts₀.k0_off98_inb k h1 h2 h3)) (by omega) (H.ones c i arg2 arg3 arg5 arg6 arg7 arg9 X2 X3 X5 X6 X7 X9 0 (by omega)) (H.gates (h := 0) (k0_off92_eq k) (Facts₀.k0_off92_inb k h1 h2 h3)) r d
  · have hp := H.pairs1 harg2 harg3 arg4 harg4 harg5 harg6 harg7 arg8 harg8 harg9 k v54 (k.val / 8) le_rfl
    rw [show 2048 * (k.val / 8) = 1024 * (k.val / 4) by omega] at hp
    exact even_value (o := 512) tf768 (by omega) (by omega) (by omega) _ _ hp (H.rows1 k) (H.tile (h := 1) (off96_eq k) (off97_eq k) (off99_eq k) (Facts₀.k0_off96_inb k h1 h2 h3) (Facts₀.k0_off97_inb k h1 h2 h3) (Facts₀.k0_off99_inb k h1 h2 h3)) (by omega) (H.ones c i arg2 arg3 arg5 arg6 arg7 arg9 X2 X3 X5 X6 X7 X9 1 (by omega)) (H.gates (h := 1) (k0_off93_eq k) (Facts₀.k0_off93_inb k h1 h2 h3)) r d

/-- The fourth branch writes the band of the gated attention. -/
theorem Reads.trip3 (h1 : k0_cond1 k = 1#1) (h2 : k0_cond2 k = 1#1) (h3 : k0_cond3 k = 1#1) (h4 : ¬(k0_cond4 k = 1#1)) : IsAttn Q K G C V k.val
    (trip3 c i arg2 harg2 arg3 harg3 arg4 harg4 arg5 harg5 arg6 harg6 arg7 harg7 arg8 harg8 arg9 harg9 (bodyRun.sl.v0 i) bodyRun.sl.v1 k h1 h2 h3 h4 X2 X3 X5 X6 X7 X9).1 := by
  obtain ⟨v54, v80, e⟩ := trip3_out c i arg2 harg2 arg3 harg3 arg4 harg4 arg5 harg5 arg6 harg6 arg7 harg7 arg8 harg8 arg9 harg9 (bodyRun.sl.v0 i) bodyRun.sl.v1 k X2 X3 X5 X6 X7 X9 h1 h2 h3 h4
  have hb := branch3 k h1 h2 h3 h4
  rw [e, state_eq]
  refine ⟨_, _, ⟨_, _, _, _, k0_off85_eq k, k0_off84_eq k, rfl⟩, fun r d => ?_, fun r d => ?_⟩
  · have hp := H.pairs0 harg2 harg3 arg4 harg4 harg5 harg6 harg7 arg8 harg8 harg9 k v54 (k.val / 8) le_rfl
    rw [show 2048 * (k.val / 8) = 1024 * (k.val / 4) by omega] at hp
    exact even_value (o := 768) tf1024 (by omega) (by omega) (by omega) _ _ hp (H.rows0 k) (H.tile (h := 0) (off86_eq k) (off87_eq k) (off90_eq k) (Facts₀.k0_off86_inb k h1 h2 h3 h4) (Facts₀.k0_off87_inb k h1 h2 h3 h4) (Facts₀.k0_off90_inb k h1 h2 h3 h4)) (by omega) (H.ones c i arg2 arg3 arg5 arg6 arg7 arg9 X2 X3 X5 X6 X7 X9 0 (by omega)) (H.gates (h := 0) (k0_off84_eq k) (Facts₀.k0_off84_inb k h1 h2 h3 h4)) r d
  · have hp := H.pairs1 harg2 harg3 arg4 harg4 harg5 harg6 harg7 arg8 harg8 harg9 k v54 (k.val / 8) le_rfl
    rw [show 2048 * (k.val / 8) = 1024 * (k.val / 4) by omega] at hp
    exact even_value (o := 768) tf1024 (by omega) (by omega) (by omega) _ _ hp (H.rows1 k) (H.tile (h := 1) (off88_eq k) (off89_eq k) (off91_eq k) (Facts₀.k0_off88_inb k h1 h2 h3 h4) (Facts₀.k0_off89_inb k h1 h2 h3 h4) (Facts₀.k0_off91_inb k h1 h2 h3 h4)) (by omega) (H.ones c i arg2 arg3 arg5 arg6 arg7 arg9 X2 X3 X5 X6 X7 X9 1 (by omega)) (H.gates (h := 1) (k0_off85_eq k) (Facts₀.k0_off85_inb k h1 h2 h3 h4)) r d

/-- The fifth branch writes the band of the gated attention. -/
theorem Reads.trip4 (h1 : k0_cond1 k = 1#1) (h2 : k0_cond2 k = 1#1) (h3 : k0_cond3 k = 1#1) (h4 : k0_cond4 k = 1#1) (h5 : ¬(k0_cond5 k = 1#1)) : IsAttn Q K G C V k.val
    (trip4 c i arg2 harg2 arg3 harg3 arg4 harg4 arg5 harg5 arg6 harg6 arg7 harg7 arg8 harg8 arg9 harg9 (bodyRun.sl.v0 i) bodyRun.sl.v1 k h1 h2 h3 h4 h5 X2 X3 X5 X6 X7 X9).1 := by
  obtain ⟨v54, v80, e⟩ := trip4_out c i arg2 harg2 arg3 harg3 arg4 harg4 arg5 harg5 arg6 harg6 arg7 harg7 arg8 harg8 arg9 harg9 (bodyRun.sl.v0 i) bodyRun.sl.v1 k X2 X3 X5 X6 X7 X9 h1 h2 h3 h4 h5
  have hb := branch4 k h1 h2 h3 h4 h5
  rw [e, state_eq]
  refine ⟨_, _, ⟨_, _, _, _, k0_off71_eq k, k0_off70_eq k, rfl⟩, fun r d => ?_, fun r d => ?_⟩
  · have hp := H.pairs0 harg2 harg3 arg4 harg4 harg5 harg6 harg7 arg8 harg8 harg9 k v54 (k.val / 8) le_rfl
    rw [show 2048 * (k.val / 8) = 1024 * (k.val / 4) - 1024 by omega] at hp
    exact odd_value (o := 0) tf256 (by omega) (by omega) (by omega) _ _ hp (H.rows0 k) (H.tile (h := 0) (off72_eq k hb) (off73_eq k hb) (off80_eq k hb) (Facts₀.k0_off72_inb k h1 h2 h3 h4 h5) (Facts₀.k0_off73_inb k h1 h2 h3 h4 h5) (Facts₀.k0_off80_inb k h1 h2 h3 h4 h5)) (H.tile (h := 0) (off76_eq k) (off77_eq k) (off82_eq k) (Facts₀.k0_off76_inb k h1 h2 h3 h4 h5) (Facts₀.k0_off77_inb k h1 h2 h3 h4 h5) (Facts₀.k0_off82_inb k h1 h2 h3 h4 h5)) (by omega) (by omega) (H.ones c i arg2 arg3 arg5 arg6 arg7 arg9 X2 X3 X5 X6 X7 X9 0 (by omega)) (H.gates (h := 0) (k0_off70_eq k) (Facts₀.k0_off70_inb k h1 h2 h3 h4 h5)) r d
  · have hp := H.pairs1 harg2 harg3 arg4 harg4 harg5 harg6 harg7 arg8 harg8 harg9 k v54 (k.val / 8) le_rfl
    rw [show 2048 * (k.val / 8) = 1024 * (k.val / 4) - 1024 by omega] at hp
    exact odd_value (o := 0) tf256 (by omega) (by omega) (by omega) _ _ hp (H.rows1 k) (H.tile (h := 1) (off74_eq k hb) (off75_eq k hb) (off81_eq k hb) (Facts₀.k0_off74_inb k h1 h2 h3 h4 h5) (Facts₀.k0_off75_inb k h1 h2 h3 h4 h5) (Facts₀.k0_off81_inb k h1 h2 h3 h4 h5)) (H.tile (h := 1) (off78_eq k) (off79_eq k) (off83_eq k) (Facts₀.k0_off78_inb k h1 h2 h3 h4 h5) (Facts₀.k0_off79_inb k h1 h2 h3 h4 h5) (Facts₀.k0_off83_inb k h1 h2 h3 h4 h5)) (by omega) (by omega) (H.ones c i arg2 arg3 arg5 arg6 arg7 arg9 X2 X3 X5 X6 X7 X9 1 (by omega)) (H.gates (h := 1) (k0_off71_eq k) (Facts₀.k0_off71_inb k h1 h2 h3 h4 h5)) r d

/-- The sixth branch writes the band of the gated attention. -/
theorem Reads.trip5 (h1 : k0_cond1 k = 1#1) (h2 : k0_cond2 k = 1#1) (h3 : k0_cond3 k = 1#1) (h4 : k0_cond4 k = 1#1) (h5 : k0_cond5 k = 1#1) (h6 : ¬(k0_cond6 k = 1#1)) : IsAttn Q K G C V k.val
    (trip5 c i arg2 harg2 arg3 harg3 arg4 harg4 arg5 harg5 arg6 harg6 arg7 harg7 arg8 harg8 arg9 harg9 (bodyRun.sl.v0 i) bodyRun.sl.v1 k h1 h2 h3 h4 h5 h6 X2 X3 X5 X6 X7 X9).1 := by
  obtain ⟨v54, v80, e⟩ := trip5_out c i arg2 harg2 arg3 harg3 arg4 harg4 arg5 harg5 arg6 harg6 arg7 harg7 arg8 harg8 arg9 harg9 (bodyRun.sl.v0 i) bodyRun.sl.v1 k X2 X3 X5 X6 X7 X9 h1 h2 h3 h4 h5 h6
  have hb := branch5 k h1 h2 h3 h4 h5 h6
  rw [e, state_eq]
  refine ⟨_, _, ⟨_, _, _, _, k0_off57_eq k, k0_off56_eq k, rfl⟩, fun r d => ?_, fun r d => ?_⟩
  · have hp := H.pairs0 harg2 harg3 arg4 harg4 harg5 harg6 harg7 arg8 harg8 harg9 k v54 (k.val / 8) le_rfl
    rw [show 2048 * (k.val / 8) = 1024 * (k.val / 4) - 1024 by omega] at hp
    exact odd_value (o := 256) tf512 (by omega) (by omega) (by omega) _ _ hp (H.rows0 k) (H.tile (h := 0) (off58_eq k hb) (off59_eq k hb) (off66_eq k hb) (Facts₀.k0_off58_inb k h1 h2 h3 h4 h5 h6) (Facts₀.k0_off59_inb k h1 h2 h3 h4 h5 h6) (Facts₀.k0_off66_inb k h1 h2 h3 h4 h5 h6)) (H.tile (h := 0) (off62_eq k) (off63_eq k) (off68_eq k) (Facts₀.k0_off62_inb k h1 h2 h3 h4 h5 h6) (Facts₀.k0_off63_inb k h1 h2 h3 h4 h5 h6) (Facts₀.k0_off68_inb k h1 h2 h3 h4 h5 h6)) (by omega) (by omega) (H.ones c i arg2 arg3 arg5 arg6 arg7 arg9 X2 X3 X5 X6 X7 X9 0 (by omega)) (H.gates (h := 0) (k0_off56_eq k) (Facts₀.k0_off56_inb k h1 h2 h3 h4 h5 h6)) r d
  · have hp := H.pairs1 harg2 harg3 arg4 harg4 harg5 harg6 harg7 arg8 harg8 harg9 k v54 (k.val / 8) le_rfl
    rw [show 2048 * (k.val / 8) = 1024 * (k.val / 4) - 1024 by omega] at hp
    exact odd_value (o := 256) tf512 (by omega) (by omega) (by omega) _ _ hp (H.rows1 k) (H.tile (h := 1) (off60_eq k hb) (off61_eq k hb) (off67_eq k hb) (Facts₀.k0_off60_inb k h1 h2 h3 h4 h5 h6) (Facts₀.k0_off61_inb k h1 h2 h3 h4 h5 h6) (Facts₀.k0_off67_inb k h1 h2 h3 h4 h5 h6)) (H.tile (h := 1) (off64_eq k) (off65_eq k) (off69_eq k) (Facts₀.k0_off64_inb k h1 h2 h3 h4 h5 h6) (Facts₀.k0_off65_inb k h1 h2 h3 h4 h5 h6) (Facts₀.k0_off69_inb k h1 h2 h3 h4 h5 h6)) (by omega) (by omega) (H.ones c i arg2 arg3 arg5 arg6 arg7 arg9 X2 X3 X5 X6 X7 X9 1 (by omega)) (H.gates (h := 1) (k0_off57_eq k) (Facts₀.k0_off57_inb k h1 h2 h3 h4 h5 h6)) r d

/-- The seventh branch writes the band of the gated attention. -/
theorem Reads.trip6 (h1 : k0_cond1 k = 1#1) (h2 : k0_cond2 k = 1#1) (h3 : k0_cond3 k = 1#1) (h4 : k0_cond4 k = 1#1) (h5 : k0_cond5 k = 1#1) (h6 : k0_cond6 k = 1#1) (h7 : ¬(k0_cond7 k = 1#1)) : IsAttn Q K G C V k.val
    (trip6 c i arg2 harg2 arg3 harg3 arg4 harg4 arg5 harg5 arg6 harg6 arg7 harg7 arg8 harg8 arg9 harg9 (bodyRun.sl.v0 i) bodyRun.sl.v1 k h1 h2 h3 h4 h5 h6 h7 X2 X3 X5 X6 X7 X9).1 := by
  obtain ⟨v54, v80, e⟩ := trip6_out c i arg2 harg2 arg3 harg3 arg4 harg4 arg5 harg5 arg6 harg6 arg7 harg7 arg8 harg8 arg9 harg9 (bodyRun.sl.v0 i) bodyRun.sl.v1 k X2 X3 X5 X6 X7 X9 h1 h2 h3 h4 h5 h6 h7
  have hb := branch6 k h1 h2 h3 h4 h5 h6 h7
  rw [e, state_eq]
  refine ⟨_, _, ⟨_, _, _, _, k0_off43_eq k, k0_off42_eq k, rfl⟩, fun r d => ?_, fun r d => ?_⟩
  · have hp := H.pairs0 harg2 harg3 arg4 harg4 harg5 harg6 harg7 arg8 harg8 harg9 k v54 (k.val / 8) le_rfl
    rw [show 2048 * (k.val / 8) = 1024 * (k.val / 4) - 1024 by omega] at hp
    exact odd_value (o := 512) tf768 (by omega) (by omega) (by omega) _ _ hp (H.rows0 k) (H.tile (h := 0) (off44_eq k hb) (off45_eq k hb) (off52_eq k hb) (Facts₀.k0_off44_inb k h1 h2 h3 h4 h5 h6 h7) (Facts₀.k0_off45_inb k h1 h2 h3 h4 h5 h6 h7) (Facts₀.k0_off52_inb k h1 h2 h3 h4 h5 h6 h7)) (H.tile (h := 0) (off48_eq k) (off49_eq k) (off54_eq k) (Facts₀.k0_off48_inb k h1 h2 h3 h4 h5 h6 h7) (Facts₀.k0_off49_inb k h1 h2 h3 h4 h5 h6 h7) (Facts₀.k0_off54_inb k h1 h2 h3 h4 h5 h6 h7)) (by omega) (by omega) (H.ones c i arg2 arg3 arg5 arg6 arg7 arg9 X2 X3 X5 X6 X7 X9 0 (by omega)) (H.gates (h := 0) (k0_off42_eq k) (Facts₀.k0_off42_inb k h1 h2 h3 h4 h5 h6 h7)) r d
  · have hp := H.pairs1 harg2 harg3 arg4 harg4 harg5 harg6 harg7 arg8 harg8 harg9 k v54 (k.val / 8) le_rfl
    rw [show 2048 * (k.val / 8) = 1024 * (k.val / 4) - 1024 by omega] at hp
    exact odd_value (o := 512) tf768 (by omega) (by omega) (by omega) _ _ hp (H.rows1 k) (H.tile (h := 1) (off46_eq k hb) (off47_eq k hb) (off53_eq k hb) (Facts₀.k0_off46_inb k h1 h2 h3 h4 h5 h6 h7) (Facts₀.k0_off47_inb k h1 h2 h3 h4 h5 h6 h7) (Facts₀.k0_off53_inb k h1 h2 h3 h4 h5 h6 h7)) (H.tile (h := 1) (off50_eq k) (off51_eq k) (off55_eq k) (Facts₀.k0_off50_inb k h1 h2 h3 h4 h5 h6 h7) (Facts₀.k0_off51_inb k h1 h2 h3 h4 h5 h6 h7) (Facts₀.k0_off55_inb k h1 h2 h3 h4 h5 h6 h7)) (by omega) (by omega) (H.ones c i arg2 arg3 arg5 arg6 arg7 arg9 X2 X3 X5 X6 X7 X9 1 (by omega)) (H.gates (h := 1) (k0_off43_eq k) (Facts₀.k0_off43_inb k h1 h2 h3 h4 h5 h6 h7)) r d

/-- The eighth branch writes the band of the gated attention. -/
theorem Reads.trip7 (h1 : k0_cond1 k = 1#1) (h2 : k0_cond2 k = 1#1) (h3 : k0_cond3 k = 1#1) (h4 : k0_cond4 k = 1#1) (h5 : k0_cond5 k = 1#1) (h6 : k0_cond6 k = 1#1) (h7 : k0_cond7 k = 1#1) : IsAttn Q K G C V k.val
    (trip7 c i arg2 harg2 arg3 harg3 arg4 harg4 arg5 harg5 arg6 harg6 arg7 harg7 arg8 harg8 arg9 harg9 (bodyRun.sl.v0 i) bodyRun.sl.v1 k h1 h2 h3 h4 h5 h6 h7 X2 X3 X5 X6 X7 X9).1 := by
  obtain ⟨v54, v80, e⟩ := trip7_out c i arg2 harg2 arg3 harg3 arg4 harg4 arg5 harg5 arg6 harg6 arg7 harg7 arg8 harg8 arg9 harg9 (bodyRun.sl.v0 i) bodyRun.sl.v1 k X2 X3 X5 X6 X7 X9 h1 h2 h3 h4 h5 h6 h7
  have hb := branch7 k h1 h2 h3 h4 h5 h6 h7
  rw [e, state_eq]
  refine ⟨_, _, ⟨_, _, _, _, k0_off29_eq k, k0_off28_eq k, rfl⟩, fun r d => ?_, fun r d => ?_⟩
  · have hp := H.pairs0 harg2 harg3 arg4 harg4 harg5 harg6 harg7 arg8 harg8 harg9 k v54 (k.val / 8) le_rfl
    rw [show 2048 * (k.val / 8) = 1024 * (k.val / 4) - 1024 by omega] at hp
    exact odd_value (o := 768) tf1024 (by omega) (by omega) (by omega) _ _ hp (H.rows0 k) (H.tile (h := 0) (off30_eq k hb) (off31_eq k hb) (off38_eq k hb) (Facts₀.k0_off30_inb k h1 h2 h3 h4 h5 h6 h7) (Facts₀.k0_off31_inb k h1 h2 h3 h4 h5 h6 h7) (Facts₀.k0_off38_inb k h1 h2 h3 h4 h5 h6 h7)) (H.tile (h := 0) (off34_eq k) (off35_eq k) (off40_eq k) (Facts₀.k0_off34_inb k h1 h2 h3 h4 h5 h6 h7) (Facts₀.k0_off35_inb k h1 h2 h3 h4 h5 h6 h7) (Facts₀.k0_off40_inb k h1 h2 h3 h4 h5 h6 h7)) (by omega) (by omega) (H.ones c i arg2 arg3 arg5 arg6 arg7 arg9 X2 X3 X5 X6 X7 X9 0 (by omega)) (H.gates (h := 0) (k0_off28_eq k) (Facts₀.k0_off28_inb k h1 h2 h3 h4 h5 h6 h7)) r d
  · have hp := H.pairs1 harg2 harg3 arg4 harg4 harg5 harg6 harg7 arg8 harg8 harg9 k v54 (k.val / 8) le_rfl
    rw [show 2048 * (k.val / 8) = 1024 * (k.val / 4) - 1024 by omega] at hp
    exact odd_value (o := 768) tf1024 (by omega) (by omega) (by omega) _ _ hp (H.rows1 k) (H.tile (h := 1) (off32_eq k hb) (off33_eq k hb) (off39_eq k hb) (Facts₀.k0_off32_inb k h1 h2 h3 h4 h5 h6 h7) (Facts₀.k0_off33_inb k h1 h2 h3 h4 h5 h6 h7) (Facts₀.k0_off39_inb k h1 h2 h3 h4 h5 h6 h7)) (H.tile (h := 1) (off36_eq k) (off37_eq k) (off41_eq k) (Facts₀.k0_off36_inb k h1 h2 h3 h4 h5 h6 h7) (Facts₀.k0_off37_inb k h1 h2 h3 h4 h5 h6 h7) (Facts₀.k0_off41_inb k h1 h2 h3 h4 h5 h6 h7)) (by omega) (by omega) (H.ones c i arg2 arg3 arg5 arg6 arg7 arg9 X2 X3 X5 X6 X7 X9 1 (by omega)) (H.gates (h := 1) (k0_off29_eq k) (Facts₀.k0_off29_inb k h1 h2 h3 h4 h5 h6 h7)) r d

/-- Whichever branch a trip takes, it writes its band of the gated attention. -/
theorem Reads.trip : IsAttn Q K G C V k.val
    (trip c i arg2 harg2 arg3 harg3 arg4 harg4 arg5 harg5 arg6 harg6 arg7 harg7 arg8 harg8 arg9 harg9 (bodyRun.sl.v0 i) bodyRun.sl.v1 k X2 X3 X5 X6 X7 X9).1 := by
  unfold Fox.trip
  by_cases h1 : k0_cond1 k = 1#1
  rotate_left
  · simp only [h1, ↓reduceDIte]
    exact H.trip0 c i arg2 harg2 arg3 harg3 arg4 harg4 arg5 harg5 arg6 harg6 arg7 harg7 arg8 harg8 arg9 harg9 k X2 X3 X5 X6 X7 X9 h1
  by_cases h2 : k0_cond2 k = 1#1
  rotate_left
  · simp only [h1, h2, ↓reduceDIte]
    exact H.trip1 c i arg2 harg2 arg3 harg3 arg4 harg4 arg5 harg5 arg6 harg6 arg7 harg7 arg8 harg8 arg9 harg9 k X2 X3 X5 X6 X7 X9 h1 h2
  by_cases h3 : k0_cond3 k = 1#1
  rotate_left
  · simp only [h1, h2, h3, ↓reduceDIte]
    exact H.trip2 c i arg2 harg2 arg3 harg3 arg4 harg4 arg5 harg5 arg6 harg6 arg7 harg7 arg8 harg8 arg9 harg9 k X2 X3 X5 X6 X7 X9 h1 h2 h3
  by_cases h4 : k0_cond4 k = 1#1
  rotate_left
  · simp only [h1, h2, h3, h4, ↓reduceDIte]
    exact H.trip3 c i arg2 harg2 arg3 harg3 arg4 harg4 arg5 harg5 arg6 harg6 arg7 harg7 arg8 harg8 arg9 harg9 k X2 X3 X5 X6 X7 X9 h1 h2 h3 h4
  by_cases h5 : k0_cond5 k = 1#1
  rotate_left
  · simp only [h1, h2, h3, h4, h5, ↓reduceDIte]
    exact H.trip4 c i arg2 harg2 arg3 harg3 arg4 harg4 arg5 harg5 arg6 harg6 arg7 harg7 arg8 harg8 arg9 harg9 k X2 X3 X5 X6 X7 X9 h1 h2 h3 h4 h5
  by_cases h6 : k0_cond6 k = 1#1
  rotate_left
  · simp only [h1, h2, h3, h4, h5, h6, ↓reduceDIte]
    exact H.trip5 c i arg2 harg2 arg3 harg3 arg4 harg4 arg5 harg5 arg6 harg6 arg7 harg7 arg8 harg8 arg9 harg9 k X2 X3 X5 X6 X7 X9 h1 h2 h3 h4 h5 h6
  by_cases h7 : k0_cond7 k = 1#1
  rotate_left
  · simp only [h1, h2, h3, h4, h5, h6, h7, ↓reduceDIte]
    exact H.trip6 c i arg2 harg2 arg3 harg3 arg4 harg4 arg5 harg5 arg6 harg6 arg7 harg7 arg8 harg8 arg9 harg9 k X2 X3 X5 X6 X7 X9 h1 h2 h3 h4 h5 h6 h7
  simp only [h1, h2, h3, h4, h5, h6, h7, ↓reduceDIte]
  exact H.trip7 c i arg2 harg2 arg3 harg3 arg4 harg4 arg5 harg5 arg6 harg6 arg7 harg7 arg8 harg8 arg9 harg9 k X2 X3 X5 X6 X7 X9 h1 h2 h3 h4 h5 h6 h7

end

end Cert.Proof.Fox

end

end
-- ==== Proof.Output.lean ====
/- What the body leaves in its output block: the gated attention of both heads, at every row. -/
module

public import proofs.«01_k».proof.Proof.TripValue

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.ShloMosaic.ValueIdx

/-- Under the last piece written, the contents are that piece's. -/
theorem canon_unit {s : Shape} {e : EltTy} {off sz : Fin s.rank → ℕ} {inb : ∀ a, off a + sz a ≤ s.size a}
    (w : (Rect.unit (s := s) off sz inb).shape.Idx → Elt Ideal e) (L : List (View.Piece (Elt Ideal) s e)) (y : s.Idx)
    (x : (Rect.unit (s := s) off sz inb).shape.Idx) (hx : ∀ a, (y a).val = off a + (x a).val) :
    View.canon (⟨Rect.unit (s := s) off sz inb, w⟩ :: L) y = w x := by
  have hy : y = (Rect.unit (s := s) off sz inb).emb x := funext fun a => Fin.ext ((hx a).trans (Rect.idx_unit_val off sz inb x a).symm)
  rw [hy]
  exact View.canon_cons_emb _ w L x

/-- Off the last piece written, the contents are the earlier pieces'. -/
theorem canon_skip {s : Shape} {e : EltTy} {off sz : Fin s.rank → ℕ} {inb : ∀ a, off a + sz a ≤ s.size a}
    (w : (Rect.unit (s := s) off sz inb).shape.Idx → Elt Ideal e) (L : List (View.Piece (Elt Ideal) s e)) (y : s.Idx)
    (a : Fin s.rank) (h : (y a).val < off a ∨ off a + sz a ≤ (y a).val) :
    View.canon (⟨Rect.unit (s := s) off sz inb, w⟩ :: L) y = View.canon L y := by
  refine View.canon_cons_of_not_mem _ L fun hm => ?_
  have := (Rect.mem_set_unit (inb := inb)).mp hm a
  omega

/-- The gated attention of a block at row `t`, column `e` of its 256. -/
def blockAttn (Q K : ℕ → ℕ → ℝ) (G : ℕ → ℕ → EReal) (C : ℕ → ℕ → ℝ) (V : ℕ → ℕ → EReal) (t e : ℕ) : EReal :=
  attn (hc Q (e / 128)) (hc K (e / 128)) (C (e / 128)) (hv V (e / 128)) (hc G (e / 128)) t ⟨e % 128, Nat.mod_lt _ (by decide)⟩

section
variable {Q K : ℕ → ℕ → ℝ} {G : ℕ → ℕ → EReal} {C : ℕ → ℕ → ℝ} {V : ℕ → ℕ → EReal}

/-- Rows off a band are as they were. -/
theorem IsAttn.off {k : ℕ} {L : List (View.Piece (Elt Ideal) S4096x256 .bf16)} (h : IsAttn Q K G C V k L)
    (M : List (View.Piece (Elt Ideal) S4096x256 .bf16)) (y : S4096x256.Idx) (hy : (y 0).val < 256 * k) :
    View.canon (L ++ M) y = View.canon M y := by
  obtain ⟨w0, w1, ⟨o1, o0, i1, i0, e1, e0, rfl⟩, _, _⟩ := h
  subst e1 e0
  refine (canon_skip w1 (_ :: M) y 0 ?_).trans (canon_skip w0 M y 0 ?_)
  · exact .inl hy
  · exact .inl hy

/-- Rows of a band are the gated attention. -/
theorem IsAttn.on {k : ℕ} {L : List (View.Piece (Elt Ideal) S4096x256 .bf16)} (h : IsAttn Q K G C V k L)
    (M : List (View.Piece (Elt Ideal) S4096x256 .bf16)) (y : S4096x256.Idx) (hy : 256 * k ≤ (y 0).val) (hy' : (y 0).val < 256 * (k + 1)) :
    View.canon (L ++ M) y = blockAttn Q K G C V (y 0).val (y 1).val := by
  obtain ⟨w0, w1, ⟨o1, o0, i1, i0, e1, e0, rfl⟩, h0, h1⟩ := h
  subst e1 e0
  have hc : (y 1).val < 256 := (y 1).isLt
  have hr : 256 * k + ((y 0).val - 256 * k) = (y 0).val := by omega
  unfold blockAttn
  by_cases hcol : (y 1).val < 128
  · refine (canon_skip w1 (_ :: M) y 1 ?_).trans ?_
    · exact .inl hcol
    refine (canon_unit w0 M y (ix2 (⟨(y 0).val - 256 * k, by omega⟩ : Fin 256) (⟨(y 1).val, hcol⟩ : Fin 128)) fun a => ?_).trans ?_
    · match a with
      | ⟨0, _⟩ => exact hr.symm
      | ⟨1, _⟩ => exact (Nat.zero_add _).symm
    · rw [h0]
      simp only [hr, Nat.div_eq_of_lt hcol, Nat.mod_eq_of_lt hcol]
  · refine (canon_unit w1 _ y (ix2 (⟨(y 0).val - 256 * k, by omega⟩ : Fin 256) (⟨(y 1).val - 128, by omega⟩ : Fin 128)) fun a => ?_).trans ?_
    · match a with
      | ⟨0, _⟩ => exact hr.symm
      | ⟨1, _⟩ => show (y 1).val = 128 + ((y 1).val - 128); omega
    · rw [h1]
      simp only [hr, show (y 1).val / 128 = 1 by omega, show (y 1).val % 128 = (y 1).val - 128 by omega]

end

section
variable (c : Dev nD) (i : grid0.Coords) (arg2 : Memref sig .tc .vmem S4096x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S2x1x4096 .f32) (harg6 : arg6.IsWhole) (arg7 : Memref sig .tc .vmem S4096x16 .f32) (harg7 : arg7.IsWhole) (arg8 : Memref sig .tc .vmem S4096x256 .bf16) (harg8 : arg8.IsWhole) (arg9 : Memref sig .tc .vmem S4096x512 .bf16) (harg9 : arg9.IsWhole)
variable (X2 : Bf (F := Ideal) c arg2) (X3 : Bf (F := Ideal) c arg3) (X4 : Bf (F := Ideal) c arg4) (X5 : Bf (F := Ideal) c arg5) (X6 : Bf (F := Ideal) c arg6) (X7 : Bf (F := Ideal) c arg7) (X9 : Bf (F := Ideal) c arg9)
variable {Q K : ℕ → ℕ → ℝ} {G : ℕ → ℕ → EReal} {C : ℕ → ℕ → ℝ} {V : ℕ → ℕ → EReal}

/-- The first `n` trips leave the gated attention in the first `256 n` rows. -/
theorem pcs_value (H : Reads c i arg2 arg3 arg5 arg6 arg7 arg9 X2 X3 X5 X6 X7 X9 Q K G C V) (n : ℕ) (hn : n ≤ k0_t1_loop.trips)
    (y : S4096x256.Idx) (hy : (y 0).val < 256 * n) :
    View.canon (pcs c i arg2 harg2 arg3 harg3 arg4 harg4 arg5 harg5 arg6 harg6 arg7 harg7 arg8 harg8 arg9 harg9 (bodyRun.sl.v0 i) bodyRun.sl.v1 X2 X3 X5 X6 X7 X9 n) y = blockAttn Q K G C V (y 0).val (y 1).val := by
  induction n with
  | zero => omega
  | succ n ih =>
    rw [pcs_succ c i arg2 harg2 arg3 harg3 arg4 harg4 arg5 harg5 arg6 harg6 arg7 harg7 arg8 harg8 arg9 harg9 (bodyRun.sl.v0 i) bodyRun.sl.v1 X2 X3 X5 X6 X7 X9 ⟨n, hn⟩]
    have ht := H.trip c i arg2 harg2 arg3 harg3 arg4 harg4 arg5 harg5 arg6 harg6 arg7 harg7 arg8 harg8 arg9 harg9 ⟨n, hn⟩ X2 X3 X5 X6 X7 X9
    by_cases h : (y 0).val < 256 * n
    · exact (ht.off _ y h).trans (ih (Nat.le_of_succ_le hn) h)
    · exact ht.on _ y (not_lt.mp h) hy

/-- Both heads' values, each beside 128 columns of ones. -/
def vone (Z : ℕ → ℕ → EReal) (s e : ℕ) : EReal := if e % 256 < 128 then Z s (128 * (e / 256) + e % 256) else 1

/-- A head's values beside ones, at an entry. -/
theorem beside_apply (v : FVec Ideal S4096x128 .bf16) (s : Fin 4096) (e : Fin 256) :
    k0_pay1 v (ix2 s e) = if h : e.val < 128 then v (ix2 s (⟨e.val, h⟩ : Fin 128)) else (1 : EReal) := by
  unfold k0_pay1
  rw [shapeCast_self]
  by_cases h : e.val < 128
  · rw [dif_pos h]
    refine concatenate_pair_apply_left (t := S4096x256) (s₁ := S4096x128) (s₂ := S4096x128) 1 _ _ _ _ rfl (ix2 s (⟨e.val, h⟩ : Fin 128)) fun b => ?_
    match b with
    | ⟨0, _⟩ => rfl
    | ⟨1, _⟩ => rfl
  · rw [dif_neg h]
    refine (concatenate_pair_apply_right (t := S4096x256) (s₁ := S4096x128) (s₂ := S4096x128) 1 _ _ _ _ rfl rfl (ix2 s (⟨e.val - 128, by omega⟩ : Fin 128)) (fun b hb => ?_) ?_).trans ?_
    · match b with
      | ⟨0, _⟩ => rfl
      | ⟨1, _⟩ => exact absurd rfl hb
    · show e.val - 128 + 128 = e.val
      omega
    · exact Ideal.ofBits_one_bf16

/-- What the body first writes into its scratch: both heads' values beside ones. -/
theorem scratch_value {Z : ℕ → ℕ → EReal} (h4 : ∀ x, View.read (Elt Ideal) arg4.view X4 x = Z (x 0).val (x 1).val) (x : S4096x512.Idx) :
    View.read (Elt Ideal) arg9.view (arg9.view.writes (Elt Ideal) arg9.view.junk (bodyRun.sl.H9_2 c arg4 X4)) x = vone Z (x 0).val (x 1).val := by
  rw [View.read_writes_junk_eq_canon]
  have hx : (x 1).val < 512 := (x 1).isLt
  unfold vone
  by_cases hcol : (x 1).val < 256
  · refine (canon_skip _ _ x 1 ?_).trans ?_
    · exact .inl hcol
    refine (canon_unit _ _ x (ix2 (x 0) (⟨(x 1).val, hcol⟩ : Fin 256)) fun a => ?_).trans ?_
    · match a with
      | ⟨0, _⟩ => exact (Nat.zero_add _).symm
      | ⟨1, _⟩ => exact (Nat.zero_add _).symm
    · refine (beside_apply _ (x 0) ⟨(x 1).val, hcol⟩).trans ?_
      simp only [Nat.div_eq_of_lt hcol, Nat.mod_eq_of_lt hcol]
      split
      · exact (ld_mat c arg4 X4 Z h4 rfl _ _ _).trans (congrArg₂ Z (Nat.zero_add _) rfl)
      · rfl
  · refine (canon_unit _ _ x (ix2 (x 0) (⟨(x 1).val - 256, by omega⟩ : Fin 256)) fun a => ?_).trans ?_
    · match a with
      | ⟨0, _⟩ => exact (Nat.zero_add _).symm
      | ⟨1, _⟩ => show (x 1).val = 256 + ((x 1).val - 256); omega
    · refine (beside_apply _ (x 0) ⟨(x 1).val - 256, by omega⟩).trans ?_
      simp only [show (x 1).val / 256 = 1 by omega, show (x 1).val % 256 = (x 1).val - 256 by omega]
      split
      · exact (ld_mat c arg4 X4 Z h4 rfl _ _ _).trans (congrArg₂ Z (Nat.zero_add _) rfl)
      · rfl

/-- What the body leaves in its output block, from what its input blocks hold. -/
theorem body_value {Z : ℕ → ℕ → EReal}
    (h2 : ∀ x, View.read (Elt Ideal) arg2.view X2 x = (Q (x 0).val (x 1).val : EReal))
    (h3 : ∀ x, View.read (Elt Ideal) arg3.view X3 x = (K (x 0).val (x 1).val : EReal))
    (h4 : ∀ x, View.read (Elt Ideal) arg4.view X4 x = Z (x 0).val (x 1).val)
    (h5 : ∀ x, View.read (Elt Ideal) arg5.view X5 x = G (x 0).val (x 1).val)
    (h6 : ∀ x, View.read (Elt Ideal) arg6.view X6 x = (C (x 0).val (x 2).val : EReal))
    (h7 : ∀ x : S4096x16.Idx, ∀ h < 2, (x 1).val = 2 * (i 1).val + h → View.read (Elt Ideal) arg7.view X7 x = (C h (x 0).val : EReal))
    (y : S4096x256.Idx) :
    View.canon (bodyRun c i arg2 harg2 arg3 harg3 arg4 harg4 arg5 harg5 arg6 harg6 arg7 harg7 arg8 harg8 arg9 harg9 X2 X3 X4 X5 X6 X7).1 y = blockAttn Q K G C (vone Z) (y 0).val (y 1).val := by
  have H : Reads c i arg2 arg3 arg5 arg6 arg7 arg9 X2 X3 X5 X6 X7
      (arg9.view.writes (Elt Ideal) arg9.view.junk (bodyRun.sl.H9_2 c arg4 X4)) Q K G C (vone Z) :=
    ⟨h2, h3, h5, h6, h7, scratch_value c arg4 arg9 X4 h4, fun s h hh d hd => by
      unfold vone
      rw [if_neg (by omega)]⟩
  refine pcs_value c i arg2 harg2 arg3 harg3 arg4 harg4 arg5 harg5 arg6 harg6 arg7 harg7 arg8 harg8 arg9 harg9 X2 X3 X5 X6 X7 _ H _ le_rfl y ?_
  have h : (y 0).val < 4096 := (y 0).isLt
  rw [trips_eq]
  exact h

end

end Cert.Proof.Fox

end

end
-- ==== Proof.Blocks.lean ====
/- What each input block holds, in terms of the launched arrays. -/
module

public import proofs.«01_k».proof.Proof.Frame
public import proofs.«01_k».proof.Proof.Output
public import Idealize.ShloMosaic.Lib.Pipeline.ValueKit

@[expose] public section

noncomputable section

namespace Cert.Proof.Fox

open Cert.KernelIdeal Cert.KernelIdeal.Gen
open Idealize.ShloMosaic Idealize.ShloMosaic.TcCoe Idealize.ShloMosaic.Tactic
open Idealize.ShloMosaic.ValueIdx

/-- Where each window's block lies at a grid point: batch by rows, head pair by columns. -/
theorem idx_at : ∀ t : Fin cfg0.N,
    (win0_0.index t 0 = (grid0.coords t 0).val ∧ win0_0.index t 1 = (grid0.coords t 1).val)
    ∧ (win0_1.index t 0 = (grid0.coords t 0).val ∧ win0_1.index t 1 = (grid0.coords t 1).val + 8)
    ∧ (win0_2.index t 0 = (grid0.coords t 0).val ∧ win0_2.index t 1 = (grid0.coords t 1).val + 16)
    ∧ (win0_3.index t 0 = (grid0.coords t 0).val ∧ win0_3.index t 1 = (grid0.coords t 1).val + 24)
    ∧ (win0_4.index t 0 = (grid0.coords t 1).val ∧ win0_4.index t 1 = 0 ∧ win0_4.index t 2 = (grid0.coords t 0).val)
    ∧ (win0_5.index t 0 = (grid0.coords t 0).val ∧ win0_5.index t 1 = 0)
    ∧ (win0_6.index t 0 = (grid0.coords t 0).val ∧ win0_6.index t 1 = (grid0.coords t 1).val) := by decide +kernel

variable (m : (ℓ : Loc nD τ sig) → Buf (Elt Ideal) ℓ) (c : Dev nD) (t : Fin cfg0.N)

/-- The projection at row `r`, column `n`. -/
def pe (r n : ℕ) : EReal :=
  if h : r < 8192 ∧ n < 16384 then (m (c.tc.loc main_arg0) : S8192x16384.Idx → EReal) (ValueIdx.ix2 (⟨r, h.1⟩ : Fin 8192) (⟨n, h.2⟩ : Fin 16384)) else 0

/-- The cumulative log gate of batch `b` at position `s`, head `h`. -/
def ce (b s h : ℕ) : EReal :=
  if k : b < 2 ∧ s < 4096 ∧ h < 16 then
    (m (c.tc.loc main_arg1) : S2x4096x16.Idx → EReal) (ValueIdx.ix3 (⟨b, k.1⟩ : Fin 2) (⟨s, k.2.1⟩ : Fin 4096) (⟨h, k.2.2⟩ : Fin 16)) else 0

/-- The block of queries. -/
theorem iblk0_apply (x : S4096x256.Idx) : iblk m c 0 t x
    = pe m c (4096 * (grid0.coords t 0).val + (x 0).val) (256 * (grid0.coords t 1).val + (x 1).val) := by
  have h0 : (x 0).val < 4096 := (x 0).isLt
  have h1 : (x 1).val < 256 := (x 1).isLt
  have h2 : (grid0.coords t 0).val < 2 := (grid0.coords t 0).isLt
  have h3 : (grid0.coords t 1).val < 8 := (grid0.coords t 1).isLt
  have hi := (idx_at t).1
  unfold pe
  rw [dif_pos (by omega)]
  blk_simp [iblk]
  entry_read
  blk_ext [hi.1, hi.2]

/-- The block of keys. -/
theorem iblk1_apply (x : S4096x256.Idx) : iblk m c 1 t x
    = pe m c (4096 * (grid0.coords t 0).val + (x 0).val) (2048 + 256 * (grid0.coords t 1).val + (x 1).val) := by
  have h0 : (x 0).val < 4096 := (x 0).isLt
  have h1 : (x 1).val < 256 := (x 1).isLt
  have h2 : (grid0.coords t 0).val < 2 := (grid0.coords t 0).isLt
  have h3 : (grid0.coords t 1).val < 8 := (grid0.coords t 1).isLt
  have hi := (idx_at t).2.1
  unfold pe
  rw [dif_pos (by omega)]
  blk_simp [iblk]
  entry_read
  blk_ext [hi.1, hi.2]

/-- The block of values. -/
theorem iblk2_apply (x : S4096x256.Idx) : iblk m c 2 t x
    = pe m c (4096 * (grid0.coords t 0).val + (x 0).val) (4096 + 256 * (grid0.coords t 1).val + (x 1).val) := by
  have h0 : (x 0).val < 4096 := (x 0).isLt
  have h1 : (x 1).val < 256 := (x 1).isLt
  have h2 : (grid0.coords t 0).val < 2 := (grid0.coords t 0).isLt
  have h3 : (grid0.coords t 1).val < 8 := (grid0.coords t 1).isLt
  have hi := (idx_at t).2.2.1
  unfold pe
  rw [dif_pos (by omega)]
  blk_simp [iblk]
  entry_read
  blk_ext [hi.1, hi.2]

/-- The block of gates. -/
theorem iblk3_apply (x : S4096x256.Idx) : iblk m c 3 t x
    = pe m c (4096 * (grid0.coords t 0).val + (x 0).val) (6144 + 256 * (grid0.coords t 1).val + (x 1).val) := by
  have h0 : (x 0).val < 4096 := (x 0).isLt
  have h1 : (x 1).val < 256 := (x 1).isLt
  have h2 : (grid0.coords t 0).val < 2 := (grid0.coords t 0).isLt
  have h3 : (grid0.coords t 1).val < 8 := (grid0.coords t 1).isLt
  have hi := (idx_at t).2.2.2.1
  unfold pe
  rw [dif_pos (by omega)]
  blk_simp [iblk]
  entry_read
  blk_ext [hi.1, hi.2]

/-- The constant two's logarithm. -/
theorem log_two : Ideal.log (Ideal.ofBits .f32 0x40000000#32) = ((Real.log 2 : ℝ) : EReal) := by
  rw [show Ideal.ofBits .f32 0x40000000#32 = ((2 : ℝ) : EReal) by
    simp [Ideal.ofBits, Ideal.ieee, -EReal.coe_mul]; norm_num]
  rw [Ideal.log_coe, if_neg (by norm_num)]

/-- The rows' decays, a column per head. -/
theorem iblk5_apply (x : S4096x16.Idx) : iblk m c 5 t x
    = Ideal.div (ce m c (grid0.coords t 0).val (x 0).val (x 1).val) ((Real.log 2 : ℝ) : EReal) := by
  have h0 : (x 0).val < 4096 := (x 0).isLt
  have h1 : (x 1).val < 16 := (x 1).isLt
  have h2 : (grid0.coords t 0).val < 2 := (grid0.coords t 0).isLt
  have hi := (idx_at t).2.2.2.2.2.1
  unfold ce
  rw [dif_pos (by omega), ← log_two]
  blk_simp [iblk]
  entry_read
  pointwise
  refine congrArg (fun a => Ideal.div a _) ?_
  blk_ext [hi.1, hi.2]
  · show _ = (grid0.coords t 0).val; omega
  · show _ = (x 0).val; omega

/-- The keys' decays, a row per head. -/
theorem iblk4_apply (x : S2x1x4096.Idx) : iblk m c 4 t x
    = Ideal.div (ce m c (grid0.coords t 0).val (x 2).val (2 * (grid0.coords t 1).val + (x 0).val)) ((Real.log 2 : ℝ) : EReal) := by
  have h0 : (x 0).val < 2 := (x 0).isLt
  have h1 : (x 2).val < 4096 := (x 2).isLt
  have h2 : (grid0.coords t 0).val < 2 := (grid0.coords t 0).isLt
  have h3 : (grid0.coords t 1).val < 8 := (grid0.coords t 1).isLt
  have hi := (idx_at t).2.2.2.2.1
  unfold ce
  rw [dif_pos (by omega), ← log_two]
  blk_simp [iblk]
  entry_read
  pointwise
  refine congrArg (fun a => Ideal.div a _) ?_
  blk_ext [hi.1, hi.2.1, hi.2.2]
  · show _ = (grid0.coords t 0).val; omega
  · show _ = (x 2).val; omega

end Cert.Proof.Fox

end

end
-- ==== Proof.Result.lean ====
/- The kernel's result: the array the region leaves, from the launched arrays. -/
module

public import proofs.«01_k».proof.Proof.Blocks

@[expose] public section

noncomputable section

namespace Cert.Proof.Fox

open Cert.KernelIdeal Cert.KernelIdeal.Gen
open Idealize.ShloMosaic Idealize.ShloMosaic.TcCoe Idealize.ShloMosaic.Tactic

section
variable (m : (ℓ : Loc nD τ sig) → Buf (Elt Ideal) ℓ) (c : Dev nD)

/-- The queries and keys of the projection, and every cumulative log gate, are finite. -/
structure Finite : Prop where
  proj : ∀ r n, n < 4096 → pe m c r n = ((pe m c r n).toReal : EReal)
  decay : ∀ b s h, ce m c b s h = ((ce m c b s h).toReal : EReal)

/-- The logit of query `s` and key `u` in batch `b`, head `n`: the product scaled, plus the decay between them. -/
def score (b n s u : ℕ) : ℝ :=
  (∑ e : Fin 128, (pe m c (4096 * b + s) (128 * n + e.val)).toReal * (pe m c (4096 * b + u) (2048 + (128 * n + e.val))).toReal) / Real.sqrt 128
    + ((ce m c b s n).toReal - (ce m c b u n).toReal)

/-- The gated attention of batch `b`, position `s`, head `n`, column `d`. -/
def res (b s n d : ℕ) : EReal :=
  soft s (score m c b n s) (fun u => pe m c (4096 * b + u) (4096 + (128 * n + d)))
    * Ideal.div (pe m c (4096 * b + s) (6144 + (128 * n + d))) (1 + Ideal.exp (0 - pe m c (4096 * b + s) (6144 + (128 * n + d))))

variable {m c}

/-- A finite number over the logarithm of two. -/
theorem div_log_two (x : EReal) (hx : x = (x.toReal : EReal)) : Ideal.div x ((Real.log 2 : ℝ) : EReal) = ((x.toReal / Real.log 2 : ℝ) : EReal) := by
  have h2 : Real.log 2 ≠ 0 := (Real.log_pos (by norm_num)).ne'
  unfold Ideal.div
  rw [if_neg (by rw [EReal.coe_eq_zero]; exact h2), hx, ← EReal.coe_inv, ← EReal.coe_mul, EReal.toReal_coe, div_eq_mul_inv]

/-- What the body leaves at grid point `t` is the gated attention of its batch and its pair of heads. -/
theorem outAt_apply (H : Finite m c) (t : Fin cfg0.N) (y : S4096x256.Idx) :
    outAt m c t y = res m c (grid0.coords t 0).val (y 0).val (2 * (grid0.coords t 1).val + (y 1).val / 128) ((y 1).val % 128) := by
  have h3 : (grid0.coords t 1).val < 8 := (grid0.coords t 1).isLt
  have hy1 : (y 1).val < 256 := (y 1).isLt
  unfold outAt
  refine (body_value (Q := fun r n => (pe m c (4096 * (grid0.coords t 0).val + r) (256 * (grid0.coords t 1).val + n)).toReal)
    (K := fun r n => (pe m c (4096 * (grid0.coords t 0).val + r) (2048 + 256 * (grid0.coords t 1).val + n)).toReal)
    (Z := fun r n => pe m c (4096 * (grid0.coords t 0).val + r) (4096 + 256 * (grid0.coords t 1).val + n))
    (G := fun r n => pe m c (4096 * (grid0.coords t 0).val + r) (6144 + 256 * (grid0.coords t 1).val + n))
    (C := fun h s => (ce m c (grid0.coords t 0).val s (2 * (grid0.coords t 1).val + h)).toReal / Real.log 2)
    c (grid0.coords t) _ _ _ _ _ _ _ _ _ _ _ _ _ _ _ _ _ _ _ _ _ _ ?_ ?_ ?_ ?_ ?_ ?_ y).trans ?_
  · intro x
    have hx : (x 1).val < 256 := (x 1).isLt
    rw [View.read_rep, iblk0_apply]
    exact H.proj _ _ (by omega)
  · intro x
    have hx : (x 1).val < 256 := (x 1).isLt
    rw [View.read_rep, iblk1_apply]
    exact H.proj _ _ (by omega)
  · intro x
    rw [View.read_rep, iblk2_apply]
  · intro x
    rw [View.read_rep, iblk3_apply]
  · intro x
    rw [View.read_rep, iblk4_apply]
    exact div_log_two _ (H.decay _ _ _)
  · intro x h hh hx
    rw [View.read_rep, iblk5_apply, hx]
    exact div_log_two _ (H.decay _ _ _)
  · have h2 : Real.log 2 ≠ 0 := (Real.log_pos (by norm_num)).ne'
    unfold blockAttn attn res
    have hcol : ∀ a, a + 256 * (grid0.coords t 1).val + (128 * ((y 1).val / 128) + (y 1).val % 128)
        = a + (128 * (2 * (grid0.coords t 1).val + (y 1).val / 128) + (y 1).val % 128) := fun a => by omega
    refine congrArg₂ (· * ·) (congrArg₂ (soft (y 0).val) (funext fun u => ?_) (funext fun u => ?_)) ?_
    · unfold score logit hc
      rw [show ∀ S x z : ℝ, Real.log 2 * (S * ((Real.log 2)⁻¹ * (Real.sqrt 128)⁻¹) - x / Real.log 2 + z / Real.log 2) = S / Real.sqrt 128 + (z - x) from
        fun S x z => by field_simp; ring]
      refine congrArg₂ (· + ·) (congrArg (· / Real.sqrt 128) (Finset.sum_congr rfl fun e _ => ?_)) rfl
      refine congrArg₂ (fun a b : EReal => a.toReal * b.toReal) (congrArg (pe m c _) ?_) (congrArg (pe m c _) ?_)
      · show 256 * (grid0.coords t 1).val + (128 * ((y 1).val / 128) + e.val) = 128 * (2 * (grid0.coords t 1).val + (y 1).val / 128) + e.val
        omega
      · show 2048 + 256 * (grid0.coords t 1).val + (128 * ((y 1).val / 128) + e.val) = 2048 + (128 * (2 * (grid0.coords t 1).val + (y 1).val / 128) + e.val)
        omega
    · unfold hv vone
      rw [if_pos (by show (256 * ((y 1).val / 128) + (y 1).val % 128) % 256 < 128; omega)]
      refine congrArg (pe m c _) ?_
      show 4096 + 256 * (grid0.coords t 1).val + (128 * ((256 * ((y 1).val / 128) + (y 1).val % 128) / 256) + (256 * ((y 1).val / 128) + (y 1).val % 128) % 256)
        = 4096 + (128 * (2 * (grid0.coords t 1).val + (y 1).val / 128) + (y 1).val % 128)
      omega
    · unfold hc
      simp only [hcol]

/-- The result array after the region: the gated attention at every entry. -/
theorem array_value (H : Finite m c) : (dats m 0 c).arrAt 6 cfg0.N = fun y : S8192x2048.Idx =>
    res m c ((y 0).val / 4096) ((y 0).val % 4096) ((y 1).val / 128) ((y 1).val % 128) := by
  refine (dats m 0 c).arrAt_eq_of_covers 6 _ (by decide +kernel) fun t hf y => ?_
  have h0 : (y 0).val < 4096 := (y 0).isLt
  have h1 : (y 1).val < 256 := (y 1).isLt
  have h2 : (grid0.coords t 0).val < 2 := (grid0.coords t 0).isLt
  have h3 : (grid0.coords t 1).val < 8 := (grid0.coords t 1).isLt
  have hi := (idx_at t).2.2.2.2.2.2
  blk_simp
  rw [after6]
  refine (outAt_apply H t _).trans ?_
  rw [hi.1, hi.2,
    show ((grid0.coords t 0).val * 4096 + (y 0).val) / 4096 = (grid0.coords t 0).val by omega,
    show ((grid0.coords t 0).val * 4096 + (y 0).val) % 4096 = (y 0).val by omega,
    show ((grid0.coords t 1).val * 256 + (y 1).val) / 128 = 2 * (grid0.coords t 1).val + (y 1).val / 128 by omega,
    show ((grid0.coords t 1).val * 256 + (y 1).val) % 128 = (y 1).val % 128 by omega]

/-- Every execution of the kernel ends with the gated attention as its result, and its arguments unchanged. -/
theorem kernel_value (m : (ℓ : Loc nD τ sig) → Buf (Elt Ideal) ℓ) (ρ : Dev nD → PrngReg) (H : ∀ c, Finite m c) :
    θ_run defs (onTc (τ := τ) (main (F := Ideal))) ⟨m, fun _ => 0, ρ⟩ (fun r => (∀ c : Dev nD,
      r.2.mem ((c.tc : Thread nD τ).loc main_v6) = (fun y : S8192x2048.Idx =>
        res m c ((y 0).val / 4096) ((y 0).val % 4096) ((y 1).val / 128) ((y 1).val % 128))
      ∧ r.2.mem ((c.tc : Thread nD τ).loc main_arg0) = m ((c.tc : Thread nD τ).loc main_arg0)
      ∧ r.2.mem ((c.tc : Thread nD τ).loc main_arg1) = m ((c.tc : Thread nD τ).loc main_arg1))) := by
  have hv := (θ_run defs _ _).mono (fun r h => show ∀ c : Dev nD,
      r.2.mem ((c.tc : Thread nD τ).loc main_v6) = (fun y : S8192x2048.Idx =>
        res m c ((y 0).val / 4096) ((y 0).val % 4096) ((y 1).val / 128) ((y 1).val % 128)) from
    fun c => (((h.1 : Pipeline.FramePost cfgs (dats m) 0 (V m) r) c).1 6).trans (array_value (H c))) (run_main m ρ)
  exact (θ_run defs _ _).mono (fun r h c => ⟨h.1 c, h.2.1 c⟩) (θ_run_and hv (frame_main m ρ))

end

end Cert.Proof.Fox

end

end
-- ==== Proof.RefSoft.lean ====
/- The reference's masked softmax over one row, and its gate, as the closed forms the kernel's result is stated in. -/
module

public import proofs.«01_k».proof.Proof.Absorb

@[expose] public section

noncomputable section

namespace Cert.Proof.Fox

open Idealize.ShloMosaic

/-- A sum over the 4096 keys of terms that vanish after key `s` is the sum over keys `0 … s`. -/
theorem sum_upto (s : ℕ) (hs : s < 4096) (f : ℕ → EReal) :
    (∑ u : Fin 4096, if u.val ≤ s then f u.val else 0) = ∑ u ∈ Finset.range (s + 1), f u := by
  rw [← Finset.sum_range (n := 4096) (fun u => if u ≤ s then f u else 0), ← Finset.sum_filter]
  refine Finset.sum_congr ?_ fun _ _ => rfl
  ext u
  simp only [Finset.mem_filter, Finset.mem_range]
  omega

/-- A masked row, less its maximum, exponentiated, over its sum, and weighted by values, is the softmax over keys `0 … s`. -/
theorem masked_soft (s : ℕ) (hs : s < 4096) (y : ℕ → ℝ) (v : ℕ → EReal) (f : Fin 4096 → EReal)
    (hf : ∀ u, f u = if u.val ≤ s then (y u.val : EReal) else ⊥) :
    (∑ u : Fin 4096, v u.val * Ideal.div (Ideal.exp (f u - max ⊥ (Finset.univ.fold max (⊥ : EReal) f)))
        (0 + ∑ u' : Fin 4096, Ideal.exp (f u' - max ⊥ (Finset.univ.fold max (⊥ : EReal) f))))
      = soft s y v := by
  obtain ⟨M, hM⟩ := fold_max_real f (fun j => by rw [hf]; split <;> simp) ⟨s, hs⟩ (by rw [hf, if_pos le_rfl]; simp)
  rw [hM, max_eq_right bot_le]
  have he : ∀ u : Fin 4096, Ideal.exp (f u - (M : EReal)) = if u.val ≤ s then ((Real.exp (y u.val - M) : ℝ) : EReal) else 0 := by
    intro u
    rw [hf]
    split
    · rw [← EReal.coe_sub, Ideal.exp_coe]
    · rw [EReal.bot_sub]; rfl
  have hZ : (0 + ∑ u' : Fin 4096, Ideal.exp (f u' - (M : EReal)))
      = ((∑ u ∈ Finset.range (s + 1), Real.exp (y u - M) : ℝ) : EReal) := by
    rw [zero_add, coe_sum, ← sum_upto s hs]
    exact Finset.sum_congr rfl fun u _ => he u
  have hpos : 0 < ∑ u ∈ Finset.range (s + 1), Real.exp (y u - M) := Finset.sum_pos (fun u _ => Real.exp_pos _) ⟨0, by simp⟩
  have hpos' : 0 < ∑ u ∈ Finset.range (s + 1), Real.exp (y u) := Finset.sum_pos (fun u _ => Real.exp_pos _) ⟨0, by simp⟩
  have hS : ∑ u ∈ Finset.range (s + 1), Real.exp (y u - M) = (∑ u ∈ Finset.range (s + 1), Real.exp (y u)) * Real.exp (-M) := by
    rw [Finset.sum_mul]
    exact Finset.sum_congr rfl fun u _ => by rw [← Real.exp_add]; rfl
  rw [hZ]
  unfold soft
  rw [← sum_upto s hs]
  refine Finset.sum_congr rfl fun u _ => ?_
  rw [he]
  unfold Ideal.div
  rw [if_neg (by rw [EReal.coe_eq_zero]; exact hpos.ne')]
  split
  · rw [← EReal.coe_inv, ← EReal.coe_mul, mul_comm]
    congr 2
    rw [hS, show y u.val - M = y u.val + -M by ring, Real.exp_add]
    have := Real.exp_pos (-M)
    field_simp
  · rw [zero_mul, mul_zero]

/-- One over one plus a nonnegative number, times `x`, is `x` over it, whatever `x` is. -/
theorem gate_eq (x : EReal) : x * Ideal.div 1 (1 + Ideal.exp (-x)) = Ideal.div x (1 + Ideal.exp (0 - x)) := by
  rw [zero_sub]
  have h : (1 + Ideal.exp (-x)) ≠ 0 := by
    induction x using EReal.rec with
    | bot => exact ne_of_gt (lt_of_lt_of_le zero_lt_one (le_add_of_nonneg_right le_top))
    | top => simp
    | coe r =>
      rw [← EReal.coe_neg, Ideal.exp_coe, ← EReal.coe_one, ← EReal.coe_add, ne_eq, EReal.coe_eq_zero]
      have := Real.exp_pos (-r)
      linarith
  unfold Ideal.div
  rw [if_neg h, if_neg h, one_mul]

end Cert.Proof.Fox
-- ==== Proof.RefValue.lean ====
/- The reference's result: its masked softmax attention with the gate, read entry by entry from the launched arrays. -/
module

public import proofs.«01_k».proof.Proof.Gen.ReferenceIdeal.Read
public import proofs.«01_k».proof.Proof.RefSoft

@[expose] public section

noncomputable section

namespace Cert.Proof.FoxRef

open Cert.ReferenceIdeal Cert.ReferenceIdeal.Gen Cert.ReferenceIdeal.Read
open Idealize.ShloMosaic

section
variable (X : (⟨S8192x16384, .bf16⟩ : BufTy).Contents (Elt Ideal)) (Y : (⟨S2x4096x16, .f32⟩ : BufTy).Contents (Elt Ideal))

/-- The projection's entry at a row and a column. -/
def px (r n : ℕ) : EReal := if h : r < 8192 ∧ n < 16384 then X (ValueIdx.ix2 ⟨r, h.1⟩ ⟨n, h.2⟩) else 0

/-- The cumulative log gate of a batch, a position and a head. -/
def cx (b s h : ℕ) : EReal := if k : b < 2 ∧ s < 4096 ∧ h < 16 then Y (ValueIdx.ix3 ⟨b, k.1⟩ ⟨s, k.2.1⟩ ⟨h, k.2.2⟩) else 0

/-- The projection at an index of known coordinates. -/
theorem px_at (i : S8192x16384.Idx) (r n : ℕ) (hr : (i 0).val = r) (hn : (i 1).val = n) : X i = px X r n := by
  subst hr hn
  unfold px
  rw [dif_pos ⟨(i 0).isLt, (i 1).isLt⟩]
  refine congrArg X (funext fun a => ?_)
  match a with
  | ⟨0, _⟩ => rfl
  | ⟨1, _⟩ => rfl

/-- The log gates at an index of known coordinates. -/
theorem cx_at (i : S2x4096x16.Idx) (b s h : ℕ) (hb : (i 0).val = b) (hs : (i 1).val = s) (hh : (i 2).val = h) : Y i = cx Y b s h := by
  subst hb hs hh
  unfold cx
  rw [dif_pos ⟨(i 0).isLt, (i 1).isLt, (i 2).isLt⟩]
  refine congrArg Y (funext fun a => ?_)
  match a with
  | ⟨0, _⟩ => rfl
  | ⟨1, _⟩ => rfl
  | ⟨2, _⟩ => rfl

/-- A query entry. -/
theorem q_apply (i : S2x4096x16x128.Idx) :
    val_main_v12 (F := Ideal) X i = px X (4096 * (i 0).val + (i 1).val) (128 * (i 2).val + (i 3).val) := by
  have h0 : (i 0).val < 2 := (i 0).isLt
  have h1 : (i 1).val < 4096 := (i 1).isLt
  have h2 : (i 2).val < 16 := (i 2).isLt
  have h3 : (i 3).val < 128 := (i 3).isLt
  rw [val_main_v12_apply, val_main_v2_apply, val_main_v1_apply, val_main_v0_apply]
  refine px_at X _ _ _ ?_ ?_ <;> dsimp only [idx_main_v0, idx_main_v2, idx_main_v12] <;> omega

/-- A key entry. -/
theorem k_apply (i : S2x4096x16x128.Idx) :
    val_main_v13 (F := Ideal) X i = px X (4096 * (i 0).val + (i 1).val) (2048 + (128 * (i 2).val + (i 3).val)) := by
  have h0 : (i 0).val < 2 := (i 0).isLt
  have h1 : (i 1).val < 4096 := (i 1).isLt
  have h2 : (i 2).val < 16 := (i 2).isLt
  have h3 : (i 3).val < 128 := (i 3).isLt
  rw [val_main_v13_apply, val_main_v5_apply, val_main_v4_apply, val_main_v3_apply]
  refine px_at X _ _ _ ?_ ?_ <;> dsimp only [idx_main_v3, idx_main_v5, idx_main_v13] <;> omega

/-- A value entry. -/
theorem v_apply (i : S2x4096x16x128.Idx) :
    val_main_v14 (F := Ideal) X i = px X (4096 * (i 0).val + (i 1).val) (4096 + (128 * (i 2).val + (i 3).val)) := by
  have h0 : (i 0).val < 2 := (i 0).isLt
  have h1 : (i 1).val < 4096 := (i 1).isLt
  have h2 : (i 2).val < 16 := (i 2).isLt
  have h3 : (i 3).val < 128 := (i 3).isLt
  rw [val_main_v14_apply, val_main_v8_apply, val_main_v7_apply, val_main_v6_apply]
  refine px_at X _ _ _ ?_ ?_ <;> dsimp only [idx_main_v6, idx_main_v8, idx_main_v14] <;> omega

/-- A gate entry. -/
theorem g_apply (i : S2x4096x2048.Idx) :
    val_main_v11 (F := Ideal) X i = px X (4096 * (i 0).val + (i 1).val) (6144 + (i 2).val) := by
  have h0 : (i 0).val < 2 := (i 0).isLt
  have h1 : (i 1).val < 4096 := (i 1).isLt
  have h2 : (i 2).val < 2048 := (i 2).isLt
  rw [val_main_v11_apply, val_main_v10_apply, val_main_v9_apply]
  refine px_at X _ _ _ ?_ ?_ <;> dsimp only [idx_main_v9, idx_main_v11] <;> omega

/-- The logit of query `s` and key `u`, as a real. -/
def score (b n s u : ℕ) : ℝ :=
  (∑ e : Fin 128, (px X (4096 * b + s) (128 * n + e.val)).toReal * (px X (4096 * b + u) (2048 + (128 * n + e.val))).toReal) / Real.sqrt 128
    + ((cx Y b s n).toReal - (cx Y b u n).toReal)

/-- Queries, keys and log gates are finite. -/
structure Finite : Prop where
  proj : ∀ r n, n < 4096 → px X r n = ((px X r n).toReal : EReal)
  decay : ∀ b s h, cx Y b s h = ((cx Y b s h).toReal : EReal)

/-- The root of the head dimension. -/
theorem root_apply (i : S_.Idx) : val_main_v17 (F := Ideal) i = ((Real.sqrt 128 : ℝ) : EReal) := by
  rw [val_main_v17_apply, val_main_cst_apply]
  show Ideal.sqrt (Ideal.ofBits .f32 0x43000000#32) = _
  have h : Ideal.ofBits .f32 0x43000000#32 = ((128 : ℝ) : EReal) := by
    simp [Ideal.ofBits, Ideal.ieee, -EReal.coe_mul]; norm_num
  rw [h, Ideal.sqrt_coe, if_neg (by norm_num)]

variable {X Y}

/-- A scaled product of a query and a key. -/
theorem dot_apply (H : Finite X Y) (i : S2x16x4096x4096.Idx) :
    val_main_v19 (F := Ideal) X i = (((∑ e : Fin 128, (px X (4096 * (i 0).val + (i 2).val) (128 * (i 1).val + e.val)).toReal
      * (px X (4096 * (i 0).val + (i 3).val) (2048 + (128 * (i 1).val + e.val))).toReal) / Real.sqrt 128 : ℝ) : EReal) := by
  have h1 : (i 1).val < 16 := (i 1).isLt
  have hs : val_main_v16 (F := Ideal) X i = ((∑ e : Fin 128, (px X (4096 * (i 0).val + (i 2).val) (128 * (i 1).val + e.val)).toReal
      * (px X (4096 * (i 0).val + (i 3).val) (2048 + (128 * (i 1).val + e.val))).toReal : ℝ) : EReal) := by
    rw [val_main_v16_apply, Fox.coe_sum]
    refine Finset.sum_congr rfl fun e _ => ?_
    have he : e.val < 128 := e.isLt
    rw [q_apply, k_apply, EReal.coe_mul]
    exact congrArg₂ (· * ·) (H.proj _ _ (by show 128 * (i 1).val + e.val < 4096; omega))
      (H.proj _ _ (by show 2048 + (128 * (i 1).val + e.val) < 4096; omega))
  rw [val_main_v19_apply, val_main_v18_apply, root_apply, hs]
  show Ideal.div _ _ = _
  unfold Ideal.div
  rw [if_neg (by rw [EReal.coe_eq_zero]; exact (Real.sqrt_pos.mpr (by norm_num)).ne'), ← EReal.coe_inv, ← EReal.coe_mul, div_eq_mul_inv]

/-- The decay between a query and a key. -/
theorem decay_apply (H : Finite X Y) (i : S2x16x4096x4096.Idx) :
    val_main_v24 (F := Ideal) Y i
      = (((cx Y (i 0).val (i 2).val (i 1).val).toReal - (cx Y (i 0).val (i 3).val (i 1).val).toReal : ℝ) : EReal) := by
  rw [val_main_v24_apply, val_main_v22_apply, val_main_v23_apply, val_main_v20_apply, val_main_v21_apply, val_main_v15_apply, val_main_v15_apply,
    cx_at Y _ (i 0).val (i 2).val (i 1).val rfl rfl rfl, cx_at Y _ (i 0).val (i 3).val (i 1).val rfl rfl rfl,
    H.decay (i 0).val (i 2).val (i 1).val, H.decay (i 0).val (i 3).val (i 1).val]
  exact (EReal.coe_sub _ _).symm

/-- Whether a key may be seen. -/
theorem seen_apply (i : S2x16x4096x4096.Idx) :
    val_main_call0_v1 (F := Ideal) i = BitVec.ofBool (decide ((i 3).val ≤ (i 2).val)) := by
  have h2 : (i 2).val < 4096 := (i 2).isLt
  have h3 : (i 3).val < 4096 := (i 3).isLt
  rw [val_main_call0_v1_apply, val_main_v31_apply, val_main_v29_apply, val_main_v28_apply, val_main_v27_apply, val_main_v30_apply, val_main_v26_apply,
    val_main_v25_apply]
  show BitVec.ofBool ((BitVec.ofNat 32 (i 3).val).sle (BitVec.ofNat 32 (i 2).val)) = _
  congr 1
  rw [Bool.eq_iff_iff, BitVec.sle_iff_toInt_le, decide_eq_true_iff, BitVec.toInt_eq_toNat_of_lt (by simp; omega),
    BitVec.toInt_eq_toNat_of_lt (by simp; omega)]
  simp only [BitVec.toNat_ofNat]
  omega

/-- A masked logit. -/
theorem masked_apply (H : Finite X Y) (i : S2x16x4096x4096.Idx) :
    val_main_v33 (F := Ideal) X Y i
      = if (i 3).val ≤ (i 2).val then ((score X Y (i 0).val (i 1).val (i 2).val (i 3).val : ℝ) : EReal) else ⊥ := by
  rw [val_main_v33_apply, seen_apply, val_main_v32_apply, dot_apply H, decay_apply H, val_main_call0_v2_apply, val_main_call0_v0_apply,
    val_main_cst_0_apply]
  have hb : (FloatOps.ofBits .f32 0xFF800000#32 : Ideal .f32) = (⊥ : EReal) := by
    show Ideal.ofBits .f32 0xFF800000#32 = _
    simp [Ideal.ofBits, Ideal.ieee]
  rw [hb]
  by_cases h : (i 3).val ≤ (i 2).val
  · rw [if_pos h, decide_eq_true h]
    exact (EReal.coe_add _ _).symm
  · rw [if_neg h, decide_eq_false h]
    rfl

/-- The maximum of a row of masked logits. -/
theorem max_apply (i : S2x16x4096.Idx) :
    val_main_v36 (F := Ideal) X Y i
      = max (⊥ : EReal) ((Finset.univ : Finset (Fin 4096)).fold max (⊥ : EReal) (fun u => val_main_v33 (F := Ideal) X Y (idx_main_v41 i u))) := by
  have hb : Ideal.ofBits .f32 0xFF800000#32 = (⊥ : EReal) := by
    simp [Ideal.ofBits, Ideal.ieee]
  rw [val_main_v36_apply, val_main_v35_apply, val_main_cst_2_apply]
  show max (Ideal.ofBits .f32 0xFF800000#32) _ = _
  rw [hb]
  refine congrArg (max (⊥ : EReal)) ?_
  unfold val_main_v34
  rw [Host.reduce_eq_fold_single FloatOps.maximumf _ _ _ (by decide : S2x16x4096x4096.Reduces [3] S2x16x4096)]
  rw [val_main_cst_1_apply]
  show (Finset.univ : Finset (Fin 4096)).fold max (Ideal.ofBits .f32 0xFF800000#32) _ = _
  rw [hb]
  refine congrArg (fun f => (Finset.univ : Finset (Fin 4096)).fold max (⊥ : EReal) f) (funext fun u => ?_)
  refine congrArg (val_main_v33 (F := Ideal) X Y) (funext fun a => Fin.ext ?_)
  match a with
  | ⟨0, _⟩ => rfl
  | ⟨1, _⟩ => rfl
  | ⟨2, _⟩ => rfl
  | ⟨3, _⟩ => rfl

/-- The weights of a row, applied to the values. -/
theorem attn_apply (H : Finite X Y) (i : S2x16x128x4096.Idx) :
    val_main_v45 (F := Ideal) X Y i
      = Fox.soft (i 3).val (score X Y (i 0).val (i 1).val (i 3).val)
          (fun u => px X (4096 * (i 0).val + u) (4096 + (128 * (i 1).val + (i 2).val))) := by
  have h3 : (i 3).val < 4096 := (i 3).isLt
  have hz : (FloatOps.ofBits .f32 0x00000000#32 : Ideal .f32) = (0 : EReal) := Ideal.ofBits_zero_f32
  refine Eq.trans ?_ (Fox.masked_soft (i 3).val h3 (score X Y (i 0).val (i 1).val (i 3).val)
    (fun u => px X (4096 * (i 0).val + u) (4096 + (128 * (i 1).val + (i 2).val)))
    (fun u => val_main_v33 (F := Ideal) X Y (ridx_main_v45 i u)) (fun u => (masked_apply H _).trans rfl))
  rw [val_main_v45_apply]
  refine Finset.sum_congr rfl fun u _ => ?_
  rw [v_apply, val_main_v44_apply, val_main_v43_apply, val_main_v42_apply, val_main_v41_apply, val_main_cst_3_apply, hz]
  simp only [val_main_v40_apply, val_main_v39_apply, val_main_v38_apply, val_main_v37_apply, max_apply]
  rfl

variable (X Y)

/-- The gated attention of batch `b`, position `s`, head `n`, column `d`. -/
def res (b s n d : ℕ) : EReal :=
  Fox.soft s (score X Y b n s) (fun u => px X (4096 * b + u) (4096 + (128 * n + d)))
    * Ideal.div (px X (4096 * b + s) (6144 + (128 * n + d))) (1 + Ideal.exp (0 - px X (4096 * b + s) (6144 + (128 * n + d))))

variable {X Y}

/-- The gate, entry by entry. -/
theorem gate_apply (i : S2x4096x2048.Idx) :
    val_main_v48 (F := Ideal) X i = Ideal.div (px X (4096 * (i 0).val + (i 1).val) (6144 + (i 2).val))
      (1 + Ideal.exp (0 - px X (4096 * (i 0).val + (i 1).val) (6144 + (i 2).val))) := by
  rw [val_main_v48_apply, val_main_call1_v5_apply, val_main_call1_v4_apply, val_main_call1_cst_0_apply, val_main_call1_v3_apply,
    val_main_call1_v2_apply, val_main_call1_cst_apply, val_main_call1_v1_apply, val_main_call1_v0_apply, g_apply, ← Fox.gate_eq]
  show _ * Ideal.div (Ideal.ofBits .f32 0x3F800000#32) (Ideal.ofBits .f32 0x3F800000#32 + Ideal.exp (-_)) = _
  rw [Ideal.ofBits_one_f32]

/-- The reference's result, entry by entry. -/
theorem result_apply (H : Finite X Y) (y : S8192x2048.Idx) :
    val_main_v51 (F := Ideal) X Y y = res X Y ((y 0).val / 4096) ((y 0).val % 4096) ((y 1).val / 128) ((y 1).val % 128) := by
  have h0 : (y 0).val < 8192 := (y 0).isLt
  have h1 : (y 1).val < 2048 := (y 1).isLt
  rw [val_main_v51_apply, val_main_v50_apply, val_main_v49_apply, val_main_v47_apply, val_main_v46_apply, attn_apply H, gate_apply]
  have e0 : ((y 0).val * 2048 + (y 1).val) / 8388608 = (y 0).val / 4096 := by omega
  have e1 : ((y 0).val * 2048 + (y 1).val) / 2048 % 4096 = (y 0).val % 4096 := by omega
  have e2 : ((y 0).val * 2048 + (y 1).val) % 2048 = 128 * ((y 1).val / 128) + (y 1).val % 128 := by omega
  have f0 : ((((y 0).val * 2048 + (y 1).val) / 8388608 * 4096 + ((y 0).val * 2048 + (y 1).val) / 2048 % 4096) * 2048
      + ((y 0).val * 2048 + (y 1).val) % 2048) = (y 0).val * 2048 + (y 1).val := by omega
  dsimp only [idx_main_v46, idx_main_v47, idx_main_v50]
  simp only [f0]
  have g2 : ((y 0).val * 2048 + (y 1).val) / 128 % 16 = (y 1).val / 128 := by omega
  have g3 : ((y 0).val * 2048 + (y 1).val) % 128 = (y 1).val % 128 := by omega
  rw [e0, e1, e2, g2, g3]
  rfl

end

end Cert.Proof.FoxRef
-- ==== Proof.Algebraic.lean ====
/- The value claim: at equal arguments with finite logits, the kernel and the reference leave the same result. -/
module

public import proofs.«01_k».proof.Pre_finite_logits
public import proofs.«01_k».proof.Proof.Result
public import proofs.«01_k».proof.Proof.RefValue
public import Idealize.ShloMosaic.Lib.ReduceAll

@[expose] public section

noncomputable section

namespace Cert.Proof.Fox

open Idealize.ShloMosaic

/-- A number whose absolute value is below +∞ is a real. -/
theorem real_of_abs_lt (x : EReal) (h : max x (-x) < ⊤) : x = (x.toReal : EReal) := by
  refine (EReal.coe_toReal ?_ ?_).symm
  · rintro rfl; simp at h
  · rintro rfl; simp at h

/-- A comparison of an absolute value with +∞ that is 1 says the number is a real. -/
theorem real_of_word (x : EReal) (h : FloatOps.cmpf (F := Ideal) (φ := .f32) .olt (FloatOps.hostAbsf (F := Ideal) (φ := .f32) x)
    (FloatOps.ofBits (F := Ideal) .f32 0x7F800000#32) = 1#1) : x = (x.toReal : EReal) := by
  have ht : Ideal.ofBits .f32 0x7F800000#32 = (⊤ : EReal) := by simp [Ideal.ofBits, Ideal.ieee]
  refine real_of_abs_lt x ?_
  have h' : BitVec.ofBool (decide (max x (-x) < Ideal.ofBits .f32 0x7F800000#32)) = 1#1 := h
  rw [ht] at h'
  by_contra hn
  rw [decide_eq_false hn] at h'
  exact absurd h' (by decide)

section
variable [Cert.Pre_finite_logits.Facts]

open Cert.Pre_finite_logits in
/-- The precondition, word by word: the first 4096 columns of the projection and every log gate are real. -/
theorem finite_of_pre (X : FVec Ideal S8192x16384 .bf16) (Y : FVec Ideal S2x4096x16 .f32)
    (h : Cert.Pre_finite_logits.fn (F := Ideal) X Y = fun _ => 1#1) : FoxRef.Finite X Y := by
  have h0 := congrFun h (Shape.Idx.first Facts.h_S_)
  have hand : ∀ a b : BitVec 1, IntOp.andi a b = 1#1 → a = 1#1 ∧ b = 1#1 := by decide
  obtain ⟨hx, hy⟩ := hand _ _ h0
  haveI : Subsingleton S_.Idx := ⟨fun a b => funext fun k => k.elim0⟩
  refine ⟨fun r n hn => ?_, fun b s k => ?_⟩
  · by_cases hr : r < 8192
    · have e := Host.reduce_andi_all _ _ _ _ _ hx (ValueIdx.ix2 (⟨r, hr⟩ : Fin 8192) (⟨n, hn⟩ : Fin 4096))
      let z : FVec Ideal S8192x4096 .f32 := extf .f32 (extractStridedSlice S8192x4096 ![0, 0] X Facts.slices_S8192x16384_S8192x4096_0_0)
        Facts.bitsLt_bf16_f32
      have hz : z (ValueIdx.ix2 (⟨r, hr⟩ : Fin 8192) (⟨n, hn⟩ : Fin 4096)) = FoxRef.px X r n :=
        FoxRef.px_at X _ _ _ (by show 0 + r = r; omega) (by show 0 + n = n; omega)
      have e' := real_of_word (z (ValueIdx.ix2 (⟨r, hr⟩ : Fin 8192) (⟨n, hn⟩ : Fin 4096))) e
      rwa [hz] at e'
    · unfold FoxRef.px
      rw [dif_neg (fun h => hr h.1)]
      simp
  · by_cases hr : b < 2 ∧ s < 4096 ∧ k < 16
    · have e := Host.reduce_andi_all _ _ _ _ _ hy (ValueIdx.ix3 (⟨b, hr.1⟩ : Fin 2) (⟨s, hr.2.1⟩ : Fin 4096) (⟨k, hr.2.2⟩ : Fin 16))
      have e' := real_of_word (Y (ValueIdx.ix3 (⟨b, hr.1⟩ : Fin 2) (⟨s, hr.2.1⟩ : Fin 4096) (⟨k, hr.2.2⟩ : Fin 16))) e
      rwa [FoxRef.cx_at Y _ b s k rfl rfl rfl] at e'
    · unfold FoxRef.cx
      rw [dif_neg hr]
      simp

end

section
open Cert.KernelIdeal Cert.KernelIdeal.Gen

/-- The reference's finiteness is the kernel's. -/
theorem finite_kernel (m : (ℓ : Loc nD τ sig) → Buf (Elt Ideal) ℓ) (c : Dev nD)
    (H : FoxRef.Finite (m ((c.tc : Thread nD τ).loc main_arg0)) (m ((c.tc : Thread nD τ).loc main_arg1))) : Finite m c :=
  ⟨H.proj, H.decay⟩

/-- The kernel's closed form is the reference's, of the launched arrays. -/
theorem res_eq (m : (ℓ : Loc nD τ sig) → Buf (Elt Ideal) ℓ) (c : Dev nD) (b s n d : ℕ) :
    FoxRef.res (m ((c.tc : Thread nD τ).loc main_arg0)) (m ((c.tc : Thread nD τ).loc main_arg1)) b s n d = res m c b s n d := rfl

end

section
open Cert.ReferenceIdeal Cert.ReferenceIdeal.Gen

/-- The reference's run leaves its closed form. -/
theorem reference_value (m : (ℓ : Loc nD τ sig) → Buf (Elt Ideal) ℓ) (ρ : Dev nD → PrngReg)
    (H : ∀ c : Dev nD, FoxRef.Finite (m ((c.tc : Thread nD τ).loc main_arg0)) (m ((c.tc : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v51) = (fun y : S8192x2048.Idx =>
        FoxRef.res (m ((c.tc : Thread nD τ).loc main_arg0)) (m ((c.tc : Thread nD τ).loc main_arg1))
          ((y 0).val / 4096) ((y 0).val % 4096) ((y 1).val / 128) ((y 1).val % 128))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h c).1.trans (Cert.ReferenceIdeal.Read.val_main_v51_eq m c)).trans
    (funext fun y => FoxRef.result_apply (H c) y), (h c).2⟩) (Cert.ReferenceIdeal.Value.run m ρ)

end

end Cert.Proof.Fox
-- ==== Proof.Entry.lean ====
/- A matrix read at natural-number coordinates: equal coordinates give equal entries, whatever their spelling. -/
module

public import Idealize.ShloMosaic.Lib.ValueIdx
public import Idealize.ShloMosaic.Lib.Pipeline.ValueKit
public import Idealize.ShloMosaic.PureOps.Ideal.Laws

@[expose] public section

noncomputable section

namespace Cert.Proof.Entry

open Idealize.ShloMosaic

/-- The entry at row `r`, column `n`; zero outside the matrix. -/
def at2 {a b : ℕ} (X : (⟨2, ![a, b]⟩ : Shape).Idx → EReal) (r n : ℕ) : EReal :=
  if h : r < a ∧ n < b then X (ValueIdx.ix2 (⟨r, h.1⟩ : Fin a) (⟨n, h.2⟩ : Fin b)) else 0

/-- An index of known coordinates. -/
theorem at2_eq {a b : ℕ} (X : (⟨2, ![a, b]⟩ : Shape).Idx → EReal) (i : (⟨2, ![a, b]⟩ : Shape).Idx) (r n : ℕ)
    (hr : (i 0).val = r) (hn : (i 1).val = n) : X i = at2 X r n := by
  subst hr hn
  unfold at2
  rw [dif_pos ⟨(i 0).isLt, (i 1).isLt⟩]
  refine congrArg X (funext fun k => ?_)
  match k with
  | ⟨0, _⟩ => rfl
  | ⟨1, _⟩ => rfl

/-- The entry at row `r` of a vector. -/
def at1 {a : ℕ} (X : (⟨1, ![a]⟩ : Shape).Idx → EReal) (r : ℕ) : EReal :=
  if h : r < a then X (ValueIdx.ix1 (⟨r, h⟩ : Fin a)) else 0

/-- An index of a known coordinate. -/
theorem at1_eq {a : ℕ} (X : (⟨1, ![a]⟩ : Shape).Idx → EReal) (i : (⟨1, ![a]⟩ : Shape).Idx) (r : ℕ)
    (hr : (i 0).val = r) : X i = at1 X r := by
  subst hr
  have hi : (i 0).val < a := (i 0).isLt
  refine Eq.trans (congrArg X (funext fun k => ?_)) (show at1 X (i 0).val = X (ValueIdx.ix1 (⟨(i 0).val, hi⟩ : Fin a)) from dif_pos hi).symm
  match k with
  | ⟨0, _⟩ => rfl

/-- A product of two matrices, entry by entry. -/
def prod {a b k n : ℕ} (X : (⟨2, ![a, k]⟩ : Shape).Idx → EReal) (W : (⟨2, ![b, n]⟩ : Shape).Idx → EReal) (r c : ℕ) : EReal :=
  ∑ e : Fin k, at2 X r e.val * at2 W e.val c

end Cert.Proof.Entry

end
-- ==== Proof.InEven.lean ====
/-
  The even layer's input projection, from transposed weights: what one grid point leaves (a tile of the product, and sixteen rows of the output weights
  rounded), the scratch that carries the rounded weights along a column of tiles, and the two arrays after the run.
-/
module

public import proofs.«01_k».proof.Defs
public import Idealize.ShloMosaic.Lib.MatmulPlain
public import proofs.«01_k».proof.Proof.Entry
public import proofs.«01_k».proof.Proof.Gen.KernelInEven
public import proofs.«01_k».proof.Proof.Gen.KernelInEven.Frame
public import proofs.«01_k».proof.Proof.Gen.ReferenceInEvenIdeal
public import proofs.«01_k».proof.Proof.Gen.KernelInEvenIdeal.Frame
public import proofs.«01_k».proof.Proof.Gen.KernelInEvenIdeal.Value
public import proofs.«01_k».proof.Proof.Gen.ReferenceInEvenIdeal.Run
public import proofs.«01_k».proof.Proof.Gen.ReferenceInEvenIdeal.Read

@[expose] public section

noncomputable section

namespace Cert.Proof.InEven

open Idealize.ShloMosaic Idealize.ShloMosaic.TcCoe Idealize.ShloMosaic.Tactic Idealize.SL.Sem
open Cert.KernelInEvenIdeal Cert.KernelInEvenIdeal.Gen
open Cert.Proof.Entry

/-- Which block of its array each window holds at a grid point. -/
theorem idx_at : ∀ t : Fin cfg0.N,
    (win0_0.index t 0 = t.val % 16 ∧ win0_0.index t 1 = 0)
    ∧ (win0_1.index t 0 = t.val / 16 ∧ win0_1.index t 1 = 0)
    ∧ (win0_2.index t 0 = t.val ∧ win0_2.index t 1 = 0)
    ∧ (win0_3.index t 0 = t.val % 16 ∧ win0_3.index t 1 = t.val / 16)
    ∧ (win0_4.index t 0 = t.val ∧ win0_4.index t 1 = 0) := by decide +kernel

variable (m : (ℓ : Loc nD τ sig) → Buf (Elt Ideal) ℓ) (c : Dev nD) (t : Fin cfg0.N)

/-- The rows of the activations. -/
theorem rows_apply (x : S512x4096.Idx) : iblk m c 0 t x
    = at2 (m (c.tc.loc main_arg0) : S8192x4096.Idx → EReal) (512 * (t.val % 16) + (x 0).val) (x 1).val := by
  have h0 : (x 0).val < 512 := (x 0).isLt
  have h1 : (x 1).val < 4096 := (x 1).isLt
  have hi := (idx_at t).1
  unfold at2
  rw [dif_pos (by omega)]
  blk_simp [iblk]
  entry_read
  blk_ext [hi.1, hi.2]

/-- The columns of the weights, a row of their transpose each. -/
theorem cols_apply (x : S1024x4096.Idx) : X0_1 m c t x
    = at2 (m (c.tc.loc main_arg1) : S4096x16400.Idx → EReal) (x 1).val (1024 * (t.val / 16) + (x 0).val) := by
  have h0 : (x 0).val < 1024 := (x 0).isLt
  have h1 : (x 1).val < 4096 := (x 1).isLt
  have ht : t.val < 256 := t.isLt
  have hi := (idx_at t).2.1
  unfold at2
  rw [dif_pos (by omega)]
  unfold X0_1 Pipeline.Window.fill
  rw [dif_pos (moved0_1 t x)]
  blk_simp [iblk]
  entry_read
  pointwise
  blk_ext [hi.1, hi.2]

/-- The rows of the output weights. -/
theorem side_apply (x : S16x4096.Idx) : iblk m c 2 t x
    = at2 (m (c.tc.loc main_arg2) : S4096x4096.Idx → EReal) (16 * t.val + (x 0).val) (x 1).val := by
  have h0 : (x 0).val < 16 := (x 0).isLt
  have h1 : (x 1).val < 4096 := (x 1).isLt
  have ht : t.val < 256 := t.isLt
  have hi := (idx_at t).2.2.1
  unfold at2
  rw [dif_pos (by omega)]
  blk_simp [iblk]
  entry_read
  blk_ext [hi.1, hi.2]

/-- Rounding leaves a number as it is, and so does a reshape to the same shape. -/
theorem pay1_eq (v : Vec Ideal S1024x4096 .f32) : k0_pay1 (F := Ideal) v = v := by
  funext i
  unfold k0_pay1
  simp only [shapeCast_self]
  rfl

/-- The scratch holds the tile's columns of the weights at every point: stored at the first tile of a column, carried after. -/
theorem scratch_eq : ∀ (n : ℕ) (hn : n < cfg0.N) (x : S1024x4096.Idx), (outsAt0 m c n hn).2.2 x
    = at2 (m (c.tc.loc main_arg1) : S4096x16400.Idx → EReal) (x 1).val (1024 * (n / 16) + (x 0).val) := by
  intro n
  induction n with
  | zero =>
    intro hn x
    have h := outsAt0_A m c ⟨0, hn⟩ rfl
    rw [show outsAt0 m c 0 hn = _ from h]
    frame_out
    rw [pay1_eq]
    exact cols_apply m c ⟨0, hn⟩ x
  | succ n ih =>
    intro hn x
    by_cases h0 : (n + 1) % 16 = 0
    · have h := outsAt0_A m c ⟨n + 1, hn⟩ h0
      rw [show outsAt0 m c (n + 1) hn = _ from h]
      frame_out
      rw [pay1_eq]
      exact cols_apply m c ⟨n + 1, hn⟩ x
    · have h := outsAt0_B m c ⟨n + 1, hn⟩ h0
      rw [show outsAt0 m c (n + 1) hn = _ from h]
      have e := ih (by omega) x
      rw [show (n + 1) / 16 = n / 16 by omega]
      exact e

/-- The tile's product, entry by entry. -/
theorem pay3_apply (u : Vec Ideal S512x4096 .bf16) (v : Vec Ideal S1024x4096 .bf16) (x : S512x1024.Idx) :
    k0_pay3 (F := Ideal) u v x = ∑ e : Fin 4096, u (ValueIdx.ix2 (x 0 : Fin 512) e) * v (ValueIdx.ix2 (x 1 : Fin 1024) e) := by
  have hx : x = ValueIdx.ix2 (x 0 : Fin 512) (x 1 : Fin 1024) := funext fun k => by
    match k with
    | ⟨0, _⟩ => rfl
    | ⟨1, _⟩ => rfl
  unfold k0_pay3
  conv_lhs => rw [hx]
  refine (show _ = _ from Ideal.matmul_transposedRhs_apply (M := 512) (K := 4096) (N := 1024) (φ₁ := .bf16) (φ₂ := .bf16) none u v
    (constant (F := Ideal) ⟨2, ![512, 1024]⟩ .f32 0x00000000#32) (x 0) (x 1)).trans ?_
  exact (congrArg (· + _) Ideal.ofBits_zero_f32).trans (zero_add _)

/-- What a point leaves of the product. -/
theorem tile_apply (x : S512x1024.Idx) : (outsAt0 m c t.val t.isLt).1 x
    = prod (m (c.tc.loc main_arg0) : S8192x4096.Idx → EReal) (m (c.tc.loc main_arg1) : S4096x16400.Idx → EReal)
      (512 * (t.val % 16) + (x 0).val) (1024 * (t.val / 16) + (x 1).val) := by
  by_cases h0 : t.val % 16 = 0
  · rw [outsAt0_A m c t h0]
    frame_out
    rw [pay3_apply, pay1_eq]
    unfold prod
    refine Finset.sum_congr rfl fun e _ => ?_
    rw [rows_apply, cols_apply]
  · rw [outsAt0_B m c t h0]
    frame_out
    rw [pay3_apply]
    unfold prod
    refine Finset.sum_congr rfl fun e _ => ?_
    refine congrArg₂ (· * ·) (rows_apply m c t _) ?_
    refine (congrFun ((Memref.isWhole_whole cc0_scratch0).read_unread _) _).trans ((scratch_eq m c _ _ _).trans ?_)
    rw [show (t.val - 1) / 16 = t.val / 16 by omega]

/-- What a point leaves of the rounded output weights. -/
theorem weights_apply (x : S16x4096.Idx) : (outsAt0 m c t.val t.isLt).2.1 x
    = at2 (m (c.tc.loc main_arg2) : S4096x4096.Idx → EReal) (16 * t.val + (x 0).val) (x 1).val := by
  rw [← side_apply]
  by_cases h0 : t.val % 16 = 0
  · rw [outsAt0_A m c t h0]
    frame_out
    rfl
  · rw [outsAt0_B m c t h0]
    frame_out
    rfl

/-- The product after the run. -/
theorem product_value : (dats m 0 c).arrAt 3 cfg0.N = fun y : S8192x16384.Idx =>
    prod (m (c.tc.loc main_arg0) : S8192x4096.Idx → EReal) (m (c.tc.loc main_arg1) : S4096x16400.Idx → EReal) (y 0).val (y 1).val := by
  refine (dats m 0 c).arrAt_eq_of_covers 3 _ (by decide +kernel) fun t hf y => ?_
  have hi := (idx_at t).2.2.2.1
  blk_simp
  rw [after0_3]
  refine (tile_apply m c t _).trans ?_
  rw [hi.1, hi.2, Nat.mul_comm 512, Nat.mul_comm 1024]

/-- The rounded output weights after the run. -/
theorem weights_value : (dats m 0 c).arrAt 4 cfg0.N = fun y : S4096x4096.Idx =>
    at2 (m (c.tc.loc main_arg2) : S4096x4096.Idx → EReal) (y 0).val (y 1).val := by
  refine (dats m 0 c).arrAt_eq_of_covers 4 _ (by decide +kernel) fun t hf y => ?_
  have hi := (idx_at t).2.2.2.2
  blk_simp
  rw [after0_4]
  refine (weights_apply m c t _).trans ?_
  rw [hi.1, hi.2, Nat.mul_comm 16, Nat.zero_mul, Nat.zero_add]

/-- Every execution of the kernel ends with the product and the output weights as its results, and its arguments unchanged. -/
theorem kernel_value (ρ : Dev nD → PrngReg) :
    θ_run defs (onTc (τ := τ) (main (F := Ideal))) ⟨m, fun _ => 0, ρ⟩ fun r => ∀ c : Dev nD,
      r.2.mem ((c.tc : Thread nD τ).loc main_v1_0) = (fun y : S8192x16384.Idx =>
        prod (m (c.tc.loc main_arg0) : S8192x4096.Idx → EReal) (m (c.tc.loc main_arg1) : S4096x16400.Idx → EReal) (y 0).val (y 1).val)
      ∧ r.2.mem ((c.tc : Thread nD τ).loc main_v1_1) = (fun y : S4096x4096.Idx =>
        at2 (m (c.tc.loc main_arg2) : S4096x4096.Idx → EReal) (y 0).val (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (product_value m c), (h c).2.1.trans (weights_value m c), (h c).2.2⟩)
    (Cert.KernelInEvenIdeal.Value.run_blocks m ρ)

section Reference

open Cert.ReferenceInEvenIdeal.Read

/-- The reference's product, entry by entry. -/
theorem reference_product (X : FVec Ideal Cert.ReferenceInEvenIdeal.S8192x4096 .bf16) (W : FVec Ideal Cert.ReferenceInEvenIdeal.S4096x16400 .f32) :
    val_main_v3 (F := Ideal) X W = fun y => prod (X : S8192x4096.Idx → EReal) (W : S4096x16400.Idx → EReal) (y 0).val (y 1).val := by
  funext y
  rw [val_main_v3_apply]
  refine (val_main_v2_apply X W y).trans (Finset.sum_congr rfl fun e _ => ?_)
  refine congrArg₂ (· * ·) ?_ ?_
  · exact at2_eq _ _ _ _ rfl rfl
  · rw [val_main_v1_apply]
    exact at2_eq _ _ _ _ rfl rfl

/-- The reference's rounded output weights. -/
theorem reference_weights (Z : FVec Ideal Cert.ReferenceInEvenIdeal.S4096x4096 .f32) :
    val_main_v4 (F := Ideal) Z = fun y => at2 (Z : S4096x4096.Idx → EReal) (y 0).val (y 1).val := by
  funext y
  rw [val_main_v4_apply]
  exact at2_eq _ _ _ _ rfl rfl

end Reference

/-- The frame of the kernel at bit patterns. -/
theorem frame_kernel : Cert.quiescent_KernelInEven (hKernelInEven := Cert.KernelInEven.Gen.facts) := fun m g _ => Cert.KernelInEven.Gen.frame m g

/-- The frame of the idealized kernel. -/
theorem frame_ideal : Cert.quiescent_KernelInEvenIdeal (hKernelInEvenIdeal := Cert.KernelInEvenIdeal.Gen.facts) :=
  fun m g _ => Cert.KernelInEvenIdeal.Gen.frame m g

/-- The frame of the reference. -/
theorem frame_reference : Cert.quiescent_ReferenceInEvenIdeal (hReferenceInEvenIdeal := Cert.ReferenceInEvenIdeal.Gen.facts) := fun m g _ =>
  (θ_run Cert.ReferenceInEvenIdeal.defs _ _).mono (fun r h => ⟨fun c => (h c).2.2, sem_eq_zero_of_no_sems (by decide) r.2⟩)
    (Cert.ReferenceInEvenIdeal.Value.run m g)

/-- The kernel and the reference leave the same two arrays. -/
theorem algebraic : Cert.algebraic_KernelInEvenIdeal_ReferenceInEvenIdeal (hKernelInEvenIdeal := Cert.KernelInEvenIdeal.Gen.facts)
    (hReferenceInEvenIdeal := Cert.ReferenceInEvenIdeal.Gen.facts) := fun m g m' g' _ hargs =>
  ⟨_, _, kernel_value m g, (θ_run Cert.ReferenceInEvenIdeal.defs _ _).mono (fun _ h c =>
    ⟨(h c).1.trans (((Cert.ReferenceInEvenIdeal.Read.val_main_v3_eq _ _).trans (reference_product _ _)).trans (by rw [(hargs c).1, (hargs c).2.1])),
      (h c).2.1.trans (((Cert.ReferenceInEvenIdeal.Read.val_main_v4_eq _).trans (reference_weights _)).trans (by rw [(hargs c).2.2])), (h c).2.2⟩)
    (Cert.ReferenceInEvenIdeal.Value.run m' g')⟩

end Cert.Proof.InEven

end
-- ==== Proof.InOdd.lean ====
/-
  The odd layer's input projection: what one grid point leaves (a tile of the product, and sixteen rows of the output weights
  rounded), the scratch that carries the rounded weights along a column of tiles, and the two arrays after the run.
-/
module

public import proofs.«01_k».proof.Defs
public import Idealize.ShloMosaic.Lib.MatmulPlain
public import proofs.«01_k».proof.Proof.Entry
public import proofs.«01_k».proof.Proof.Gen.KernelInOdd
public import proofs.«01_k».proof.Proof.Gen.KernelInOdd.Frame
public import proofs.«01_k».proof.Proof.Gen.ReferenceInOddIdeal
public import proofs.«01_k».proof.Proof.Gen.KernelInOddIdeal.Frame
public import proofs.«01_k».proof.Proof.Gen.KernelInOddIdeal.Value
public import proofs.«01_k».proof.Proof.Gen.ReferenceInOddIdeal.Run
public import proofs.«01_k».proof.Proof.Gen.ReferenceInOddIdeal.Read

@[expose] public section

noncomputable section

namespace Cert.Proof.InOdd

open Idealize.ShloMosaic Idealize.ShloMosaic.TcCoe Idealize.ShloMosaic.Tactic Idealize.SL.Sem
open Cert.KernelInOddIdeal Cert.KernelInOddIdeal.Gen
open Cert.Proof.Entry

/-- Which block of its array each window holds at a grid point. -/
theorem idx_at : ∀ t : Fin cfg0.N,
    (win0_0.index t 0 = t.val % 16 ∧ win0_0.index t 1 = 0)
    ∧ (win0_1.index t 0 = 0 ∧ win0_1.index t 1 = t.val / 16)
    ∧ (win0_2.index t 0 = t.val ∧ win0_2.index t 1 = 0)
    ∧ (win0_3.index t 0 = t.val % 16 ∧ win0_3.index t 1 = t.val / 16)
    ∧ (win0_4.index t 0 = t.val ∧ win0_4.index t 1 = 0) := by decide +kernel

variable (m : (ℓ : Loc nD τ sig) → Buf (Elt Ideal) ℓ) (c : Dev nD) (t : Fin cfg0.N)

/-- The rows of the activations. -/
theorem rows_apply (x : S512x4096.Idx) : iblk m c 0 t x
    = at2 (m (c.tc.loc main_arg0) : S8192x4096.Idx → EReal) (512 * (t.val % 16) + (x 0).val) (x 1).val := by
  have h0 : (x 0).val < 512 := (x 0).isLt
  have h1 : (x 1).val < 4096 := (x 1).isLt
  have hi := (idx_at t).1
  unfold at2
  rw [dif_pos (by omega)]
  blk_simp [iblk]
  entry_read
  blk_ext [hi.1, hi.2]

/-- The columns of the weights. -/
theorem cols_apply (x : S4096x1024.Idx) : iblk m c 1 t x
    = at2 (m (c.tc.loc main_arg1) : S4096x16384.Idx → EReal) (x 0).val (1024 * (t.val / 16) + (x 1).val) := by
  have h0 : (x 0).val < 4096 := (x 0).isLt
  have h1 : (x 1).val < 1024 := (x 1).isLt
  have ht : t.val < 256 := t.isLt
  have hi := (idx_at t).2.1
  unfold at2
  rw [dif_pos (by omega)]
  blk_simp [iblk]
  entry_read
  blk_ext [hi.1, hi.2]

/-- The rows of the output weights. -/
theorem side_apply (x : S16x4096.Idx) : iblk m c 2 t x
    = at2 (m (c.tc.loc main_arg2) : S4096x4096.Idx → EReal) (16 * t.val + (x 0).val) (x 1).val := by
  have h0 : (x 0).val < 16 := (x 0).isLt
  have h1 : (x 1).val < 4096 := (x 1).isLt
  have ht : t.val < 256 := t.isLt
  have hi := (idx_at t).2.2.1
  unfold at2
  rw [dif_pos (by omega)]
  blk_simp [iblk]
  entry_read
  blk_ext [hi.1, hi.2]

/-- Rounding leaves a number as it is, and so does a reshape to the same shape. -/
theorem pay1_eq (v : Vec Ideal S4096x1024 .f32) : k0_pay1 (F := Ideal) v = v := by
  funext i
  unfold k0_pay1
  rw [shapeCast_self]
  rfl

/-- The scratch holds the tile's columns of the weights at every point: stored at the first tile of a column, carried after. -/
theorem scratch_eq : ∀ (n : ℕ) (hn : n < cfg0.N) (x : S4096x1024.Idx), (outsAt0 m c n hn).2.2 x
    = at2 (m (c.tc.loc main_arg1) : S4096x16384.Idx → EReal) (x 0).val (1024 * (n / 16) + (x 1).val) := by
  intro n
  induction n with
  | zero =>
    intro hn x
    have h := outsAt0_A m c ⟨0, hn⟩ rfl
    rw [show outsAt0 m c 0 hn = _ from h]
    frame_out
    rw [pay1_eq]
    exact cols_apply m c ⟨0, hn⟩ x
  | succ n ih =>
    intro hn x
    by_cases h0 : (n + 1) % 16 = 0
    · have h := outsAt0_A m c ⟨n + 1, hn⟩ h0
      rw [show outsAt0 m c (n + 1) hn = _ from h]
      frame_out
      rw [pay1_eq]
      exact cols_apply m c ⟨n + 1, hn⟩ x
    · have h := outsAt0_B m c ⟨n + 1, hn⟩ h0
      rw [show outsAt0 m c (n + 1) hn = _ from h]
      have e := ih (by omega) x
      rw [show (n + 1) / 16 = n / 16 by omega]
      exact e

/-- The tile's product, entry by entry. -/
theorem pay3_apply (u : Vec Ideal S512x4096 .bf16) (v : Vec Ideal S4096x1024 .bf16) (x : S512x1024.Idx) :
    k0_pay3 (F := Ideal) u v x = ∑ e : Fin 4096, u (ValueIdx.ix2 (x 0 : Fin 512) e) * v (ValueIdx.ix2 e (x 1 : Fin 1024)) := by
  have hx : x = ValueIdx.ix2 (x 0 : Fin 512) (x 1 : Fin 1024) := funext fun k => by
    match k with
    | ⟨0, _⟩ => rfl
    | ⟨1, _⟩ => rfl
  unfold k0_pay3
  conv_lhs => rw [hx]
  refine (show _ = _ from Ideal.matmul_plain_apply (M := 512) (K := 4096) (N := 1024) (φ₁ := .bf16) (φ₂ := .bf16) none u v
    (constant (F := Ideal) ⟨2, ![512, 1024]⟩ .f32 0x00000000#32) (x 0) (x 1)).trans ?_
  exact (congrArg (· + _) Ideal.ofBits_zero_f32).trans (zero_add _)

/-- What a point leaves of the product. -/
theorem tile_apply (x : S512x1024.Idx) : (outsAt0 m c t.val t.isLt).1 x
    = prod (m (c.tc.loc main_arg0) : S8192x4096.Idx → EReal) (m (c.tc.loc main_arg1) : S4096x16384.Idx → EReal)
      (512 * (t.val % 16) + (x 0).val) (1024 * (t.val / 16) + (x 1).val) := by
  by_cases h0 : t.val % 16 = 0
  · rw [outsAt0_A m c t h0]
    frame_out
    rw [pay3_apply, pay1_eq]
    unfold prod
    refine Finset.sum_congr rfl fun e _ => ?_
    rw [rows_apply, cols_apply]
  · rw [outsAt0_B m c t h0]
    frame_out
    rw [pay3_apply]
    unfold prod
    refine Finset.sum_congr rfl fun e _ => ?_
    refine congrArg₂ (· * ·) (rows_apply m c t _) ?_
    refine (congrFun ((Memref.isWhole_whole cc0_scratch0).read_unread _) _).trans ((scratch_eq m c _ _ _).trans ?_)
    rw [show (t.val - 1) / 16 = t.val / 16 by omega]

/-- What a point leaves of the rounded output weights. -/
theorem weights_apply (x : S16x4096.Idx) : (outsAt0 m c t.val t.isLt).2.1 x
    = at2 (m (c.tc.loc main_arg2) : S4096x4096.Idx → EReal) (16 * t.val + (x 0).val) (x 1).val := by
  rw [← side_apply]
  by_cases h0 : t.val % 16 = 0
  · rw [outsAt0_A m c t h0]
    frame_out
    rfl
  · rw [outsAt0_B m c t h0]
    frame_out
    rfl

/-- The product after the run. -/
theorem product_value : (dats m 0 c).arrAt 3 cfg0.N = fun y : S8192x16384.Idx =>
    prod (m (c.tc.loc main_arg0) : S8192x4096.Idx → EReal) (m (c.tc.loc main_arg1) : S4096x16384.Idx → EReal) (y 0).val (y 1).val := by
  refine (dats m 0 c).arrAt_eq_of_covers 3 _ (by decide +kernel) fun t hf y => ?_
  have hi := (idx_at t).2.2.2.1
  blk_simp
  rw [after0_3]
  refine (tile_apply m c t _).trans ?_
  rw [hi.1, hi.2, Nat.mul_comm 512, Nat.mul_comm 1024]

/-- The rounded output weights after the run. -/
theorem weights_value : (dats m 0 c).arrAt 4 cfg0.N = fun y : S4096x4096.Idx =>
    at2 (m (c.tc.loc main_arg2) : S4096x4096.Idx → EReal) (y 0).val (y 1).val := by
  refine (dats m 0 c).arrAt_eq_of_covers 4 _ (by decide +kernel) fun t hf y => ?_
  have hi := (idx_at t).2.2.2.2
  blk_simp
  rw [after0_4]
  refine (weights_apply m c t _).trans ?_
  rw [hi.1, hi.2, Nat.mul_comm 16, Nat.zero_mul, Nat.zero_add]

/-- Every execution of the kernel ends with the product and the output weights as its results, and its arguments unchanged. -/
theorem kernel_value (ρ : Dev nD → PrngReg) :
    θ_run defs (onTc (τ := τ) (main (F := Ideal))) ⟨m, fun _ => 0, ρ⟩ fun r => ∀ c : Dev nD,
      r.2.mem ((c.tc : Thread nD τ).loc main_v0_0) = (fun y : S8192x16384.Idx =>
        prod (m (c.tc.loc main_arg0) : S8192x4096.Idx → EReal) (m (c.tc.loc main_arg1) : S4096x16384.Idx → EReal) (y 0).val (y 1).val)
      ∧ r.2.mem ((c.tc : Thread nD τ).loc main_v0_1) = (fun y : S4096x4096.Idx =>
        at2 (m (c.tc.loc main_arg2) : S4096x4096.Idx → EReal) (y 0).val (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (product_value m c), (h c).2.1.trans (weights_value m c), (h c).2.2⟩)
    (Cert.KernelInOddIdeal.Value.run_blocks m ρ)

section Reference

open Cert.ReferenceInOddIdeal.Read

/-- The reference's product, entry by entry. -/
theorem reference_product (X : FVec Ideal Cert.ReferenceInOddIdeal.S8192x4096 .bf16) (W : FVec Ideal Cert.ReferenceInOddIdeal.S4096x16384 .f32) :
    val_main_v2 (F := Ideal) X W = fun y => prod (X : S8192x4096.Idx → EReal) (W : S4096x16384.Idx → EReal) (y 0).val (y 1).val := by
  funext y
  rw [val_main_v2_apply]
  refine (val_main_v1_apply X W y).trans (Finset.sum_congr rfl fun e _ => ?_)
  refine congrArg₂ (· * ·) ?_ ?_
  · exact at2_eq _ _ _ _ rfl rfl
  · exact at2_eq _ _ _ _ rfl rfl

/-- The reference's rounded output weights. -/
theorem reference_weights (Z : FVec Ideal Cert.ReferenceInOddIdeal.S4096x4096 .f32) :
    val_main_v3 (F := Ideal) Z = fun y => at2 (Z : S4096x4096.Idx → EReal) (y 0).val (y 1).val := by
  funext y
  rw [val_main_v3_apply]
  exact at2_eq _ _ _ _ rfl rfl

end Reference

/-- The frame of the kernel at bit patterns. -/
theorem frame_kernel : Cert.quiescent_KernelInOdd (hKernelInOdd := Cert.KernelInOdd.Gen.facts) := fun m g _ => Cert.KernelInOdd.Gen.frame m g

/-- The frame of the idealized kernel. -/
theorem frame_ideal : Cert.quiescent_KernelInOddIdeal (hKernelInOddIdeal := Cert.KernelInOddIdeal.Gen.facts) :=
  fun m g _ => Cert.KernelInOddIdeal.Gen.frame m g

/-- The frame of the reference. -/
theorem frame_reference : Cert.quiescent_ReferenceInOddIdeal (hReferenceInOddIdeal := Cert.ReferenceInOddIdeal.Gen.facts) := fun m g _ =>
  (θ_run Cert.ReferenceInOddIdeal.defs _ _).mono (fun r h => ⟨fun c => (h c).2.2, sem_eq_zero_of_no_sems (by decide) r.2⟩)
    (Cert.ReferenceInOddIdeal.Value.run m g)

/-- The kernel and the reference leave the same two arrays. -/
theorem algebraic : Cert.algebraic_KernelInOddIdeal_ReferenceInOddIdeal (hKernelInOddIdeal := Cert.KernelInOddIdeal.Gen.facts)
    (hReferenceInOddIdeal := Cert.ReferenceInOddIdeal.Gen.facts) := fun m g m' g' _ hargs =>
  ⟨_, _, kernel_value m g, (θ_run Cert.ReferenceInOddIdeal.defs _ _).mono (fun _ h c =>
    ⟨(h c).1.trans (((Cert.ReferenceInOddIdeal.Read.val_main_v2_eq _ _).trans (reference_product _ _)).trans (by rw [(hargs c).1, (hargs c).2.1])),
      (h c).2.1.trans (((Cert.ReferenceInOddIdeal.Read.val_main_v3_eq _).trans (reference_weights _)).trans (by rw [(hargs c).2.2])), (h c).2.2⟩)
    (Cert.ReferenceInOddIdeal.Value.run m' g')⟩

end Cert.Proof.InOdd

end
-- ==== Proof.BitsOutEvenFrame.lean ====
/- The even layer's output projection at bit patterns: its body runs from any buffers, the launch, the frame. -/
module

public import Idealize.ShloMosaic.Lib.Pipeline.DatRel
public import Idealize.ShloMosaic.Lib.Pipeline.ArrRel
public import Idealize.ShloMosaic.Lib.Claim
public import proofs.«01_k».proof.Proof.BitsOutEvenRun

@[expose] public section

set_option maxRecDepth 16384

noncomputable section

namespace Cert.Proof.OutEvenBits

open Cert.KernelOutEven Cert.KernelOutEven.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel)

variable {F : FTy → Type} [FloatOps F]

local notation "𝕄" => MT nD τ sig Unit (Elt F) ℕ (UR sig nD τ) ℕ

/-- Window 0's staging buffer at point `t`. -/
abbrev ms0 (t : Fin cfg0.N) : Memref sig .tc .vmem S512x2048 .bf16 := win0_0.stage (cfg0.slots t 0)
/-- Window 1's staging buffer at point `t`. -/
abbrev ms1 (t : Fin cfg0.N) : Memref sig .tc .vmem S512x2048 .bf16 := win0_1.stage (cfg0.slots t 1)
/-- Window 2's staging buffer at point `t`. -/
abbrev ms2 (t : Fin cfg0.N) : Memref sig .tc .vmem S2048x512 .bf16 := win0_2.stage (cfg0.slots t 2)
/-- Window 3's staging buffer at point `t`. -/
abbrev ms3 (t : Fin cfg0.N) : Memref sig .tc .vmem S2048x512 .bf16 := win0_3.stage (cfg0.slots t 3)
/-- Window 4's staging buffer at point `t`. -/
abbrev ms4 (t : Fin cfg0.N) : Memref sig .tc .vmem S512x512 .f32 := win0_4.stage (cfg0.slots t 4)
/-- Window 5's staging buffer at point `t`. -/
abbrev ms5 (t : Fin cfg0.N) : Memref sig .tc .vmem S1x4096 .f32 := win0_5.stage (cfg0.slots t 5)
/-- Window 6's staging buffer at point `t`. -/
abbrev ms6 (t : Fin cfg0.N) : Memref sig .tc .vmem S1x4096 .f32 := win0_6.stage (cfg0.slots t 6)
/-- Window 7's staging buffer at point `t`. -/
abbrev ms7 (t : Fin cfg0.N) : Memref sig .tc .vmem S512x4096 .f32 := win0_7.stage (cfg0.slots t 7)
/-- Window 8's staging buffer at point `t`. -/
abbrev ms8 (t : Fin cfg0.N) : Memref sig .tc .vmem S512x4096 .bf16 := win0_8.stage (cfg0.slots t 8)
/-- The scratch. -/
abbrev scM : Memref sig .tc .vmem S512x4096 .f32 := Memref.whole cc0_scratch0

variable (m : (ℓ : Loc nD τ sig) → Buf (Elt F) ℓ) (ρ : Dev nD → PrngReg)

/-- The windows held to a relation alone: the outputs. -/
def marked : Fin 9 → Bool := fun w => decide (w = 7 ∨ w = 8)

/-- Nothing is said of what the windows hold. -/
def rel (c : Dev nD) : (w : Fin cfg0.W) → Fin cfg0.N → ((cfg0.win w).block.Idx → Elt F (cfg0.win w).elt) → Prop := fun _ _ _ => True

/-- The invariant: the scratch holds anything; the generator register. -/
def inv (c : Dev nD) : sProp 𝕄 :=
  iprop((∃ f : Bf (F := F) c scM, pt c scM f) ∗ ∃ r, prngReg c r)

/-- The proof data: the arrays as the host code leaves them, every input's block in place after the body, the outputs'
    unnamed; the invariant above; the two windows on the weights share them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Dat.unnamed (cfg := cfg0) ⟨7, h⟩ t
    | ⟨8, h⟩ => Dat.unnamed (cfg := cfg0) ⟨8, h⟩ t
  Φ _ := inv c
  q w := Pipeline.shareOf spec0 w
  owed _ := 0

/-- The arrays of the proof data are those the region finds. -/
theorem A_eq (c : Dev nD) (w : Fin cfg0.W) : (dats m 0 c).A w = V m c (Pipeline.arrRef spec0 w) := by
  dsimp only [dats]

/-- What the body leaves in window 0. -/
theorem after0 (c : Dev nD) (t : Fin cfg0.N) : (dats m 0 c).after 0 t = iblk m c 0 t := by dsimp only [dats]
/-- What the body leaves in window 1. -/
theorem after1 (c : Dev nD) (t : Fin cfg0.N) : (dats m 0 c).after 1 t = iblk m c 1 t := by dsimp only [dats]
/-- What the body leaves in window 2. -/
theorem after2 (c : Dev nD) (t : Fin cfg0.N) : (dats m 0 c).after 2 t = iblk m c 2 t := by dsimp only [dats]
/-- What the body leaves in window 3. -/
theorem after3 (c : Dev nD) (t : Fin cfg0.N) : (dats m 0 c).after 3 t = iblk m c 3 t := by dsimp only [dats]
/-- What the body leaves in window 4. -/
theorem after4 (c : Dev nD) (t : Fin cfg0.N) : (dats m 0 c).after 4 t = iblk m c 4 t := by dsimp only [dats]
/-- What the body leaves in window 5. -/
theorem after5 (c : Dev nD) (t : Fin cfg0.N) : (dats m 0 c).after 5 t = iblk m c 5 t := by dsimp only [dats]
/-- What the body leaves in window 6. -/
theorem after6 (c : Dev nD) (t : Fin cfg0.N) : (dats m 0 c).after 6 t = iblk m c 6 t := by dsimp only [dats]
/-- Window 0 holds its block before the body. -/
theorem before0 (c : Dev nD) (t : Fin cfg0.N) (d) : (dats m 0 c).before 0 t d = iblk m c 0 t :=
  before0_0_of m (dats m 0 c) (A_eq m c 0) (after0 m c) t d
/-- Window 1 holds its block before the body. -/
theorem before1 (c : Dev nD) (t : Fin cfg0.N) (d) : (dats m 0 c).before 1 t d = iblk m c 1 t :=
  before0_1_of m (dats m 0 c) (A_eq m c 1) (after1 m c) t d
/-- Window 2 holds its block before the body. -/
theorem before2 (c : Dev nD) (t : Fin cfg0.N) (d) : (dats m 0 c).before 2 t d = iblk m c 2 t :=
  before0_2_of m (dats m 0 c) (A_eq m c 2) (after2 m c) t d
/-- Window 3 holds its block before the body. -/
theorem before3 (c : Dev nD) (t : Fin cfg0.N) (d) : (dats m 0 c).before 3 t d = iblk m c 3 t :=
  before0_3_of m (dats m 0 c) (A_eq m c 3) (after3 m c) t d
/-- Window 4 holds its block before the body. -/
theorem before4 (c : Dev nD) (t : Fin cfg0.N) (d) : (dats m 0 c).before 4 t d = iblk m c 4 t :=
  before0_4_of m (dats m 0 c) (A_eq m c 4) (after4 m c) t d
/-- Window 5 holds its block before the body. -/
theorem before5 (c : Dev nD) (t : Fin cfg0.N) (d) : (dats m 0 c).before 5 t d = iblk m c 5 t :=
  before0_5_of m (dats m 0 c) (A_eq m c 5) (after5 m c) t d
/-- Window 6 holds its block before the body. -/
theorem before6 (c : Dev nD) (t : Fin cfg0.N) (d) : (dats m 0 c).before 6 t d = iblk m c 6 t :=
  before0_6_of m (dats m 0 c) (A_eq m c 6) (after6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜((dats m 0 c).toRRel marked (rel c)).Finds 7 t Y⌝ ∗ owns (c : Thread nD τ) (st0_7 t) fullShare Y)
    ∗ (∃ Y, ⌜((dats m 0 c).toRRel marked (rel c)).Finds 8 t Y⌝ ∗ owns (c : Thread nD τ) (st0_8 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜True⌝ ∗ owns (c : Thread nD τ) (st0_7 t) fullShare X)
    ∗ (∃ X, ⌜True⌝ ∗ owns (c : Thread nD τ) (st0_8 t) fullShare X))

/-- The last strip is the one whose point normalises. -/
theorem cond_iff : ∀ t : Fin cfg0.N, k0_cond1 (grid0.coords t) = 1#1 ↔ t.val % 8 = 7 := by decide +kernel
/-- Holding a memref is owning it at what it reads. -/
theorem owns_of_pt (c : Dev nD) {s : Shape} {e : EltTy} (M : Memref sig .tc .vmem s e) (f : Bf (F := F) c M) :
    (pt c M f : sProp 𝕄) ⊢ owns (c : Thread nD τ) M fullShare (M.view.read (Elt F) f) := by
  unfold owns
  iintro H
  iexists _
  isplitr
  swap; · iexact H
  ipureintro
  rfl

/-- The residual's scratch after point `t`. -/
def residAt (c : Dev nD) (t : Fin cfg0.N) (g11 : Bf (F := F) c scM) : Bf (F := F) c scM :=
  residPut c (grid0.coords t) (ms4 t) scM ((ms4 t).view.rep (iblk m c 4 t)) g11

/-- The first output buffer after the strip of point `t` is stored. -/
def stripAt (c : Dev nD) (t : Fin cfg0.N) (Y : Vec F S512x4096 .f32) : Bf (F := F) c (ms7 t) :=
  stripPut c (grid0.coords t) (ms0 t) (ms1 t) (ms2 t) (ms3 t) (ms7 t) ((ms0 t).view.rep (iblk m c 0 t)) ((ms1 t).view.rep (iblk m c 1 t))
    ((ms2 t).view.rep (iblk m c 2 t)) ((ms3 t).view.rep (iblk m c 3 t)) ((ms7 t).view.rep Y)

/-- The first output buffer after the last point of a row block. -/
def lastAt (c : Dev nD) (t : Fin cfg0.N) (h : t.val % 8 = 7) (Y : Vec F S512x4096 .f32) (g11 : Bf (F := F) c scM) : Bf (F := F) c (ms7 t) :=
  bandsPut c (grid0.coords t) (ms5 t) (ms7 t) scM ((cond_iff t).mpr h) ((ms5 t).view.rep (iblk m c 5 t)) (residAt m c t g11) (stripAt m c t Y) k0_t1_loop.trips

/-- The second output buffer after the last point of a row block. -/
def nextAt (c : Dev nD) (t : Fin cfg0.N) (h : t.val % 8 = 7) (Y : Vec F S512x4096 .f32) (Y' : Vec F S512x4096 .bf16) (g11 : Bf (F := F) c scM) : Bf (F := F) c (ms8 t) :=
  nextsPut c (grid0.coords t) (ms5 t) (ms6 t) (ms7 t) (ms8 t) scM ((cond_iff t).mpr h) ((ms5 t).view.rep (iblk m c 5 t)) ((ms6 t).view.rep (iblk m c 6 t))
    (residAt m c t g11) (stripAt m c t Y) ((ms8 t).view.rep Y') k0_t1_loop.trips

/-- The buffers at point `t`, held whole: the inputs at their blocks, the outputs and the scratch at given contents. -/
def heldAt (c : Dev nD) (t : Fin cfg0.N) (f9 : Bf (F := F) c (ms7 t)) (f10 : Bf (F := F) c (ms8 t)) (f11 : Bf (F := F) c scM) : sProp 𝕄 :=
  iprop(pt c (ms0 t) ((ms0 t).view.rep (iblk m c 0 t)) ∗ pt c (ms1 t) ((ms1 t).view.rep (iblk m c 1 t))
    ∗ pt c (ms2 t) ((ms2 t).view.rep (iblk m c 2 t)) ∗ pt c (ms3 t) ((ms3 t).view.rep (iblk m c 3 t))
    ∗ pt c (ms4 t) ((ms4 t).view.rep (iblk m c 4 t)) ∗ pt c (ms5 t) ((ms5 t).view.rep (iblk m c 5 t))
    ∗ pt c (ms6 t) ((ms6 t).view.rep (iblk m c 6 t)) ∗ pt c (ms7 t) f9 ∗ pt c (ms8 t) f10 ∗ pt c scM f11)

/-- The body's run at the last point of a row block. -/
theorem runLast (c : Dev nD) (t : Fin cfg0.N) (h : t.val % 8 = 7) (Y : Vec F S512x4096 .f32) (Y' : Vec F S512x4096 .bf16) (g11 : Bf (F := F) c scM) :
    heldAt m c t ((ms7 t).view.rep Y) ((ms8 t).view.rep Y') g11
      ⊢ wp frame (wpE (defs₀ (F := F)) Variants.none (c : Thread nD τ) none) Set.univ (bodyAt0 t)
        (fun _ => heldAt m c t (lastAt m c t h Y g11) (nextAt m c t h Y Y' g11) (residAt m c t g11)) :=
  bodyLast c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8))
    scM (Memref.isWhole_whole _) ((cond_iff t).mpr h) _ _ _ _ _ _ _ _ _ _

/-- The body's run at the other points. -/
theorem runMid (c : Dev nD) (t : Fin cfg0.N) (h : ¬ t.val % 8 = 7) (Y : Vec F S512x4096 .f32) (Y' : Vec F S512x4096 .bf16) (g11 : Bf (F := F) c scM) :
    heldAt m c t ((ms7 t).view.rep Y) ((ms8 t).view.rep Y') g11
      ⊢ wp frame (wpE (defs₀ (F := F)) Variants.none (c : Thread nD τ) none) Set.univ (bodyAt0 t)
        (fun _ => heldAt m c t (stripAt m c t Y) ((ms8 t).view.rep Y') (residAt m c t g11)) :=
  bodyMid c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8))
    scM (Memref.isWhole_whole _) (fun h' => h ((cond_iff t).mp h')) _ _ _ _ _ _ _ _ _ _

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = inv c from rfl, show (dats m 0 c).Φ t.castSucc = inv c from rfl,
    show (dats m 0 c).owesAt () t.succ = (dats m 0 c).owesAt () t.castSucc from rfl,
    after0, after1, after2, after3, after4, after5, after6]
  unfold inv
  iintro ⟨⟨⟨%g11, H11⟩, Hr⟩, Ho, ⟨%d0, H2⟩, ⟨%d1, H3⟩, ⟨%d2, H4⟩, ⟨%d3, H5⟩, ⟨%d4, H6⟩, ⟨%d5, H7⟩, ⟨%d6, H8⟩, ⟨%Y, %hY, H9⟩, ⟨%Y', %hY', H10⟩⟩
  ihave H2' := (rep_of_owns (c : Thread nD τ) (ms0 t) fullShare (iblk m c 0 t)) $$ H2
  ihave H3' := (rep_of_owns (c : Thread nD τ) (ms1 t) fullShare (iblk m c 1 t)) $$ H3
  ihave H4' := (rep_of_owns (c : Thread nD τ) (ms2 t) fullShare (iblk m c 2 t)) $$ H4
  ihave H5' := (rep_of_owns (c : Thread nD τ) (ms3 t) fullShare (iblk m c 3 t)) $$ H5
  ihave H6' := (rep_of_owns (c : Thread nD τ) (ms4 t) fullShare (iblk m c 4 t)) $$ H6
  ihave H7' := (rep_of_owns (c : Thread nD τ) (ms5 t) fullShare (iblk m c 5 t)) $$ H7
  ihave H8' := (rep_of_owns (c : Thread nD τ) (ms6 t) fullShare (iblk m c 6 t)) $$ H8
  ihave H9' := (rep_of_owns (c : Thread nD τ) (ms7 t) fullShare Y) $$ H9
  ihave H10' := (rep_of_owns (c : Thread nD τ) (ms8 t) fullShare Y') $$ H10
  by_cases h7 : t.val % 8 = 7
  · iapply (wp_wand_r Idealize.ShloMosaic.frame (wpE (defs₀ (F := F)) Variants.none (c : Thread nD τ) none) Set.univ)
    isplitl [H2' H3' H4' H5' H6' H7' H8' H9' H10' H11]
    · iapply (runLast m c t h7 Y Y' g11)
      unfold heldAt
      isplitl [H2']; · iexact H2'
      isplitl [H3']; · iexact H3'
      isplitl [H4']; · iexact H4'
      isplitl [H5']; · iexact H5'
      isplitl [H6']; · iexact H6'
      isplitl [H7']; · iexact H7'
      isplitl [H8']; · iexact H8'
      isplitl [H9']; · iexact H9'
      isplitl [H10']; · iexact H10'
      iexact H11
    · unfold heldAt
      iintro %_ ⟨H2, H3, H4, H5, H6, H7, H8, H9, H10, H11⟩
      isplitl [H11 Hr]
      · isplitl [H11]
        · iexists _
          iexact H11
        · iexact Hr
      isplitl [Ho]; · iexact Ho
      isplitl [H2]; · iapply (owns_of_rep (c : Thread nD τ) (ms0 t) fullShare (iblk m c 0 t)); iexact H2
      isplitl [H3]; · iapply (owns_of_rep (c : Thread nD τ) (ms1 t) fullShare (iblk m c 1 t)); iexact H3
      isplitl [H4]; · iapply (owns_of_rep (c : Thread nD τ) (ms2 t) fullShare (iblk m c 2 t)); iexact H4
      isplitl [H5]; · iapply (owns_of_rep (c : Thread nD τ) (ms3 t) fullShare (iblk m c 3 t)); iexact H5
      isplitl [H6]; · iapply (owns_of_rep (c : Thread nD τ) (ms4 t) fullShare (iblk m c 4 t)); iexact H6
      isplitl [H7]; · iapply (owns_of_rep (c : Thread nD τ) (ms5 t) fullShare (iblk m c 5 t)); iexact H7
      isplitl [H8]; · iapply (owns_of_rep (c : Thread nD τ) (ms6 t) fullShare (iblk m c 6 t)); iexact H8
      isplitl [H9]
      · iexists _
        isplitr; swap
        · iapply (owns_of_pt c (ms7 t) _); iexact H9
        ipureintro
        trivial
      · iexists _
        isplitr; swap
        · iapply (owns_of_pt c (ms8 t) _); iexact H10
        ipureintro
        trivial
  · iapply (wp_wand_r Idealize.ShloMosaic.frame (wpE (defs₀ (F := F)) Variants.none (c : Thread nD τ) none) Set.univ)
    isplitl [H2' H3' H4' H5' H6' H7' H8' H9' H10' H11]
    · iapply (runMid m c t h7 Y Y' g11)
      unfold heldAt
      isplitl [H2']; · iexact H2'
      isplitl [H3']; · iexact H3'
      isplitl [H4']; · iexact H4'
      isplitl [H5']; · iexact H5'
      isplitl [H6']; · iexact H6'
      isplitl [H7']; · iexact H7'
      isplitl [H8']; · iexact H8'
      isplitl [H9']; · iexact H9'
      isplitl [H10']; · iexact H10'
      iexact H11
    · unfold heldAt
      iintro %_ ⟨H2, H3, H4, H5, H6, H7, H8, H9, H10, H11⟩
      isplitl [H11 Hr]
      · isplitl [H11]
        · iexists _
          iexact H11
        · iexact Hr
      isplitl [Ho]; · iexact Ho
      isplitl [H2]; · iapply (owns_of_rep (c : Thread nD τ) (ms0 t) fullShare (iblk m c 0 t)); iexact H2
      isplitl [H3]; · iapply (owns_of_rep (c : Thread nD τ) (ms1 t) fullShare (iblk m c 1 t)); iexact H3
      isplitl [H4]; · iapply (owns_of_rep (c : Thread nD τ) (ms2 t) fullShare (iblk m c 2 t)); iexact H4
      isplitl [H5]; · iapply (owns_of_rep (c : Thread nD τ) (ms3 t) fullShare (iblk m c 3 t)); iexact H5
      isplitl [H6]; · iapply (owns_of_rep (c : Thread nD τ) (ms4 t) fullShare (iblk m c 4 t)); iexact H6
      isplitl [H7]; · iapply (owns_of_rep (c : Thread nD τ) (ms5 t) fullShare (iblk m c 5 t)); iexact H7
      isplitl [H8]; · iapply (owns_of_rep (c : Thread nD τ) (ms6 t) fullShare (iblk m c 6 t)); iexact H8
      isplitl [H9]
      · iexists _
        isplitr; swap
        · iapply (owns_of_pt c (ms7 t) _); iexact H9
        ipureintro
        trivial
      · iexists _
        isplitr; swap
        · iapply (owns_of_pt c (ms8 t) _); iexact H10
        ipureintro
        trivial

/-- The body the pipeline calls at point `t`, as it is written above. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligationRel (dats (F := F) m 0 c) (defs₀ (F := F)) Variants.none () Set.univ marked (rel c) := fun t => by
  rw [bigSep_W0, bigSep_W0, defs₀_row]
  exact triple_restated (sound_body m c t) rfl .rfl fun _ => .rfl

/-- Holding a whole buffer is holding the memref of that buffer. -/
theorem whole_pt (c : Dev nD) (f : Bf (F := F) c scM) :
    (((c : Thread nD τ).loc cc0_scratch0) ↦{fullShare} f : sProp 𝕄) = pt c scM f := by
  unfold pt; rw [View.set_whole]

/-- Before the first point the scratch holds anything. -/
theorem inv_in (c : Dev nD) : (Pipeline.ΦA spec0 c : sProp 𝕄) ⊢ (dats m 0 c).Φ 0 := by
  rw [show (dats m 0 c).Φ 0 = inv c from rfl]
  unfold Pipeline.ΦA inv
  rw [scopedRest0_eq]
  iintro ⟨⟨%f, H⟩, Hr⟩
  isplitl [H]
  · iexists f
    ihave H' := (Entails.of_eq (whole_pt c f)) $$ H
    iexact H'
  · iexact Hr

/-- After the last point what the scratch holds is forgotten. -/
theorem inv_out (c : Dev nD) : (dats m 0 c).Φ (Fin.last cfg0.N) ⊢ (Pipeline.ΦA spec0 c : sProp 𝕄) := by
  rw [show (dats m 0 c).Φ (Fin.last cfg0.N) = inv c from rfl]
  unfold Pipeline.ΦA inv
  rw [scopedRest0_eq]
  iintro ⟨⟨%f, H⟩, Hr⟩
  isplitl [H]
  · iexists f
    ihave H' := (Entails.of_eq (whole_pt c f).symm) $$ H
    iexact H'
  · iexact Hr

set_option backward.isDefEq.respectTransparency.types false in
/-- The launch, for proof data held as a variable. -/
theorem run_of (ds : (c : Dev nD) → Dat τ (Elt F) Unit ℕ (UR sig nD τ) ℕ cfg0 c)
    (hbody : ∀ c, BodyObligationRel (ds c) (defs₀ (F := F)) Variants.none () Set.univ marked (rel c))
    (hq : ∀ c w, (cfg0.spec w).isOut = false → (ds c).q w = Pipeline.shareOf cfg0.spec w) (howed : ∀ c t, (ds c).owed t = 0)
    (hA : ∀ c w, (ds c).A w = V m c (Pipeline.arrRef spec0 w))
    (hin : ∀ c, (Pipeline.ΦA spec0 c : sProp 𝕄) ⊢ (ds c).Φ 0) (hout : ∀ c, (ds c).Φ (Fin.last cfg0.N) ⊢ (Pipeline.ΦA spec0 c : sProp 𝕄)) :
    θ_run defs (onTc (τ := τ) (main (F := F))) (s₀ m ρ)
      (fun r => Pipeline.RDat.FramePost cfg0 (fun c => (ds c).toRRel marked (rel c)) (V m) r ∧ r.2.sem = fun _ => 0) :=
  Pipeline.RDat.θ_run_frame_track_shared (Q' := fun r => Pipeline.RDat.FramePost cfg0 (fun c => (ds c).toRRel marked (rel c)) (V m) r ∧ r.2.sem = fun _ => 0)
    cfgs (0 : Fin 1) launch₀0 defs₀ Variants.none (fun c => (ds c).toRRel marked (rel c)) m ρ main
    (hbody := fun c => (hbody c).toRRel) (hq := hq) (howed := howed) (V := V m) (hmain := hmain m Variants.none)
    (hA := hA) (hin := hin) (hout := hout) (hQ' := fun _ h => h)

/-- Every execution of the program ends, with every other buffer than the results'
    as the region found it, and every semaphore counter at zero. -/
theorem run_main : θ_run defs (onTc (τ := τ) (main (F := F))) (s₀ m ρ)
      (fun r => Pipeline.RDat.FramePost cfg0 (fun c => (dats m 0 c).toRRel marked (rel c)) (V m) r ∧ r.2.sem = fun _ => 0) :=
  run_of m ρ (dats m 0) (body_obligation m) (fun _ _ _ => rfl) (fun _ _ => rfl) (A_eq m) (inv_in m) (inv_out m)

/-- After the run the arguments hold what they held. -/
theorem args_kept (c : Dev nD) (r : PUnit × MemSt nD τ sig (Elt F)) (h : Pipeline.RDat.FramePost cfg0 (fun c => (dats m 0 c).toRRel marked (rel c)) (V m) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans ((A_eq m c 0).trans (V_main_arg0 m c)),
    (h.arr_in c 1 rfl).trans ((A_eq m c 1).trans (V_main_arg1 m c)),
    (h.arr_in c 3 rfl).trans ((A_eq m c 3).trans (V_main_arg2 m c)),
    (h.arr_in c 4 rfl).trans ((A_eq m c 4).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame: the program ends, its arguments are unchanged and the counters are zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_kept m c r h.1, h.2⟩) (run_main m ρ)

end Cert.Proof.OutEvenBits

end
-- ==== Proof.Norm.lean ====
/- A row of numbers normalised by its root mean square and scaled: the plain formula, and a band of 128 rows computed so. -/
module

public import Idealize.ShloMosaic.Lib.Pipeline.ValueKit
public import Idealize.ShloMosaic.PureOps.Ideal.Laws
public import Idealize.ShloMosaic.Lib.Pointwise.Index

@[expose] public section

noncomputable section

namespace Cert.Proof.Norm

open Idealize.ShloMosaic Idealize.ShloMosaic.Tactic

/-- What a row is multiplied by: the reciprocal root of the mean of its squares, a millionth added under the root. -/
def factor (f : ℕ → EReal) : EReal :=
  Ideal.rsqrt (Ideal.div (∑ k : Fin 4096, f k.val * f k.val) (Ideal.ofBits .f32 0x45800000#32) + Ideal.ofBits .f32 0x358637BD#32)

/-- The normalised row, scaled by the gains, at column `n`. -/
def rms (f g : ℕ → EReal) (n : ℕ) : EReal := f n * factor f * g n

/-- Rows of equal entries have equal factors. -/
theorem factor_congr (f f' : ℕ → EReal) (h : ∀ n, n < 4096 → f n = f' n) : factor f = factor f' := by
  unfold factor
  rw [Finset.sum_congr rfl fun k _ => by rw [h k.val k.isLt]]

/-- The kernel's normalisation of a band of 128 rows is the formula on every row. -/
theorem band_apply (y : FVec Ideal ⟨2, ![128, 4096]⟩ .f32) (g : FVec Ideal ⟨2, ![1, 4096]⟩ .f32)
    (h1 : Shape.ShapeCasts ⟨2, ![128, 4096]⟩ ⟨2, ![128, 4096]⟩) (hr : Shape.Reduces ⟨2, ![128, 4096]⟩ [1] ⟨1, ![128]⟩)
    (h2 : Shape.ShapeCasts ⟨1, ![128]⟩ ⟨2, ![128, 1]⟩) (h3 : Shape.Broadcasts ⟨2, ![128, 1]⟩ ⟨2, ![128, 4096]⟩)
    (h4 : Shape.ShapeCasts ⟨2, ![1, 4096]⟩ ⟨2, ![1, 4096]⟩) (h5 : Shape.Broadcasts ⟨2, ![1, 4096]⟩ ⟨2, ![128, 4096]⟩)
    (f : ℕ → EReal) (s : ℕ → EReal) (r : Fin 128) (n : Fin 4096) (hf : ∀ k : Fin 4096, y (ix2 r k) = f k.val) (hg : g (ix2 0 n) = s n.val) :
    (mulf (mulf (shapeCast ⟨2, ![128, 4096]⟩ y h1)
        (broadcastTo ⟨2, ![128, 4096]⟩ (rsqrt (addf (divf (shapeCast ⟨2, ![128, 1]⟩ (multiReduction .add [1] ⟨1, ![128]⟩
            (mulf (shapeCast ⟨2, ![128, 4096]⟩ y h1) (shapeCast ⟨2, ![128, 4096]⟩ y h1)) 0x00000000#32 hr (.inl rfl) rfl) h2)
          (broadcast ⟨2, ![128, 1]⟩ (Scalar.ofBits .f32 0x45800000#32))) (broadcast ⟨2, ![128, 1]⟩ (Scalar.ofBits .f32 0x358637BD#32)))) h3))
      (broadcastTo ⟨2, ![128, 4096]⟩ (shapeCast ⟨2, ![1, 4096]⟩ g h4) h5) : FVec Ideal ⟨2, ![128, 4096]⟩ .f32) (ix2 r n) = rms f s n.val := by
  rw [shapeCast_self, shapeCast_self]
  unfold rms factor
  rw [← hf n, ← hg]
  simp only [← hf]
  pointwise

/-- The same for a band that is read as it is, with the result rounded to fewer bits. -/
theorem plain_band_apply (y : FVec Ideal ⟨2, ![128, 4096]⟩ .f32) (g : FVec Ideal ⟨2, ![1, 4096]⟩ .f32)
    (hr : Shape.Reduces ⟨2, ![128, 4096]⟩ [1] ⟨1, ![128]⟩)
    (h2 : Shape.ShapeCasts ⟨1, ![128]⟩ ⟨2, ![128, 1]⟩) (h3 : Shape.Broadcasts ⟨2, ![128, 1]⟩ ⟨2, ![128, 4096]⟩)
    (h4 : Shape.ShapeCasts ⟨2, ![1, 4096]⟩ ⟨2, ![1, 4096]⟩) (h5 : Shape.Broadcasts ⟨2, ![1, 4096]⟩ ⟨2, ![128, 4096]⟩)
    (f : ℕ → EReal) (s : ℕ → EReal) (r : Fin 128) (n : Fin 4096) (hf : ∀ k : Fin 4096, y (ix2 r k) = f k.val) (hg : g (ix2 0 n) = s n.val) :
    (mulf (mulf y
        (broadcastTo ⟨2, ![128, 4096]⟩ (rsqrt (addf (divf (shapeCast ⟨2, ![128, 1]⟩ (multiReduction .add [1] ⟨1, ![128]⟩
            (mulf y y) 0x00000000#32 hr (.inl rfl) rfl) h2)
          (broadcast ⟨2, ![128, 1]⟩ (Scalar.ofBits .f32 0x45800000#32))) (broadcast ⟨2, ![128, 1]⟩ (Scalar.ofBits .f32 0x358637BD#32)))) h3))
      (broadcastTo ⟨2, ![128, 4096]⟩ (shapeCast ⟨2, ![1, 4096]⟩ g h4) h5) : FVec Ideal ⟨2, ![128, 4096]⟩ .f32) (ix2 r n) = rms f s n.val := by
  rw [shapeCast_self]
  unfold rms factor
  rw [← hf n, ← hg]
  simp only [← hf]
  pointwise

end Cert.Proof.Norm

end
-- ==== Proof.Strips.lean ====
/- A block of 512 rows by 4096 columns filled by strips of 512 columns, and rewritten by bands of 128 rows. -/
module

public import Idealize.ShloMosaic.Lib.WritesUnit
public import Idealize.ShloMosaic.Lib.VecWindow
public import Idealize.ShloMosaic.Lib.Pointwise.Index

@[expose] public section

noncomputable section

namespace Cert.Proof.Strips

open Idealize.ShloMosaic

/-- The shape of a block. -/
abbrev Block : Shape := ⟨2, ![512, 4096]⟩
/-- The shape of a strip. -/
abbrev Strip : Shape := ⟨2, ![512, 512]⟩
/-- The shape of a band. -/
abbrev Band : Shape := ⟨2, ![128, 4096]⟩

variable {F : FTy → Type} [FloatOps F] {e : EltTy}

/-- The 128 rows of a block from row `128 k` on. -/
def rowsOf (Y : Block.Idx → Elt F e) (k : ℕ) : Band.Idx → Elt F e := fun x =>
  Y (ix2 ⟨(128 * k + (x 0).val) % 512, Nat.mod_lt _ (by decide)⟩ (x 1))

/-- Strip `j` of a block: its 512 columns from column `512 j` on. -/
def stripOf (Z : Block.Idx → Elt F e) (j : ℕ) : Strip.Idx → Elt F e := fun x =>
  Z (ix2 (x 0) ⟨(512 * j + (x 1).val) % 4096, Nat.mod_lt _ (by decide)⟩)

variable {sig : RefSig} (v : View sig .tc .vmem Block e) (f : v.ty.Contents (Elt F))

/-- If a block holds `Z` in its first `j` strips, then with `Z`'s strip `j` stored it holds `Z` in its first `j + 1`. -/
theorem upto_strip (Z : Block.Idx → Elt F e) (j : ℕ)
    (off : Fin 2 → ℕ) (inb : ∀ a, off a + Strip.size a ≤ Block.size a) (hoff : off = ![0, 512 * j])
    (hf : ∀ y : Block.Idx, (y 1).val < 512 * j → v.read (Elt F) f y = Z y) (y : Block.Idx) (hy : (y 1).val < 512 * (j + 1)) :
    v.read (Elt F) (v.writes (Elt F) f [⟨Rect.unit (s := Block) off Strip.size inb, stripOf Z j⟩]) y = Z y := by
  have h0 : (y 0).val < 512 := (y 0).isLt
  have h1 : (y 1).val < 4096 := (y 1).isLt
  by_cases h : (y 1).val < 512 * j
  · refine (View.read_writes_cons_unit_of_not_mem (v := v) f inb _ [] y hoff (1 : Fin 2) (Or.inl h)).trans ?_
    exact hf y h
  · refine (View.read_writes_cons_unit_of_mem (v := v) f inb _ [] y (ix2 (y 0) (⟨(y 1).val - 512 * j, by omega⟩ : Fin 512)) hoff ?_).trans ?_
    · intro a
      match a with
      | ⟨0, _⟩ => exact (Nat.zero_add _).symm
      | ⟨1, _⟩ => show (y 1).val = 512 * j + ((y 1).val - 512 * j); omega
    · refine congrArg Z (funext fun a => Fin.ext ?_)
      match a with
      | ⟨0, _⟩ => rfl
      | ⟨1, _⟩ => show (512 * j + ((y 1).val - 512 * j)) % 4096 = (y 1).val; omega

/-- A load of band `k` reads 128 rows of the block. -/
theorem readAt_band (Y : Block.Idx → Elt F e)
    (k : ℕ) (hk : k < 4) (off : Fin 2 → ℕ) (inb : ∀ a, off a + Band.size a ≤ Block.size a) (hoff : off = ![128 * k, 0])
    (hf : ∀ y : Block.Idx, 128 * k ≤ (y 0).val → v.read (Elt F) f y = Y y) :
    v.readAt (Elt F) (Rect.unit (s := Block) off Band.size inb).toLoadRect f = rowsOf Y k := by
  subst hoff
  funext x
  have h0 : (x 0).val < 128 := (x 0).isLt
  rw [View.readAt_apply]
  refine (hf _ (by show 128 * k ≤ 128 * k + 1 * (x 0).val; omega)).trans (congrArg Y (funext fun a => Fin.ext ?_))
  match a with
  | ⟨0, _⟩ => show 128 * k + 1 * (x 0).val = (128 * k + (x 0).val) % 512; omega
  | ⟨1, _⟩ => show 0 + 1 * (x 1).val = (x 1).val; omega

/-- A block's rows, each band of 128 given by itself. -/
def bands (val : ℕ → Band.Idx → Elt F e) : Block.Idx → Elt F e := fun y =>
  val ((y 0).val / 128) (ix2 ⟨(y 0).val % 128, Nat.mod_lt _ (by decide)⟩ (y 1))

/-- If a block's first `k` bands are rewritten, then with band `k` stored its first `k + 1` are. -/
theorem upto_band (val : ℕ → Band.Idx → Elt F e) (Y : Block.Idx → Elt F e) (k : ℕ)
    (off : Fin 2 → ℕ) (inb : ∀ a, off a + Band.size a ≤ Block.size a) (hoff : off = ![128 * k, 0])
    (hf : ∀ y : Block.Idx, v.read (Elt F) f y = if (y 0).val < 128 * k then bands val y else Y y) (y : Block.Idx) :
    v.read (Elt F) (v.writes (Elt F) f [⟨Rect.unit (s := Block) off Band.size inb, val k⟩]) y
      = if (y 0).val < 128 * (k + 1) then bands val y else Y y := by
  by_cases ha : (y 0).val < 128 * k
  · refine (View.read_writes_cons_unit_of_not_mem (v := v) f inb _ [] y hoff (0 : Fin 2) (Or.inl ha)).trans ?_
    rw [View.writes_nil, hf y, if_pos ha, if_pos (by omega)]
  by_cases hb : (y 0).val < 128 * (k + 1)
  · refine (View.read_writes_cons_unit_of_mem (v := v) f inb _ [] y (ix2 (⟨(y 0).val - 128 * k, by omega⟩ : Fin 128) (y 1)) hoff ?_).trans ?_
    · intro a
      match a with
      | ⟨0, _⟩ => show (y 0).val = 128 * k + ((y 0).val - 128 * k); omega
      | ⟨1, _⟩ => exact (Nat.zero_add _).symm
    · rw [if_pos hb]
      unfold bands
      rw [show (y 0).val / 128 = k by omega]
      refine congrArg (val k) (funext fun a => Fin.ext ?_)
      match a with
      | ⟨0, _⟩ => show (y 0).val - 128 * k = (y 0).val % 128; omega
      | ⟨1, _⟩ => rfl
  · refine (View.read_writes_cons_unit_of_not_mem (v := v) f inb _ [] y hoff (0 : Fin 2) (Or.inr (by show 128 * k + 128 ≤ (y 0).val; omega))).trans ?_
    rw [View.writes_nil, hf y, if_neg ha, if_neg hb]

end Cert.Proof.Strips

end
-- ==== Proof.OutEvenRun.lean ====
/- The even layer's output projection: one run of its body on any buffers, its loop over four bands of rows included. -/
module

public import proofs.«01_k».proof.Defs
public import Idealize.ShloMosaic.Lib.WritesUnit
public import Idealize.ShloMosaic.Lib.Pipeline.TableIdle
public import proofs.«01_k».proof.Proof.Gen.KernelOutEvenIdeal
public import proofs.«01_k».proof.Proof.Gen.KernelOutEvenIdeal.Launch
public import proofs.«01_k».proof.Proof.Gen.KernelOutEvenIdeal.Points
public import proofs.«01_k».proof.Proof.Gen.KernelOutEvenIdeal.Frame

@[expose] public section

set_option maxRecDepth 16384

noncomputable section

namespace Cert.Proof.OutEven

open Cert.KernelOutEvenIdeal Cert.KernelOutEvenIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The contents of a memref's buffer on device `c`. -/
abbrev Bf (c : Dev nD) {sp : Space} {s : Shape} {e : EltTy} (M : Memref sig .tc sp s e) : Type := Buf (Elt F) (M.view.loc (c : Thread nD τ))
/-- A memref held whole, at contents `f`. -/
abbrev pt (c : Dev nD) {sp : Space} {s : Shape} {e : EltTy} (M : Memref sig .tc sp s e) (f : Bf (F := F) c M) : sProp 𝕄 :=
  M.view.loc (c : Thread nD τ) ↦[M.view.set]{fullShare} f

/-- A half of a strip of the product: 512 rows of one head group's activations by 512 columns of its weights. -/
abbrev half (a : Vec F S512x2048 .bf16) (w : Vec F S2048x512 .bf16) : Vec F S512x512 .f32 :=
  matmul (φ₁ := .bf16) (φ₂ := .bf16) dot_S512x2048_S2048x512_S512x512_1_0_0_1_n_n none a w (constant S512x512 .f32 0x00000000#32)

/-- A strip of the product: the two halves added. -/
abbrev strip (a b : Vec F S512x2048 .bf16) (w u : Vec F S2048x512 .bf16) : Vec F S512x512 .f32 := addf (half a w) (half b u)

/-- The residual rows plus the rows of the product, normalised by their root mean square and scaled. -/
abbrev band (y x : Vec F S128x4096 .f32) (g : Vec F S1x4096 .f32) : Vec F S128x4096 .f32 :=
  addf x (mulf (mulf (shapeCast S128x4096 y shapeCasts_S128x4096_S128x4096)
      (broadcastTo S128x4096 (rsqrt (addf (divf (shapeCast S128x1 (multiReduction .add [1] S128
          (mulf (shapeCast S128x4096 y shapeCasts_S128x4096_S128x4096) (shapeCast S128x4096 y shapeCasts_S128x4096_S128x4096))
          0x00000000#32 reduces_S128x4096_S128 (.inl rfl) rfl) shapeCasts_S128_S128x1)
        (broadcast S128x1 (Scalar.ofBits .f32 0x45800000#32))) (broadcast S128x1 (Scalar.ofBits .f32 0x358637BD#32))))
        broadcasts_S128x1_S128x4096))
    (broadcastTo S128x4096 (shapeCast S1x4096 g shapeCasts_S1x4096_S1x4096) broadcasts_S1x4096_S128x4096))

/-- The rows normalised once more, for the next layer. -/
abbrev next (y : Vec F S128x4096 .f32) (g : Vec F S1x4096 .f32) : Vec F S128x4096 .bf16 :=
  truncf .bf16 (mulf (mulf y
      (broadcastTo S128x4096 (rsqrt (addf (divf (shapeCast S128x1 (multiReduction .add [1] S128
          (mulf y y) 0x00000000#32 reduces_S128x4096_S128 (.inl rfl) rfl) shapeCasts_S128_S128x1)
        (broadcast S128x1 (Scalar.ofBits .f32 0x45800000#32))) (broadcast S128x1 (Scalar.ofBits .f32 0x358637BD#32))))
        broadcasts_S128x1_S128x4096))
    (broadcastTo S128x4096 (shapeCast S1x4096 g shapeCasts_S1x4096_S1x4096) broadcasts_S1x4096_S128x4096)) bitsLt_bf16_f32

section
variable (c : Dev nD) (i : grid0.Coords) (arg2 : Memref sig .tc .vmem S512x2048 .bf16) (harg2 : arg2.IsWhole) (arg3 : Memref sig .tc .vmem S512x2048 .bf16) (harg3 : arg3.IsWhole)
  (arg4 : Memref sig .tc .vmem S2048x512 .bf16) (harg4 : arg4.IsWhole) (arg5 : Memref sig .tc .vmem S2048x512 .bf16) (harg5 : arg5.IsWhole) (arg6 : Memref sig .tc .vmem S512x512 .f32) (harg6 : arg6.IsWhole)
  (arg7 : Memref sig .tc .vmem S1x4096 .f32) (harg7 : arg7.IsWhole) (arg8 : Memref sig .tc .vmem S1x4096 .f32) (harg8 : arg8.IsWhole)
  (arg9 : Memref sig .tc .vmem S512x4096 .f32) (harg9 : arg9.IsWhole) (arg10 : Memref sig .tc .vmem S512x4096 .bf16) (harg10 : arg10.IsWhole) (arg11 : Memref sig .tc .vmem S512x4096 .f32) (harg11 : arg11.IsWhole)

/-- The rectangle of band `k`: 128 whole rows. -/
abbrev bandRect (i : grid0.Coords) (h : k0_cond1 i = 1#1) (k : Fin k0_t1_loop.trips) : Rect S512x4096 :=
  Rect.unit (s := S512x4096) (k0_off2 k) S128x4096.size (k0_off2_inb i k h)

/-- The rectangle of a row of gains. -/
abbrev gainRect : Rect S1x4096 := Rect.unit (s := S1x4096) ![0, 0] S1x4096.size inb_S1x4096_S1x4096_0_0

/-- One pass of the loop over the bands. -/
abbrev bandBody (h : k0_cond1 i = 1#1) (k : Fin k0_t1_loop.trips) (_ : PUnit) : Prog (TpuEff nD τ sig (Elt F) Λ₀ .tc) PUnit := do
  let y ← Prog.lift (.load arg9 (bandRect i h k).toLoadRect (View.loadsAt_vmem h_S128x4096))
  let x ← Prog.lift (.load arg11 (bandRect i h k).toLoadRect (View.loadsAt_vmem h_S128x4096))
  let g ← Prog.lift (.load arg7 gainRect.toLoadRect (View.loadsAt_vmem h_S1x4096))
  let _ ← Prog.lift (.load arg9 (bandRect i h k).toLoadRect (View.loadsAt_vmem h_S128x4096))
  Prog.lift (.store arg9 (bandRect i h k) (band y x g) Finset.univ (View.stores_vmem_bits_univ h_S128x4096 rfl) (.inl rfl))
  let g' ← Prog.lift (.load arg8 gainRect.toLoadRect (View.loadsAt_vmem h_S1x4096))
  let _ ← Prog.lift (.load arg10 (bandRect i h k).toLoadRect (View.loadsAt_vmem h_S128x4096))
  Prog.lift (.store arg10 (bandRect i h k) (next (band y x g) g') Finset.univ (View.stores_vmem h_S128x4096 (harg10.storeExact_slice rfl _ (k0_off2_packedbf16 i k h)) (fun _ => rfl)) (.inl rfl))
  pure ⟨⟩

/-- The rows pass `k` computes when it finds the first output block at `f`. -/
abbrev bandAt (h : k0_cond1 i = 1#1) (X7 : Bf (F := F) c arg7) (X11 : Bf (F := F) c arg11) (k : Fin k0_t1_loop.trips) (f : Bf (F := F) c arg9) : Vec F S128x4096 .f32 :=
  band (arg9.view.readAt (Elt F) (bandRect i h k).toLoadRect f) (arg11.view.readAt (Elt F) (bandRect i h k).toLoadRect X11) (arg7.view.readAt (Elt F) gainRect.toLoadRect X7)

/-- The first output block after the passes before pass `k`. -/
def bandsPut (h : k0_cond1 i = 1#1) (X7 : Bf (F := F) c arg7) (X11 : Bf (F := F) c arg11) (f : Bf (F := F) c arg9) : ℕ → Bf (F := F) c arg9
  | 0 => f
  | k + 1 => if hk : k < k0_t1_loop.trips then
      arg9.view.writes (Elt F) (bandsPut h X7 X11 f k) [⟨bandRect i h ⟨k, hk⟩, bandAt c i arg7 arg9 arg11 h X7 X11 ⟨k, hk⟩ (bandsPut h X7 X11 f k)⟩]
    else bandsPut h X7 X11 f k

/-- One more pass. -/
theorem bandsPut_succ (h : k0_cond1 i = 1#1) (X7 : Bf (F := F) c arg7) (X11 : Bf (F := F) c arg11) (f : Bf (F := F) c arg9) (k : Fin k0_t1_loop.trips) :
    bandsPut c i arg7 arg9 arg11 h X7 X11 f (k.val + 1) = arg9.view.writes (Elt F) (bandsPut c i arg7 arg9 arg11 h X7 X11 f k.val)
      [⟨bandRect i h k, bandAt c i arg7 arg9 arg11 h X7 X11 k (bandsPut c i arg7 arg9 arg11 h X7 X11 f k.val)⟩] := by
  rw [bandsPut.eq_2]; exact dif_pos k.isLt

/-- The second output block after the passes before pass `k`. -/
def nextsPut (h : k0_cond1 i = 1#1) (X7 : Bf (F := F) c arg7) (X8 : Bf (F := F) c arg8) (X11 : Bf (F := F) c arg11) (f : Bf (F := F) c arg9) (f' : Bf (F := F) c arg10) : ℕ → Bf (F := F) c arg10
  | 0 => f'
  | k + 1 => if hk : k < k0_t1_loop.trips then
      arg10.view.writes (Elt F) (nextsPut h X7 X8 X11 f f' k) [⟨bandRect i h ⟨k, hk⟩,
        next (bandAt c i arg7 arg9 arg11 h X7 X11 ⟨k, hk⟩ (bandsPut c i arg7 arg9 arg11 h X7 X11 f k)) (arg8.view.readAt (Elt F) gainRect.toLoadRect X8)⟩]
    else nextsPut h X7 X8 X11 f f' k

/-- One more pass. -/
theorem nextsPut_succ (h : k0_cond1 i = 1#1) (X7 : Bf (F := F) c arg7) (X8 : Bf (F := F) c arg8) (X11 : Bf (F := F) c arg11) (f : Bf (F := F) c arg9) (f' : Bf (F := F) c arg10) (k : Fin k0_t1_loop.trips) :
    nextsPut c i arg7 arg8 arg9 arg10 arg11 h X7 X8 X11 f f' (k.val + 1) = arg10.view.writes (Elt F) (nextsPut c i arg7 arg8 arg9 arg10 arg11 h X7 X8 X11 f f' k.val)
      [⟨bandRect i h k, next (bandAt c i arg7 arg9 arg11 h X7 X11 k (bandsPut c i arg7 arg9 arg11 h X7 X11 f k.val)) (arg8.view.readAt (Elt F) gainRect.toLoadRect X8)⟩] := by
  rw [nextsPut.eq_2]; exact dif_pos k.isLt

set_option warn.classDefReducibility false in
/-- The loop over the bands runs, the gains and the residual unchanged, the output blocks at `bandsPut` and `nextsPut`. -/
@[sl_loop] def bandLoop (h : k0_cond1 i = 1#1) (X7 : Bf (F := F) c arg7) (X8 : Bf (F := F) c arg8) (X11 : Bf (F := F) c arg11) (f : Bf (F := F) c arg9) (f' : Bf (F := F) c arg10) :
    LoopInv (M := 𝕄) Idealize.ShloMosaic.frame (wpE (defs₀ (F := F)) Variants.none (c : Thread nD τ) none) Set.univ
      k0_t1_loop.lb k0_t1_loop.ub k0_t1_loop.st (k0_t1_ok i h) (⟨⟩ : PUnit) (bandBody (F := F) i arg7 arg8 arg9 arg10 harg10 arg11 h) where
  inv k _ := iprop(pt c arg7 X7 ∗ pt c arg8 X8 ∗ pt c arg11 X11 ∗ (∃ u, pt c arg9 u ∗ ⌜u = bandsPut c i arg7 arg9 arg11 h X7 X11 f k⌝)
    ∗ ∃ u', pt c arg10 u' ∗ ⌜u' = nextsPut c i arg7 arg8 arg9 arg10 arg11 h X7 X8 X11 f f' k⌝)
  step k _ := by
    iintro ⟨H7, H8, H11, ⟨%u, H9, %hu⟩, ⟨%u', H10, %hu'⟩⟩
    subst hu hu'
    sl_exec
    sl_step
    isplitl [H7]; · iexact H7
    isplitl [H8]; · iexact H8
    isplitl [H11]; · iexact H11
    isplitl [H9]
    · iexists _
      isplitl [H9]; · iexact H9
      ipureintro
      rw [bandsPut_succ]
    · iexists _
      isplitl [H10]; · iexact H10
      ipureintro
      rw [nextsPut_succ]

/-- The first output block after the strip of the product is stored into it. -/
abbrev stripPut (X2 : Bf (F := F) c arg2) (X3 : Bf (F := F) c arg3) (X4 : Bf (F := F) c arg4) (X5 : Bf (F := F) c arg5) (G9 : Bf (F := F) c arg9) : Bf (F := F) c arg9 :=
  arg9.view.writes (Elt F) G9 [⟨Rect.unit (s := S512x4096) (k0_off1 i) S512x512.size (k0_off1_inb i),
    strip (arg2.view.readAt (Elt F) (Rect.unit (s := S512x2048) ![0, 0] S512x2048.size inb_S512x2048_S512x2048_0_0).toLoadRect X2)
      (arg3.view.readAt (Elt F) (Rect.unit (s := S512x2048) ![0, 0] S512x2048.size inb_S512x2048_S512x2048_0_0).toLoadRect X3)
      (arg4.view.readAt (Elt F) (Rect.unit (s := S2048x512) ![0, 0] S2048x512.size inb_S2048x512_S2048x512_0_0).toLoadRect X4)
      (arg5.view.readAt (Elt F) (Rect.unit (s := S2048x512) ![0, 0] S2048x512.size inb_S2048x512_S2048x512_0_0).toLoadRect X5)⟩]

/-- The scratch after the strip of the residual is stored into it. -/
abbrev residPut (X6 : Bf (F := F) c arg6) (G11 : Bf (F := F) c arg11) : Bf (F := F) c arg11 :=
  arg11.view.writes (Elt F) G11 [⟨Rect.unit (s := S512x4096) (k0_off1 i) S512x512.size (k0_off1_inb i),
    shapeCast S512x512 (arg6.view.readAt (Elt F) (Rect.unit (s := S512x512) ![0, 0] S512x512.size inb_S512x512_S512x512_0_0).toLoadRect X6) shapeCasts_S512x512_S512x512⟩]

/-- The body before the last strip: it stores its strips into the first output block and the scratch. -/
theorem bodyMid (h : ¬ k0_cond1 i = 1#1) (X2 : Bf (F := F) c arg2) (X3 : Bf (F := F) c arg3) (X4 : Bf (F := F) c arg4) (X5 : Bf (F := F) c arg5)
    (X6 : Bf (F := F) c arg6) (X7 : Bf (F := F) c arg7) (X8 : Bf (F := F) c arg8) (G9 : Bf (F := F) c arg9) (G10 : Bf (F := F) c arg10) (G11 : Bf (F := F) c arg11) :
    iprop(pt c arg2 X2 ∗ pt c arg3 X3 ∗ pt c arg4 X4 ∗ pt c arg5 X5 ∗ pt c arg6 X6 ∗ pt c arg7 X7 ∗ pt c arg8 X8 ∗ pt c arg9 G9 ∗ pt c arg10 G10 ∗ pt c arg11 G11)
    ⊢ wp frame (wpE (defs₀ (F := F)) Variants.none (c : Thread nD τ) none) Set.univ (cc0_out_proj_norm_even (F := F) i arg2 harg2 arg3 harg3 arg4 harg4 arg5 harg5 arg6 harg6 arg7 harg7 arg8 harg8 arg9 harg9 arg10 harg10 arg11 harg11)
        (fun _ => iprop(pt c arg2 X2 ∗ pt c arg3 X3 ∗ pt c arg4 X4 ∗ pt c arg5 X5 ∗ pt c arg6 X6 ∗ pt c arg7 X7 ∗ pt c arg8 X8
          ∗ pt c arg9 (stripPut c i arg2 arg3 arg4 arg5 arg9 X2 X3 X4 X5 G9) ∗ pt c arg10 G10 ∗ pt c arg11 (residPut c i arg6 arg11 X6 G11))) := by
  unfold cc0_out_proj_norm_even
  iintro ⟨H2, H3, H4, H5, H6, H7, H8, H9, H10, H11⟩
  sl_exec
  sl_step
  sl_close

/-- The body at the last strip: after its strips it normalises the output blocks band by band. -/
theorem bodyLast (h : k0_cond1 i = 1#1) (X2 : Bf (F := F) c arg2) (X3 : Bf (F := F) c arg3) (X4 : Bf (F := F) c arg4) (X5 : Bf (F := F) c arg5)
    (X6 : Bf (F := F) c arg6) (X7 : Bf (F := F) c arg7) (X8 : Bf (F := F) c arg8) (G9 : Bf (F := F) c arg9) (G10 : Bf (F := F) c arg10) (G11 : Bf (F := F) c arg11) :
    iprop(pt c arg2 X2 ∗ pt c arg3 X3 ∗ pt c arg4 X4 ∗ pt c arg5 X5 ∗ pt c arg6 X6 ∗ pt c arg7 X7 ∗ pt c arg8 X8 ∗ pt c arg9 G9 ∗ pt c arg10 G10 ∗ pt c arg11 G11)
    ⊢ wp frame (wpE (defs₀ (F := F)) Variants.none (c : Thread nD τ) none) Set.univ (cc0_out_proj_norm_even (F := F) i arg2 harg2 arg3 harg3 arg4 harg4 arg5 harg5 arg6 harg6 arg7 harg7 arg8 harg8 arg9 harg9 arg10 harg10 arg11 harg11)
        (fun _ => iprop(pt c arg2 X2 ∗ pt c arg3 X3 ∗ pt c arg4 X4 ∗ pt c arg5 X5 ∗ pt c arg6 X6 ∗ pt c arg7 X7 ∗ pt c arg8 X8
          ∗ pt c arg9 (bandsPut c i arg7 arg9 arg11 h X7 (residPut c i arg6 arg11 X6 G11) (stripPut c i arg2 arg3 arg4 arg5 arg9 X2 X3 X4 X5 G9) k0_t1_loop.trips)
          ∗ pt c arg10 (nextsPut c i arg7 arg8 arg9 arg10 arg11 h X7 X8 (residPut c i arg6 arg11 X6 G11) (stripPut c i arg2 arg3 arg4 arg5 arg9 X2 X3 X4 X5 G9) G10 k0_t1_loop.trips)
          ∗ pt c arg11 (residPut c i arg6 arg11 X6 G11))) := by
  unfold cc0_out_proj_norm_even
  iintro ⟨H2, H3, H4, H5, H6, H7, H8, H9, H10, H11⟩
  sl_exec
  sl_step
  sl_close

end

end Cert.Proof.OutEven

end
-- ==== Proof.OutEvenCover.lean ====
/- The even layer's output projection: what the bands leave in the two output blocks, read entry by entry. -/
module

public import proofs.«01_k».proof.Proof.Strips
public import proofs.«01_k».proof.Proof.OutEvenRun

@[expose] public section

set_option maxRecDepth 16384

noncomputable section

namespace Cert.Proof.OutEven

open Cert.KernelOutEvenIdeal Cert.KernelOutEvenIdeal.Gen Cert.Proof.Strips
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Band `k` of a block normalised. -/
def bandOf (Y Z : Vec F S512x4096 .f32) (g : Vec F S1x4096 .f32) (k : ℕ) : Vec F S128x4096 .f32 := band (rowsOf Y k) (rowsOf Z k) g
/-- Band `k` normalised once more. -/
def nextOf (Y Z : Vec F S512x4096 .f32) (g g' : Vec F S1x4096 .f32) (k : ℕ) : Vec F S128x4096 .bf16 := next (bandOf Y Z g k) g'
/-- A whole block normalised: each band of 128 rows by itself. -/
def normed (Y Z : Vec F S512x4096 .f32) (g : Vec F S1x4096 .f32) : Vec F S512x4096 .f32 := bands (bandOf Y Z g)
/-- A whole block normalised once more. -/
def renormed (Y Z : Vec F S512x4096 .f32) (g g' : Vec F S1x4096 .f32) : Vec F S512x4096 .bf16 := bands (nextOf Y Z g g')

section
variable (c : Dev nD) (i : grid0.Coords) (arg7 : Memref sig .tc .vmem S1x4096 .f32) (arg8 : Memref sig .tc .vmem S1x4096 .f32)
  (arg9 : Memref sig .tc .vmem S512x4096 .f32) (arg10 : Memref sig .tc .vmem S512x4096 .bf16) (arg11 : Memref sig .tc .vmem S512x4096 .f32)
  (h : k0_cond1 i = 1#1) (g g' : Vec F S1x4096 .f32) (X11 : Bf (F := F) c arg11) (f : Bf (F := F) c arg9) (f' : Bf (F := F) c arg10) (Y Z : Vec F S512x4096 .f32)
  (hY : ∀ y, arg9.view.read (Elt F) f y = Y y) (hZ : ∀ y, arg11.view.read (Elt F) X11 y = Z y)

include hZ in
/-- What pass `k` computes when the rows from `128 k` on are as the loop found them. -/
theorem bandAt_eq (u : Bf (F := F) c arg9) (k : Fin k0_t1_loop.trips) (hk : k.val < 4) (hu : ∀ y : S512x4096.Idx, 128 * k.val ≤ (y 0).val → arg9.view.read (Elt F) u y = Y y) :
    bandAt c i arg7 arg9 arg11 h (arg7.view.rep g) X11 k u = bandOf Y Z g k.val := by
  unfold bandAt bandOf
  have e1 : arg9.view.readAt (Elt F) (bandRect i h k).toLoadRect u = rowsOf Y k.val := readAt_band arg9.view u Y k.val hk _ _ (k0_off2_eq k) hu
  have e2 : arg11.view.readAt (Elt F) (bandRect i h k).toLoadRect X11 = rowsOf Z k.val := readAt_band arg11.view X11 Z k.val hk _ _ (k0_off2_eq k) fun y _ => hZ y
  rw [e1, e2, View.readAt_rep_full]

include hY hZ in
/-- After the first `k` passes the first `128 k` rows are normalised and the others are as the loop found them. -/
theorem read_bandsPut (k : ℕ) (hk : k ≤ 4) (y : S512x4096.Idx) :
    arg9.view.read (Elt F) (bandsPut c i arg7 arg9 arg11 h (arg7.view.rep g) X11 f k) y = if (y 0).val < 128 * k then normed Y Z g y else Y y := by
  induction k generalizing y with
  | zero => rw [if_neg (by omega)]; exact hY y
  | succ k ih =>
    have hk4 : k < 4 := by omega
    rw [bandsPut_succ c i arg7 arg9 arg11 h (arg7.view.rep g) X11 f ⟨k, hk4⟩,
      bandAt_eq c i arg7 arg9 arg11 h g X11 Y Z hZ _ ⟨k, hk4⟩ hk4 (fun y hy => (ih (by omega) y).trans (if_neg (by show ¬ (y 0).val < 128 * k; have hy' : 128 * k ≤ (y 0).val := hy; omega)))]
    exact upto_band arg9.view _ (bandOf Y Z g) Y k _ _ (k0_off2_eq ⟨k, hk4⟩) (fun y => ih (by omega) y) y

include hY hZ in
/-- After the first `k` passes the first `128 k` rows of the second block are normalised once more. -/
theorem read_nextsPut (k : ℕ) (hk : k ≤ 4) (y : S512x4096.Idx) :
    arg10.view.read (Elt F) (nextsPut c i arg7 arg8 arg9 arg10 arg11 h (arg7.view.rep g) (arg8.view.rep g') X11 f f' k) y
      = if (y 0).val < 128 * k then renormed Y Z g g' y else arg10.view.read (Elt F) f' y := by
  induction k generalizing y with
  | zero => rw [if_neg (by omega)]; rfl
  | succ k ih =>
    have hk4 : k < 4 := by omega
    rw [nextsPut_succ c i arg7 arg8 arg9 arg10 arg11 h (arg7.view.rep g) (arg8.view.rep g') X11 f f' ⟨k, hk4⟩,
      bandAt_eq c i arg7 arg9 arg11 h g X11 Y Z hZ _ ⟨k, hk4⟩ hk4 (fun y hy => (read_bandsPut c i arg7 arg9 arg11 h g X11 f Y Z hY hZ k (by omega) y).trans
        (if_neg (by show ¬ (y 0).val < 128 * k; have hy' : 128 * k ≤ (y 0).val := hy; omega))), View.readAt_rep_full]
    exact upto_band arg10.view _ (nextOf Y Z g g') (arg10.view.read (Elt F) f') k _ _ (k0_off2_eq ⟨k, hk4⟩) (fun y => ih (by omega) y) y

/-- The loop runs four times. -/
theorem trips_eq : k0_t1_loop.trips = 4 := by decide

include hY hZ in
/-- After the loop the whole first block is normalised. -/
theorem read_bands (y : S512x4096.Idx) :
    arg9.view.read (Elt F) (bandsPut c i arg7 arg9 arg11 h (arg7.view.rep g) X11 f k0_t1_loop.trips) y = normed Y Z g y := by
  have h0 : (y 0).val < 512 := (y 0).isLt
  rw [trips_eq, read_bandsPut c i arg7 arg9 arg11 h g X11 f Y Z hY hZ 4 (le_refl _) y, if_pos (by omega)]

include hY hZ in
/-- After the loop the whole second block is normalised twice. -/
theorem read_nexts (y : S512x4096.Idx) :
    arg10.view.read (Elt F) (nextsPut c i arg7 arg8 arg9 arg10 arg11 h (arg7.view.rep g) (arg8.view.rep g') X11 f f' k0_t1_loop.trips) y = renormed Y Z g g' y := by
  have h0 : (y 0).val < 512 := (y 0).isLt
  rw [trips_eq, read_nextsPut c i arg7 arg8 arg9 arg10 arg11 h g g' X11 f f' Y Z hY hZ 4 (le_refl _) y, if_pos (by omega)]

end

end Cert.Proof.OutEven

end
-- ==== Proof.OutEvenFrame.lean ====
/- The even layer's output projection: what the output blocks and the scratch hold between grid points, the launch, the frame. -/
module

public import Idealize.ShloMosaic.Lib.Pipeline.DatRel
public import Idealize.ShloMosaic.Lib.Pipeline.ArrRel
public import Idealize.ShloMosaic.Lib.Claim
public import proofs.«01_k».proof.Proof.OutEvenCover

@[expose] public section

set_option maxRecDepth 16384

noncomputable section

namespace Cert.Proof.OutEven

open Cert.KernelOutEvenIdeal Cert.KernelOutEvenIdeal.Gen Cert.Proof.Strips
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel)

variable {F : FTy → Type} [FloatOps F] [Named F]

local notation "𝕄" => MT nD τ sig Unit (Elt F) ℕ (UR sig nD τ) ℕ

/-- Window 0's staging buffer at point `t`. -/
abbrev ms0 (t : Fin cfg0.N) : Memref sig .tc .vmem S512x2048 .bf16 := win0_0.stage (cfg0.slots t 0)
/-- Window 1's staging buffer at point `t`. -/
abbrev ms1 (t : Fin cfg0.N) : Memref sig .tc .vmem S512x2048 .bf16 := win0_1.stage (cfg0.slots t 1)
/-- Window 2's staging buffer at point `t`. -/
abbrev ms2 (t : Fin cfg0.N) : Memref sig .tc .vmem S2048x512 .bf16 := win0_2.stage (cfg0.slots t 2)
/-- Window 3's staging buffer at point `t`. -/
abbrev ms3 (t : Fin cfg0.N) : Memref sig .tc .vmem S2048x512 .bf16 := win0_3.stage (cfg0.slots t 3)
/-- Window 4's staging buffer at point `t`. -/
abbrev ms4 (t : Fin cfg0.N) : Memref sig .tc .vmem S512x512 .f32 := win0_4.stage (cfg0.slots t 4)
/-- Window 5's staging buffer at point `t`. -/
abbrev ms5 (t : Fin cfg0.N) : Memref sig .tc .vmem S1x4096 .f32 := win0_5.stage (cfg0.slots t 5)
/-- Window 6's staging buffer at point `t`. -/
abbrev ms6 (t : Fin cfg0.N) : Memref sig .tc .vmem S1x4096 .f32 := win0_6.stage (cfg0.slots t 6)
/-- Window 7's staging buffer at point `t`. -/
abbrev ms7 (t : Fin cfg0.N) : Memref sig .tc .vmem S512x4096 .f32 := win0_7.stage (cfg0.slots t 7)
/-- Window 8's staging buffer at point `t`. -/
abbrev ms8 (t : Fin cfg0.N) : Memref sig .tc .vmem S512x4096 .bf16 := win0_8.stage (cfg0.slots t 8)
/-- The scratch. -/
abbrev scM : Memref sig .tc .vmem S512x4096 .f32 := Memref.whole cc0_scratch0

variable (m : (ℓ : Loc nD τ sig) → Buf (Elt F) ℓ) (ρ : Dev nD → PrngReg)

/-- The grid point of strip `j` of row block `b`. -/
def ptOf (b j : ℕ) : Fin cfg0.N := ⟨(8 * b + j % 8) % 128, Nat.mod_lt _ (by decide)⟩

/-- A grid point is the one of its own row block and strip. -/
theorem ptOf_self (t : Fin cfg0.N) : ptOf (t.val / 8) (t.val % 8) = t :=
  Fin.ext (by have ht : t.val < 128 := t.isLt; show (8 * (t.val / 8) + t.val % 8 % 8) % 128 = t.val; omega)

/-- The strip of the product computed at point `t`. -/
abbrev stripVal (c : Dev nD) (t : Fin cfg0.N) : Vec F S512x512 .f32 :=
  strip (iblk m c 0 t) (iblk m c 1 t) (iblk m c 2 t) (iblk m c 3 t)

/-- The product's rows of row block `b`, strip by strip. -/
def prodBlk (c : Dev nD) (b : ℕ) : Vec F S512x4096 .f32 := fun y =>
  stripVal m c (ptOf b ((y 1).val / 512)) (ix2 (y 0) (⟨(y 1).val % 512, Nat.mod_lt _ (by decide)⟩ : Fin 512))

/-- The residual's rows of row block `b`, strip by strip. -/
def residBlk (c : Dev nD) (b : ℕ) : Vec F S512x4096 .f32 := fun y =>
  (iblk m c 4 (ptOf b ((y 1).val / 512)) : Vec F S512x512 .f32)
    (ix2 (y 0) (⟨(y 1).val % 512, Nat.mod_lt _ (by decide)⟩ : Fin 512))

/-- The strip stored at point `t` is that strip of the product's rows. -/
theorem stripOf_prodBlk (c : Dev nD) (t : Fin cfg0.N) :
    stripOf (prodBlk m c (t.val / 8)) (t.val % 8) = stripVal m c t := by
  funext x
  have h1 : (x 1).val < 512 := (x 1).isLt
  have e1 : (512 * (t.val % 8) + (x 1).val) % 4096 / 512 = t.val % 8 := by omega
  have e2 : (512 * (t.val % 8) + (x 1).val) % 4096 % 512 = (x 1).val := by omega
  show stripVal m c (ptOf (t.val / 8) ((512 * (t.val % 8) + (x 1).val) % 4096 / 512)) _ = _
  rw [e1, ptOf_self]
  refine congrArg (stripVal m c t) (funext fun a => Fin.ext ?_)
  match a with
  | ⟨0, _⟩ => rfl
  | ⟨1, _⟩ => exact e2

/-- The strip stored at point `t` is that strip of the residual's rows. -/
theorem stripOf_residBlk (c : Dev nD) (t : Fin cfg0.N) :
    stripOf (residBlk m c (t.val / 8)) (t.val % 8) = (iblk m c 4 t : Vec F S512x512 .f32) := by
  funext x
  have h1 : (x 1).val < 512 := (x 1).isLt
  have e1 : (512 * (t.val % 8) + (x 1).val) % 4096 / 512 = t.val % 8 := by omega
  have e2 : (512 * (t.val % 8) + (x 1).val) % 4096 % 512 = (x 1).val := by omega
  show (iblk m c 4 (ptOf (t.val / 8) ((512 * (t.val % 8) + (x 1).val) % 4096 / 512)) : Vec F S512x512 .f32) _ = _
  rw [e1, ptOf_self]
  refine congrArg (iblk m c 4 t : Vec F S512x512 .f32) (funext fun a => Fin.ext ?_)
  match a with
  | ⟨0, _⟩ => rfl
  | ⟨1, _⟩ => exact e2

/-- What the body leaves in the first output block at point `t`: before the last strip, the product's strips so far; at the
    last, the normalised block. -/
def outRel (c : Dev nD) (t : Fin cfg0.N) (X : Vec F S512x4096 .f32) : Prop :=
  (t.val % 8 ≠ 7 → ∀ y : S512x4096.Idx, (y 1).val < 512 * (t.val % 8 + 1) → X y = prodBlk m c (t.val / 8) y)
  ∧ (t.val % 8 = 7 → ∀ y : S512x4096.Idx, X y = normed (prodBlk m c (t.val / 8)) (residBlk m c (t.val / 8)) (iblk m c 5 t) y)

/-- What the body leaves in the second output block at the last strip: the block normalised once more. -/
def nextRel (c : Dev nD) (t : Fin cfg0.N) (X : Vec F S512x4096 .bf16) : Prop :=
  t.val % 8 = 7 → ∀ y : S512x4096.Idx, X y = renormed (prodBlk m c (t.val / 8)) (residBlk m c (t.val / 8)) (iblk m c 5 t) (iblk m c 6 t) y

/-- The windows held to a relation alone: the outputs. -/
def marked : Fin 9 → Bool := fun w => decide (w = 7 ∨ w = 8)

/-- The relation: `outRel` and `nextRel` of the outputs, nothing of the others. -/
def rel (c : Dev nD) : (w : Fin cfg0.W) → Fin cfg0.N → ((cfg0.win w).block.Idx → Elt F (cfg0.win w).elt) → Prop
  | ⟨7, _⟩, t, X => outRel m c t X
  | ⟨8, _⟩, t, X => nextRel m c t X
  | _, _, _ => True

/-- The invariant before point `n`: the scratch holds the residual's strips of the row block so far; the generator register. -/
def inv (c : Dev nD) (n : ℕ) : sProp 𝕄 :=
  iprop((∃ f : Bf (F := F) c scM, pt c scM f ∗ ⌜∀ y : S512x4096.Idx, (y 1).val < 512 * (n % 8) → scM.view.read (Elt F) f y = residBlk m c (n / 8) y⌝)
    ∗ ∃ r, prngReg c r)

/-- The proof data: the arrays as the host code leaves them, every input's block in place after the body, the outputs'
    unnamed; the invariant above; the two windows on the weights share them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Dat.unnamed (cfg := cfg0) ⟨7, h⟩ t
    | ⟨8, h⟩ => Dat.unnamed (cfg := cfg0) ⟨8, h⟩ t
  Φ n := inv m c n.val
  q w := Pipeline.shareOf spec0 w
  owed _ := 0

/-- The arrays of the proof data are those the region finds. -/
theorem A_eq (c : Dev nD) (w : Fin cfg0.W) : (dats m 0 c).A w = V m c (Pipeline.arrRef spec0 w) := by
  dsimp only [dats]

/-- What the body leaves in window 0. -/
theorem after0 (c : Dev nD) (t : Fin cfg0.N) : (dats m 0 c).after 0 t = iblk m c 0 t := by dsimp only [dats]
/-- What the body leaves in window 1. -/
theorem after1 (c : Dev nD) (t : Fin cfg0.N) : (dats m 0 c).after 1 t = iblk m c 1 t := by dsimp only [dats]
/-- What the body leaves in window 2. -/
theorem after2 (c : Dev nD) (t : Fin cfg0.N) : (dats m 0 c).after 2 t = iblk m c 2 t := by dsimp only [dats]
/-- What the body leaves in window 3. -/
theorem after3 (c : Dev nD) (t : Fin cfg0.N) : (dats m 0 c).after 3 t = iblk m c 3 t := by dsimp only [dats]
/-- What the body leaves in window 4. -/
theorem after4 (c : Dev nD) (t : Fin cfg0.N) : (dats m 0 c).after 4 t = iblk m c 4 t := by dsimp only [dats]
/-- What the body leaves in window 5. -/
theorem after5 (c : Dev nD) (t : Fin cfg0.N) : (dats m 0 c).after 5 t = iblk m c 5 t := by dsimp only [dats]
/-- What the body leaves in window 6. -/
theorem after6 (c : Dev nD) (t : Fin cfg0.N) : (dats m 0 c).after 6 t = iblk m c 6 t := by dsimp only [dats]
/-- Window 0 holds its block before the body. -/
theorem before0 (c : Dev nD) (t : Fin cfg0.N) (d) : (dats m 0 c).before 0 t d = iblk m c 0 t :=
  before0_0_of m (dats m 0 c) (A_eq m c 0) (after0 m c) t d
/-- Window 1 holds its block before the body. -/
theorem before1 (c : Dev nD) (t : Fin cfg0.N) (d) : (dats m 0 c).before 1 t d = iblk m c 1 t :=
  before0_1_of m (dats m 0 c) (A_eq m c 1) (after1 m c) t d
/-- Window 2 holds its block before the body. -/
theorem before2 (c : Dev nD) (t : Fin cfg0.N) (d) : (dats m 0 c).before 2 t d = iblk m c 2 t :=
  before0_2_of m (dats m 0 c) (A_eq m c 2) (after2 m c) t d
/-- Window 3 holds its block before the body. -/
theorem before3 (c : Dev nD) (t : Fin cfg0.N) (d) : (dats m 0 c).before 3 t d = iblk m c 3 t :=
  before0_3_of m (dats m 0 c) (A_eq m c 3) (after3 m c) t d
/-- Window 4 holds its block before the body. -/
theorem before4 (c : Dev nD) (t : Fin cfg0.N) (d) : (dats m 0 c).before 4 t d = iblk m c 4 t :=
  before0_4_of m (dats m 0 c) (A_eq m c 4) (after4 m c) t d
/-- Window 5 holds its block before the body. -/
theorem before5 (c : Dev nD) (t : Fin cfg0.N) (d) : (dats m 0 c).before 5 t d = iblk m c 5 t :=
  before0_5_of m (dats m 0 c) (A_eq m c 5) (after5 m c) t d
/-- Window 6 holds its block before the body. -/
theorem before6 (c : Dev nD) (t : Fin cfg0.N) (d) : (dats m 0 c).before 6 t d = iblk m c 6 t :=
  before0_6_of m (dats m 0 c) (A_eq m c 6) (after6 m c) t d

/-- What the first output block may hold before the body: after the first strip, what the previous point left. -/
theorem found (c : Dev nD) (t : Fin cfg0.N) (Y : Vec F S512x4096 .f32) (hY : ((dats m 0 c).toRRel marked (rel m c)).Finds 7 t Y) :
    ∀ y : S512x4096.Idx, (y 1).val < 512 * (t.val % 8) → Y y = prodBlk m c (t.val / 8) y := by
  intro y hy
  have hN : t.val < 128 := t.isLt
  have h0 : t.val ≠ 0 := fun h => by rw [h] at hy; exact absurd hy (Nat.not_lt_zero _)
  have hp : t.val % 8 ≠ 0 := fun h => by rw [h] at hy; exact absurd hy (Nat.not_lt_zero _)
  rcases (((dats m 0 c).toRRel marked (rel m c)).finds_of_pos (w := 7) rfl h0 Y).mp hY with h | h
  · exact absurd ((flush0_7 _).mp h) (by show (t.val - 1) % 8 ≠ 7; omega)
  · have hr : outRel m c ⟨t.val - 1, Nat.lt_of_le_of_lt (Nat.sub_le _ _) t.isLt⟩ Y := Dat.toRRel_leaves (dats m 0 c) (fgt := marked) (Rl := rel m c) (w := 7) rfl h
    have e1 : (t.val - 1) / 8 = t.val / 8 := by omega
    have e2 : (t.val - 1) % 8 + 1 = t.val % 8 := by omega
    have := hr.1 (by show (t.val - 1) % 8 ≠ 7; omega) y (by show (y 1).val < 512 * ((t.val - 1) % 8 + 1); rw [e2]; exact hy)
    rw [this]
    exact congrFun (congrArg (prodBlk m c) e1) y

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜((dats m 0 c).toRRel marked (rel m c)).Finds 7 t Y⌝ ∗ owns (c : Thread nD τ) (st0_7 t) fullShare Y)
    ∗ (∃ Y, ⌜((dats m 0 c).toRRel marked (rel m c)).Finds 8 t Y⌝ ∗ owns (c : Thread nD τ) (st0_8 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜outRel m c t X⌝ ∗ owns (c : Thread nD τ) (st0_7 t) fullShare X)
    ∗ (∃ X, ⌜nextRel m c t X⌝ ∗ owns (c : Thread nD τ) (st0_8 t) fullShare X))

/-- The last strip is the one whose point normalises. -/
theorem cond_iff : ∀ t : Fin cfg0.N, k0_cond1 (grid0.coords t) = 1#1 ↔ t.val % 8 = 7 := by decide +kernel
/-- Where a point's strip lies. -/
theorem off_at : ∀ t : Fin cfg0.N, k0_off1 (grid0.coords t) = ![0, 512 * (t.val % 8)] := by decide +kernel

/-- Holding a memref is owning it at what it reads. -/
theorem owns_of_pt (c : Dev nD) {s : Shape} {e : EltTy} (M : Memref sig .tc .vmem s e) (f : Bf (F := F) c M) :
    (pt c M f : sProp 𝕄) ⊢ owns (c : Thread nD τ) M fullShare (M.view.read (Elt F) f) := by
  unfold owns
  iintro H
  iexists _
  isplitr
  swap; · iexact H
  ipureintro
  rfl

/-- The residual's scratch after point `t`. -/
def residAt (c : Dev nD) (t : Fin cfg0.N) (g11 : Bf (F := F) c scM) : Bf (F := F) c scM :=
  residPut c (grid0.coords t) (ms4 t) scM ((ms4 t).view.rep (iblk m c 4 t)) g11

/-- The first output buffer after the strip of point `t` is stored. -/
def stripAt (c : Dev nD) (t : Fin cfg0.N) (Y : Vec F S512x4096 .f32) : Bf (F := F) c (ms7 t) :=
  stripPut c (grid0.coords t) (ms0 t) (ms1 t) (ms2 t) (ms3 t) (ms7 t) ((ms0 t).view.rep (iblk m c 0 t)) ((ms1 t).view.rep (iblk m c 1 t))
    ((ms2 t).view.rep (iblk m c 2 t)) ((ms3 t).view.rep (iblk m c 3 t)) ((ms7 t).view.rep Y)

/-- The product's strips after the body's store. -/
theorem strips_out (c : Dev nD) (t : Fin cfg0.N) (Y : Vec F S512x4096 .f32) (hY : ((dats m 0 c).toRRel marked (rel m c)).Finds 7 t Y)
    (y : S512x4096.Idx) (hy : (y 1).val < 512 * (t.val % 8 + 1)) :
    (ms7 t).view.read (Elt F) (stripAt m c t Y) y = prodBlk m c (t.val / 8) y := by
  unfold stripAt stripPut
  rw [View.readAt_rep_full, View.readAt_rep_full, View.readAt_rep_full, View.readAt_rep_full,
    show strip (iblk m c 0 t) (iblk m c 1 t) (iblk m c 2 t) (iblk m c 3 t) = stripOf (prodBlk m c (t.val / 8)) (t.val % 8) from (stripOf_prodBlk m c t).symm]
  exact upto_strip (ms7 t).view _ _ (t.val % 8) _ _ (off_at t) (fun y hy => by rw [View.read_rep]; exact found m c t Y hY y hy) y hy

/-- The residual's strips after the body's store. -/
theorem strips_resid (c : Dev nD) (t : Fin cfg0.N) (f : Bf (F := F) c scM)
    (hf : ∀ y : S512x4096.Idx, (y 1).val < 512 * (t.val % 8) → scM.view.read (Elt F) f y = residBlk m c (t.val / 8) y)
    (y : S512x4096.Idx) (hy : (y 1).val < 512 * (t.val % 8 + 1)) :
    scM.view.read (Elt F) (residAt m c t f) y = residBlk m c (t.val / 8) y := by
  unfold residAt residPut
  rw [View.readAt_rep_full, show shapeCast S512x512 (iblk m c 4 t : Vec F S512x512 .f32) shapeCasts_S512x512_S512x512 = stripOf (residBlk m c (t.val / 8)) (t.val % 8) from
    (shapeCast_self _ _).trans (stripOf_residBlk m c t).symm]
  exact upto_strip scM.view _ _ (t.val % 8) _ _ (off_at t) hf y hy

/-- The first output buffer after the last point of a row block. -/
def lastAt (c : Dev nD) (t : Fin cfg0.N) (h : t.val % 8 = 7) (Y : Vec F S512x4096 .f32) (g11 : Bf (F := F) c scM) : Bf (F := F) c (ms7 t) :=
  bandsPut c (grid0.coords t) (ms5 t) (ms7 t) scM ((cond_iff t).mpr h) ((ms5 t).view.rep (iblk m c 5 t)) (residAt m c t g11) (stripAt m c t Y) k0_t1_loop.trips

/-- The second output buffer after the last point of a row block. -/
def nextAt (c : Dev nD) (t : Fin cfg0.N) (h : t.val % 8 = 7) (Y : Vec F S512x4096 .f32) (Y' : Vec F S512x4096 .bf16) (g11 : Bf (F := F) c scM) : Bf (F := F) c (ms8 t) :=
  nextsPut c (grid0.coords t) (ms5 t) (ms6 t) (ms7 t) (ms8 t) scM ((cond_iff t).mpr h) ((ms5 t).view.rep (iblk m c 5 t)) ((ms6 t).view.rep (iblk m c 6 t))
    (residAt m c t g11) (stripAt m c t Y) ((ms8 t).view.rep Y') k0_t1_loop.trips

/-- The buffers at point `t`, held whole: the inputs at their blocks, the outputs and the scratch at given contents. -/
def heldAt (c : Dev nD) (t : Fin cfg0.N) (f9 : Bf (F := F) c (ms7 t)) (f10 : Bf (F := F) c (ms8 t)) (f11 : Bf (F := F) c scM) : sProp 𝕄 :=
  iprop(pt c (ms0 t) ((ms0 t).view.rep (iblk m c 0 t)) ∗ pt c (ms1 t) ((ms1 t).view.rep (iblk m c 1 t))
    ∗ pt c (ms2 t) ((ms2 t).view.rep (iblk m c 2 t)) ∗ pt c (ms3 t) ((ms3 t).view.rep (iblk m c 3 t))
    ∗ pt c (ms4 t) ((ms4 t).view.rep (iblk m c 4 t)) ∗ pt c (ms5 t) ((ms5 t).view.rep (iblk m c 5 t))
    ∗ pt c (ms6 t) ((ms6 t).view.rep (iblk m c 6 t)) ∗ pt c (ms7 t) f9 ∗ pt c (ms8 t) f10 ∗ pt c scM f11)

/-- The body's run at the last point of a row block. -/
theorem runLast (c : Dev nD) (t : Fin cfg0.N) (h : t.val % 8 = 7) (Y : Vec F S512x4096 .f32) (Y' : Vec F S512x4096 .bf16) (g11 : Bf (F := F) c scM) :
    heldAt m c t ((ms7 t).view.rep Y) ((ms8 t).view.rep Y') g11
      ⊢ wp frame (wpE (defs₀ (F := F)) Variants.none (c : Thread nD τ) none) Set.univ (bodyAt0 t)
        (fun _ => heldAt m c t (lastAt m c t h Y g11) (nextAt m c t h Y Y' g11) (residAt m c t g11)) :=
  bodyLast c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8))
    scM (Memref.isWhole_whole _) ((cond_iff t).mpr h) _ _ _ _ _ _ _ _ _ _

/-- The body's run at the other points. -/
theorem runMid (c : Dev nD) (t : Fin cfg0.N) (h : ¬ t.val % 8 = 7) (Y : Vec F S512x4096 .f32) (Y' : Vec F S512x4096 .bf16) (g11 : Bf (F := F) c scM) :
    heldAt m c t ((ms7 t).view.rep Y) ((ms8 t).view.rep Y') g11
      ⊢ wp frame (wpE (defs₀ (F := F)) Variants.none (c : Thread nD τ) none) Set.univ (bodyAt0 t)
        (fun _ => heldAt m c t (stripAt m c t Y) ((ms8 t).view.rep Y') (residAt m c t g11)) :=
  bodyMid c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8))
    scM (Memref.isWhole_whole _) (fun h' => h ((cond_iff t).mp h')) _ _ _ _ _ _ _ _ _ _

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = inv m c (t.val + 1) from rfl, show (dats m 0 c).Φ t.castSucc = inv m c t.val from rfl,
    show (dats m 0 c).owesAt () t.succ = (dats m 0 c).owesAt () t.castSucc from rfl,
    after0, after1, after2, after3, after4, after5, after6]
  unfold inv
  iintro ⟨⟨⟨%g11, H11, %hg⟩, Hr⟩, Ho, ⟨%d0, H2⟩, ⟨%d1, H3⟩, ⟨%d2, H4⟩, ⟨%d3, H5⟩, ⟨%d4, H6⟩, ⟨%d5, H7⟩, ⟨%d6, H8⟩, ⟨%Y, %hY, H9⟩, ⟨%Y', %hY', H10⟩⟩
  ihave H2' := (rep_of_owns (c : Thread nD τ) (ms0 t) fullShare (iblk m c 0 t)) $$ H2
  ihave H3' := (rep_of_owns (c : Thread nD τ) (ms1 t) fullShare (iblk m c 1 t)) $$ H3
  ihave H4' := (rep_of_owns (c : Thread nD τ) (ms2 t) fullShare (iblk m c 2 t)) $$ H4
  ihave H5' := (rep_of_owns (c : Thread nD τ) (ms3 t) fullShare (iblk m c 3 t)) $$ H5
  ihave H6' := (rep_of_owns (c : Thread nD τ) (ms4 t) fullShare (iblk m c 4 t)) $$ H6
  ihave H7' := (rep_of_owns (c : Thread nD τ) (ms5 t) fullShare (iblk m c 5 t)) $$ H7
  ihave H8' := (rep_of_owns (c : Thread nD τ) (ms6 t) fullShare (iblk m c 6 t)) $$ H8
  ihave H9' := (rep_of_owns (c : Thread nD τ) (ms7 t) fullShare Y) $$ H9
  ihave H10' := (rep_of_owns (c : Thread nD τ) (ms8 t) fullShare Y') $$ H10
  by_cases h7 : t.val % 8 = 7
  · iapply (wp_wand_r Idealize.ShloMosaic.frame (wpE (defs₀ (F := F)) Variants.none (c : Thread nD τ) none) Set.univ)
    isplitl [H2' H3' H4' H5' H6' H7' H8' H9' H10' H11]
    · iapply (runLast m c t h7 Y Y' g11)
      unfold heldAt
      isplitl [H2']; · iexact H2'
      isplitl [H3']; · iexact H3'
      isplitl [H4']; · iexact H4'
      isplitl [H5']; · iexact H5'
      isplitl [H6']; · iexact H6'
      isplitl [H7']; · iexact H7'
      isplitl [H8']; · iexact H8'
      isplitl [H9']; · iexact H9'
      isplitl [H10']; · iexact H10'
      iexact H11
    · unfold heldAt
      iintro %_ ⟨H2, H3, H4, H5, H6, H7, H8, H9, H10, H11⟩
      isplitl [H11 Hr]
      · isplitl [H11]
        · iexists _
          isplitl [H11]; · iexact H11
          ipureintro
          intro y hy
          exact absurd hy (by rw [show (t.val + 1) % 8 = 0 by omega]; exact Nat.not_lt_zero _)
        · iexact Hr
      isplitl [Ho]; · iexact Ho
      isplitl [H2]; · iapply (owns_of_rep (c : Thread nD τ) (ms0 t) fullShare (iblk m c 0 t)); iexact H2
      isplitl [H3]; · iapply (owns_of_rep (c : Thread nD τ) (ms1 t) fullShare (iblk m c 1 t)); iexact H3
      isplitl [H4]; · iapply (owns_of_rep (c : Thread nD τ) (ms2 t) fullShare (iblk m c 2 t)); iexact H4
      isplitl [H5]; · iapply (owns_of_rep (c : Thread nD τ) (ms3 t) fullShare (iblk m c 3 t)); iexact H5
      isplitl [H6]; · iapply (owns_of_rep (c : Thread nD τ) (ms4 t) fullShare (iblk m c 4 t)); iexact H6
      isplitl [H7]; · iapply (owns_of_rep (c : Thread nD τ) (ms5 t) fullShare (iblk m c 5 t)); iexact H7
      isplitl [H8]; · iapply (owns_of_rep (c : Thread nD τ) (ms6 t) fullShare (iblk m c 6 t)); iexact H8
      have hlt : ∀ y : S512x4096.Idx, (y 1).val < 512 * (t.val % 8 + 1) := fun y => by
        have h1 : (y 1).val < 4096 := (y 1).isLt
        omega
      isplitl [H9]
      · iexists _
        isplitr; swap
        · iapply (owns_of_pt c (ms7 t) _); iexact H9
        ipureintro
        exact ⟨fun h => absurd h7 h, fun _ y => read_bands c (grid0.coords t) (ms5 t) (ms7 t) scM ((cond_iff t).mpr h7) (iblk m c 5 t) _ _ _ _
          (fun y => strips_out m c t Y hY y (hlt y)) (fun y => strips_resid m c t g11 hg y (hlt y)) y⟩
      · iexists _
        isplitr; swap
        · iapply (owns_of_pt c (ms8 t) _); iexact H10
        ipureintro
        exact fun _ y => read_nexts c (grid0.coords t) (ms5 t) (ms6 t) (ms7 t) (ms8 t) scM ((cond_iff t).mpr h7) (iblk m c 5 t) (iblk m c 6 t) _ _ _ _ _
          (fun y => strips_out m c t Y hY y (hlt y)) (fun y => strips_resid m c t g11 hg y (hlt y)) y
  · iapply (wp_wand_r Idealize.ShloMosaic.frame (wpE (defs₀ (F := F)) Variants.none (c : Thread nD τ) none) Set.univ)
    isplitl [H2' H3' H4' H5' H6' H7' H8' H9' H10' H11]
    · iapply (runMid m c t h7 Y Y' g11)
      unfold heldAt
      isplitl [H2']; · iexact H2'
      isplitl [H3']; · iexact H3'
      isplitl [H4']; · iexact H4'
      isplitl [H5']; · iexact H5'
      isplitl [H6']; · iexact H6'
      isplitl [H7']; · iexact H7'
      isplitl [H8']; · iexact H8'
      isplitl [H9']; · iexact H9'
      isplitl [H10']; · iexact H10'
      iexact H11
    · unfold heldAt
      iintro %_ ⟨H2, H3, H4, H5, H6, H7, H8, H9, H10, H11⟩
      isplitl [H11 Hr]
      · isplitl [H11]
        · iexists _
          isplitl [H11]; · iexact H11
          ipureintro
          intro y hy
          have e1 : (t.val + 1) % 8 = t.val % 8 + 1 := by omega
          have e2 : (t.val + 1) / 8 = t.val / 8 := by omega
          rw [e2]
          exact strips_resid m c t g11 hg y (by rw [← e1]; exact hy)
        · iexact Hr
      isplitl [Ho]; · iexact Ho
      isplitl [H2]; · iapply (owns_of_rep (c : Thread nD τ) (ms0 t) fullShare (iblk m c 0 t)); iexact H2
      isplitl [H3]; · iapply (owns_of_rep (c : Thread nD τ) (ms1 t) fullShare (iblk m c 1 t)); iexact H3
      isplitl [H4]; · iapply (owns_of_rep (c : Thread nD τ) (ms2 t) fullShare (iblk m c 2 t)); iexact H4
      isplitl [H5]; · iapply (owns_of_rep (c : Thread nD τ) (ms3 t) fullShare (iblk m c 3 t)); iexact H5
      isplitl [H6]; · iapply (owns_of_rep (c : Thread nD τ) (ms4 t) fullShare (iblk m c 4 t)); iexact H6
      isplitl [H7]; · iapply (owns_of_rep (c : Thread nD τ) (ms5 t) fullShare (iblk m c 5 t)); iexact H7
      isplitl [H8]; · iapply (owns_of_rep (c : Thread nD τ) (ms6 t) fullShare (iblk m c 6 t)); iexact H8
      isplitl [H9]
      · iexists _
        isplitr; swap
        · iapply (owns_of_pt c (ms7 t) _); iexact H9
        ipureintro
        exact ⟨fun _ y hy => strips_out m c t Y hY y hy, fun h => absurd h h7⟩
      · iexists _
        isplitr; swap
        · iapply (owns_of_pt c (ms8 t) _); iexact H10
        ipureintro
        exact fun h => absurd h h7

/-- The body the pipeline calls at point `t`, as it is written above. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligationRel (dats (F := F) m 0 c) (defs₀ (F := F)) Variants.none () Set.univ marked (rel m c) := fun t => by
  rw [bigSep_W0, bigSep_W0, defs₀_row]
  exact triple_restated (sound_body m c t) rfl .rfl fun _ => .rfl

/-- Holding a whole buffer is holding the memref of that buffer. -/
theorem whole_pt (c : Dev nD) (f : Bf (F := F) c scM) :
    (((c : Thread nD τ).loc cc0_scratch0) ↦{fullShare} f : sProp 𝕄) = pt c scM f := by
  unfold pt; rw [View.set_whole]

/-- Before the first point the scratch holds anything. -/
theorem inv_in (c : Dev nD) : (Pipeline.ΦA spec0 c : sProp 𝕄) ⊢ (dats m 0 c).Φ 0 := by
  rw [show (dats m 0 c).Φ 0 = inv m c 0 from rfl]
  unfold Pipeline.ΦA inv
  rw [scopedRest0_eq]
  iintro ⟨⟨%f, H⟩, Hr⟩
  isplitl [H]
  · iexists f
    isplitl [H]
    · ihave H' := (Entails.of_eq (whole_pt c f)) $$ H
      iexact H'
    · ipureintro
      intro y hy
      exact absurd hy (Nat.not_lt_zero _)
  · iexact Hr

/-- After the last point what the scratch holds is forgotten. -/
theorem inv_out (c : Dev nD) : (dats m 0 c).Φ (Fin.last cfg0.N) ⊢ (Pipeline.ΦA spec0 c : sProp 𝕄) := by
  rw [show (dats m 0 c).Φ (Fin.last cfg0.N) = inv m c cfg0.N from rfl]
  unfold Pipeline.ΦA inv
  rw [scopedRest0_eq]
  iintro ⟨⟨%f, H, %hf⟩, Hr⟩
  isplitl [H]
  · iexists f
    ihave H' := (Entails.of_eq (whole_pt c f).symm) $$ H
    iexact H'
  · iexact Hr

set_option backward.isDefEq.respectTransparency.types false in
/-- The launch, for proof data held as a variable. -/
theorem run_of (ds : (c : Dev nD) → Dat τ (Elt F) Unit ℕ (UR sig nD τ) ℕ cfg0 c)
    (hbody : ∀ c, BodyObligationRel (ds c) (defs₀ (F := F)) Variants.none () Set.univ marked (rel m c))
    (hq : ∀ c w, (cfg0.spec w).isOut = false → (ds c).q w = Pipeline.shareOf cfg0.spec w) (howed : ∀ c t, (ds c).owed t = 0)
    (hA : ∀ c w, (ds c).A w = V m c (Pipeline.arrRef spec0 w))
    (hin : ∀ c, (Pipeline.ΦA spec0 c : sProp 𝕄) ⊢ (ds c).Φ 0) (hout : ∀ c, (ds c).Φ (Fin.last cfg0.N) ⊢ (Pipeline.ΦA spec0 c : sProp 𝕄)) :
    θ_run defs (onTc (τ := τ) (main (F := F))) (s₀ m ρ)
      (fun r => Pipeline.RDat.FramePost cfg0 (fun c => (ds c).toRRel marked (rel m c)) (V m) r ∧ r.2.sem = fun _ => 0) :=
  Pipeline.RDat.θ_run_frame_track_shared (Q' := fun r => Pipeline.RDat.FramePost cfg0 (fun c => (ds c).toRRel marked (rel m c)) (V m) r ∧ r.2.sem = fun _ => 0)
    cfgs (0 : Fin 1) launch₀0 defs₀ Variants.none (fun c => (ds c).toRRel marked (rel m c)) m ρ main
    (hbody := fun c => (hbody c).toRRel) (hq := hq) (howed := howed) (V := V m) (hmain := hmain m Variants.none)
    (hA := hA) (hin := hin) (hout := hout) (hQ' := fun _ h => h)

/-- Every execution of the program ends, with every array of the pipeline at what the proof data allow, every other buffer
    as the region found it, and every semaphore counter at zero. -/
theorem run_main : θ_run defs (onTc (τ := τ) (main (F := F))) (s₀ m ρ)
      (fun r => Pipeline.RDat.FramePost cfg0 (fun c => (dats m 0 c).toRRel marked (rel m c)) (V m) r ∧ r.2.sem = fun _ => 0) :=
  run_of m ρ (dats m 0) (body_obligation m) (fun _ _ _ => rfl) (fun _ _ => rfl) (A_eq m) (inv_in m) (inv_out m)

/-- After the run the arguments hold what they held. -/
theorem args_kept (c : Dev nD) (r : PUnit × MemSt nD τ sig (Elt F)) (h : Pipeline.RDat.FramePost cfg0 (fun c => (dats m 0 c).toRRel marked (rel m c)) (V m) r) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h.arr_in c 0 rfl).trans ((A_eq m c 0).trans (V_main_arg0 m c)),
    (h.arr_in c 1 rfl).trans ((A_eq m c 1).trans (V_main_arg1 m c)),
    (h.arr_in c 3 rfl).trans ((A_eq m c 3).trans (V_main_arg2 m c)),
    (h.arr_in c 4 rfl).trans ((A_eq m c 4).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame: the program ends, its arguments are unchanged and the counters are zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => args_kept m c r h.1, h.2⟩) (run_main m ρ)

end Cert.Proof.OutEven

end
-- ==== Proof.OutEvenIdeal.lean ====
/-
  The even layer's output projection over the reals: a row block's product and residual, the rows normalised once and twice,
  and the two arrays the kernel leaves.
-/
module

public import Idealize.ShloMosaic.Lib.MatmulPlain
public import Idealize.ShloMosaic.Lib.ValueLayout
public import proofs.«01_k».proof.Proof.Entry
public import proofs.«01_k».proof.Proof.Norm
public import proofs.«01_k».proof.Proof.OutEvenFrame

@[expose] public section

noncomputable section

namespace Cert.Proof.OutEven

open Idealize.ShloMosaic Idealize.ShloMosaic.TcCoe Idealize.ShloMosaic.Tactic Idealize.SL.Sem
open Cert.KernelOutEvenIdeal Cert.KernelOutEvenIdeal.Gen
open Cert.Proof.Entry Cert.Proof.Strips

/-- Which block of its array each window holds at a grid point. -/
theorem idx_at : ∀ t : Fin cfg0.N,
    (win0_0.index t 0 = t.val / 8 ∧ win0_0.index t 1 = 0)
    ∧ (win0_1.index t 0 = t.val / 8 ∧ win0_1.index t 1 = 0)
    ∧ (win0_2.index t 0 = 0 ∧ win0_2.index t 1 = t.val % 8)
    ∧ (win0_3.index t 0 = 1 ∧ win0_3.index t 1 = t.val % 8)
    ∧ (win0_4.index t 0 = t.val / 8 ∧ win0_4.index t 1 = t.val % 8)
    ∧ (win0_5.index t 0 = 0 ∧ win0_5.index t 1 = 0)
    ∧ (win0_6.index t 0 = 0 ∧ win0_6.index t 1 = 0)
    ∧ (win0_7.index t 0 = t.val / 8 ∧ win0_7.index t 1 = 0)
    ∧ (win0_8.index t 0 = t.val / 8 ∧ win0_8.index t 1 = 0) := by decide +kernel

variable (m : (ℓ : Loc nD τ sig) → Buf (Elt Ideal) ℓ) (c : Dev nD) (t : Fin cfg0.N)

/-- The rows of the first half of the mixed activations. -/
theorem rows0_apply (x : S512x2048.Idx) : iblk m c 0 t x
    = at2 (m (c.tc.loc main_arg0) : S8192x2048.Idx → EReal) (512 * (t.val / 8) + (x 0).val) (x 1).val := by
  have h0 : (x 0).val < 512 := (x 0).isLt
  have h1 : (x 1).val < 2048 := (x 1).isLt
  have ht : t.val < 128 := t.isLt
  have hi := (idx_at t).1
  unfold at2
  rw [dif_pos (by omega)]
  blk_simp [iblk]
  entry_read
  blk_ext [hi.1, hi.2]

/-- The rows of the second half of the mixed activations. -/
theorem rows1_apply (x : S512x2048.Idx) : iblk m c 1 t x
    = at2 (m (c.tc.loc main_arg1) : S8192x2048.Idx → EReal) (512 * (t.val / 8) + (x 0).val) (x 1).val := by
  have h0 : (x 0).val < 512 := (x 0).isLt
  have h1 : (x 1).val < 2048 := (x 1).isLt
  have ht : t.val < 128 := t.isLt
  have hi := (idx_at t).2.1
  unfold at2
  rw [dif_pos (by omega)]
  blk_simp [iblk]
  entry_read
  blk_ext [hi.1, hi.2]

/-- The columns of the upper half of the weights. -/
theorem cols0_apply (x : S2048x512.Idx) : iblk m c 2 t x
    = at2 (m (c.tc.loc main_arg2) : S4096x4096.Idx → EReal) (x 0).val (512 * (t.val % 8) + (x 1).val) := by
  have h0 : (x 0).val < 2048 := (x 0).isLt
  have h1 : (x 1).val < 512 := (x 1).isLt
  have ht : t.val < 128 := t.isLt
  have hi := (idx_at t).2.2.1
  unfold at2
  rw [dif_pos (by omega)]
  blk_simp [iblk]
  entry_read
  blk_ext [hi.1, hi.2]

/-- The columns of the lower half of the weights. -/
theorem cols1_apply (x : S2048x512.Idx) : iblk m c 3 t x
    = at2 (m (c.tc.loc main_arg2) : S4096x4096.Idx → EReal) (2048 + (x 0).val) (512 * (t.val % 8) + (x 1).val) := by
  have h0 : (x 0).val < 2048 := (x 0).isLt
  have h1 : (x 1).val < 512 := (x 1).isLt
  have ht : t.val < 128 := t.isLt
  have hi := (idx_at t).2.2.2.1
  unfold at2
  rw [dif_pos (by omega)]
  blk_simp [iblk]
  entry_read
  blk_ext [hi.1, hi.2]

/-- The residual's rows and columns. -/
theorem resid_apply (x : S512x512.Idx) : iblk m c 4 t x
    = at2 (m (c.tc.loc main_arg3) : S8192x4096.Idx → EReal) (512 * (t.val / 8) + (x 0).val) (512 * (t.val % 8) + (x 1).val) := by
  have h0 : (x 0).val < 512 := (x 0).isLt
  have h1 : (x 1).val < 512 := (x 1).isLt
  have ht : t.val < 128 := t.isLt
  have hi := (idx_at t).2.2.2.2.1
  unfold at2
  rw [dif_pos (by omega)]
  blk_simp [iblk]
  entry_read
  blk_ext [hi.1, hi.2]

/-- The gains. -/
theorem gain_apply (x : S1x4096.Idx) : iblk m c 5 t x = at1 (m (c.tc.loc main_arg4) : S4096.Idx → EReal) (x 1).val := by
  have h0 : (x 0).val < 1 := (x 0).isLt
  have h1 : (x 1).val < 4096 := (x 1).isLt
  have hi := (idx_at t).2.2.2.2.2.1
  unfold at1
  rw [dif_pos h1]
  blk_simp [iblk]
  entry_read
  have hx : ((View.whole main_v0).slice (win0_5.rect t)).emb x = ValueIdx.ix2 (0 : Fin 1) (⟨(x 1).val, h1⟩ : Fin 4096) := by
    blk_ext [hi.1, hi.2]
  rw [hx]
  exact ValueIdx.shapeCast_a_1a_apply _ _ _ _

/-- The gains of the next layer. -/
theorem next_gain_apply (x : S1x4096.Idx) : iblk m c 6 t x = at1 (m (c.tc.loc main_arg5) : S4096.Idx → EReal) (x 1).val := by
  have h0 : (x 0).val < 1 := (x 0).isLt
  have h1 : (x 1).val < 4096 := (x 1).isLt
  have hi := (idx_at t).2.2.2.2.2.2.1
  unfold at1
  rw [dif_pos h1]
  blk_simp [iblk]
  entry_read
  have hx : ((View.whole main_v1).slice (win0_6.rect t)).emb x = ValueIdx.ix2 (0 : Fin 1) (⟨(x 1).val, h1⟩ : Fin 4096) := by
    blk_ext [hi.1, hi.2]
  rw [hx]
  exact ValueIdx.shapeCast_a_1a_apply _ _ _ _

/-- A half of a strip of the product, entry by entry. -/
theorem half_apply (u : Vec Ideal S512x2048 .bf16) (v : Vec Ideal S2048x512 .bf16) (x : S512x512.Idx) :
    half (F := Ideal) u v x = ∑ e : Fin 2048, u (ValueIdx.ix2 (x 0 : Fin 512) e) * v (ValueIdx.ix2 e (x 1 : Fin 512)) := by
  have hx : x = ValueIdx.ix2 (x 0 : Fin 512) (x 1 : Fin 512) := funext fun k => by
    match k with
    | ⟨0, _⟩ => rfl
    | ⟨1, _⟩ => rfl
  unfold half
  conv_lhs => rw [hx]
  refine (show _ = _ from Ideal.matmul_plain_apply (M := 512) (K := 2048) (N := 512) (φ₁ := .bf16) (φ₂ := .bf16) none u v
    (constant (F := Ideal) ⟨2, ![512, 512]⟩ .f32 0x00000000#32) (x 0) (x 1)).trans ?_
  exact (congrArg (· + _) Ideal.ofBits_zero_f32).trans (zero_add _)

/-- The product of two matrices side by side with a third of as many rows as they have columns, entry by entry. -/
def prod2 {a k b n : ℕ} (X₀ X₁ : (⟨2, ![a, k]⟩ : Shape).Idx → EReal) (W : (⟨2, ![b, n]⟩ : Shape).Idx → EReal) (r j : ℕ) : EReal :=
  ∑ e : Fin k, at2 X₀ r e.val * at2 W e.val j + ∑ e : Fin k, at2 X₁ r e.val * at2 W (k + e.val) j

/-- The strip computed at a grid point is the product's. -/
theorem stripVal_apply (x : S512x512.Idx) : stripVal m c t x
    = prod2 (m (c.tc.loc main_arg0) : S8192x2048.Idx → EReal) (m (c.tc.loc main_arg1) : S8192x2048.Idx → EReal) (m (c.tc.loc main_arg2) : S4096x4096.Idx → EReal)
      (512 * (t.val / 8) + (x 0).val) (512 * (t.val % 8) + (x 1).val) := by
  unfold stripVal strip prod2
  refine congrArg₂ (· + ·) ((half_apply _ _ x).trans (Finset.sum_congr rfl fun e _ => ?_)) ((half_apply _ _ x).trans (Finset.sum_congr rfl fun e _ => ?_))
  · rw [rows0_apply, cols0_apply]
  · rw [rows1_apply, cols1_apply]

/-- The product's rows of a row block are the product's. -/
theorem prodBlk_apply (b : ℕ) (hb : b < 16) (y : S512x4096.Idx) : prodBlk m c b y
    = prod2 (m (c.tc.loc main_arg0) : S8192x2048.Idx → EReal) (m (c.tc.loc main_arg1) : S8192x2048.Idx → EReal) (m (c.tc.loc main_arg2) : S4096x4096.Idx → EReal)
      (512 * b + (y 0).val) (y 1).val := by
  have h1 : (y 1).val < 4096 := (y 1).isLt
  have e1 : (ptOf b ((y 1).val / 512)).val / 8 = b := by
    show (8 * b + (y 1).val / 512 % 8) % 128 / 8 = b
    omega
  have e2 : 512 * ((ptOf b ((y 1).val / 512)).val % 8) + (y 1).val % 512 = (y 1).val := by
    show 512 * ((8 * b + (y 1).val / 512 % 8) % 128 % 8) + (y 1).val % 512 = (y 1).val
    omega
  unfold prodBlk
  rw [stripVal_apply, e1]
  exact congrArg (prod2 _ _ _ _) e2

/-- The residual's rows of a row block are the residual's. -/
theorem residBlk_apply (b : ℕ) (hb : b < 16) (y : S512x4096.Idx) : residBlk m c b y
    = at2 (m (c.tc.loc main_arg3) : S8192x4096.Idx → EReal) (512 * b + (y 0).val) (y 1).val := by
  have h1 : (y 1).val < 4096 := (y 1).isLt
  have e1 : (ptOf b ((y 1).val / 512)).val / 8 = b := by
    show (8 * b + (y 1).val / 512 % 8) % 128 / 8 = b
    omega
  have e2 : 512 * ((ptOf b ((y 1).val / 512)).val % 8) + (y 1).val % 512 = (y 1).val := by
    show 512 * ((8 * b + (y 1).val / 512 % 8) % 128 % 8) + (y 1).val % 512 = (y 1).val
    omega
  unfold residBlk
  rw [resid_apply, e1]
  exact congrArg (at2 _ _) e2

/-- The layer's result, entry by entry: the residual plus the product's row, normalised and scaled. -/
def result {a k b d n l : ℕ} (X₀ X₁ : (⟨2, ![a, k]⟩ : Shape).Idx → EReal) (W : (⟨2, ![b, n]⟩ : Shape).Idx → EReal)
    (Z : (⟨2, ![d, n]⟩ : Shape).Idx → EReal) (g : (⟨1, ![l]⟩ : Shape).Idx → EReal) (r j : ℕ) : EReal :=
  at2 Z r j + Norm.rms (prod2 X₀ X₁ W r) (at1 g) j

/-- The result of the kernel's arguments. -/
abbrev resultOf (r j : ℕ) : EReal :=
  result (m (c.tc.loc main_arg0) : S8192x2048.Idx → EReal) (m (c.tc.loc main_arg1) : S8192x2048.Idx → EReal) (m (c.tc.loc main_arg2) : S4096x4096.Idx → EReal)
    (m (c.tc.loc main_arg3) : S8192x4096.Idx → EReal) (m (c.tc.loc main_arg4) : S4096.Idx → EReal) r j

/-- The result of the kernel's arguments, normalised for the next layer. -/
abbrev nextResultOf (r j : ℕ) : EReal := Norm.rms (resultOf m c r) (at1 (m (c.tc.loc main_arg5) : S4096.Idx → EReal)) j

/-- A band of a row block normalised. -/
theorem bandOf_apply (ht : t.val / 8 < 16) (k : ℕ) (hk : k < 4) (r : Fin 128) (n : Fin 4096) :
    bandOf (prodBlk m c (t.val / 8)) (residBlk m c (t.val / 8)) (iblk m c 5 t) k (ix2 r n)
      = resultOf m c (512 * (t.val / 8) + (128 * k + r.val)) n.val := by
  have e : (128 * k + r.val) % 512 = 128 * k + r.val := by omega
  unfold bandOf band resultOf result
  refine congrArg₂ (· + ·) ?_ ?_
  · unfold rowsOf
    rw [residBlk_apply m c _ ht]
    exact congrArg (fun v => at2 _ (512 * (t.val / 8) + v) _) e
  · refine Norm.band_apply _ _ _ _ _ _ _ _ _ _ _ _ (fun k => ?_) (gain_apply m c t _)
    unfold rowsOf
    rw [prodBlk_apply m c _ ht]
    exact congrArg (fun v => prod2 _ _ _ (512 * (t.val / 8) + v) _) e

/-- The normalised rows of a row block. -/
theorem normed_apply (ht : t.val / 8 < 16) (y : S512x4096.Idx) :
    normed (prodBlk m c (t.val / 8)) (residBlk m c (t.val / 8)) (iblk m c 5 t) y = resultOf m c (512 * (t.val / 8) + (y 0).val) (y 1).val := by
  have h0 : (y 0).val < 512 := (y 0).isLt
  have e : 128 * ((y 0).val / 128) + (y 0).val % 128 = (y 0).val := by omega
  unfold normed bands
  refine (bandOf_apply m c t ht _ (by omega) _ _).trans ?_
  exact congrArg (fun v => resultOf m c (512 * (t.val / 8) + v) _) e

/-- The rows of a row block normalised once more. -/
theorem renormed_apply (ht : t.val / 8 < 16) (y : S512x4096.Idx) :
    renormed (prodBlk m c (t.val / 8)) (residBlk m c (t.val / 8)) (iblk m c 5 t) (iblk m c 6 t) y = nextResultOf m c (512 * (t.val / 8) + (y 0).val) (y 1).val := by
  have h0 : (y 0).val < 512 := (y 0).isLt
  have e : 128 * ((y 0).val / 128) + (y 0).val % 128 = (y 0).val := by omega
  unfold renormed bands nextOf next
  refine (Norm.plain_band_apply _ _ _ _ _ _ _ _ _ _ _ (fun k => ?_) (next_gain_apply m c t _)).trans rfl
  refine (bandOf_apply m c t ht _ (by omega) _ _).trans ?_
  exact congrArg (fun v => resultOf m c (512 * (t.val / 8) + v) _) e

/-- The first array after a run. -/
theorem result_value (r : PUnit × MemSt nD τ sig (Elt Ideal)) (h : Pipeline.RDat.FramePost cfg0 (fun c => (dats m 0 c).toRRel marked (rel m c)) (V m) r) :
    r.2.mem ((c.tc : Thread nD τ).loc main_v2_0) = (fun y : S8192x4096.Idx => resultOf m c (y 0).val (y 1).val) := by
  obtain ⟨after, hL, hA⟩ := h.exists_exact c
  refine (hA 7).trans ?_
  refine (((dats m 0 c).toRRel marked (rel m c)).withAfter after).arrAt_eq_of_covers 7 _ (by decide +kernel) fun t hf y => ?_
  have hi := (idx_at t).2.2.2.2.2.2.2.1
  have ht : t.val < 128 := t.isLt
  have hr : outRel m c t (after 7 t) := Pipeline.Dat.toRRel_leaves (dats m 0 c) (fgt := marked) (Rl := rel m c) (w := 7) rfl (hL 7 t hf)
  blk_simp
  rw [Pipeline.RDat.withAfter_after]
  refine (hr.2 ((flush0_7 t).mp hf) _).trans ((normed_apply m c t (by omega) _).trans ?_)
  rw [hi.1, hi.2, Nat.mul_comm 512, Nat.zero_mul, Nat.zero_add]

/-- The second array after a run. -/
theorem next_value (r : PUnit × MemSt nD τ sig (Elt Ideal)) (h : Pipeline.RDat.FramePost cfg0 (fun c => (dats m 0 c).toRRel marked (rel m c)) (V m) r) :
    r.2.mem ((c.tc : Thread nD τ).loc main_v2_1) = (fun y : S8192x4096.Idx => nextResultOf m c (y 0).val (y 1).val) := by
  obtain ⟨after, hL, hA⟩ := h.exists_exact c
  refine (hA 8).trans ?_
  refine (((dats m 0 c).toRRel marked (rel m c)).withAfter after).arrAt_eq_of_covers 8 _ (by decide +kernel) fun t hf y => ?_
  have hi := (idx_at t).2.2.2.2.2.2.2.2
  have ht : t.val < 128 := t.isLt
  have hr : nextRel m c t (after 8 t) := Pipeline.Dat.toRRel_leaves (dats m 0 c) (fgt := marked) (Rl := rel m c) (w := 8) rfl (hL 8 t hf)
  blk_simp
  rw [Pipeline.RDat.withAfter_after]
  refine (hr ((flush0_8 t).mp hf) _).trans ((renormed_apply m c t (by omega) _).trans ?_)
  rw [hi.1, hi.2, Nat.mul_comm 512, Nat.zero_mul, Nat.zero_add]

end Cert.Proof.OutEven

end
-- ==== Proof.OutEven.lean ====
/- The even layer's output projection: its frames, the reference's arrays, and that the two programs leave the same ones. -/
module

public import proofs.«01_k».proof.Defs
public import proofs.«01_k».proof.Proof.BitsOutEvenFrame
public import proofs.«01_k».proof.Proof.OutEvenIdeal
public import proofs.«01_k».proof.Proof.Gen.ReferenceOutEvenIdeal
public import proofs.«01_k».proof.Proof.Gen.ReferenceOutEvenIdeal.Run
public import proofs.«01_k».proof.Proof.Gen.ReferenceOutEvenIdeal.Read

@[expose] public section

noncomputable section

namespace Cert.Proof.OutEven

open Idealize.ShloMosaic Idealize.ShloMosaic.TcCoe Idealize.ShloMosaic.Tactic Idealize.SL.Sem
open Cert.KernelOutEvenIdeal Cert.KernelOutEvenIdeal.Gen
open Cert.Proof.Entry

section Reference

open Cert.ReferenceOutEvenIdeal.Read

variable (X₀ X₁ : FVec Ideal Cert.ReferenceOutEvenIdeal.S8192x2048 .bf16) (W : FVec Ideal Cert.ReferenceOutEvenIdeal.S4096x4096 .bf16)
  (Z : FVec Ideal Cert.ReferenceOutEvenIdeal.S8192x4096 .f32) (g g' : FVec Ideal Cert.ReferenceOutEvenIdeal.S4096 .f32)

/-- The left columns of the two halves side by side are the first half's. -/
theorem joined_left (y : Cert.ReferenceOutEvenIdeal.S8192x4096.Idx) (n : ℕ) (hn : n < 2048) (hy : (y 1).val = n) :
    val_main_v0 (F := Ideal) X₀ X₁ y = at2 (X₀ : S8192x2048.Idx → EReal) (y 0).val n := by
  refine Eq.trans ?_ (at2_eq (X₀ : S8192x2048.Idx → EReal) (ValueIdx.ix2 (y 0) (⟨n, hn⟩ : Fin 2048)) _ _ rfl rfl)
  unfold val_main_v0
  refine concatenate_pair_apply_left (s₁ := Cert.ReferenceOutEvenIdeal.S8192x2048) (s₂ := Cert.ReferenceOutEvenIdeal.S8192x2048)
    1 X₀ X₁ _ y rfl _ fun b => ?_
  match b with
  | ⟨0, _⟩ => rfl
  | ⟨1, _⟩ => exact hy.symm

/-- The right columns of the two halves side by side are the second half's. -/
theorem joined_right (y : Cert.ReferenceOutEvenIdeal.S8192x4096.Idx) (n : ℕ) (hn : n < 2048) (hy : (y 1).val = 2048 + n) :
    val_main_v0 (F := Ideal) X₀ X₁ y = at2 (X₁ : S8192x2048.Idx → EReal) (y 0).val n := by
  refine Eq.trans ?_ (at2_eq (X₁ : S8192x2048.Idx → EReal) (ValueIdx.ix2 (y 0) (⟨n, hn⟩ : Fin 2048)) _ _ rfl rfl)
  unfold val_main_v0
  refine concatenate_pair_apply_right (s₁ := Cert.ReferenceOutEvenIdeal.S8192x2048) (s₂ := Cert.ReferenceOutEvenIdeal.S8192x2048)
    1 X₀ X₁ _ y rfl rfl _ (fun b hb => ?_) ?_
  · match b with
    | ⟨0, _⟩ => rfl
    | ⟨1, _⟩ => exact absurd rfl hb
  · exact (Nat.add_comm n 2048).trans hy.symm

/-- The reference's product, entry by entry. -/
theorem reference_product (y : Cert.ReferenceOutEvenIdeal.S8192x4096.Idx) :
    val_main_v3 (F := Ideal) X₀ X₁ W y = prod2 (X₀ : S8192x2048.Idx → EReal) (X₁ : S8192x2048.Idx → EReal) (W : S4096x4096.Idx → EReal) (y 0).val (y 1).val := by
  refine (val_main_v3_apply X₀ X₁ W y).trans ((Fin.sum_univ_add (a := 2048) (b := 2048) _).trans ?_)
  refine congrArg₂ (· + ·) (Finset.sum_congr rfl fun e _ => ?_) (Finset.sum_congr rfl fun e _ => ?_)
  · exact congrArg₂ (· * ·) (joined_left X₀ X₁ _ e.val e.isLt rfl) (at2_eq (W : S4096x4096.Idx → EReal) _ _ _ rfl rfl)
  · exact congrArg₂ (· * ·) (joined_right X₀ X₁ _ e.val e.isLt rfl) (at2_eq (W : S4096x4096.Idx → EReal) _ _ _ rfl rfl)

/-- The reference's first result, entry by entry. -/
theorem reference_result (y : Cert.ReferenceOutEvenIdeal.S8192x4096.Idx) : val_main_v17 (F := Ideal) X₀ X₁ W Z g y =
    result (X₀ : S8192x2048.Idx → EReal) (X₁ : S8192x2048.Idx → EReal) (W : S4096x4096.Idx → EReal) (Z : S8192x4096.Idx → EReal) (g : S4096.Idx → EReal) (y 0).val (y 1).val := by
  unfold result Norm.rms Norm.factor
  rw [val_main_v17_apply, val_main_v16_apply, val_main_v13_apply, val_main_v15_apply, val_main_v14_apply, val_main_v12_apply, val_main_v11_apply,
    val_main_v10_apply, val_main_v9_apply, val_main_cst_1_apply, val_main_v8_apply, val_main_v7_apply, val_main_cst_0_apply, val_main_v6_apply,
    val_main_v5_apply, val_main_cst_apply]
  refine congrArg₂ (· + ·) (at2_eq _ _ _ _ rfl rfl) (congrArg₂ (· * ·) (congrArg₂ (· * ·) (reference_product X₀ X₁ W y) ?_) (at1_eq _ _ _ rfl))
  refine congrArg (fun v => Ideal.rsqrt (Ideal.div v _ + _)) ?_
  refine (congrArg (· + _) Ideal.ofBits_zero_f32).trans ((zero_add _).trans (Finset.sum_congr rfl fun k _ => ?_))
  rw [val_main_v4_apply]
  exact congrArg₂ (· * ·) (reference_product X₀ X₁ W _) (reference_product X₀ X₁ W _)

/-- The reference's second result, entry by entry. -/
theorem reference_next (y : Cert.ReferenceOutEvenIdeal.S8192x4096.Idx) : val_main_v31 (F := Ideal) X₀ X₁ W Z g g' y =
    Norm.rms (result (X₀ : S8192x2048.Idx → EReal) (X₁ : S8192x2048.Idx → EReal) (W : S4096x4096.Idx → EReal) (Z : S8192x4096.Idx → EReal) (g : S4096.Idx → EReal) (y 0).val)
      (at1 (g' : S4096.Idx → EReal)) (y 1).val := by
  unfold Norm.rms Norm.factor
  rw [val_main_v31_apply, val_main_v30_apply, val_main_v27_apply, val_main_v29_apply, val_main_v28_apply, val_main_v26_apply, val_main_v25_apply,
    val_main_v24_apply, val_main_v23_apply, val_main_cst_4_apply, val_main_v22_apply, val_main_v21_apply, val_main_cst_3_apply, val_main_v20_apply,
    val_main_v19_apply, val_main_cst_2_apply]
  refine congrArg₂ (· * ·) (congrArg₂ (· * ·) (reference_result X₀ X₁ W Z g y) ?_) (at1_eq _ _ _ rfl)
  refine congrArg (fun v => Ideal.rsqrt (Ideal.div v _ + _)) ?_
  refine (congrArg (· + _) Ideal.ofBits_zero_f32).trans ((zero_add _).trans (Finset.sum_congr rfl fun k _ => ?_))
  rw [val_main_v18_apply]
  exact congrArg₂ (· * ·) (reference_result X₀ X₁ W Z g _) (reference_result X₀ X₁ W Z g _)

end Reference

/-- The frame of the kernel at bit patterns. -/
theorem frame_kernel : Cert.quiescent_KernelOutEven (hKernelOutEven := Cert.KernelOutEven.Gen.facts) := fun m g _ => OutEvenBits.frame_main m g

/-- The frame of the idealized kernel. -/
theorem frame_ideal : Cert.quiescent_KernelOutEvenIdeal (hKernelOutEvenIdeal := Cert.KernelOutEvenIdeal.Gen.facts) := fun m g _ => frame_main m g

/-- The frame of the reference. -/
theorem frame_reference : Cert.quiescent_ReferenceOutEvenIdeal (hReferenceOutEvenIdeal := Cert.ReferenceOutEvenIdeal.Gen.facts) := fun m g _ =>
  (θ_run Cert.ReferenceOutEvenIdeal.defs _ _).mono (fun r h => ⟨fun c => (h c).2.2, sem_eq_zero_of_no_sems (by decide) r.2⟩)
    (Cert.ReferenceOutEvenIdeal.Value.run m g)

/-- Every execution of the kernel ends with the layer's result and its norm in place, and its arguments unchanged. -/
theorem kernel_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v2_0) = (fun y : S8192x4096.Idx => resultOf m c (y 0).val (y 1).val)
      ∧ r.2.mem ((c.tc : Thread nD τ).loc main_v2_1) = (fun y : S8192x4096.Idx => nextResultOf m c (y 0).val (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨result_value m c r h.1, next_value m c r h.1, args_kept m c r h.1⟩) (run_main m ρ)

/-- The kernel and the reference leave the same two arrays. -/
theorem algebraic : Cert.algebraic_KernelOutEvenIdeal_ReferenceOutEvenIdeal (hKernelOutEvenIdeal := Cert.KernelOutEvenIdeal.Gen.facts)
    (hReferenceOutEvenIdeal := Cert.ReferenceOutEvenIdeal.Gen.facts) := fun m g m' g' _ hargs =>
  ⟨_, _, kernel_value m g, (θ_run Cert.ReferenceOutEvenIdeal.defs _ _).mono (fun _ h c =>
    ⟨(h c).1.trans (((Cert.ReferenceOutEvenIdeal.Read.val_main_v17_eq _ _ _ _ _).trans (funext (reference_result _ _ _ _ _))).trans
      (by rw [(hargs c).1, (hargs c).2.1, (hargs c).2.2.1, (hargs c).2.2.2.1, (hargs c).2.2.2.2.1])),
     (h c).2.1.trans (((Cert.ReferenceOutEvenIdeal.Read.val_main_v31_eq _ _).trans (funext (reference_next _ _ _ _ _ _))).trans
      (by rw [(hargs c).1, (hargs c).2.1, (hargs c).2.2.1, (hargs c).2.2.2.1, (hargs c).2.2.2.2.1, (hargs c).2.2.2.2.2])), (h c).2.2⟩)
    (Cert.ReferenceOutEvenIdeal.Value.run m' g')⟩

end Cert.Proof.OutEven

end
-- ==== Proof.FirstNorm.lean ====
/- The first layer's normalisation: every row divided by its root mean square and scaled by the gains; its frames and its value. -/
module

public import proofs.«01_k».proof.Defs
public import Idealize.ShloMosaic.Lib.Pointwise.Index
public import Idealize.ShloMosaic.Lib.ValueLayout
public import proofs.«01_k».proof.Proof.Entry
public import proofs.«01_k».proof.Proof.Norm
public import proofs.«01_k».proof.Proof.Gen.KernelNorm
public import proofs.«01_k».proof.Proof.Gen.KernelNorm.Frame
public import proofs.«01_k».proof.Proof.Gen.ReferenceNormIdeal
public import proofs.«01_k».proof.Proof.Gen.KernelNormIdeal.Frame
public import proofs.«01_k».proof.Proof.Gen.KernelNormIdeal.Value
public import proofs.«01_k».proof.Proof.Gen.ReferenceNormIdeal.Run
public import proofs.«01_k».proof.Proof.Gen.ReferenceNormIdeal.Read

@[expose] public section

noncomputable section

namespace Cert.Proof.FirstNorm

open Idealize.ShloMosaic Idealize.ShloMosaic.TcCoe Idealize.ShloMosaic.Tactic Idealize.SL.Sem
open Cert.KernelNormIdeal Cert.KernelNormIdeal.Gen
open Cert.Proof.Entry

/-- Which block of its array each window holds at a grid point. -/
theorem idx_at : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) := by decide +kernel

/-- A row of the activations normalised, and scaled by the gains. -/
def result (X : S8192x4096.Idx → EReal) (g : S4096.Idx → EReal) (r n : ℕ) : EReal := Norm.rms (at2 X r) (at1 g) n

/-- What a point stores is the formula on every row of its block. -/
theorem pay1_apply (y : Vec Ideal S256x4096 .f32) (g : Vec Ideal S1x4096 .f32) (f s : ℕ → EReal) (r : Fin 256) (n : Fin 4096)
    (hf : ∀ k : Fin 4096, y (ix2 r k) = f k.val) (hg : g (ix2 0 n) = s n.val) : k0_pay1 (F := Ideal) y g (ix2 r n) = Norm.rms f s n.val := by
  unfold k0_pay1
  rw [shapeCast_self]
  unfold Norm.rms Norm.factor
  rw [← hf n, ← hg]
  simp only [← hf]
  pointwise

variable (m : (ℓ : Loc nD τ sig) → Buf (Elt Ideal) ℓ) (c : Dev nD) (t : Fin cfg0.N)

/-- The rows of the activations. -/
theorem rows_apply (x : S256x4096.Idx) : iblk m c 0 t x
    = at2 (m (c.tc.loc main_arg0) : S8192x4096.Idx → EReal) (256 * t.val + (x 0).val) (x 1).val := by
  have h0 : (x 0).val < 256 := (x 0).isLt
  have h1 : (x 1).val < 4096 := (x 1).isLt
  have ht : t.val < 32 := t.isLt
  have hi := (idx_at t).1
  unfold at2
  rw [dif_pos (by omega)]
  blk_simp [iblk]
  entry_read
  blk_ext [hi.1, hi.2]

/-- The gains. -/
theorem gain_apply (x : S1x4096.Idx) : iblk m c 1 t x = at1 (m (c.tc.loc main_arg1) : S4096.Idx → EReal) (x 1).val := by
  have h0 : (x 0).val < 1 := (x 0).isLt
  have h1 : (x 1).val < 4096 := (x 1).isLt
  have hi := (idx_at t).2.1
  unfold at1
  rw [dif_pos h1]
  blk_simp [iblk]
  entry_read
  have hx : ((View.whole main_v0).slice (win0_1.rect t)).emb x = ValueIdx.ix2 (0 : Fin 1) (⟨(x 1).val, h1⟩ : Fin 4096) := by
    blk_ext [hi.1, hi.2]
  rw [hx]
  exact ValueIdx.shapeCast_a_1a_apply _ _ _ _

/-- What a point leaves. -/
theorem block_apply (x : S256x4096.Idx) : out0_2 (iblk m c 0 t) (iblk m c 1 t) x
    = result (m (c.tc.loc main_arg0) : S8192x4096.Idx → EReal) (m (c.tc.loc main_arg1) : S4096.Idx → EReal) (256 * t.val + (x 0).val) (x 1).val := by
  have hx : x = ix2 (x 0 : Fin 256) (x 1 : Fin 4096) := funext fun k => by
    match k with
    | ⟨0, _⟩ => rfl
    | ⟨1, _⟩ => rfl
  unfold out0_2 result
  frame_out
  conv_lhs => rw [hx]
  refine pay1_apply _ _ _ _ (x 0) (x 1) (fun k => ?_) ?_
  · exact rows_apply m c t _
  · exact gain_apply m c t _

/-- The result after the run. -/
theorem result_value : (dats m 0 c).arrAt 2 cfg0.N = fun y : S8192x4096.Idx =>
    result (m (c.tc.loc main_arg0) : S8192x4096.Idx → EReal) (m (c.tc.loc main_arg1) : S4096.Idx → EReal) (y 0).val (y 1).val := by
  refine (dats m 0 c).arrAt_eq_of_covers 2 _ (by decide +kernel) fun t hf y => ?_
  have hi := (idx_at t).2.2
  blk_simp
  rw [after0_2]
  refine (block_apply m c t _).trans ?_
  rw [hi.1, hi.2, Nat.mul_comm 256, Nat.zero_mul, Nat.zero_add]

/-- Every execution of the kernel ends with the normalised rows as its result, and its arguments unchanged. -/
theorem kernel_value (ρ : Dev nD → PrngReg) :
    θ_run defs (onTc (τ := τ) (main (F := Ideal))) ⟨m, fun _ => 0, ρ⟩ fun r => ∀ c : Dev nD,
      r.2.mem ((c.tc : Thread nD τ).loc main_v1) = (fun y : S8192x4096.Idx =>
        result (m (c.tc.loc main_arg0) : S8192x4096.Idx → EReal) (m (c.tc.loc main_arg1) : S4096.Idx → EReal) (y 0).val (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_value m c), (h c).2⟩) (Cert.KernelNormIdeal.Value.run_blocks m ρ)

section Reference

open Cert.ReferenceNormIdeal.Read

/-- The reference's result, entry by entry. -/
theorem reference_result (X : FVec Ideal Cert.ReferenceNormIdeal.S8192x4096 .f32) (g : FVec Ideal Cert.ReferenceNormIdeal.S4096 .f32) :
    val_main_v13 (F := Ideal) X g = fun y => result (X : S8192x4096.Idx → EReal) (g : S4096.Idx → EReal) (y 0).val (y 1).val := by
  funext y
  unfold result Norm.rms Norm.factor
  rw [val_main_v13_apply, val_main_v12_apply, val_main_v9_apply, val_main_v11_apply, val_main_v10_apply, val_main_v8_apply, val_main_v7_apply,
    val_main_v6_apply, val_main_v5_apply, val_main_cst_1_apply, val_main_v4_apply, val_main_v3_apply, val_main_cst_0_apply, val_main_v2_apply,
    val_main_v1_apply, val_main_cst_apply]
  refine congrArg₂ (· * ·) (congrArg₂ (· * ·) (at2_eq _ _ _ _ rfl rfl) ?_) (at1_eq _ _ _ rfl)
  refine congrArg (fun v => Ideal.rsqrt (Ideal.div v _ + _)) ?_
  refine (congrArg (· + _) Ideal.ofBits_zero_f32).trans ((zero_add _).trans (Finset.sum_congr rfl fun k _ => ?_))
  rw [val_main_v0_apply]
  exact congrArg₂ (· * ·) (at2_eq _ _ _ _ rfl rfl) (at2_eq _ _ _ _ rfl rfl)

end Reference

/-- The frame of the kernel at bit patterns. -/
theorem frame_kernel : Cert.quiescent_KernelNorm (hKernelNorm := Cert.KernelNorm.Gen.facts) := fun m g _ => Cert.KernelNorm.Gen.frame m g

/-- The frame of the idealized kernel. -/
theorem frame_ideal : Cert.quiescent_KernelNormIdeal (hKernelNormIdeal := Cert.KernelNormIdeal.Gen.facts) :=
  fun m g _ => Cert.KernelNormIdeal.Gen.frame m g

/-- The frame of the reference. -/
theorem frame_reference : Cert.quiescent_ReferenceNormIdeal (hReferenceNormIdeal := Cert.ReferenceNormIdeal.Gen.facts) := fun m g _ =>
  (θ_run Cert.ReferenceNormIdeal.defs _ _).mono (fun r h => ⟨fun c => (h c).2, sem_eq_zero_of_no_sems (by decide) r.2⟩)
    (Cert.ReferenceNormIdeal.Value.run m g)

/-- The kernel and the reference leave the same array. -/
theorem algebraic : Cert.algebraic_KernelNormIdeal_ReferenceNormIdeal (hKernelNormIdeal := Cert.KernelNormIdeal.Gen.facts)
    (hReferenceNormIdeal := Cert.ReferenceNormIdeal.Gen.facts) := fun m g m' g' _ hargs =>
  ⟨_, kernel_value m g, (θ_run Cert.ReferenceNormIdeal.defs _ _).mono (fun _ h c =>
    ⟨(h c).1.trans (((Cert.ReferenceNormIdeal.Read.val_main_v13_eq _ _).trans (reference_result _ _)).trans (by rw [(hargs c).1, (hargs c).2])), (h c).2⟩)
    (Cert.ReferenceNormIdeal.Value.run m' g')⟩

end Cert.Proof.FirstNorm

end
-- ==== Proof.Forget.lean ====
/- The forget gates' logits: the product with the last sixteen columns of the weights; its frames and its value. -/
module

public import proofs.«01_k».proof.Defs
public import Idealize.ShloMosaic.Lib.MatmulPlain
public import proofs.«01_k».proof.Proof.Entry
public import proofs.«01_k».proof.Proof.Gen.KernelForget
public import proofs.«01_k».proof.Proof.Gen.KernelForget.Frame
public import proofs.«01_k».proof.Proof.Gen.ReferenceForgetIdeal
public import proofs.«01_k».proof.Proof.Gen.KernelForgetIdeal.Frame
public import proofs.«01_k».proof.Proof.Gen.KernelForgetIdeal.Value
public import proofs.«01_k».proof.Proof.Gen.ReferenceForgetIdeal.Run
public import proofs.«01_k».proof.Proof.Gen.ReferenceForgetIdeal.Read

@[expose] public section

noncomputable section

namespace Cert.Proof.Forget

open Idealize.ShloMosaic Idealize.ShloMosaic.TcCoe Idealize.ShloMosaic.Tactic Idealize.SL.Sem
open Cert.KernelForgetIdeal Cert.KernelForgetIdeal.Gen
open Cert.Proof.Entry

/-- Which block of its array each window holds at a grid point. -/
theorem idx_at : ∀ t : Fin cfg0.N,
    (win0_0.index t 0 = t.val ∧ win0_0.index t 1 = 0) ∧ (win0_1.index t 0 = 1024 ∧ win0_1.index t 1 = 0)
    ∧ (win0_2.index t 0 = t.val ∧ win0_2.index t 1 = 0) := by decide +kernel

/-- What a point stores: the products of its rows with the sixteen columns. -/
theorem pay1_apply (u : Vec Ideal S1024x4096 .bf16) (v : Vec Ideal S16x4096 .f32) (x : S1024x16.Idx) :
    k0_pay1 (F := Ideal) u v x = ∑ e : Fin 4096, u (ValueIdx.ix2 (x 0 : Fin 1024) e) * v (ValueIdx.ix2 (x 1 : Fin 16) e) := by
  have hx : x = ValueIdx.ix2 (x 0 : Fin 1024) (x 1 : Fin 16) := funext fun k => by
    match k with
    | ⟨0, _⟩ => rfl
    | ⟨1, _⟩ => rfl
  unfold k0_pay1
  conv_lhs => rw [hx]
  simp only [shapeCast_self]
  refine (show _ = _ from Ideal.matmul_transposedRhs_apply (M := 1024) (K := 4096) (N := 16) (φ₁ := .bf16) (φ₂ := .bf16) none u
    (truncf .bf16 v bitsLt_bf16_f32) (constant (F := Ideal) ⟨2, ![1024, 16]⟩ .f32 0x00000000#32) (x 0) (x 1)).trans ?_
  exact (congrArg (· + _) Ideal.ofBits_zero_f32).trans (zero_add _)

variable (m : (ℓ : Loc nD τ sig) → Buf (Elt Ideal) ℓ) (c : Dev nD) (t : Fin cfg0.N)

/-- The rows of the activations. -/
theorem rows_apply (x : S1024x4096.Idx) : iblk m c 0 t x
    = at2 (m (c.tc.loc main_arg0) : S8192x4096.Idx → EReal) (1024 * t.val + (x 0).val) (x 1).val := by
  have h0 : (x 0).val < 1024 := (x 0).isLt
  have h1 : (x 1).val < 4096 := (x 1).isLt
  have ht : t.val < 8 := t.isLt
  have hi := (idx_at t).1
  unfold at2
  rw [dif_pos (by omega)]
  blk_simp [iblk]
  entry_read
  blk_ext [hi.1, hi.2]

/-- The last sixteen columns of the weights, a row of their transpose each. -/
theorem cols_apply (x : S16x4096.Idx) : iblk m c 1 t x
    = at2 (m (c.tc.loc main_arg1) : S4096x16400.Idx → EReal) (x 1).val (16384 + (x 0).val) := by
  have h0 : (x 0).val < 16 := (x 0).isLt
  have h1 : (x 1).val < 4096 := (x 1).isLt
  have hi := (idx_at t).2.1
  unfold at2
  rw [dif_pos (by omega)]
  blk_simp [iblk]
  entry_read
  pointwise
  blk_ext [hi.1, hi.2]

/-- What a point leaves. -/
theorem block_apply (x : S1024x16.Idx) : out0_2 (iblk m c 0 t) (iblk m c 1 t) x
    = prod (m (c.tc.loc main_arg0) : S8192x4096.Idx → EReal) (m (c.tc.loc main_arg1) : S4096x16400.Idx → EReal)
      (1024 * t.val + (x 0).val) (16384 + (x 1).val) := by
  unfold out0_2
  frame_out
  rw [pay1_apply]
  unfold prod
  refine Finset.sum_congr rfl fun e _ => ?_
  exact congrArg₂ (· * ·) (rows_apply m c t _) (cols_apply m c t _)

/-- The result after the run. -/
theorem result_value : (dats m 0 c).arrAt 2 cfg0.N = fun y : S8192x16.Idx =>
    prod (m (c.tc.loc main_arg0) : S8192x4096.Idx → EReal) (m (c.tc.loc main_arg1) : S4096x16400.Idx → EReal)
      (y 0).val (16384 + (y 1).val) := by
  refine (dats m 0 c).arrAt_eq_of_covers 2 _ (by decide +kernel) fun t hf y => ?_
  have hi := (idx_at t).2.2
  blk_simp
  rw [after0_2]
  refine (block_apply m c t _).trans ?_
  rw [hi.1, hi.2, Nat.mul_comm 1024, Nat.zero_mul, Nat.zero_add]

/-- Every execution of the kernel ends with the products as its result, and its arguments unchanged. -/
theorem kernel_value (ρ : Dev nD → PrngReg) :
    θ_run defs (onTc (τ := τ) (main (F := Ideal))) ⟨m, fun _ => 0, ρ⟩ fun r => ∀ c : Dev nD,
      r.2.mem ((c.tc : Thread nD τ).loc main_v1) = (fun y : S8192x16.Idx =>
        prod (m (c.tc.loc main_arg0) : S8192x4096.Idx → EReal) (m (c.tc.loc main_arg1) : S4096x16400.Idx → EReal)
          (y 0).val (16384 + (y 1).val))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_value m c), (h c).2⟩) (Cert.KernelForgetIdeal.Value.run_blocks m ρ)

section Reference

open Cert.ReferenceForgetIdeal.Read

/-- The reference's product, entry by entry. -/
theorem reference_result (X : FVec Ideal Cert.ReferenceForgetIdeal.S8192x4096 .bf16) (W : FVec Ideal Cert.ReferenceForgetIdeal.S4096x16400 .f32) :
    val_main_v2 (F := Ideal) X W = fun y =>
      prod (X : S8192x4096.Idx → EReal) (W : S4096x16400.Idx → EReal) (y 0).val (16384 + (y 1).val) := by
  funext y
  rw [val_main_v2_apply]
  refine Finset.sum_congr rfl fun e _ => ?_
  rw [val_main_v0_apply, val_main_v1_apply]
  exact congrArg₂ (· * ·) (at2_eq _ _ _ _ rfl rfl) (at2_eq _ _ _ _ rfl rfl)

end Reference

/-- The frame of the kernel at bit patterns. -/
theorem frame_kernel : Cert.quiescent_KernelForget (hKernelForget := Cert.KernelForget.Gen.facts) := fun m g _ => Cert.KernelForget.Gen.frame m g

/-- The frame of the idealized kernel. -/
theorem frame_ideal : Cert.quiescent_KernelForgetIdeal (hKernelForgetIdeal := Cert.KernelForgetIdeal.Gen.facts) :=
  fun m g _ => Cert.KernelForgetIdeal.Gen.frame m g

/-- The frame of the reference. -/
theorem frame_reference : Cert.quiescent_ReferenceForgetIdeal (hReferenceForgetIdeal := Cert.ReferenceForgetIdeal.Gen.facts) := fun m g _ =>
  (θ_run Cert.ReferenceForgetIdeal.defs _ _).mono (fun r h => ⟨fun c => (h c).2, sem_eq_zero_of_no_sems (by decide) r.2⟩)
    (Cert.ReferenceForgetIdeal.Value.run m g)

/-- The kernel and the reference leave the same array. -/
theorem algebraic : Cert.algebraic_KernelForgetIdeal_ReferenceForgetIdeal (hKernelForgetIdeal := Cert.KernelForgetIdeal.Gen.facts)
    (hReferenceForgetIdeal := Cert.ReferenceForgetIdeal.Gen.facts) := fun m g m' g' _ hargs =>
  ⟨_, kernel_value m g, (θ_run Cert.ReferenceForgetIdeal.defs _ _).mono (fun _ h c =>
    ⟨(h c).1.trans (((Cert.ReferenceForgetIdeal.Read.val_main_v2_eq _ _).trans (reference_result _ _)).trans (by rw [(hargs c).1, (hargs c).2])), (h c).2⟩)
    (Cert.ReferenceForgetIdeal.Value.run m' g')⟩

end Cert.Proof.Forget

end
-- ==== Proof.BitsOutOddFrame.lean ====
/- The odd layer's output projection at bit patterns: its body runs from any buffers, the launch, the frame. -/
module

public import Idealize.ShloMosaic.Lib.Pipeline.DatRel
public import Idealize.ShloMosaic.Lib.Pipeline.ArrRel
public import Idealize.ShloMosaic.Lib.Claim
public import proofs.«01_k».proof.Proof.BitsOutOddRun

@[expose] public section

set_option maxRecDepth 16384

noncomputable section

namespace Cert.Proof.OutOddBits

open Cert.KernelOutOdd Cert.KernelOutOdd.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel)

variable {F : FTy → Type} [FloatOps F]

local notation "𝕄" => MT nD τ sig Unit (Elt F) ℕ (UR sig nD τ) ℕ

/-- Window 0's staging buffer at point `t`. -/
abbrev ms0 (t : Fin cfg0.N) : Memref sig .tc .vmem S512x4096 .bf16 := win0_0.stage (cfg0.slots t 0)
/-- Window 1's staging buffer at point `t`. -/
abbrev ms1 (t : Fin cfg0.N) : Memref sig .tc .vmem S4096x512 .bf16 := win0_1.stage (cfg0.slots t 1)
/-- Window 2's staging buffer at point `t`. -/
abbrev ms2 (t : Fin cfg0.N) : Memref sig .tc .vmem S512x512 .f32 := win0_2.stage (cfg0.slots t 2)
/-- Window 3's staging buffer at point `t`. -/
abbrev ms3 (t : Fin cfg0.N) : Memref sig .tc .vmem S1x4096 .f32 := win0_3.stage (cfg0.slots t 3)
/-- Window 4's staging buffer at point `t`. -/
abbrev ms4 (t : Fin cfg0.N) : Memref sig .tc .vmem S512x4096 .f32 := win0_4.stage (cfg0.slots t 4)
/-- The scratch. -/
abbrev scM : Memref sig .tc .vmem S512x4096 .f32 := Memref.whole cc0_scratch0

variable (m : (ℓ : Loc nD τ sig) → Buf (Elt F) ℓ) (ρ : Dev nD → PrngReg)

/-- The windows held to a relation alone: the output. -/
def marked : Fin 5 → Bool := fun w => decide (w = 4)

/-- Nothing is said of what the windows hold. -/
def rel (c : Dev nD) : (w : Fin cfg0.W) → Fin cfg0.N → ((cfg0.win w).block.Idx → Elt F (cfg0.win w).elt) → Prop := fun _ _ _ => True

/-- The invariant: the scratch holds anything; the generator register. -/
def inv (c : Dev nD) : sProp 𝕄 :=
  iprop((∃ f : Bf (F := F) c scM, pt c scM f) ∗ ∃ r, prngReg c r)

/-- The proof data: the arrays as the host code leaves them, every input's block in place after the body, the output's
    unnamed; the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Dat.unnamed (cfg := cfg0) ⟨4, h⟩ t
  Φ _ := inv c
  q _ := fullShare
  owed _ := 0

/-- The arrays of the proof data are those the region finds. -/
theorem A_eq (c : Dev nD) (w : Fin cfg0.W) : (dats m 0 c).A w = V m c (Pipeline.arrRef spec0 w) := by
  dsimp only [dats]

/-- What the body leaves in window 0. -/
theorem after0 (c : Dev nD) (t : Fin cfg0.N) : (dats m 0 c).after 0 t = iblk m c 0 t := by dsimp only [dats]
/-- What the body leaves in window 1. -/
theorem after1 (c : Dev nD) (t : Fin cfg0.N) : (dats m 0 c).after 1 t = iblk m c 1 t := by dsimp only [dats]
/-- What the body leaves in window 2. -/
theorem after2 (c : Dev nD) (t : Fin cfg0.N) : (dats m 0 c).after 2 t = iblk m c 2 t := by dsimp only [dats]
/-- What the body leaves in window 3. -/
theorem after3 (c : Dev nD) (t : Fin cfg0.N) : (dats m 0 c).after 3 t = iblk m c 3 t := by dsimp only [dats]
/-- Window 0 holds its block before the body. -/
theorem before0 (c : Dev nD) (t : Fin cfg0.N) (d) : (dats m 0 c).before 0 t d = iblk m c 0 t :=
  before0_0_of m (dats m 0 c) (A_eq m c 0) (after0 m c) t d
/-- Window 1 holds its block before the body. -/
theorem before1 (c : Dev nD) (t : Fin cfg0.N) (d) : (dats m 0 c).before 1 t d = iblk m c 1 t :=
  before0_1_of m (dats m 0 c) (A_eq m c 1) (after1 m c) t d
/-- Window 2 holds its block before the body. -/
theorem before2 (c : Dev nD) (t : Fin cfg0.N) (d) : (dats m 0 c).before 2 t d = iblk m c 2 t :=
  before0_2_of m (dats m 0 c) (A_eq m c 2) (after2 m c) t d
/-- Window 3 holds its block before the body. -/
theorem before3 (c : Dev nD) (t : Fin cfg0.N) (d) : (dats m 0 c).before 3 t d = iblk m c 3 t :=
  before0_3_of m (dats m 0 c) (A_eq m c 3) (after3 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜((dats m 0 c).toRRel marked (rel c)).Finds 4 t Y⌝ ∗ owns (c : Thread nD τ) (st0_4 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, ⌜True⌝ ∗ owns (c : Thread nD τ) (st0_4 t) fullShare X))

/-- The last strip is the one whose point normalises. -/
theorem cond_iff : ∀ t : Fin cfg0.N, k0_cond1 (grid0.coords t) = 1#1 ↔ t.val % 8 = 7 := by decide +kernel
/-- Holding a memref is owning it at what it reads. -/
theorem owns_of_pt (c : Dev nD) {s : Shape} {e : EltTy} (M : Memref sig .tc .vmem s e) (f : Bf (F := F) c M) :
    (pt c M f : sProp 𝕄) ⊢ owns (c : Thread nD τ) M fullShare (M.view.read (Elt F) f) := by
  unfold owns
  iintro H
  iexists _
  isplitr
  swap; · iexact H
  ipureintro
  rfl

/-- The residual's scratch after point `t`. -/
def residAt (c : Dev nD) (t : Fin cfg0.N) (g7 : Bf (F := F) c scM) : Bf (F := F) c scM :=
  residPut c (grid0.coords t) (ms2 t) scM ((ms2 t).view.rep (iblk m c 2 t)) g7

/-- The output buffer after the strip of point `t` is stored. -/
def stripAt (c : Dev nD) (t : Fin cfg0.N) (Y : Vec F S512x4096 .f32) : Bf (F := F) c (ms4 t) :=
  stripPut c (grid0.coords t) (ms0 t) (ms1 t) (ms4 t) ((ms0 t).view.rep (iblk m c 0 t)) ((ms1 t).view.rep (iblk m c 1 t)) ((ms4 t).view.rep Y)

/-- The output buffer after the last point of a row block. -/
def lastAt (c : Dev nD) (t : Fin cfg0.N) (h : t.val % 8 = 7) (Y : Vec F S512x4096 .f32) (g7 : Bf (F := F) c scM) : Bf (F := F) c (ms4 t) :=
  bandsPut c (grid0.coords t) (ms3 t) (ms4 t) scM ((cond_iff t).mpr h) ((ms3 t).view.rep (iblk m c 3 t)) (residAt m c t g7) (stripAt m c t Y) k0_t1_loop.trips

/-- The buffers at point `t`, held whole: the inputs at their blocks, the output and the scratch at given contents. -/
def heldAt (c : Dev nD) (t : Fin cfg0.N) (f6 : Bf (F := F) c (ms4 t)) (f7 : Bf (F := F) c scM) : sProp 𝕄 :=
  iprop(pt c (ms0 t) ((ms0 t).view.rep (iblk m c 0 t)) ∗ pt c (ms1 t) ((ms1 t).view.rep (iblk m c 1 t))
    ∗ pt c (ms2 t) ((ms2 t).view.rep (iblk m c 2 t)) ∗ pt c (ms3 t) ((ms3 t).view.rep (iblk m c 3 t)) ∗ pt c (ms4 t) f6 ∗ pt c scM f7)

/-- The body's run at the last point of a row block. -/
theorem runLast (c : Dev nD) (t : Fin cfg0.N) (h : t.val % 8 = 7) (Y : Vec F S512x4096 .f32) (g7 : Bf (F := F) c scM) :
    heldAt m c t ((ms4 t).view.rep Y) g7
      ⊢ wp frame (wpE (defs₀ (F := F)) Variants.none (c : Thread nD τ) none) Set.univ (bodyAt0 t)
        (fun _ => heldAt m c t (lastAt m c t h Y g7) (residAt m c t g7)) :=
  bodyLast c (grid0.coords t) (ms0 t) (hstage0_0 ((cfg0.slots t 0).cast nbuf0_0)) (ms1 t) (hstage0_1 ((cfg0.slots t 1).cast nbuf0_1))
    (ms2 t) (hstage0_2 ((cfg0.slots t 2).cast nbuf0_2)) (ms3 t) (hstage0_3 ((cfg0.slots t 3).cast nbuf0_3)) (ms4 t) (hstage0_4 ((cfg0.slots t 4).cast nbuf0_4))
    scM (Memref.isWhole_whole _) ((cond_iff t).mpr h) _ _ _ _ _ _

/-- The body's run at the other points. -/
theorem runMid (c : Dev nD) (t : Fin cfg0.N) (h : ¬ t.val % 8 = 7) (Y : Vec F S512x4096 .f32) (g7 : Bf (F := F) c scM) :
    heldAt m c t ((ms4 t).view.rep Y) g7
      ⊢ wp frame (wpE (defs₀ (F := F)) Variants.none (c : Thread nD τ) none) Set.univ (bodyAt0 t)
        (fun _ => heldAt m c t (stripAt m c t Y) (residAt m c t g7)) :=
  bodyMid c (grid0.coords t) (ms0 t) (hstage0_0 ((cfg0.slots t 0).cast nbuf0_0)) (ms1 t) (hstage0_1 ((cfg0.slots t 1).cast nbuf0_1))
    (ms2 t) (hstage0_2 ((cfg0.slots t 2).cast nbuf0_2)) (ms3 t) (hstage0_3 ((cfg0.slots t 3).cast nbuf0_3)) (ms4 t) (hstage0_4 ((cfg0.slots t 4).cast nbuf0_4))
    scM (Memref.isWhole_whole _) (fun h' => h ((cond_iff t).mp h')) _ _ _ _ _ _

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = inv c from rfl, show (dats m 0 c).Φ t.castSucc = inv c from rfl,
    show (dats m 0 c).owesAt () t.succ = (dats m 0 c).owesAt () t.castSucc from rfl,
    after0, after1, after2, after3]
  unfold inv
  iintro ⟨⟨⟨%g7, H7⟩, Hr⟩, Ho, ⟨%d0, H2⟩, ⟨%d1, H3⟩, ⟨%d2, H4⟩, ⟨%d3, H5⟩, ⟨%Y, %hY, H6⟩⟩
  ihave H2' := (rep_of_owns (c : Thread nD τ) (ms0 t) fullShare (iblk m c 0 t)) $$ H2
  ihave H3' := (rep_of_owns (c : Thread nD τ) (ms1 t) fullShare (iblk m c 1 t)) $$ H3
  ihave H4' := (rep_of_owns (c : Thread nD τ) (ms2 t) fullShare (iblk m c 2 t)) $$ H4
  ihave H5' := (rep_of_owns (c : Thread nD τ) (ms3 t) fullShare (iblk m c 3 t)) $$ H5
  ihave H6' := (rep_of_owns (c : Thread nD τ) (ms4 t) fullShare Y) $$ H6
  by_cases h7 : t.val % 8 = 7
  · iapply (wp_wand_r Idealize.ShloMosaic.frame (wpE (defs₀ (F := F)) Variants.none (c : Thread nD τ) none) Set.univ)
    isplitl [H2' H3' H4' H5' H6' H7]
    · iapply (runLast m c t h7 Y g7)
      unfold heldAt
      isplitl [H2']; · iexact H2'
      isplitl [H3']; · iexact H3'
      isplitl [H4']; · iexact H4'
      isplitl [H5']; · iexact H5'
      isplitl [H6']; · iexact H6'
      iexact H7
    · unfold heldAt
      iintro %_ ⟨H2, H3, H4, H5, H6, H7⟩
      isplitl [H7 Hr]
      · isplitl [H7]
        · iexists _
          iexact H7
        · iexact Hr
      isplitl [Ho]; · iexact Ho
      isplitl [H2]; · iapply (owns_of_rep (c : Thread nD τ) (ms0 t) fullShare (iblk m c 0 t)); iexact H2
      isplitl [H3]; · iapply (owns_of_rep (c : Thread nD τ) (ms1 t) fullShare (iblk m c 1 t)); iexact H3
      isplitl [H4]; · iapply (owns_of_rep (c : Thread nD τ) (ms2 t) fullShare (iblk m c 2 t)); iexact H4
      isplitl [H5]; · iapply (owns_of_rep (c : Thread nD τ) (ms3 t) fullShare (iblk m c 3 t)); iexact H5
      iexists _
      isplitr; swap
      · iapply (owns_of_pt c (ms4 t) _); iexact H6
      ipureintro
      trivial
  · iapply (wp_wand_r Idealize.ShloMosaic.frame (wpE (defs₀ (F := F)) Variants.none (c : Thread nD τ) none) Set.univ)
    isplitl [H2' H3' H4' H5' H6' H7]
    · iapply (runMid m c t h7 Y g7)
      unfold heldAt
      isplitl [H2']; · iexact H2'
      isplitl [H3']; · iexact H3'
      isplitl [H4']; · iexact H4'
      isplitl [H5']; · iexact H5'
      isplitl [H6']; · iexact H6'
      iexact H7
    · unfold heldAt
      iintro %_ ⟨H2, H3, H4, H5, H6, H7⟩
      isplitl [H7 Hr]
      · isplitl [H7]
        · iexists _
          iexact H7
        · iexact Hr
      isplitl [Ho]; · iexact Ho
      isplitl [H2]; · iapply (owns_of_rep (c : Thread nD τ) (ms0 t) fullShare (iblk m c 0 t)); iexact H2
      isplitl [H3]; · iapply (owns_of_rep (c : Thread nD τ) (ms1 t) fullShare (iblk m c 1 t)); iexact H3
      isplitl [H4]; · iapply (owns_of_rep (c : Thread nD τ) (ms2 t) fullShare (iblk m c 2 t)); iexact H4
      isplitl [H5]; · iapply (owns_of_rep (c : Thread nD τ) (ms3 t) fullShare (iblk m c 3 t)); iexact H5
      iexists _
      isplitr; swap
      · iapply (owns_of_pt c (ms4 t) _); iexact H6
      ipureintro
      trivial

/-- The body the pipeline calls at point `t`, as it is written above. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligationRel (dats (F := F) m 0 c) (defs₀ (F := F)) Variants.none () Set.univ marked (rel c) := fun t => by
  rw [bigSep_W0, bigSep_W0, defs₀_row]
  exact triple_restated (sound_body m c t) rfl .rfl fun _ => .rfl

/-- Holding a whole buffer is holding the memref of that buffer. -/
theorem whole_pt (c : Dev nD) (f : Bf (F := F) c scM) :
    (((c : Thread nD τ).loc cc0_scratch0) ↦{fullShare} f : sProp 𝕄) = pt c scM f := by
  unfold pt; rw [View.set_whole]

/-- Before the first point the scratch holds anything. -/
theorem inv_in (c : Dev nD) : (Pipeline.ΦA spec0 c : sProp 𝕄) ⊢ (dats m 0 c).Φ 0 := by
  rw [show (dats m 0 c).Φ 0 = inv c from rfl]
  unfold Pipeline.ΦA inv
  rw [scopedRest0_eq]
  iintro ⟨⟨%f, H⟩, Hr⟩
  isplitl [H]
  · iexists f
    ihave H' := (Entails.of_eq (whole_pt c f)) $$ H
    iexact H'
  · iexact Hr

/-- After the last point what the scratch holds is forgotten. -/
theorem inv_out (c : Dev nD) : (dats m 0 c).Φ (Fin.last cfg0.N) ⊢ (Pipeline.ΦA spec0 c : sProp 𝕄) := by
  rw [show (dats m 0 c).Φ (Fin.last cfg0.N) = inv c from rfl]
  unfold Pipeline.ΦA inv
  rw [scopedRest0_eq]
  iintro ⟨⟨%f, H⟩, Hr⟩
  isplitl [H]
  · iexists f
    ihave H' := (Entails.of_eq (whole_pt c f).symm) $$ H
    iexact H'
  · iexact Hr

set_option backward.isDefEq.respectTransparency.types false in
/-- The launch, for proof data held as a variable. -/
theorem run_of (ds : (c : Dev nD) → Dat τ (Elt F) Unit ℕ (UR sig nD τ) ℕ cfg0 c)
    (hbody : ∀ c, BodyObligationRel (ds c) (defs₀ (F := F)) Variants.none () Set.univ marked (rel c))
    (hshare : ∀ c w, (ds c).share w = fullShare) (howed : ∀ c t, (ds c).owed t = 0)
    (hA : ∀ c w, (ds c).A w = V m c (Pipeline.arrRef spec0 w))
    (hin : ∀ c, (Pipeline.ΦA spec0 c : sProp 𝕄) ⊢ (ds c).Φ 0) (hout : ∀ c, (ds c).Φ (Fin.last cfg0.N) ⊢ (Pipeline.ΦA spec0 c : sProp 𝕄)) :
    θ_run defs (onTc (τ := τ) (main (F := F))) (s₀ m ρ)
      (fun r => Pipeline.RDat.FramePost cfg0 (fun c => (ds c).toRRel marked (rel c)) (V m) r ∧ r.2.sem = fun _ => 0) :=
  Pipeline.RDat.θ_run_frame_track (Q' := fun r => Pipeline.RDat.FramePost cfg0 (fun c => (ds c).toRRel marked (rel c)) (V m) r ∧ r.2.sem = fun _ => 0)
    cfgs (0 : Fin 1) launch0 defs₀ Variants.none (fun c => (ds c).toRRel marked (rel c)) m ρ main
    (hbody := fun c => (hbody c).toRRel) (hshare := hshare) (howed := howed) (V := V m) (hmain := hmain m Variants.none)
    (hA := hA) (hin := hin) (hout := hout) (hQ' := fun _ h => h)

/-- Every execution of the program ends, with every other buffer than the result's
    as the region found it, and every semaphore counter at zero. -/
theorem run_main : θ_run defs (onTc (τ := τ) (main (F := F))) (s₀ m ρ)
      (fun r => Pipeline.RDat.FramePost cfg0 (fun c => (dats m 0 c).toRRel marked (rel c)) (V m) r ∧ r.2.sem = fun _ => 0) :=
  run_of m ρ (dats m 0) (body_obligation m) (fun c => (dats m 0 c).share_full fun _ => rfl) (fun _ _ => rfl) (A_eq m) (inv_in m) (inv_out m)

/-- After the run the arguments hold what they held. -/
theorem args_kept (c : Dev nD) (r : PUnit × MemSt nD τ sig (Elt F)) (h : Pipeline.RDat.FramePost cfg0 (fun c => (dats m 0 c).toRRel marked (rel c)) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.arr_in c 0 rfl).trans ((A_eq m c 0).trans (V_main_arg0 m c)),
    (h.arr_in c 1 rfl).trans ((A_eq m c 1).trans (V_main_arg1 m c)),
    (h.arr_in c 2 rfl).trans ((A_eq m c 2).trans (V_main_arg2 m c)),
    ((h c).2 main_arg3 (Pipeline.mem_restRefs_of main_arg3 (by decide) (by decide))).trans (V_main_arg3 m c)⟩

/-- The frame: the program ends, its arguments are unchanged and the counters are zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_kept m c r h.1, h.2⟩) (run_main m ρ)

end Cert.Proof.OutOddBits

end
-- ==== Proof.OutOddRun.lean ====
/- The odd layer's output projection: one run of its body on any buffers, its loop over four bands of rows included. -/
module

public import proofs.«01_k».proof.Defs
public import Idealize.ShloMosaic.Lib.WritesUnit
public import Idealize.ShloMosaic.Lib.Pipeline.TableIdle
public import proofs.«01_k».proof.Proof.Gen.KernelOutOddIdeal
public import proofs.«01_k».proof.Proof.Gen.KernelOutOddIdeal.Launch
public import proofs.«01_k».proof.Proof.Gen.KernelOutOddIdeal.Points
public import proofs.«01_k».proof.Proof.Gen.KernelOutOddIdeal.Frame

@[expose] public section

set_option maxRecDepth 16384

noncomputable section

namespace Cert.Proof.OutOdd

open Cert.KernelOutOddIdeal Cert.KernelOutOddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The contents of a memref's buffer on device `c`. -/
abbrev Bf (c : Dev nD) {sp : Space} {s : Shape} {e : EltTy} (M : Memref sig .tc sp s e) : Type := Buf (Elt F) (M.view.loc (c : Thread nD τ))
/-- A memref held whole, at contents `f`. -/
abbrev pt (c : Dev nD) {sp : Space} {s : Shape} {e : EltTy} (M : Memref sig .tc sp s e) (f : Bf (F := F) c M) : sProp 𝕄 :=
  M.view.loc (c : Thread nD τ) ↦[M.view.set]{fullShare} f

/-- A strip of the product: 512 rows of activations by 512 columns of weights. -/
abbrev strip (a : Vec F S512x4096 .bf16) (w : Vec F S4096x512 .bf16) : Vec F S512x512 .f32 :=
  matmul (φ₁ := .bf16) (φ₂ := .bf16) dot_S512x4096_S4096x512_S512x512_1_0_0_1_n_n none a w (constant S512x512 .f32 0x00000000#32)

/-- The residual rows plus the rows of the product, normalised by their root mean square and scaled. -/
abbrev band (y x : Vec F S128x4096 .f32) (g : Vec F S1x4096 .f32) : Vec F S128x4096 .f32 :=
  addf x (mulf (mulf (shapeCast S128x4096 y shapeCasts_S128x4096_S128x4096)
      (broadcastTo S128x4096 (rsqrt (addf (divf (shapeCast S128x1 (multiReduction .add [1] S128
          (mulf (shapeCast S128x4096 y shapeCasts_S128x4096_S128x4096) (shapeCast S128x4096 y shapeCasts_S128x4096_S128x4096))
          0x00000000#32 reduces_S128x4096_S128 (.inl rfl) rfl) shapeCasts_S128_S128x1)
        (broadcast S128x1 (Scalar.ofBits .f32 0x45800000#32))) (broadcast S128x1 (Scalar.ofBits .f32 0x358637BD#32))))
        broadcasts_S128x1_S128x4096))
    (broadcastTo S128x4096 (shapeCast S1x4096 g shapeCasts_S1x4096_S1x4096) broadcasts_S1x4096_S128x4096))

section
variable (c : Dev nD) (i : grid0.Coords) (arg2 : Memref sig .tc .vmem S512x4096 .bf16) (harg2 : arg2.IsWhole) (arg3 : Memref sig .tc .vmem S4096x512 .bf16) (harg3 : arg3.IsWhole) (arg4 : Memref sig .tc .vmem S512x512 .f32) (harg4 : arg4.IsWhole) (arg5 : Memref sig .tc .vmem S1x4096 .f32) (harg5 : arg5.IsWhole) (arg6 : Memref sig .tc .vmem S512x4096 .f32) (harg6 : arg6.IsWhole) (arg7 : Memref sig .tc .vmem S512x4096 .f32) (harg7 : arg7.IsWhole)

/-- The rectangle of band `k`: 128 whole rows. -/
abbrev bandRect (i : grid0.Coords) (h : k0_cond1 i = 1#1) (k : Fin k0_t1_loop.trips) : Rect S512x4096 :=
  Rect.unit (s := S512x4096) (k0_off2 k) S128x4096.size (k0_off2_inb i k h)

/-- One pass of the loop over the bands. -/
abbrev bandBody (h : k0_cond1 i = 1#1) (k : Fin k0_t1_loop.trips) (_ : PUnit) : Prog (TpuEff nD τ sig (Elt F) Λ₀ .tc) PUnit := do
  let y ← Prog.lift (.load arg6 (bandRect i h k).toLoadRect (View.loadsAt_vmem h_S128x4096))
  let x ← Prog.lift (.load arg7 (bandRect i h k).toLoadRect (View.loadsAt_vmem h_S128x4096))
  let g ← Prog.lift (.load arg5 (Rect.unit (s := S1x4096) ![0, 0] S1x4096.size inb_S1x4096_S1x4096_0_0).toLoadRect (View.loadsAt_vmem h_S1x4096))
  let _ ← Prog.lift (.load arg6 (bandRect i h k).toLoadRect (View.loadsAt_vmem h_S128x4096))
  Prog.lift (.store arg6 (bandRect i h k) (band y x g) Finset.univ (View.stores_vmem_bits_univ h_S128x4096 rfl) (.inl rfl))
  pure ⟨⟩

/-- The output block after one pass of the loop that found it at `f`. -/
abbrev bandPut (h : k0_cond1 i = 1#1) (X5 : Bf (F := F) c arg5) (X7 : Bf (F := F) c arg7) (k : Fin k0_t1_loop.trips) (f : Bf (F := F) c arg6) : Bf (F := F) c arg6 :=
  arg6.view.writes (Elt F) f [⟨bandRect i h k, band (arg6.view.readAt (Elt F) (bandRect i h k).toLoadRect f)
    (arg7.view.readAt (Elt F) (bandRect i h k).toLoadRect X7)
    (arg5.view.readAt (Elt F) (Rect.unit (s := S1x4096) ![0, 0] S1x4096.size inb_S1x4096_S1x4096_0_0).toLoadRect X5)⟩]

/-- The output block after the passes before pass `k`. -/
def bandsPut (h : k0_cond1 i = 1#1) (X5 : Bf (F := F) c arg5) (X7 : Bf (F := F) c arg7) (f : Bf (F := F) c arg6) : ℕ → Bf (F := F) c arg6
  | 0 => f
  | k + 1 => if hk : k < k0_t1_loop.trips then bandPut c i arg5 arg6 arg7 h X5 X7 ⟨k, hk⟩ (bandsPut h X5 X7 f k) else bandsPut h X5 X7 f k

/-- One more pass. -/
theorem bandsPut_succ (h : k0_cond1 i = 1#1) (X5 : Bf (F := F) c arg5) (X7 : Bf (F := F) c arg7) (f : Bf (F := F) c arg6) (k : Fin k0_t1_loop.trips) :
    bandsPut c i arg5 arg6 arg7 h X5 X7 f (k.val + 1) = bandPut c i arg5 arg6 arg7 h X5 X7 k (bandsPut c i arg5 arg6 arg7 h X5 X7 f k.val) := by
  rw [bandsPut.eq_2]; exact dif_pos k.isLt

set_option warn.classDefReducibility false in
/-- The loop over the bands runs, the gains and the residual unchanged, the output block at `bandsPut`. -/
@[sl_loop] def bandLoop (h : k0_cond1 i = 1#1) (X5 : Bf (F := F) c arg5) (X7 : Bf (F := F) c arg7) (f : Bf (F := F) c arg6) :
    LoopInv (M := 𝕄) Idealize.ShloMosaic.frame (wpE (defs₀ (F := F)) Variants.none (c : Thread nD τ) none) Set.univ
      k0_t1_loop.lb k0_t1_loop.ub k0_t1_loop.st (k0_t1_ok i h) (⟨⟩ : PUnit) (bandBody (F := F) i arg5 arg6 arg7 h) where
  inv k _ := iprop(pt c arg5 X5 ∗ pt c arg7 X7 ∗ ∃ f', pt c arg6 f' ∗ ⌜f' = bandsPut c i arg5 arg6 arg7 h X5 X7 f k⌝)
  step k _ := by
    iintro ⟨H5, H7, %f', H6, %hf⟩
    subst hf
    sl_exec
    sl_step
    isplitl [H5]; · iexact H5
    isplitl [H7]; · iexact H7
    iexists _
    isplitl [H6]; · iexact H6
    ipureintro
    rw [bandsPut_succ]

/-- The output block after the strip of the product is stored into it. -/
abbrev stripPut (X2 : Bf (F := F) c arg2) (X3 : Bf (F := F) c arg3) (G6 : Bf (F := F) c arg6) : Bf (F := F) c arg6 :=
  arg6.view.writes (Elt F) G6 [⟨Rect.unit (s := S512x4096) (k0_off1 i) S512x512.size (k0_off1_inb i),
    strip (arg2.view.readAt (Elt F) (Rect.unit (s := S512x4096) ![0, 0] S512x4096.size inb_S512x4096_S512x4096_0_0).toLoadRect X2)
      (arg3.view.readAt (Elt F) (Rect.unit (s := S4096x512) ![0, 0] S4096x512.size inb_S4096x512_S4096x512_0_0).toLoadRect X3)⟩]

/-- The scratch after the strip of the residual is stored into it. -/
abbrev residPut (X4 : Bf (F := F) c arg4) (G7 : Bf (F := F) c arg7) : Bf (F := F) c arg7 :=
  arg7.view.writes (Elt F) G7 [⟨Rect.unit (s := S512x4096) (k0_off1 i) S512x512.size (k0_off1_inb i),
    shapeCast S512x512 (arg4.view.readAt (Elt F) (Rect.unit (s := S512x512) ![0, 0] S512x512.size inb_S512x512_S512x512_0_0).toLoadRect X4) shapeCasts_S512x512_S512x512⟩]

/-- The body before the last strip: it stores its strips into the output block and the scratch. -/
theorem bodyMid (h : ¬ k0_cond1 i = 1#1) (X2 : Bf (F := F) c arg2) (X3 : Bf (F := F) c arg3) (X4 : Bf (F := F) c arg4) (X5 : Bf (F := F) c arg5)
    (G6 : Bf (F := F) c arg6) (G7 : Bf (F := F) c arg7) :
    iprop(pt c arg2 X2 ∗ pt c arg3 X3 ∗ pt c arg4 X4 ∗ pt c arg5 X5 ∗ pt c arg6 G6 ∗ pt c arg7 G7)
    ⊢ wp frame (wpE (defs₀ (F := F)) Variants.none (c : Thread nD τ) none) Set.univ (cc0_out_proj_norm_odd (F := F) i arg2 harg2 arg3 harg3 arg4 harg4 arg5 harg5 arg6 harg6 arg7 harg7)
        (fun _ => iprop(pt c arg2 X2 ∗ pt c arg3 X3 ∗ pt c arg4 X4 ∗ pt c arg5 X5
          ∗ pt c arg6 (stripPut c i arg2 arg3 arg6 X2 X3 G6) ∗ pt c arg7 (residPut c i arg4 arg7 X4 G7))) := by
  unfold cc0_out_proj_norm_odd
  iintro ⟨H2, H3, H4, H5, H6, H7⟩
  sl_exec
  sl_step
  sl_close

/-- The body at the last strip: after its strips it normalises the output block band by band. -/
theorem bodyLast (h : k0_cond1 i = 1#1) (X2 : Bf (F := F) c arg2) (X3 : Bf (F := F) c arg3) (X4 : Bf (F := F) c arg4) (X5 : Bf (F := F) c arg5)
    (G6 : Bf (F := F) c arg6) (G7 : Bf (F := F) c arg7) :
    iprop(pt c arg2 X2 ∗ pt c arg3 X3 ∗ pt c arg4 X4 ∗ pt c arg5 X5 ∗ pt c arg6 G6 ∗ pt c arg7 G7)
    ⊢ wp frame (wpE (defs₀ (F := F)) Variants.none (c : Thread nD τ) none) Set.univ (cc0_out_proj_norm_odd (F := F) i arg2 harg2 arg3 harg3 arg4 harg4 arg5 harg5 arg6 harg6 arg7 harg7)
        (fun _ => iprop(pt c arg2 X2 ∗ pt c arg3 X3 ∗ pt c arg4 X4 ∗ pt c arg5 X5
          ∗ pt c arg6 (bandsPut c i arg5 arg6 arg7 h X5 (residPut c i arg4 arg7 X4 G7) (stripPut c i arg2 arg3 arg6 X2 X3 G6) k0_t1_loop.trips)
          ∗ pt c arg7 (residPut c i arg4 arg7 X4 G7))) := by
  unfold cc0_out_proj_norm_odd
  iintro ⟨H2, H3, H4, H5, H6, H7⟩
  sl_exec
  sl_step
  sl_close

end

end Cert.Proof.OutOdd

end
-- ==== Proof.OutOddCover.lean ====
/- The odd layer's output projection: what the strips and the bands leave in a block, read entry by entry. -/
module

public import Idealize.ShloMosaic.Lib.VecWindow
public import Idealize.ShloMosaic.Lib.Pointwise.Index
public import proofs.«01_k».proof.Proof.OutOddRun

@[expose] public section

set_option maxRecDepth 16384

noncomputable section

namespace Cert.Proof.OutOdd

open Cert.KernelOutOddIdeal Cert.KernelOutOddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The 128 rows of a block from row `128 k` on. -/
def rowsOf (Y : Vec F S512x4096 .f32) (k : ℕ) : Vec F S128x4096 .f32 := fun x =>
  Y (ix2 ⟨(128 * k + (x 0).val) % 512, Nat.mod_lt _ (by decide)⟩ (x 1))

/-- A whole block normalised: each band of 128 rows by itself. -/
def normed (Y Z : Vec F S512x4096 .f32) (g : Vec F S1x4096 .f32) : Vec F S512x4096 .f32 := fun y =>
  band (rowsOf Y ((y 0).val / 128)) (rowsOf Z ((y 0).val / 128)) g (ix2 ⟨(y 0).val % 128, Nat.mod_lt _ (by decide)⟩ (y 1))

/-- Strip `j` of a block: its 512 columns from column `512 j` on. -/
def stripOf (Z : Vec F S512x4096 .f32) (j : ℕ) : Vec F S512x512 .f32 := fun x =>
  Z (ix2 (x 0) ⟨(512 * j + (x 1).val) % 4096, Nat.mod_lt _ (by decide)⟩)

/-- If a block holds `Z` in its first `j` strips, then with `Z`'s strip `j` stored it holds `Z` in its first `j + 1`. -/
theorem upto_strip (M : Memref sig .tc .vmem S512x4096 .f32) (c : Dev nD) (f : Bf (F := F) c M) (Z : Vec F S512x4096 .f32) (j : ℕ)
    (off : Fin 2 → ℕ) (inb : ∀ a, off a + S512x512.size a ≤ S512x4096.size a) (hoff : off = ![0, 512 * j])
    (hf : ∀ y : S512x4096.Idx, (y 1).val < 512 * j → M.view.read (Elt F) f y = Z y) (y : S512x4096.Idx) (hy : (y 1).val < 512 * (j + 1)) :
    M.view.read (Elt F) (M.view.writes (Elt F) f [⟨Rect.unit (s := S512x4096) off S512x512.size inb, stripOf Z j⟩]) y = Z y := by
  have h0 : (y 0).val < 512 := (y 0).isLt
  have h1 : (y 1).val < 4096 := (y 1).isLt
  by_cases h : (y 1).val < 512 * j
  · refine (View.read_writes_cons_unit_of_not_mem (v := M.view) f inb _ [] y hoff (1 : Fin 2) (Or.inl h)).trans ?_
    exact hf y h
  · refine (View.read_writes_cons_unit_of_mem (v := M.view) f inb _ [] y (ix2 (y 0) (⟨(y 1).val - 512 * j, by omega⟩ : Fin 512)) hoff ?_).trans ?_
    · intro a
      match a with
      | ⟨0, _⟩ => exact (Nat.zero_add _).symm
      | ⟨1, _⟩ => show (y 1).val = 512 * j + ((y 1).val - 512 * j); omega
    · refine congrArg Z (funext fun a => Fin.ext ?_)
      match a with
      | ⟨0, _⟩ => rfl
      | ⟨1, _⟩ => show (512 * j + ((y 1).val - 512 * j)) % 4096 = (y 1).val; omega

/-- A load of band `k` reads 128 rows of the block. -/
theorem readAt_band (M : Memref sig .tc .vmem S512x4096 .f32) (c : Dev nD) (f : Bf (F := F) c M) (Y : Vec F S512x4096 .f32)
    (k : ℕ) (hk : k < 4) (off : Fin 2 → ℕ) (inb : ∀ a, off a + S128x4096.size a ≤ S512x4096.size a) (hoff : off = ![128 * k, 0])
    (hf : ∀ y : S512x4096.Idx, 128 * k ≤ (y 0).val → M.view.read (Elt F) f y = Y y) :
    M.view.readAt (Elt F) (Rect.unit (s := S512x4096) off S128x4096.size inb).toLoadRect f = rowsOf Y k := by
  subst hoff
  funext x
  have h0 : (x 0).val < 128 := (x 0).isLt
  rw [View.readAt_apply]
  refine (hf _ (by show 128 * k ≤ 128 * k + 1 * (x 0).val; omega)).trans (congrArg Y (funext fun a => Fin.ext ?_))
  match a with
  | ⟨0, _⟩ => show 128 * k + 1 * (x 0).val = (128 * k + (x 0).val) % 512; omega
  | ⟨1, _⟩ => show 0 + 1 * (x 1).val = (x 1).val; omega

section
variable (c : Dev nD) (i : grid0.Coords) (arg5 : Memref sig .tc .vmem S1x4096 .f32) (arg6 : Memref sig .tc .vmem S512x4096 .f32) (arg7 : Memref sig .tc .vmem S512x4096 .f32)

/-- After the first `k` passes the first `128 k` rows are normalised and the others are as the loop found them. -/
theorem read_bandsPut (h : k0_cond1 i = 1#1) (g : Vec F S1x4096 .f32) (X7 : Bf (F := F) c arg7) (f : Bf (F := F) c arg6) (Y Z : Vec F S512x4096 .f32)
    (hY : ∀ y, arg6.view.read (Elt F) f y = Y y) (hZ : ∀ y, arg7.view.read (Elt F) X7 y = Z y) (k : ℕ) (hk : k ≤ 4) (y : S512x4096.Idx) :
    arg6.view.read (Elt F) (bandsPut c i arg5 arg6 arg7 h (arg5.view.rep g) X7 f k) y = if (y 0).val < 128 * k then normed Y Z g y else Y y := by
  induction k generalizing y with
  | zero => rw [if_neg (by omega)]; exact hY y
  | succ k ih =>
    have hk4 : k < 4 := by omega
    rw [bandsPut_succ c i arg5 arg6 arg7 h (arg5.view.rep g) X7 f ⟨k, hk4⟩]
    unfold bandPut
    rw [readAt_band arg6 c _ Y k hk4 _ _ (k0_off2_eq ⟨k, hk4⟩) (fun y hy => by rw [ih (by omega) y, if_neg (by omega)]),
      readAt_band arg7 c X7 Z k hk4 _ _ (k0_off2_eq ⟨k, hk4⟩) (fun y _ => hZ y), View.readAt_rep_full]
    have h0 : (y 0).val < 512 := (y 0).isLt
    by_cases ha : (y 0).val < 128 * k
    · refine (View.read_writes_cons_unit_of_not_mem (v := arg6.view) _ _ _ [] y (k0_off2_eq ⟨k, hk4⟩) (0 : Fin 2) (Or.inl ha)).trans ?_
      rw [View.writes_nil, ih (by omega) y, if_pos ha, if_pos (by omega)]
    by_cases hb : (y 0).val < 128 * (k + 1)
    · refine (View.read_writes_cons_unit_of_mem (v := arg6.view) _ _ _ [] y (ix2 (⟨(y 0).val - 128 * k, by omega⟩ : Fin 128) (y 1)) (k0_off2_eq ⟨k, hk4⟩) ?_).trans ?_
      · intro a
        match a with
        | ⟨0, _⟩ => show (y 0).val = 128 * k + ((y 0).val - 128 * k); omega
        | ⟨1, _⟩ => exact (Nat.zero_add _).symm
      · rw [if_pos hb]
        unfold normed
        rw [show (y 0).val / 128 = k by omega]
        refine congrArg (band (rowsOf Y k) (rowsOf Z k) g) (funext fun a => Fin.ext ?_)
        match a with
        | ⟨0, _⟩ => show (y 0).val - 128 * k = (y 0).val % 128; omega
        | ⟨1, _⟩ => rfl
    · refine (View.read_writes_cons_unit_of_not_mem (v := arg6.view) _ _ _ [] y (k0_off2_eq ⟨k, hk4⟩) (0 : Fin 2) (Or.inr (by show 128 * k + 128 ≤ (y 0).val; omega))).trans ?_
      rw [View.writes_nil, ih (by omega) y, if_neg ha, if_neg hb]

/-- The loop runs four times. -/
theorem trips_eq : k0_t1_loop.trips = 4 := by decide

/-- After the loop the whole block is normalised. -/
theorem read_bands (h : k0_cond1 i = 1#1) (g : Vec F S1x4096 .f32) (X7 : Bf (F := F) c arg7) (f : Bf (F := F) c arg6) (Y Z : Vec F S512x4096 .f32)
    (hY : ∀ y, arg6.view.read (Elt F) f y = Y y) (hZ : ∀ y, arg7.view.read (Elt F) X7 y = Z y) (y : S512x4096.Idx) :
    arg6.view.read (Elt F) (bandsPut c i arg5 arg6 arg7 h (arg5.view.rep g) X7 f k0_t1_loop.trips) y = normed Y Z g y := by
  have h0 : (y 0).val < 512 := (y 0).isLt
  rw [trips_eq, read_bandsPut c i arg5 arg6 arg7 h g X7 f Y Z hY hZ 4 (le_refl _) y, if_pos (by omega)]

end

end Cert.Proof.OutOdd

end
-- ==== Proof.OutOddFrame.lean ====
/- The odd layer's output projection: what the output block and the scratch hold between grid points, the launch, the frame. -/
module

public import Idealize.ShloMosaic.Lib.Pipeline.DatRel
public import Idealize.ShloMosaic.Lib.Pipeline.ArrRel
public import Idealize.ShloMosaic.Lib.Claim
public import proofs.«01_k».proof.Proof.OutOddCover

@[expose] public section

set_option maxRecDepth 16384

noncomputable section

namespace Cert.Proof.OutOdd

open Cert.KernelOutOddIdeal Cert.KernelOutOddIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationRel)

variable {F : FTy → Type} [FloatOps F] [Named F]

local notation "𝕄" => MT nD τ sig Unit (Elt F) ℕ (UR sig nD τ) ℕ

/-- Window 0's staging buffer at point `t`. -/
abbrev ms0 (t : Fin cfg0.N) : Memref sig .tc .vmem S512x4096 .bf16 := win0_0.stage (cfg0.slots t 0)
/-- Window 1's staging buffer at point `t`. -/
abbrev ms1 (t : Fin cfg0.N) : Memref sig .tc .vmem S4096x512 .bf16 := win0_1.stage (cfg0.slots t 1)
/-- Window 2's staging buffer at point `t`. -/
abbrev ms2 (t : Fin cfg0.N) : Memref sig .tc .vmem S512x512 .f32 := win0_2.stage (cfg0.slots t 2)
/-- Window 3's staging buffer at point `t`. -/
abbrev ms3 (t : Fin cfg0.N) : Memref sig .tc .vmem S1x4096 .f32 := win0_3.stage (cfg0.slots t 3)
/-- Window 4's staging buffer at point `t`. -/
abbrev ms4 (t : Fin cfg0.N) : Memref sig .tc .vmem S512x4096 .f32 := win0_4.stage (cfg0.slots t 4)
/-- The scratch. -/
abbrev scM : Memref sig .tc .vmem S512x4096 .f32 := Memref.whole cc0_scratch0

variable (m : (ℓ : Loc nD τ sig) → Buf (Elt F) ℓ) (ρ : Dev nD → PrngReg)

/-- The grid point of strip `j` of row block `b`. -/
def ptOf (b j : ℕ) : Fin cfg0.N := ⟨(8 * b + j % 8) % 128, Nat.mod_lt _ (by decide)⟩

/-- A grid point is the one of its own row block and strip. -/
theorem ptOf_self (t : Fin cfg0.N) : ptOf (t.val / 8) (t.val % 8) = t :=
  Fin.ext (by have ht : t.val < 128 := t.isLt; show (8 * (t.val / 8) + t.val % 8 % 8) % 128 = t.val; omega)

/-- The product's rows of row block `b`, strip by strip. -/
def prodBlk (c : Dev nD) (b : ℕ) : Vec F S512x4096 .f32 := fun y =>
  strip (iblk m c 0 (ptOf b ((y 1).val / 512))) (iblk m c 1 (ptOf b ((y 1).val / 512)))
    (ix2 (y 0) (⟨(y 1).val % 512, Nat.mod_lt _ (by decide)⟩ : Fin 512))

/-- The residual's rows of row block `b`, strip by strip. -/
def residBlk (c : Dev nD) (b : ℕ) : Vec F S512x4096 .f32 := fun y =>
  (iblk m c 2 (ptOf b ((y 1).val / 512)) : Vec F S512x512 .f32)
    (ix2 (y 0) (⟨(y 1).val % 512, Nat.mod_lt _ (by decide)⟩ : Fin 512))

/-- The strip stored at point `t` is that strip of the product's rows. -/
theorem stripOf_prodBlk (c : Dev nD) (t : Fin cfg0.N) :
    stripOf (prodBlk m c (t.val / 8)) (t.val % 8) = strip (iblk m c 0 t) (iblk m c 1 t) := by
  funext x
  have h1 : (x 1).val < 512 := (x 1).isLt
  have e1 : (512 * (t.val % 8) + (x 1).val) % 4096 / 512 = t.val % 8 := by omega
  have e2 : (512 * (t.val % 8) + (x 1).val) % 4096 % 512 = (x 1).val := by omega
  show strip (iblk m c 0 (ptOf (t.val / 8) ((512 * (t.val % 8) + (x 1).val) % 4096 / 512)))
    (iblk m c 1 (ptOf (t.val / 8) ((512 * (t.val % 8) + (x 1).val) % 4096 / 512))) _ = _
  rw [e1, ptOf_self]
  refine congrArg (strip (iblk m c 0 t) (iblk m c 1 t)) (funext fun a => Fin.ext ?_)
  match a with
  | ⟨0, _⟩ => rfl
  | ⟨1, _⟩ => exact e2

/-- The strip stored at point `t` is that strip of the residual's rows. -/
theorem stripOf_residBlk (c : Dev nD) (t : Fin cfg0.N) :
    stripOf (residBlk m c (t.val / 8)) (t.val % 8) = (iblk m c 2 t : Vec F S512x512 .f32) := by
  funext x
  have h1 : (x 1).val < 512 := (x 1).isLt
  have e1 : (512 * (t.val % 8) + (x 1).val) % 4096 / 512 = t.val % 8 := by omega
  have e2 : (512 * (t.val % 8) + (x 1).val) % 4096 % 512 = (x 1).val := by omega
  show (iblk m c 2 (ptOf (t.val / 8) ((512 * (t.val % 8) + (x 1).val) % 4096 / 512)) : Vec F S512x512 .f32) _ = _
  rw [e1, ptOf_self]
  refine congrArg (iblk m c 2 t : Vec F S512x512 .f32) (funext fun a => Fin.ext ?_)
  match a with
  | ⟨0, _⟩ => rfl
  | ⟨1, _⟩ => exact e2

/-- What the body leaves in the output block at point `t`: before the last strip, the product's strips so far; at the last,
    the normalised block. -/
def outRel (c : Dev nD) (t : Fin cfg0.N) (X : Vec F S512x4096 .f32) : Prop :=
  (t.val % 8 ≠ 7 → ∀ y : S512x4096.Idx, (y 1).val < 512 * (t.val % 8 + 1) → X y = prodBlk m c (t.val / 8) y)
  ∧ (t.val % 8 = 7 → ∀ y : S512x4096.Idx, X y = normed (prodBlk m c (t.val / 8)) (residBlk m c (t.val / 8)) (iblk m c 3 t) y)

/-- The windows held to a relation alone: the output. -/
def marked : Fin 5 → Bool := fun w => decide (w = 4)

/-- The relation: `outRel` of the output, nothing of the others. -/
def rel (c : Dev nD) : (w : Fin cfg0.W) → Fin cfg0.N → ((cfg0.win w).block.Idx → Elt F (cfg0.win w).elt) → Prop
  | ⟨4, _⟩, t, X => outRel m c t X
  | _, _, _ => True

/-- The invariant before point `n`: the scratch holds the residual's strips of the row block so far; the generator register. -/
def inv (c : Dev nD) (n : ℕ) : sProp 𝕄 :=
  iprop((∃ f : Bf (F := F) c scM, pt c scM f ∗ ⌜∀ y : S512x4096.Idx, (y 1).val < 512 * (n % 8) → scM.view.read (Elt F) f y = residBlk m c (n / 8) y⌝)
    ∗ ∃ r, prngReg c r)

/-- The proof data: the arrays as the host code leaves them, every input's block in place after the body, the output's
    unnamed; the invariant above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Dat.unnamed (cfg := cfg0) ⟨4, h⟩ t
  Φ n := inv m c n.val
  q _ := fullShare
  owed _ := 0

/-- The arrays of the proof data are those the region finds. -/
theorem A_eq (c : Dev nD) (w : Fin cfg0.W) : (dats m 0 c).A w = V m c (Pipeline.arrRef spec0 w) := by
  dsimp only [dats]

/-- What the body leaves in window 0. -/
theorem after0 (c : Dev nD) (t : Fin cfg0.N) : (dats m 0 c).after 0 t = iblk m c 0 t := by dsimp only [dats]
/-- What the body leaves in window 1. -/
theorem after1 (c : Dev nD) (t : Fin cfg0.N) : (dats m 0 c).after 1 t = iblk m c 1 t := by dsimp only [dats]
/-- What the body leaves in window 2. -/
theorem after2 (c : Dev nD) (t : Fin cfg0.N) : (dats m 0 c).after 2 t = iblk m c 2 t := by dsimp only [dats]
/-- What the body leaves in window 3. -/
theorem after3 (c : Dev nD) (t : Fin cfg0.N) : (dats m 0 c).after 3 t = iblk m c 3 t := by dsimp only [dats]
/-- Window 0 holds its block before the body. -/
theorem before0 (c : Dev nD) (t : Fin cfg0.N) (d) : (dats m 0 c).before 0 t d = iblk m c 0 t :=
  before0_0_of m (dats m 0 c) (A_eq m c 0) (after0 m c) t d
/-- Window 1 holds its block before the body. -/
theorem before1 (c : Dev nD) (t : Fin cfg0.N) (d) : (dats m 0 c).before 1 t d = iblk m c 1 t :=
  before0_1_of m (dats m 0 c) (A_eq m c 1) (after1 m c) t d
/-- Window 2 holds its block before the body. -/
theorem before2 (c : Dev nD) (t : Fin cfg0.N) (d) : (dats m 0 c).before 2 t d = iblk m c 2 t :=
  before0_2_of m (dats m 0 c) (A_eq m c 2) (after2 m c) t d
/-- Window 3 holds its block before the body. -/
theorem before3 (c : Dev nD) (t : Fin cfg0.N) (d) : (dats m 0 c).before 3 t d = iblk m c 3 t :=
  before0_3_of m (dats m 0 c) (A_eq m c 3) (after3 m c) t d

/-- What the output block may hold before the body: after the first strip, what the previous point left. -/
theorem found (c : Dev nD) (t : Fin cfg0.N) (Y : Vec F S512x4096 .f32) (hY : ((dats m 0 c).toRRel marked (rel m c)).Finds 4 t Y) :
    ∀ y : S512x4096.Idx, (y 1).val < 512 * (t.val % 8) → Y y = prodBlk m c (t.val / 8) y := by
  intro y hy
  have hN : t.val < 128 := t.isLt
  have h0 : t.val ≠ 0 := fun h => by rw [h] at hy; exact absurd hy (Nat.not_lt_zero _)
  have hp : t.val % 8 ≠ 0 := fun h => by rw [h] at hy; exact absurd hy (Nat.not_lt_zero _)
  rcases (((dats m 0 c).toRRel marked (rel m c)).finds_of_pos (w := 4) rfl h0 Y).mp hY with h | h
  · exact absurd ((flush0_4 _).mp h) (by show (t.val - 1) % 8 ≠ 7; omega)
  · have hr : outRel m c ⟨t.val - 1, Nat.lt_of_le_of_lt (Nat.sub_le _ _) t.isLt⟩ Y := Dat.toRRel_leaves (dats m 0 c) (fgt := marked) (Rl := rel m c) (w := 4) rfl h
    have e1 : (t.val - 1) / 8 = t.val / 8 := by omega
    have e2 : (t.val - 1) % 8 + 1 = t.val % 8 := by omega
    have := hr.1 (by show (t.val - 1) % 8 ≠ 7; omega) y (by show (y 1).val < 512 * ((t.val - 1) % 8 + 1); rw [e2]; exact hy)
    rw [this]
    exact congrFun (congrArg (prodBlk m c) e1) y

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ Y, ⌜((dats m 0 c).toRRel marked (rel m c)).Finds 4 t Y⌝ ∗ owns (c : Thread nD τ) (st0_4 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ X, ⌜outRel m c t X⌝ ∗ owns (c : Thread nD τ) (st0_4 t) fullShare X))

/-- The last strip is the one whose point normalises. -/
theorem cond_iff : ∀ t : Fin cfg0.N, k0_cond1 (grid0.coords t) = 1#1 ↔ t.val % 8 = 7 := by decide +kernel
/-- Where a point's strip lies. -/
theorem off_at : ∀ t : Fin cfg0.N, k0_off1 (grid0.coords t) = ![0, 512 * (t.val % 8)] := by decide +kernel

/-- Holding a memref is owning it at what it reads. -/
theorem owns_of_pt (c : Dev nD) {s : Shape} {e : EltTy} (M : Memref sig .tc .vmem s e) (f : Bf (F := F) c M) :
    (pt c M f : sProp 𝕄) ⊢ owns (c : Thread nD τ) M fullShare (M.view.read (Elt F) f) := by
  unfold owns
  iintro H
  iexists _
  isplitr
  swap; · iexact H
  ipureintro
  rfl

/-- The product's strips after the body's store. -/
theorem strips_out (c : Dev nD) (t : Fin cfg0.N) (Y : Vec F S512x4096 .f32) (hY : ((dats m 0 c).toRRel marked (rel m c)).Finds 4 t Y)
    (y : S512x4096.Idx) (hy : (y 1).val < 512 * (t.val % 8 + 1)) :
    (ms4 t).view.read (Elt F) (stripPut c (grid0.coords t) (ms0 t) (ms1 t) (ms4 t) ((ms0 t).view.rep (iblk m c 0 t)) ((ms1 t).view.rep (iblk m c 1 t)) ((ms4 t).view.rep Y)) y
      = prodBlk m c (t.val / 8) y := by
  unfold stripPut
  rw [View.readAt_rep_full, View.readAt_rep_full, ← stripOf_prodBlk m c t]
  exact upto_strip (ms4 t) c _ _ (t.val % 8) _ _ (off_at t) (fun y hy => by rw [View.read_rep]; exact found m c t Y hY y hy) y hy

/-- The residual's strips after the body's store. -/
theorem strips_resid (c : Dev nD) (t : Fin cfg0.N) (f : Bf (F := F) c scM)
    (hf : ∀ y : S512x4096.Idx, (y 1).val < 512 * (t.val % 8) → scM.view.read (Elt F) f y = residBlk m c (t.val / 8) y)
    (y : S512x4096.Idx) (hy : (y 1).val < 512 * (t.val % 8 + 1)) :
    scM.view.read (Elt F) (residPut c (grid0.coords t) (ms2 t) scM ((ms2 t).view.rep (iblk m c 2 t)) f) y = residBlk m c (t.val / 8) y := by
  unfold residPut
  rw [View.readAt_rep_full, show shapeCast S512x512 (iblk m c 2 t : Vec F S512x512 .f32) shapeCasts_S512x512_S512x512 = stripOf (residBlk m c (t.val / 8)) (t.val % 8) from
    (shapeCast_self _ _).trans (stripOf_residBlk m c t).symm]
  exact upto_strip scM c _ _ (t.val % 8) _ _ (off_at t) hf y hy

/-- The residual's scratch after point `t`. -/
def residAt (c : Dev nD) (t : Fin cfg0.N) (g7 : Bf (F := F) c scM) : Bf (F := F) c scM :=
  residPut c (grid0.coords t) (ms2 t) scM ((ms2 t).view.rep (iblk m c 2 t)) g7

/-- The output buffer after the strip of point `t` is stored. -/
def stripAt (c : Dev nD) (t : Fin cfg0.N) (Y : Vec F S512x4096 .f32) : Bf (F := F) c (ms4 t) :=
  stripPut c (grid0.coords t) (ms0 t) (ms1 t) (ms4 t) ((ms0 t).view.rep (iblk m c 0 t)) ((ms1 t).view.rep (iblk m c 1 t)) ((ms4 t).view.rep Y)

/-- The output buffer after the last point of a row block. -/
def lastAt (c : Dev nD) (t : Fin cfg0.N) (h : t.val % 8 = 7) (Y : Vec F S512x4096 .f32) (g7 : Bf (F := F) c scM) : Bf (F := F) c (ms4 t) :=
  bandsPut c (grid0.coords t) (ms3 t) (ms4 t) scM ((cond_iff t).mpr h) ((ms3 t).view.rep (iblk m c 3 t)) (residAt m c t g7) (stripAt m c t Y) k0_t1_loop.trips

/-- The buffers at point `t`, held whole: the inputs at their blocks, the output and the scratch at given contents. -/
def heldAt (c : Dev nD) (t : Fin cfg0.N) (f6 : Bf (F := F) c (ms4 t)) (f7 : Bf (F := F) c scM) : sProp 𝕄 :=
  iprop(pt c (ms0 t) ((ms0 t).view.rep (iblk m c 0 t)) ∗ pt c (ms1 t) ((ms1 t).view.rep (iblk m c 1 t))
    ∗ pt c (ms2 t) ((ms2 t).view.rep (iblk m c 2 t)) ∗ pt c (ms3 t) ((ms3 t).view.rep (iblk m c 3 t)) ∗ pt c (ms4 t) f6 ∗ pt c scM f7)

/-- The body's run at the last point of a row block. -/
theorem runLast (c : Dev nD) (t : Fin cfg0.N) (h : t.val % 8 = 7) (Y : Vec F S512x4096 .f32) (g7 : Bf (F := F) c scM) :
    heldAt m c t ((ms4 t).view.rep Y) g7
      ⊢ wp frame (wpE (defs₀ (F := F)) Variants.none (c : Thread nD τ) none) Set.univ (bodyAt0 t)
        (fun _ => heldAt m c t (lastAt m c t h Y g7) (residAt m c t g7)) :=
  bodyLast c (grid0.coords t) (ms0 t) (hstage0_0 ((cfg0.slots t 0).cast nbuf0_0)) (ms1 t) (hstage0_1 ((cfg0.slots t 1).cast nbuf0_1))
    (ms2 t) (hstage0_2 ((cfg0.slots t 2).cast nbuf0_2)) (ms3 t) (hstage0_3 ((cfg0.slots t 3).cast nbuf0_3)) (ms4 t) (hstage0_4 ((cfg0.slots t 4).cast nbuf0_4))
    scM (Memref.isWhole_whole _) ((cond_iff t).mpr h) _ _ _ _ _ _

/-- The body's run at the other points. -/
theorem runMid (c : Dev nD) (t : Fin cfg0.N) (h : ¬ t.val % 8 = 7) (Y : Vec F S512x4096 .f32) (g7 : Bf (F := F) c scM) :
    heldAt m c t ((ms4 t).view.rep Y) g7
      ⊢ wp frame (wpE (defs₀ (F := F)) Variants.none (c : Thread nD τ) none) Set.univ (bodyAt0 t)
        (fun _ => heldAt m c t (stripAt m c t Y) (residAt m c t g7)) :=
  bodyMid c (grid0.coords t) (ms0 t) (hstage0_0 ((cfg0.slots t 0).cast nbuf0_0)) (ms1 t) (hstage0_1 ((cfg0.slots t 1).cast nbuf0_1))
    (ms2 t) (hstage0_2 ((cfg0.slots t 2).cast nbuf0_2)) (ms3 t) (hstage0_3 ((cfg0.slots t 3).cast nbuf0_3)) (ms4 t) (hstage0_4 ((cfg0.slots t 4).cast nbuf0_4))
    scM (Memref.isWhole_whole _) (fun h' => h ((cond_iff t).mp h')) _ _ _ _ _ _

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = inv m c (t.val + 1) from rfl, show (dats m 0 c).Φ t.castSucc = inv m c t.val from rfl,
    show (dats m 0 c).owesAt () t.succ = (dats m 0 c).owesAt () t.castSucc from rfl,
    after0, after1, after2, after3]
  unfold inv
  iintro ⟨⟨⟨%g7, H7, %hg⟩, Hr⟩, Ho, ⟨%d0, H2⟩, ⟨%d1, H3⟩, ⟨%d2, H4⟩, ⟨%d3, H5⟩, ⟨%Y, %hY, H6⟩⟩
  ihave H2' := (rep_of_owns (c : Thread nD τ) (ms0 t) fullShare (iblk m c 0 t)) $$ H2
  ihave H3' := (rep_of_owns (c : Thread nD τ) (ms1 t) fullShare (iblk m c 1 t)) $$ H3
  ihave H4' := (rep_of_owns (c : Thread nD τ) (ms2 t) fullShare (iblk m c 2 t)) $$ H4
  ihave H5' := (rep_of_owns (c : Thread nD τ) (ms3 t) fullShare (iblk m c 3 t)) $$ H5
  ihave H6' := (rep_of_owns (c : Thread nD τ) (ms4 t) fullShare Y) $$ H6
  by_cases h7 : t.val % 8 = 7
  · iapply (wp_wand_r Idealize.ShloMosaic.frame (wpE (defs₀ (F := F)) Variants.none (c : Thread nD τ) none) Set.univ)
    isplitl [H2' H3' H4' H5' H6' H7]
    · iapply (runLast m c t h7 Y g7)
      unfold heldAt
      isplitl [H2']; · iexact H2'
      isplitl [H3']; · iexact H3'
      isplitl [H4']; · iexact H4'
      isplitl [H5']; · iexact H5'
      isplitl [H6']; · iexact H6'
      iexact H7
    · unfold heldAt
      iintro %_ ⟨H2, H3, H4, H5, H6, H7⟩
      isplitl [H7 Hr]
      · isplitl [H7]
        · iexists _
          isplitl [H7]; · iexact H7
          ipureintro
          intro y hy
          exact absurd hy (by rw [show (t.val + 1) % 8 = 0 by omega]; exact Nat.not_lt_zero _)
        · iexact Hr
      isplitl [Ho]; · iexact Ho
      isplitl [H2]; · iapply (owns_of_rep (c : Thread nD τ) (ms0 t) fullShare (iblk m c 0 t)); iexact H2
      isplitl [H3]; · iapply (owns_of_rep (c : Thread nD τ) (ms1 t) fullShare (iblk m c 1 t)); iexact H3
      isplitl [H4]; · iapply (owns_of_rep (c : Thread nD τ) (ms2 t) fullShare (iblk m c 2 t)); iexact H4
      isplitl [H5]; · iapply (owns_of_rep (c : Thread nD τ) (ms3 t) fullShare (iblk m c 3 t)); iexact H5
      iexists _
      isplitr; swap
      · iapply (owns_of_pt c (ms4 t) _); iexact H6
      ipureintro
      have hlt : ∀ y : S512x4096.Idx, (y 1).val < 512 * (t.val % 8 + 1) := fun y => by
        have h1 : (y 1).val < 4096 := (y 1).isLt
        omega
      exact ⟨fun h => absurd h7 h, fun _ y => read_bands c (grid0.coords t) (ms3 t) (ms4 t) scM ((cond_iff t).mpr h7) (iblk m c 3 t) _ _ _ _
        (fun y => strips_out m c t Y hY y (hlt y)) (fun y => strips_resid m c t g7 hg y (hlt y)) y⟩
  · iapply (wp_wand_r Idealize.ShloMosaic.frame (wpE (defs₀ (F := F)) Variants.none (c : Thread nD τ) none) Set.univ)
    isplitl [H2' H3' H4' H5' H6' H7]
    · iapply (runMid m c t h7 Y g7)
      unfold heldAt
      isplitl [H2']; · iexact H2'
      isplitl [H3']; · iexact H3'
      isplitl [H4']; · iexact H4'
      isplitl [H5']; · iexact H5'
      isplitl [H6']; · iexact H6'
      iexact H7
    · unfold heldAt
      iintro %_ ⟨H2, H3, H4, H5, H6, H7⟩
      isplitl [H7 Hr]
      · isplitl [H7]
        · iexists _
          isplitl [H7]; · iexact H7
          ipureintro
          intro y hy
          have e1 : (t.val + 1) % 8 = t.val % 8 + 1 := by omega
          have e2 : (t.val + 1) / 8 = t.val / 8 := by omega
          rw [e2]
          exact strips_resid m c t g7 hg y (by rw [← e1]; exact hy)
        · iexact Hr
      isplitl [Ho]; · iexact Ho
      isplitl [H2]; · iapply (owns_of_rep (c : Thread nD τ) (ms0 t) fullShare (iblk m c 0 t)); iexact H2
      isplitl [H3]; · iapply (owns_of_rep (c : Thread nD τ) (ms1 t) fullShare (iblk m c 1 t)); iexact H3
      isplitl [H4]; · iapply (owns_of_rep (c : Thread nD τ) (ms2 t) fullShare (iblk m c 2 t)); iexact H4
      isplitl [H5]; · iapply (owns_of_rep (c : Thread nD τ) (ms3 t) fullShare (iblk m c 3 t)); iexact H5
      iexists _
      isplitr; swap
      · iapply (owns_of_pt c (ms4 t) _); iexact H6
      ipureintro
      exact ⟨fun _ y hy => strips_out m c t Y hY y hy, fun h => absurd h h7⟩

/-- The body the pipeline calls at point `t`, as it is written above. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligationRel (dats (F := F) m 0 c) (defs₀ (F := F)) Variants.none () Set.univ marked (rel m c) := fun t => by
  rw [bigSep_W0, bigSep_W0, defs₀_row]
  exact triple_restated (sound_body m c t) rfl .rfl fun _ => .rfl

/-- Holding a whole buffer is holding the memref of that buffer. -/
theorem whole_pt (c : Dev nD) (f : Bf (F := F) c scM) :
    (((c : Thread nD τ).loc cc0_scratch0) ↦{fullShare} f : sProp 𝕄) = pt c scM f := by
  unfold pt; rw [View.set_whole]

/-- Before the first point the scratch holds anything. -/
theorem inv_in (c : Dev nD) : (Pipeline.ΦA spec0 c : sProp 𝕄) ⊢ (dats m 0 c).Φ 0 := by
  rw [show (dats m 0 c).Φ 0 = inv m c 0 from rfl]
  unfold Pipeline.ΦA inv
  rw [scopedRest0_eq]
  iintro ⟨⟨%f, H⟩, Hr⟩
  isplitl [H]
  · iexists f
    isplitl [H]
    · ihave H' := (Entails.of_eq (whole_pt c f)) $$ H
      iexact H'
    · ipureintro
      intro y hy
      exact absurd hy (Nat.not_lt_zero _)
  · iexact Hr

/-- After the last point what the scratch holds is forgotten. -/
theorem inv_out (c : Dev nD) : (dats m 0 c).Φ (Fin.last cfg0.N) ⊢ (Pipeline.ΦA spec0 c : sProp 𝕄) := by
  rw [show (dats m 0 c).Φ (Fin.last cfg0.N) = inv m c cfg0.N from rfl]
  unfold Pipeline.ΦA inv
  rw [scopedRest0_eq]
  iintro ⟨⟨%f, H, %hf⟩, Hr⟩
  isplitl [H]
  · iexists f
    ihave H' := (Entails.of_eq (whole_pt c f).symm) $$ H
    iexact H'
  · iexact Hr

set_option backward.isDefEq.respectTransparency.types false in
/-- The launch, for proof data held as a variable. -/
theorem run_of (ds : (c : Dev nD) → Dat τ (Elt F) Unit ℕ (UR sig nD τ) ℕ cfg0 c)
    (hbody : ∀ c, BodyObligationRel (ds c) (defs₀ (F := F)) Variants.none () Set.univ marked (rel m c))
    (hshare : ∀ c w, (ds c).share w = fullShare) (howed : ∀ c t, (ds c).owed t = 0)
    (hA : ∀ c w, (ds c).A w = V m c (Pipeline.arrRef spec0 w))
    (hin : ∀ c, (Pipeline.ΦA spec0 c : sProp 𝕄) ⊢ (ds c).Φ 0) (hout : ∀ c, (ds c).Φ (Fin.last cfg0.N) ⊢ (Pipeline.ΦA spec0 c : sProp 𝕄)) :
    θ_run defs (onTc (τ := τ) (main (F := F))) (s₀ m ρ)
      (fun r => Pipeline.RDat.FramePost cfg0 (fun c => (ds c).toRRel marked (rel m c)) (V m) r ∧ r.2.sem = fun _ => 0) :=
  Pipeline.RDat.θ_run_frame_track (Q' := fun r => Pipeline.RDat.FramePost cfg0 (fun c => (ds c).toRRel marked (rel m c)) (V m) r ∧ r.2.sem = fun _ => 0)
    cfgs (0 : Fin 1) launch0 defs₀ Variants.none (fun c => (ds c).toRRel marked (rel m c)) m ρ main
    (hbody := fun c => (hbody c).toRRel) (hshare := hshare) (howed := howed) (V := V m) (hmain := hmain m Variants.none)
    (hA := hA) (hin := hin) (hout := hout) (hQ' := fun _ h => h)

/-- Every execution of the program ends, with every array of the pipeline at what the proof data allow, every other buffer
    as the region found it, and every semaphore counter at zero. -/
theorem run_main : θ_run defs (onTc (τ := τ) (main (F := F))) (s₀ m ρ)
      (fun r => Pipeline.RDat.FramePost cfg0 (fun c => (dats m 0 c).toRRel marked (rel m c)) (V m) r ∧ r.2.sem = fun _ => 0) :=
  run_of m ρ (dats m 0) (body_obligation m) (fun c => (dats m 0 c).share_full fun _ => rfl) (fun _ _ => rfl) (A_eq m) (inv_in m) (inv_out m)

/-- After the run the arguments hold what they held. -/
theorem args_kept (c : Dev nD) (r : PUnit × MemSt nD τ sig (Elt F)) (h : Pipeline.RDat.FramePost cfg0 (fun c => (dats m 0 c).toRRel marked (rel m c)) (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.arr_in c 0 rfl).trans ((A_eq m c 0).trans (V_main_arg0 m c)),
    (h.arr_in c 1 rfl).trans ((A_eq m c 1).trans (V_main_arg1 m c)),
    (h.arr_in c 2 rfl).trans ((A_eq m c 2).trans (V_main_arg2 m c)),
    ((h c).2 main_arg3 (Pipeline.mem_restRefs_of main_arg3 (by decide) (by decide))).trans (V_main_arg3 m c)⟩

/-- The frame: the program ends, its arguments are unchanged and the counters are zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => args_kept m c r h.1, h.2⟩) (run_main m ρ)

end Cert.Proof.OutOdd

end
-- ==== Proof.OutOddIdeal.lean ====
/-
  The odd layer's output projection over the reals: a row block's product and residual, the normalised rows, and the array
  the kernel leaves.
-/
module

public import Idealize.ShloMosaic.Lib.MatmulPlain
public import Idealize.ShloMosaic.Lib.ValueLayout
public import proofs.«01_k».proof.Proof.Entry
public import proofs.«01_k».proof.Proof.Norm
public import proofs.«01_k».proof.Proof.OutOddFrame

@[expose] public section

noncomputable section

namespace Cert.Proof.OutOdd

open Idealize.ShloMosaic Idealize.ShloMosaic.TcCoe Idealize.ShloMosaic.Tactic Idealize.SL.Sem
open Cert.KernelOutOddIdeal Cert.KernelOutOddIdeal.Gen
open Cert.Proof.Entry

/-- Which block of its array each window holds at a grid point. -/
theorem idx_at : ∀ t : Fin cfg0.N,
    (win0_0.index t 0 = t.val / 8 ∧ win0_0.index t 1 = 0)
    ∧ (win0_1.index t 0 = 0 ∧ win0_1.index t 1 = t.val % 8)
    ∧ (win0_2.index t 0 = t.val / 8 ∧ win0_2.index t 1 = t.val % 8)
    ∧ (win0_3.index t 0 = 0 ∧ win0_3.index t 1 = 0)
    ∧ (win0_4.index t 0 = t.val / 8 ∧ win0_4.index t 1 = 0) := by decide +kernel

variable (m : (ℓ : Loc nD τ sig) → Buf (Elt Ideal) ℓ) (c : Dev nD) (t : Fin cfg0.N)

/-- The rows of the mixed activations. -/
theorem rows_apply (x : S512x4096.Idx) : iblk m c 0 t x
    = at2 (m (c.tc.loc main_arg0) : S8192x4096.Idx → EReal) (512 * (t.val / 8) + (x 0).val) (x 1).val := by
  have h0 : (x 0).val < 512 := (x 0).isLt
  have h1 : (x 1).val < 4096 := (x 1).isLt
  have ht : t.val < 128 := t.isLt
  have hi := (idx_at t).1
  unfold at2
  rw [dif_pos (by omega)]
  blk_simp [iblk]
  entry_read
  blk_ext [hi.1, hi.2]

/-- The columns of the weights. -/
theorem cols_apply (x : S4096x512.Idx) : iblk m c 1 t x
    = at2 (m (c.tc.loc main_arg1) : S4096x4096.Idx → EReal) (x 0).val (512 * (t.val % 8) + (x 1).val) := by
  have h0 : (x 0).val < 4096 := (x 0).isLt
  have h1 : (x 1).val < 512 := (x 1).isLt
  have hi := (idx_at t).2.1
  unfold at2
  rw [dif_pos (by omega)]
  blk_simp [iblk]
  entry_read
  blk_ext [hi.1, hi.2]

/-- The residual's rows and columns. -/
theorem resid_apply (x : S512x512.Idx) : iblk m c 2 t x
    = at2 (m (c.tc.loc main_arg2) : S8192x4096.Idx → EReal) (512 * (t.val / 8) + (x 0).val) (512 * (t.val % 8) + (x 1).val) := by
  have h0 : (x 0).val < 512 := (x 0).isLt
  have h1 : (x 1).val < 512 := (x 1).isLt
  have ht : t.val < 128 := t.isLt
  have hi := (idx_at t).2.2.1
  unfold at2
  rw [dif_pos (by omega)]
  blk_simp [iblk]
  entry_read
  blk_ext [hi.1, hi.2]

/-- The gains. -/
theorem gain_apply (x : S1x4096.Idx) : iblk m c 3 t x = at1 (m (c.tc.loc main_arg3) : S4096.Idx → EReal) (x 1).val := by
  have h0 : (x 0).val < 1 := (x 0).isLt
  have h1 : (x 1).val < 4096 := (x 1).isLt
  have hi := (idx_at t).2.2.2.1
  unfold at1
  rw [dif_pos h1]
  blk_simp [iblk]
  entry_read
  have hx : ((View.whole main_v0).slice (win0_3.rect t)).emb x = ValueIdx.ix2 (0 : Fin 1) (⟨(x 1).val, h1⟩ : Fin 4096) := by
    blk_ext [hi.1, hi.2]
  rw [hx]
  exact ValueIdx.shapeCast_a_1a_apply _ _ _ _

/-- A strip of the product, entry by entry. -/
theorem strip_apply (u : Vec Ideal S512x4096 .bf16) (v : Vec Ideal S4096x512 .bf16) (x : S512x512.Idx) :
    strip (F := Ideal) u v x = ∑ e : Fin 4096, u (ValueIdx.ix2 (x 0 : Fin 512) e) * v (ValueIdx.ix2 e (x 1 : Fin 512)) := by
  have hx : x = ValueIdx.ix2 (x 0 : Fin 512) (x 1 : Fin 512) := funext fun k => by
    match k with
    | ⟨0, _⟩ => rfl
    | ⟨1, _⟩ => rfl
  unfold strip
  conv_lhs => rw [hx]
  refine (show _ = _ from Ideal.matmul_plain_apply (M := 512) (K := 4096) (N := 512) (φ₁ := .bf16) (φ₂ := .bf16) none u v
    (constant (F := Ideal) ⟨2, ![512, 512]⟩ .f32 0x00000000#32) (x 0) (x 1)).trans ?_
  exact (congrArg (· + _) Ideal.ofBits_zero_f32).trans (zero_add _)

/-- The product's rows of a row block are the product's. -/
theorem prodBlk_apply (b : ℕ) (hb : b < 16) (y : S512x4096.Idx) : prodBlk m c b y
    = prod (m (c.tc.loc main_arg0) : S8192x4096.Idx → EReal) (m (c.tc.loc main_arg1) : S4096x4096.Idx → EReal)
      (512 * b + (y 0).val) (y 1).val := by
  have h1 : (y 1).val < 4096 := (y 1).isLt
  have e1 : (ptOf b ((y 1).val / 512)).val / 8 = b := by
    show (8 * b + (y 1).val / 512 % 8) % 128 / 8 = b
    omega
  have e2 : 512 * ((ptOf b ((y 1).val / 512)).val % 8) + (y 1).val % 512 = (y 1).val := by
    show 512 * ((8 * b + (y 1).val / 512 % 8) % 128 % 8) + (y 1).val % 512 = (y 1).val
    omega
  unfold prodBlk
  rw [strip_apply]
  unfold prod
  refine Finset.sum_congr rfl fun e _ => ?_
  rw [rows_apply, cols_apply, e1]
  refine congrArg (_ * ·) ?_
  exact congrArg (at2 _ _) e2

/-- The residual's rows of a row block are the residual's. -/
theorem residBlk_apply (b : ℕ) (hb : b < 16) (y : S512x4096.Idx) : residBlk m c b y
    = at2 (m (c.tc.loc main_arg2) : S8192x4096.Idx → EReal) (512 * b + (y 0).val) (y 1).val := by
  have h1 : (y 1).val < 4096 := (y 1).isLt
  have e1 : (ptOf b ((y 1).val / 512)).val / 8 = b := by
    show (8 * b + (y 1).val / 512 % 8) % 128 / 8 = b
    omega
  have e2 : 512 * ((ptOf b ((y 1).val / 512)).val % 8) + (y 1).val % 512 = (y 1).val := by
    show 512 * ((8 * b + (y 1).val / 512 % 8) % 128 % 8) + (y 1).val % 512 = (y 1).val
    omega
  unfold residBlk
  rw [resid_apply, e1]
  exact congrArg (at2 _ _) e2

/-- The layer's result, entry by entry: the residual plus the product's row, normalised and scaled. -/
def result {a k b n d : ℕ} (X : (⟨2, ![a, k]⟩ : Shape).Idx → EReal) (W : (⟨2, ![k, n]⟩ : Shape).Idx → EReal)
    (Z : (⟨2, ![b, n]⟩ : Shape).Idx → EReal) (g : (⟨1, ![d]⟩ : Shape).Idx → EReal) (r j : ℕ) : EReal :=
  at2 Z r j + Norm.rms (prod X W r) (at1 g) j

/-- The normalised rows of a row block. -/
theorem normed_apply (ht : t.val / 8 < 16) (y : S512x4096.Idx) :
    normed (prodBlk m c (t.val / 8)) (residBlk m c (t.val / 8)) (iblk m c 3 t) y
    = result (m (c.tc.loc main_arg0) : S8192x4096.Idx → EReal) (m (c.tc.loc main_arg1) : S4096x4096.Idx → EReal)
      (m (c.tc.loc main_arg2) : S8192x4096.Idx → EReal) (m (c.tc.loc main_arg3) : S4096.Idx → EReal)
      (512 * (t.val / 8) + (y 0).val) (y 1).val := by
  have h0 : (y 0).val < 512 := (y 0).isLt
  have e : (128 * ((y 0).val / 128) + (y 0).val % 128) % 512 = (y 0).val := by omega
  unfold normed band result
  refine congrArg₂ (· + ·) ?_ ?_
  · unfold rowsOf
    rw [residBlk_apply m c _ ht]
    exact congrArg (fun v => at2 _ (512 * (t.val / 8) + v) _) e
  · refine Norm.band_apply _ _ _ _ _ _ _ _ _ _ _ _ (fun k => ?_) (gain_apply m c t _)
    unfold rowsOf
    rw [prodBlk_apply m c _ ht]
    exact congrArg (fun v => prod _ _ (512 * (t.val / 8) + v) _) e

/-- The array after a run. -/
theorem result_value (r : PUnit × MemSt nD τ sig (Elt Ideal)) (h : Pipeline.RDat.FramePost cfg0 (fun c => (dats m 0 c).toRRel marked (rel m c)) (V m) r) :
    r.2.mem ((c.tc : Thread nD τ).loc main_v1) = (fun y : S8192x4096.Idx =>
      result (m (c.tc.loc main_arg0) : S8192x4096.Idx → EReal) (m (c.tc.loc main_arg1) : S4096x4096.Idx → EReal)
      (m (c.tc.loc main_arg2) : S8192x4096.Idx → EReal) (m (c.tc.loc main_arg3) : S4096.Idx → EReal) (y 0).val (y 1).val) := by
  obtain ⟨after, hL, hA⟩ := h.exists_exact c
  refine (hA 4).trans ?_
  refine (((dats m 0 c).toRRel marked (rel m c)).withAfter after).arrAt_eq_of_covers 4 _ (by decide +kernel) fun t hf y => ?_
  have hi := (idx_at t).2.2.2.2
  have ht : t.val < 128 := t.isLt
  have hr : outRel m c t (after 4 t) := Pipeline.Dat.toRRel_leaves (dats m 0 c) (fgt := marked) (Rl := rel m c) (w := 4) rfl (hL 4 t hf)
  blk_simp
  rw [Pipeline.RDat.withAfter_after]
  refine (hr.2 ((flush0_4 t).mp hf) _).trans ((normed_apply m c t (by omega) _).trans ?_)
  rw [hi.1, hi.2, Nat.mul_comm 512, Nat.zero_mul, Nat.zero_add]

end Cert.Proof.OutOdd

end
-- ==== Proof.OutOdd.lean ====
/- The odd layer's output projection: its frames, the reference's array, and that the two programs leave the same one. -/
module

public import proofs.«01_k».proof.Defs
public import proofs.«01_k».proof.Proof.BitsOutOddFrame
public import proofs.«01_k».proof.Proof.OutOddIdeal
public import proofs.«01_k».proof.Proof.Gen.ReferenceOutOddIdeal
public import proofs.«01_k».proof.Proof.Gen.ReferenceOutOddIdeal.Run
public import proofs.«01_k».proof.Proof.Gen.ReferenceOutOddIdeal.Read

@[expose] public section

noncomputable section

namespace Cert.Proof.OutOdd

open Idealize.ShloMosaic Idealize.ShloMosaic.TcCoe Idealize.ShloMosaic.Tactic Idealize.SL.Sem
open Cert.KernelOutOddIdeal Cert.KernelOutOddIdeal.Gen
open Cert.Proof.Entry

section Reference

open Cert.ReferenceOutOddIdeal.Read

variable (X : FVec Ideal Cert.ReferenceOutOddIdeal.S8192x4096 .bf16) (W : FVec Ideal Cert.ReferenceOutOddIdeal.S4096x4096 .bf16)
  (Z : FVec Ideal Cert.ReferenceOutOddIdeal.S8192x4096 .f32) (g : FVec Ideal Cert.ReferenceOutOddIdeal.S4096 .f32)

/-- The reference's product, entry by entry. -/
theorem reference_product (y : Cert.ReferenceOutOddIdeal.S8192x4096.Idx) :
    val_main_v2 (F := Ideal) X W y = prod (X : S8192x4096.Idx → EReal) (W : S4096x4096.Idx → EReal) (y 0).val (y 1).val := by
  refine (val_main_v2_apply X W y).trans (Finset.sum_congr rfl fun e _ => ?_)
  refine congrArg₂ (· * ·) ?_ ?_
  · exact at2_eq _ _ _ _ rfl rfl
  · exact at2_eq _ _ _ _ rfl rfl

/-- The reference's result, entry by entry. -/
theorem reference_result : val_main_v16 (F := Ideal) X W Z g = fun y =>
    result (X : S8192x4096.Idx → EReal) (W : S4096x4096.Idx → EReal) (Z : S8192x4096.Idx → EReal) (g : S4096.Idx → EReal) (y 0).val (y 1).val := by
  funext y
  unfold result Norm.rms Norm.factor
  rw [val_main_v16_apply, val_main_v15_apply, val_main_v12_apply, val_main_v14_apply, val_main_v13_apply, val_main_v11_apply, val_main_v10_apply,
    val_main_v9_apply, val_main_v8_apply, val_main_cst_1_apply, val_main_v7_apply, val_main_v6_apply, val_main_cst_0_apply, val_main_v5_apply,
    val_main_v4_apply, val_main_cst_apply]
  refine congrArg₂ (· + ·) (at2_eq _ _ _ _ rfl rfl) (congrArg₂ (· * ·) (congrArg₂ (· * ·) (reference_product X W y) ?_) (at1_eq _ _ _ rfl))
  refine congrArg (fun v => Ideal.rsqrt (Ideal.div v _ + _)) ?_
  refine (congrArg (· + _) Ideal.ofBits_zero_f32).trans ((zero_add _).trans (Finset.sum_congr rfl fun k _ => ?_))
  rw [val_main_v3_apply]
  exact congrArg₂ (· * ·) (reference_product X W _) (reference_product X W _)

end Reference

/-- The frame of the kernel at bit patterns. -/
theorem frame_kernel : Cert.quiescent_KernelOutOdd (hKernelOutOdd := Cert.KernelOutOdd.Gen.facts) := fun m g _ => OutOddBits.frame_main m g

/-- The frame of the idealized kernel. -/
theorem frame_ideal : Cert.quiescent_KernelOutOddIdeal (hKernelOutOddIdeal := Cert.KernelOutOddIdeal.Gen.facts) := fun m g _ => frame_main m g

/-- The frame of the reference. -/
theorem frame_reference : Cert.quiescent_ReferenceOutOddIdeal (hReferenceOutOddIdeal := Cert.ReferenceOutOddIdeal.Gen.facts) := fun m g _ =>
  (θ_run Cert.ReferenceOutOddIdeal.defs _ _).mono (fun r h => ⟨fun c => (h c).2, sem_eq_zero_of_no_sems (by decide) r.2⟩)
    (Cert.ReferenceOutOddIdeal.Value.run m g)

/-- Every execution of the kernel ends with the layer's result in place, and its arguments unchanged. -/
theorem kernel_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = (fun y : S8192x4096.Idx =>
        result (m (c.tc.loc main_arg0) : S8192x4096.Idx → EReal) (m (c.tc.loc main_arg1) : S4096x4096.Idx → EReal)
          (m (c.tc.loc main_arg2) : S8192x4096.Idx → EReal) (m (c.tc.loc main_arg3) : S4096.Idx → EReal) (y 0).val (y 1).val)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨result_value m c r h.1, args_kept m c r h.1⟩) (run_main m ρ)

/-- The kernel and the reference leave the same array. -/
theorem algebraic : Cert.algebraic_KernelOutOddIdeal_ReferenceOutOddIdeal (hKernelOutOddIdeal := Cert.KernelOutOddIdeal.Gen.facts)
    (hReferenceOutOddIdeal := Cert.ReferenceOutOddIdeal.Gen.facts) := fun m g m' g' _ hargs =>
  ⟨_, kernel_value m g, (θ_run Cert.ReferenceOutOddIdeal.defs _ _).mono (fun _ h c =>
    ⟨(h c).1.trans (((Cert.ReferenceOutOddIdeal.Read.val_main_v16_eq _ _ _ _).trans (reference_result _ _ _ _)).trans
      (by rw [(hargs c).1, (hargs c).2.1, (hargs c).2.2.1, (hargs c).2.2.2])), (h c).2⟩)
    (Cert.ReferenceOutOddIdeal.Value.run m' g')⟩

end Cert.Proof.OutOdd

end
-- ==== Proof.lean ====
/- The claim: the frames of the attention's programs, the named constants and its value claim, with those of the first norm and of the projections. -/
module

public import proofs.«01_k».proof.Defs
public import proofs.«01_k».proof.Proof.Frame
public import proofs.«01_k».proof.Proof.BitsFrame
public import proofs.«01_k».proof.Proof.Gen.ReferenceIdeal
public import proofs.«01_k».proof.Proof.Gen.ReferenceIdeal.Run
public import proofs.«01_k».proof.Proof.Algebraic
public import proofs.«01_k».proof.Proof.InEven
public import proofs.«01_k».proof.Proof.InOdd
public import proofs.«01_k».proof.Proof.OutEven
public import proofs.«01_k».proof.Proof.FirstNorm
public import proofs.«01_k».proof.Proof.Forget
public import proofs.«01_k».proof.Proof.OutOdd

@[expose] public section

noncomputable section

namespace Cert.Proof

open Idealize.ShloMosaic Idealize.ShloMosaic.TcCoe Idealize.SL.Sem

/-- The side conditions the precondition states hold. -/
theorem preFacts : Cert.Pre_finite_logits.Facts where
  slices_S8192x16384_S8192x4096_0_0 := by decide
  bitsLt_bf16_f32 := by decide
  bcast_S_S8192x4096 := by decide
  reducesTo_S8192x4096_S_d0_1 := by decide
  h_S_ := by decide
  bcast_S_S2x4096x16 := by decide
  reducesTo_S2x4096x16_S_d0_1_2 := by decide

/-- The frame of the kernel at bit patterns. -/
theorem frame_Kernel : Cert.quiescent_Kernel (hKernel := Cert.Kernel.Gen.facts) := fun m g _ => FoxBits.frame_main m g

/-- The frame of the idealized kernel. -/
theorem frame_KernelIdeal : Cert.quiescent_KernelIdeal (hKernelIdeal := Cert.KernelIdeal.Gen.facts) := fun m g _ => Fox.frame_main m g

/-- The frame of the reference. -/
theorem frame_ReferenceIdeal : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run m g)

/-- The two constants that are rounded in the kernel, and what they round. -/
theorem named : Cert.preserves_Kernel_KernelIdeal :=
  ⟨IdealRules.named_const.statement Cert.KernelIdeal.κ "neg_inf" .f32 0xF149F2CA#32 ⊥ rfl,
    IdealRules.named_const.statement Cert.KernelIdeal.κ "scale2" .f32 0x3E0293EE#32 (((Real.log 2)⁻¹ * (Real.sqrt 128)⁻¹ : ℝ) : EReal) rfl⟩

/-- Where the logits are finite, the kernel and the reference leave the same array. -/
theorem algebraic : Cert.algebraic_KernelIdeal_ReferenceIdeal_pre_finite_logits (hKernelIdeal := Cert.KernelIdeal.Gen.facts)
    (hReferenceIdeal := Cert.ReferenceIdeal.Gen.facts) (hPre_finite_logits := preFacts) := fun m g m' g' hpre hargs =>
  have H : ∀ c, FoxRef.Finite _ _ := fun c => @Fox.finite_of_pre preFacts _ _ (hpre c)
  ⟨fun c y => Fox.res m c ((y 0).val / 4096) ((y 0).val % 4096) ((y 1).val / 128) ((y 1).val % 128),
    Fox.kernel_value m g (fun c => Fox.finite_kernel m c (H c)),
    (θ_run Cert.ReferenceIdeal.defs _ _).mono (fun r h c => ⟨(h c).1.trans (by rw [(hargs c).1, (hargs c).2]; rfl), (h c).2⟩)
      (Fox.reference_value m' g' (fun c => by rw [(hargs c).1, (hargs c).2]; exact H c))⟩

/-- The claims of the attention, of the first norm, and of the projections. -/
theorem claim : Cert.Claim := ⟨Cert.Kernel.Gen.facts, Cert.KernelIdeal.Gen.facts, Cert.ReferenceIdeal.Gen.facts,
  Cert.KernelNorm.Gen.facts, Cert.KernelNormIdeal.Gen.facts, Cert.ReferenceNormIdeal.Gen.facts,
  Cert.KernelForget.Gen.facts, Cert.KernelForgetIdeal.Gen.facts, Cert.ReferenceForgetIdeal.Gen.facts,
  Cert.KernelInEven.Gen.facts, Cert.KernelInEvenIdeal.Gen.facts, Cert.ReferenceInEvenIdeal.Gen.facts,
  Cert.KernelInOdd.Gen.facts, Cert.KernelInOddIdeal.Gen.facts, Cert.ReferenceInOddIdeal.Gen.facts,
  Cert.KernelOutEven.Gen.facts, Cert.KernelOutEvenIdeal.Gen.facts, Cert.ReferenceOutEvenIdeal.Gen.facts,
  Cert.KernelOutOdd.Gen.facts, Cert.KernelOutOddIdeal.Gen.facts, Cert.ReferenceOutOddIdeal.Gen.facts, preFacts,
  frame_Kernel, frame_KernelIdeal, fun m g _ => Fox.frame_main m g, frame_ReferenceIdeal, fun m g _ => frame_ReferenceIdeal m g trivial,
  FirstNorm.frame_kernel, FirstNorm.frame_ideal, FirstNorm.frame_reference, Forget.frame_kernel, Forget.frame_ideal, Forget.frame_reference,
  InEven.frame_kernel, InEven.frame_ideal, InEven.frame_reference, InOdd.frame_kernel, InOdd.frame_ideal, InOdd.frame_reference,
  OutEven.frame_kernel, OutEven.frame_ideal, OutEven.frame_reference,
  OutOdd.frame_kernel, OutOdd.frame_ideal, OutOdd.frame_reference,
  named, algebraic, trivial, FirstNorm.algebraic, trivial, Forget.algebraic, trivial, InEven.algebraic, trivial, InOdd.algebraic, trivial, OutEven.algebraic, trivial, OutOdd.algebraic⟩

end Cert.Proof

end
